-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_tame_KernelIdeal [hPre_scores_tame_KernelIdeal : Cert.Pre_scores_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_tame_ReferenceIdeal [hPre_scores_tame_ReferenceIdeal : Cert.Pre_scores_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_tame_KernelIdeal [hKernelIdeal : Cert.KernelIdeal.Facts] [hPre_scores_tame_KernelIdeal : Cert.Pre_scores_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_tame_ReferenceIdeal [hReferenceIdeal : Cert.ReferenceIdeal.Facts] [hPre_scores_tame_ReferenceIdeal : Cert.Pre_scores_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_tame_KernelIdeal [hKernelIdeal : Cert.KernelIdeal.Facts] [hReferenceIdeal : Cert.ReferenceIdeal.Facts] [hPre_scores_tame_KernelIdeal : Cert.Pre_scores_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_tame_KernelIdeal : Cert.Pre_scores_tame_KernelIdeal.Facts) (hPre_scores_tame_ReferenceIdeal : Cert.Pre_scores_tame_ReferenceIdeal.Facts),
    quiescent_Kernel (hKernel := hKernel)
    ∧ quiescent_KernelIdeal (hKernelIdeal := hKernelIdeal)
    ∧ quiescent_KernelIdeal_pre_scores_tame_KernelIdeal (hKernelIdeal := hKernelIdeal) (hPre_scores_tame_KernelIdeal := hPre_scores_tame_KernelIdeal)
    ∧ quiescent_ReferenceIdeal (hReferenceIdeal := hReferenceIdeal)
    ∧ quiescent_ReferenceIdeal_pre_scores_tame_ReferenceIdeal (hReferenceIdeal := hReferenceIdeal) (hPre_scores_tame_ReferenceIdeal := hPre_scores_tame_ReferenceIdeal)
    ∧ preserves_Kernel_KernelIdeal
    ∧ algebraic_KernelIdeal_ReferenceIdeal_pre_scores_tame_KernelIdeal (hKernelIdeal := hKernelIdeal) (hReferenceIdeal := hReferenceIdeal) (hPre_scores_tame_KernelIdeal := hPre_scores_tame_KernelIdeal)
-- ==== Pre_scores_tame_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .f32) (main_arg1 : FVec F S1024x1024 .f32) (main_arg2 : FVec F S1x1024x32x128 .f32) (main_arg3 : FVec F S1x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Pre_scores_tame_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S1152x8x128 : Shape := ⟨3, ![1152, 8, 128]⟩
abbrev S256x32x128 : Shape := ⟨3, ![256, 32, 128]⟩
abbrev S1024x32x128 : Shape := ⟨3, ![1024, 32, 128]⟩
abbrev S1024x8x128 : Shape := ⟨3, ![1024, 8, 128]⟩
abbrev S3x256x1024 : Shape := ⟨3, ![3, 256, 1024]⟩
abbrev S4x256x1024 : Shape := ⟨3, ![4, 256, 1024]⟩
abbrev S17 : Shape := ⟨1, ![17]⟩
abbrev S12 : Shape := ⟨1, ![12]⟩
abbrev S4 : Shape := ⟨1, ![4]⟩
abbrev S3 : Shape := ⟨1, ![3]⟩
abbrev S_ : Shape := ⟨0, ![]⟩
abbrev S1 : Shape := ⟨1, ![1]⟩
abbrev S1x256x32x128 : Shape := ⟨4, ![1, 256, 32, 128]⟩
abbrev S768x8x128 : Shape := ⟨3, ![768, 8, 128]⟩
abbrev S640x8x128 : Shape := ⟨3, ![640, 8, 128]⟩
abbrev S384x8x128 : Shape := ⟨3, ![384, 8, 128]⟩
abbrev S128x8x128 : Shape := ⟨3, ![128, 8, 128]⟩
abbrev S128x32x128 : Shape := ⟨3, ![128, 32, 128]⟩
abbrev S1x128x32x128 : Shape := ⟨4, ![1, 128, 32, 128]⟩
abbrev S256x512 : Shape := ⟨2, ![256, 512]⟩
abbrev S256x1024 : Shape := ⟨2, ![256, 1024]⟩
abbrev S256x128 : Shape := ⟨2, ![256, 128]⟩
abbrev S512x1x128 : Shape := ⟨3, ![512, 1, 128]⟩
abbrev S512x128 : Shape := ⟨2, ![512, 128]⟩
abbrev S256 : Shape := ⟨1, ![256]⟩
abbrev S256x1 : Shape := ⟨2, ![256, 1]⟩
abbrev S128x1024 : Shape := ⟨2, ![128, 1024]⟩
abbrev S1x256x1024 : Shape := ⟨3, ![1, 256, 1024]⟩
abbrev S1x256x512 : Shape := ⟨3, ![1, 256, 512]⟩

abbrev nBuf : Space → Nat
  | .hbm => 6
  | .vmem => 15
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1152x8x128, .bf16⟩
  | .local _ .vmem, ⟨5, _⟩ => ⟨S1152x8x128, .bf16⟩
  | .local _ .vmem, ⟨6, _⟩ => ⟨S1024x1024, .bf16⟩
  | .local _ .vmem, ⟨7, _⟩ => ⟨S1024x1024, .bf16⟩
  | .local _ .vmem, ⟨8, _⟩ => ⟨S256x32x128, .f32⟩
  | .local _ .vmem, ⟨9, _⟩ => ⟨S1024x32x128, .bf16⟩
  | .local _ .vmem, ⟨10, _⟩ => ⟨S1024x32x128, .bf16⟩
  | .local _ .vmem, ⟨11, _⟩ => ⟨S1024x8x128, .bf16⟩
  | .local _ .vmem, ⟨12, _⟩ => ⟨S3x256x1024, .bf16⟩
  | .local _ .vmem, ⟨13, _⟩ => ⟨S3x256x1024, .bf16⟩
  | .local _ .vmem, ⟨14, _⟩ => ⟨S4x256x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c4_i32_6 : BitVec 32 := 4#32
  let v10 : BitVec 32 := Scalar.remsi v9 c4_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.addi v2 c2_i32
  let c4_i32_9 : BitVec 32 := 4#32
  let v14 : BitVec 32 := Scalar.remsi v13 c4_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 32 := Scalar.addi v2 c3_i32
  let c4_i32_13 : BitVec 32 := 4#32
  let v18 : BitVec 32 := Scalar.remsi v17 c4_i32_13
  let c1_i32_15 : BitVec 32 := 1#32
  let v19 : BitVec 32 := Scalar.muli v18 c1_i32_15
  let v20 : BitVec 32 := Scalar.addi c0_i32_16 v19
  v20.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let v21 : BitVec 1 := Scalar.cmpi .eq v2 c0_i32_18
  let v22 : BitVec 32 := Scalar.extui v21
  let c0_i32_38 : BitVec 32 := 0#32
  let v23 : BitVec 1 := Scalar.cmpi .ne v22 c0_i32_38
  v23

def k0_dev4 : Nat :=
  let c0_i32_1020 : BitVec 32 := 0#32
  let c1_i32_1018 : BitVec 32 := 1#32
  let c1_i32_1019 : BitVec 32 := 1#32
  let v1402 : BitVec 32 := Scalar.muli c1_i32_1018 c1_i32_1019
  let v1403 : BitVec 32 := Scalar.addi c0_i32_1020 v1402
  v1403.toNat
def k0_dev5 : Nat :=
  let c0_i32_1029 : BitVec 32 := 0#32
  let c1_i32_1027 : BitVec 32 := 1#32
  let c1_i32_1028 : BitVec 32 := 1#32
  let v1410 : BitVec 32 := Scalar.muli c1_i32_1027 c1_i32_1028
  let v1411 : BitVec 32 := Scalar.addi c0_i32_1029 v1410
  v1411.toNat
def k0_dev6 : Nat :=
  let c0_i32_1038 : BitVec 32 := 0#32
  let c3_i32_1036 : BitVec 32 := 3#32
  let c1_i32_1037 : BitVec 32 := 1#32
  let v1418 : BitVec 32 := Scalar.muli c3_i32_1036 c1_i32_1037
  let v1419 : BitVec 32 := Scalar.addi c0_i32_1038 v1418
  v1419.toNat
def k0_dev7 : Nat :=
  let c0_i32_1115 : BitVec 32 := 0#32
  let c3_i32_1113 : BitVec 32 := 3#32
  let c1_i32_1114 : BitVec 32 := 1#32
  let v1482 : BitVec 32 := Scalar.muli c3_i32_1113 c1_i32_1114
  let v1483 : BitVec 32 := Scalar.addi c0_i32_1115 v1482
  v1483.toNat
def k0_dev8 : Nat :=
  let c0_i32_1124 : BitVec 32 := 0#32
  let c1_i32_1122 : BitVec 32 := 1#32
  let c1_i32_1123 : BitVec 32 := 1#32
  let v1490 : BitVec 32 := Scalar.muli c1_i32_1122 c1_i32_1123
  let v1491 : BitVec 32 := Scalar.addi c0_i32_1124 v1490
  v1491.toNat
def k0_dev9 : Nat :=
  let c0_i32_1133 : BitVec 32 := 0#32
  let c3_i32_1131 : BitVec 32 := 3#32
  let c1_i32_1132 : BitVec 32 := 1#32
  let v1498 : BitVec 32 := Scalar.muli c3_i32_1131 c1_i32_1132
  let v1499 : BitVec 32 := Scalar.addi c0_i32_1133 v1498
  v1499.toNat
def k0_dev10 : Nat :=
  let c0_i32_1148 : BitVec 32 := 0#32
  let c1_i32_1146 : BitVec 32 := 1#32
  let c1_i32_1147 : BitVec 32 := 1#32
  let v1510 : BitVec 32 := Scalar.muli c1_i32_1146 c1_i32_1147
  let v1511 : BitVec 32 := Scalar.addi c0_i32_1148 v1510
  v1511.toNat
def k0_dev11 : Nat :=
  let c0_i32_1157 : BitVec 32 := 0#32
  let c1_i32_1155 : BitVec 32 := 1#32
  let c1_i32_1156 : BitVec 32 := 1#32
  let v1518 : BitVec 32 := Scalar.muli c1_i32_1155 c1_i32_1156
  let v1519 : BitVec 32 := Scalar.addi c0_i32_1157 v1518
  v1519.toNat
def k0_dev12 : Nat :=
  let c0_i32_1166 : BitVec 32 := 0#32
  let c3_i32_1164 : BitVec 32 := 3#32
  let c1_i32_1165 : BitVec 32 := 1#32
  let v1526 : BitVec 32 := Scalar.muli c3_i32_1164 c1_i32_1165
  let v1527 : BitVec 32 := Scalar.addi c0_i32_1166 v1526
  v1527.toNat
def k0_dev13 : Nat :=
  let c0_i32_1175 : BitVec 32 := 0#32
  let c3_i32_1173 : BitVec 32 := 3#32
  let c1_i32_1174 : BitVec 32 := 1#32
  let v1534 : BitVec 32 := Scalar.muli c3_i32_1173 c1_i32_1174
  let v1535 : BitVec 32 := Scalar.addi c0_i32_1175 v1534
  v1535.toNat
def k0_dev14 : Nat :=
  let c0_i32_1184 : BitVec 32 := 0#32
  let c1_i32_1182 : BitVec 32 := 1#32
  let c1_i32_1183 : BitVec 32 := 1#32
  let v1542 : BitVec 32 := Scalar.muli c1_i32_1182 c1_i32_1183
  let v1543 : BitVec 32 := Scalar.addi c0_i32_1184 v1542
  v1543.toNat
def k0_dev15 : Nat :=
  let c0_i32_1193 : BitVec 32 := 0#32
  let c1_i32_1191 : BitVec 32 := 1#32
  let c1_i32_1192 : BitVec 32 := 1#32
  let v1550 : BitVec 32 := Scalar.muli c1_i32_1191 c1_i32_1192
  let v1551 : BitVec 32 := Scalar.addi c0_i32_1193 v1550
  v1551.toNat
def k0_dev16 : Nat :=
  let c0_i32_1201 : BitVec 32 := 0#32
  let c3_i32_1199 : BitVec 32 := 3#32
  let c1_i32_1200 : BitVec 32 := 1#32
  let v1558 : BitVec 32 := Scalar.muli c3_i32_1199 c1_i32_1200
  let v1559 : BitVec 32 := Scalar.addi c0_i32_1201 v1558
  v1559.toNat
def k0_dev17 : Nat :=
  let c0_i32_1210 : BitVec 32 := 0#32
  let c3_i32_1208 : BitVec 32 := 3#32
  let c1_i32_1209 : BitVec 32 := 1#32
  let v1566 : BitVec 32 := Scalar.muli c3_i32_1208 c1_i32_1209
  let v1567 : BitVec 32 := Scalar.addi c0_i32_1210 v1566
  v1567.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v24 : BitVec 1 := Scalar.cmpi .eq v2 c1_i32_39
  let v25 : BitVec 32 := Scalar.extui v24
  let c0_i32_52 : BitVec 32 := 0#32
  let v26 : BitVec 1 := Scalar.cmpi .ne v25 c0_i32_52
  v26

def k0_dev18 : Nat :=
  let c0_i32_1001 : BitVec 32 := 0#32
  let c0_i32_999 : BitVec 32 := 0#32
  let c1_i32_1000 : BitVec 32 := 1#32
  let v1380 : BitVec 32 := Scalar.muli c0_i32_999 c1_i32_1000
  let v1381 : BitVec 32 := Scalar.addi c0_i32_1001 v1380
  v1381.toNat
def k0_dev19 : Nat :=
  let c0_i32_1009 : BitVec 32 := 0#32
  let c0_i32_1007 : BitVec 32 := 0#32
  let c1_i32_1008 : BitVec 32 := 1#32
  let v1388 : BitVec 32 := Scalar.muli c0_i32_1007 c1_i32_1008
  let v1389 : BitVec 32 := Scalar.addi c0_i32_1009 v1388
  v1389.toNat
def k0_dev20 : Nat :=
  let c0_i32_1018 : BitVec 32 := 0#32
  let c2_i32_1016 : BitVec 32 := 2#32
  let c1_i32_1017 : BitVec 32 := 1#32
  let v1396 : BitVec 32 := Scalar.muli c2_i32_1016 c1_i32_1017
  let v1397 : BitVec 32 := Scalar.addi c0_i32_1018 v1396
  v1397.toNat
def k0_dev21 : Nat :=
  let c0_i32_1027 : BitVec 32 := 0#32
  let c2_i32_1025 : BitVec 32 := 2#32
  let c1_i32_1026 : BitVec 32 := 1#32
  let v1404 : BitVec 32 := Scalar.muli c2_i32_1025 c1_i32_1026
  let v1405 : BitVec 32 := Scalar.addi c0_i32_1027 v1404
  v1405.toNat
def k0_dev22 : Nat :=
  let c0_i32_1036 : BitVec 32 := 0#32
  let c3_i32_1034 : BitVec 32 := 3#32
  let c1_i32_1035 : BitVec 32 := 1#32
  let v1412 : BitVec 32 := Scalar.muli c3_i32_1034 c1_i32_1035
  let v1413 : BitVec 32 := Scalar.addi c0_i32_1036 v1412
  v1413.toNat
def k0_dev23 : Nat :=
  let c0_i32_1044 : BitVec 32 := 0#32
  let c3_i32_1042 : BitVec 32 := 3#32
  let c1_i32_1043 : BitVec 32 := 1#32
  let v1420 : BitVec 32 := Scalar.muli c3_i32_1042 c1_i32_1043
  let v1421 : BitVec 32 := Scalar.addi c0_i32_1044 v1420
  v1421.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_64 : BitVec 32 := 1#32
  let v46 : BitVec 1 := Scalar.cmpi .eq v2 c1_i32_64
  let v47 : BitVec 32 := Scalar.extui v46
  let c0_i32_68 : BitVec 32 := 0#32
  let v48 : BitVec 1 := Scalar.cmpi .ne v47 c0_i32_68
  v48

def k0_dev24 : Nat :=
  let c0_i32_966 : BitVec 32 := 0#32
  let c2_i32_964 : BitVec 32 := 2#32
  let c1_i32_965 : BitVec 32 := 1#32
  let v1356 : BitVec 32 := Scalar.muli c2_i32_964 c1_i32_965
  let v1357 : BitVec 32 := Scalar.addi c0_i32_966 v1356
  v1357.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v49 : BitVec 1 := Scalar.cmpi .eq v2 c3_i32_69
  let v50 : BitVec 32 := Scalar.extui v49
  let c0_i32_74 : BitVec 32 := 0#32
  let v51 : BitVec 1 := Scalar.cmpi .ne v50 c0_i32_74
  v51

def k0_dev25 : Nat :=
  let c0_i32_966 : BitVec 32 := 0#32
  let c2_i32_964 : BitVec 32 := 2#32
  let c1_i32_965 : BitVec 32 := 1#32
  let v1356 : BitVec 32 := Scalar.muli c2_i32_964 c1_i32_965
  let v1357 : BitVec 32 := Scalar.addi c0_i32_966 v1356
  v1357.toNat
def k0_off1 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v82 : Index := Scalar.indexCast v67
  let c0_105 : Index := 0#32
  ![v82.toNat, 0]
def k0_off2 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v84 : Index := Scalar.indexCast v70
  let c0_106 : Index := 0#32
  let c0_107 : Index := 0#32
  ![v84.toNat, 0, 0]
def k0_off3 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v108 : Index := Scalar.indexCast v67
  let c128 : Index := 128#32
  ![v108.toNat, 128]
def k0_off4 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v110 : Index := Scalar.indexCast v70
  let c1 : Index := 1#32
  let c0_118 : Index := 0#32
  ![v110.toNat, 1, 0]
def k0_off5 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v134 : Index := Scalar.indexCast v67
  let c256 : Index := 256#32
  ![v134.toNat, 256]
def k0_off6 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v136 : Index := Scalar.indexCast v70
  let c2 : Index := 2#32
  let c0_129 : Index := 0#32
  ![v136.toNat, 2, 0]
def k0_off7 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v160 : Index := Scalar.indexCast v67
  let c384 : Index := 384#32
  ![v160.toNat, 384]
def k0_off8 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v162 : Index := Scalar.indexCast v70
  let c3 : Index := 3#32
  let c0_140 : Index := 0#32
  ![v162.toNat, 3, 0]
def k0_off9 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v186 : Index := Scalar.indexCast v67
  let c512 : Index := 512#32
  ![v186.toNat, 512]
def k0_off10 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v188 : Index := Scalar.indexCast v70
  let c4 : Index := 4#32
  let c0_151 : Index := 0#32
  ![v188.toNat, 4, 0]
def k0_off11 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v212 : Index := Scalar.indexCast v67
  let c640 : Index := 640#32
  ![v212.toNat, 640]
def k0_off12 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v214 : Index := Scalar.indexCast v70
  let c5 : Index := 5#32
  let c0_162 : Index := 0#32
  ![v214.toNat, 5, 0]
def k0_off13 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v238 : Index := Scalar.indexCast v67
  let c768 : Index := 768#32
  ![v238.toNat, 768]
def k0_off14 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v240 : Index := Scalar.indexCast v70
  let c6 : Index := 6#32
  let c0_173 : Index := 0#32
  ![v240.toNat, 6, 0]
def k0_off15 (d0 : Dev nD) (c0_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v264 : Index := Scalar.indexCast v67
  let c896 : Index := 896#32
  ![v264.toNat, 896]
def k0_off16 (d0 : Dev nD) (c0_i32_99 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let c128_i32 : BitVec 32 := 128#32
  let v68 : BitVec 32 := Scalar.subi v67 c128_i32
  let c0_i32_102 : BitVec 32 := 0#32
  let v69 : BitVec 32 := Scalar.maxsi v68 c0_i32_102
  let c640_i32 : BitVec 32 := 640#32
  let v70 : BitVec 32 := Scalar.minsi v69 c640_i32
  let v266 : Index := Scalar.indexCast v70
  let c7 : Index := 7#32
  let c0_184 : Index := 0#32
  ![v266.toNat, 7, 0]
def k0_off17 (d0 : Dev nD) (c0_i32_99 : BitVec 32) : Fin 3 → Nat :=
  let c0_195 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_99
  let c8_i32_100 : BitVec 32 := 8#32
  let v65 : BitVec 32 := Scalar.addi v64 c8_i32_100
  let c4_i32_101 : BitVec 32 := 4#32
  let v66 : BitVec 32 := Scalar.remsi v65 c4_i32_101
  let c256_i32 : BitVec 32 := 256#32
  let v67 : BitVec 32 := Scalar.muli v66 c256_i32
  let v290 : Index := Scalar.indexCast v67
  let c0_196 : Index := 0#32
  ![0, v290.toNat, 0]
def k0_dev26 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_204 : BitVec 32 := 1#32
  let v298 : BitVec 32 := Scalar.muli v4 c1_i32_204
  let v299 : BitVec 32 := Scalar.addi c0_i32_205 v298
  v299.toNat
def k0_dev27 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_345 : BitVec 32 := 1#32
  let v554 : BitVec 32 := Scalar.muli v4 c1_i32_345
  let v555 : BitVec 32 := Scalar.addi c0_i32_346 v554
  v555.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_351 : BitVec 32 := 1#32
  let v564 : BitVec 1 := Scalar.cmpi .eq v2 c1_i32_351
  let v565 : BitVec 32 := Scalar.extui v564
  let c0_i32_358 : BitVec 32 := 0#32
  let v566 : BitVec 1 := Scalar.cmpi .ne v565 c0_i32_358
  v566

def k0_dev28 : Nat :=
  let c0_i32_966 : BitVec 32 := 0#32
  let c2_i32_964 : BitVec 32 := 2#32
  let c1_i32_965 : BitVec 32 := 1#32
  let v1356 : BitVec 32 := Scalar.muli c2_i32_964 c1_i32_965
  let v1357 : BitVec 32 := Scalar.addi c0_i32_966 v1356
  v1357.toNat
def k0_dev29 : Nat :=
  let c0_i32_983 : BitVec 32 := 0#32
  let c2_i32_981 : BitVec 32 := 2#32
  let c1_i32_982 : BitVec 32 := 1#32
  let v1370 : BitVec 32 := Scalar.muli c2_i32_981 c1_i32_982
  let v1371 : BitVec 32 := Scalar.addi c0_i32_983 v1370
  v1371.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_359 : BitVec 32 := 3#32
  let v567 : BitVec 1 := Scalar.cmpi .eq v2 c3_i32_359
  let v568 : BitVec 32 := Scalar.extui v567
  let c0_i32_368 : BitVec 32 := 0#32
  let v569 : BitVec 1 := Scalar.cmpi .ne v568 c0_i32_368
  v569

def k0_dev30 : Nat :=
  let c0_i32_966 : BitVec 32 := 0#32
  let c2_i32_964 : BitVec 32 := 2#32
  let c1_i32_965 : BitVec 32 := 1#32
  let v1356 : BitVec 32 := Scalar.muli c2_i32_964 c1_i32_965
  let v1357 : BitVec 32 := Scalar.addi c0_i32_966 v1356
  v1357.toNat
def k0_dev31 : Nat :=
  let c0_i32_983 : BitVec 32 := 0#32
  let c2_i32_981 : BitVec 32 := 2#32
  let c1_i32_982 : BitVec 32 := 1#32
  let v1370 : BitVec 32 := Scalar.muli c2_i32_981 c1_i32_982
  let v1371 : BitVec 32 := Scalar.addi c0_i32_983 v1370
  v1371.toNat
def k0_dev32 (d0 : Dev nD) : Nat :=
  let c0_i32_527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_526 : BitVec 32 := 1#32
  let v825 : BitVec 32 := Scalar.muli v4 c1_i32_526
  let v826 : BitVec 32 := Scalar.addi c0_i32_527 v825
  v826.toNat
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_532 : BitVec 32 := 3#32
  let v835 : BitVec 32 := Scalar.subi v2 c3_i32_532
  let c8_i32_533 : BitVec 32 := 8#32
  let v836 : BitVec 32 := Scalar.addi v835 c8_i32_533
  let c4_i32_534 : BitVec 32 := 4#32
  let v837 : BitVec 32 := Scalar.remsi v836 c4_i32_534
  let v1082 : Index := Scalar.indexCast v837
  let c0_662 : Index := 0#32
  let c0_663 : Index := 0#32
  ![v1082.toNat, 0, 0]
def k0_off19 (d0 : Dev nD) (c0_i32_665 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_664 : BitVec 32 := 1#32
  let v1086 : BitVec 32 := Scalar.addi v2 c1_i32_664
  let v1087 : BitVec 32 := Scalar.subi v1086 c0_i32_665
  let c8_i32_666 : BitVec 32 := 8#32
  let v1088 : BitVec 32 := Scalar.addi v1087 c8_i32_666
  let c4_i32_667 : BitVec 32 := 4#32
  let v1089 : BitVec 32 := Scalar.remsi v1088 c4_i32_667
  let c0_i32_681 : BitVec 32 := 0#32
  let c0_i32_682 : BitVec 32 := 0#32
  ![v1089.toNat, 0, 0]
def k0_dev33 (d0 : Dev nD) : Nat :=
  let c0_i32_680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_679 : BitVec 32 := 1#32
  let v1099 : BitVec 32 := Scalar.muli v4 c1_i32_679
  let v1100 : BitVec 32 := Scalar.addi c0_i32_680 v1099
  v1100.toNat
def k0_off20 (d0 : Dev nD) (c0_i32_672 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_671 : BitVec 32 := 1#32
  let v1093 : BitVec 32 := Scalar.addi v2 c1_i32_671
  let v1094 : BitVec 32 := Scalar.addi v1093 c0_i32_672
  let c4_i32_673 : BitVec 32 := 4#32
  let v1095 : BitVec 32 := Scalar.remsi v1094 c4_i32_673
  let c0_i32_689 : BitVec 32 := 0#32
  let c512_i32 : BitVec 32 := 512#32
  ![v1095.toNat, 0, 512]
def k0_dev34 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.subi v2 c1_i32_2
  let c4_i32_3 : BitVec 32 := 4#32
  let v6 : BitVec 32 := Scalar.addi v5 c4_i32_3
  let c4_i32_4 : BitVec 32 := 4#32
  let v7 : BitVec 32 := Scalar.remsi v6 c4_i32_4
  let c1_i32_687 : BitVec 32 := 1#32
  let v1109 : BitVec 32 := Scalar.muli v7 c1_i32_687
  let v1110 : BitVec 32 := Scalar.addi c0_i32_688 v1109
  v1110.toNat
def k0_off21 (d0 : Dev nD) (c0_i32_668 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1090 : BitVec 32 := Scalar.subi v2 c0_i32_668
  let c8_i32_669 : BitVec 32 := 8#32
  let v1091 : BitVec 32 := Scalar.addi v1090 c8_i32_669
  let c4_i32_670 : BitVec 32 := 4#32
  let v1092 : BitVec 32 := Scalar.remsi v1091 c4_i32_670
  let v1135 : Index := Scalar.indexCast v1092
  let c0_708 : Index := 0#32
  let c0_709 : Index := 0#32
  ![v1135.toNat, 0, 0]
def k0_off22 (d0 : Dev nD) (c0_i32_668 : BitVec 32) : Fin 3 → Nat :=
  let c0_711 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1090 : BitVec 32 := Scalar.subi v2 c0_i32_668
  let c8_i32_669 : BitVec 32 := 8#32
  let v1091 : BitVec 32 := Scalar.addi v1090 c8_i32_669
  let c4_i32_670 : BitVec 32 := 4#32
  let v1092 : BitVec 32 := Scalar.remsi v1091 c4_i32_670
  let c256_i32_710 : BitVec 32 := 256#32
  let v1139 : BitVec 32 := Scalar.muli v1092 c256_i32_710
  let v1140 : Index := Scalar.indexCast v1139
  let c0_712 : Index := 0#32
  ![0, v1140.toNat, 0]
def k0_off23 (d0 : Dev nD) (c0_i32_675 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_674 : BitVec 32 := 2#32
  let v1096 : BitVec 32 := Scalar.addi v2 c2_i32_674
  let v1097 : BitVec 32 := Scalar.addi v1096 c0_i32_675
  let c4_i32_676 : BitVec 32 := 4#32
  let v1098 : BitVec 32 := Scalar.remsi v1097 c4_i32_676
  let v1144 : Index := Scalar.indexCast v1098
  let c0_713 : Index := 0#32
  let c512_714 : Index := 512#32
  ![v1144.toNat, 0, 512]
def k0_off24 (d0 : Dev nD) (c0_i32_675 : BitVec 32) : Fin 3 → Nat :=
  let c0_716 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_674 : BitVec 32 := 2#32
  let v1096 : BitVec 32 := Scalar.addi v2 c2_i32_674
  let v1097 : BitVec 32 := Scalar.addi v1096 c0_i32_675
  let c4_i32_676 : BitVec 32 := 4#32
  let v1098 : BitVec 32 := Scalar.remsi v1097 c4_i32_676
  let c256_i32_715 : BitVec 32 := 256#32
  let v1148 : BitVec 32 := Scalar.muli v1098 c256_i32_715
  let v1149 : Index := Scalar.indexCast v1148
  let c512_717 : Index := 512#32
  ![0, v1149.toNat, 512]
def k0_dev35 (d0 : Dev nD) : Nat :=
  let c0_i32_734 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_733 : BitVec 32 := 1#32
  let v1166 : BitVec 32 := Scalar.muli v4 c1_i32_733
  let v1167 : BitVec 32 := Scalar.addi c0_i32_734 v1166
  v1167.toNat
def k0_dev36 (d0 : Dev nD) : Nat :=
  let c0_i32_742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.subi v2 c1_i32_2
  let c4_i32_3 : BitVec 32 := 4#32
  let v6 : BitVec 32 := Scalar.addi v5 c4_i32_3
  let c4_i32_4 : BitVec 32 := 4#32
  let v7 : BitVec 32 := Scalar.remsi v6 c4_i32_4
  let c1_i32_741 : BitVec 32 := 1#32
  let v1176 : BitVec 32 := Scalar.muli v7 c1_i32_741
  let v1177 : BitVec 32 := Scalar.addi c0_i32_742 v1176
  v1177.toNat
def k0_dev37 (d0 : Dev nD) : Nat :=
  let c0_i32_789 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_788 : BitVec 32 := 1#32
  let v1233 : BitVec 32 := Scalar.muli v4 c1_i32_788
  let v1234 : BitVec 32 := Scalar.addi c0_i32_789 v1233
  v1234.toNat
def k0_dev38 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.subi v2 c1_i32_2
  let c4_i32_3 : BitVec 32 := 4#32
  let v6 : BitVec 32 := Scalar.addi v5 c4_i32_3
  let c4_i32_4 : BitVec 32 := 4#32
  let v7 : BitVec 32 := Scalar.remsi v6 c4_i32_4
  let c1_i32_796 : BitVec 32 := 1#32
  let v1243 : BitVec 32 := Scalar.muli v7 c1_i32_796
  let v1244 : BitVec 32 := Scalar.addi c0_i32_797 v1243
  v1244.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S1024x1, .i32⟩
  | .hbm, ⟨9, _⟩ => ⟨S4096, .i32⟩
  | .hbm, ⟨10, _⟩ => ⟨S1x4096, .i32⟩
  | .hbm, ⟨11, _⟩ => ⟨S1024x4096, .i32⟩
  | .hbm, ⟨12, _⟩ => ⟨S1024x4096, .i32⟩
  | .hbm, ⟨13, _⟩ => ⟨S1024x4096, .i32⟩
  | .hbm, ⟨14, _⟩ => ⟨S1024x4096, .i32⟩
  | .hbm, ⟨15, _⟩ => ⟨S_, .i32⟩
  | .hbm, ⟨16, _⟩ => ⟨S1024x4096, .i32⟩
  | .hbm, ⟨17, _⟩ => ⟨S1024x4096, .i1⟩
  | .hbm, ⟨18, _⟩ => ⟨S1x32x1024x4096, .f32⟩
  | .hbm, ⟨19, _⟩ => ⟨S_, .f32⟩
  | .hbm, ⟨20, _⟩ => ⟨S1x32x1024x4096, .f32⟩
  | .hbm, ⟨21, _⟩ => ⟨S1x32x1024x4096, .f32⟩
  | .hbm, ⟨22, _⟩ => ⟨S1x1x1024x4096, .i1⟩
  | .hbm, ⟨23, _⟩ => ⟨S_, .f32⟩
  | .hbm, ⟨24, _⟩ => ⟨S_, .f32⟩
  | .hbm, ⟨25, _⟩ => ⟨S1x32x1024x4096, .i1⟩
  | .hbm, ⟨26, _⟩ => ⟨S1x32x1024x4096, .f32⟩
  | .hbm, ⟨27, _⟩ => ⟨S1x32x1024x4096, .f32⟩
  | .hbm, ⟨28, _⟩ => ⟨S_, .f32⟩
  | .hbm, ⟨29, _⟩ => ⟨S1x32x1024, .f32⟩
  | .hbm, ⟨30, _⟩ => ⟨S1x32x1024x1, .f32⟩
  | .hbm, ⟨31, _⟩ => ⟨S1x32x1024x4096, .f32⟩
  | .hbm, ⟨32, _⟩ => ⟨S1x32x1024x4096, .f32⟩
  | .hbm, ⟨33, _⟩ => ⟨S1x32x1024x4096, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x32x1024, .f32⟩
  | .hbm, ⟨39, _⟩ => ⟨S1x32x1024x1, .f32⟩
  | .hbm, ⟨40, _⟩ => ⟨S_, .f32⟩
  | .hbm, ⟨41, _⟩ => ⟨S_, .f32⟩
  | .hbm, ⟨42, _⟩ => ⟨S1x32x1024x1, .i1⟩
  | .hbm, ⟨43, _⟩ => ⟨S1x32x1024x1, .f32⟩
  | .hbm, ⟨44, _⟩ => ⟨S1x32x1024x1, .f32⟩
  | .hbm, ⟨45, _⟩ => ⟨S1x32x1024x4096, .f32⟩
  | .hbm, ⟨46, _⟩ => ⟨S1x32x1024x4096, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x32x1024x4096, .i1⟩
  | .hbm, ⟨51, _⟩ => ⟨S1x32x1024x4096, .f32⟩
  | .hbm, ⟨52, _⟩ => ⟨S1x32x1024x4096, .f32⟩
  | .hbm, ⟨53, _⟩ => ⟨S1x32x128x1024, .f32⟩
  | .hbm, ⟨54, _⟩ => ⟨S1x1024x32x128, .f32⟩
  | .hbm, ⟨55, _⟩ => ⟨S1x1024x4096, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KI.Common.lean ====
/-
The protocol of the kernel on its four devices, generic in the float instance: what every buffer holds once it has been
written (each buffer but the landing of the local copies and the result is written once), the transfers each device
issues and the waits it makes, in program order, and the schedule of the semaphore cells that follows from them.
-/
module

public import proofs.«01_k».proof.Proof.Gen.Kernel
public import proofs.«01_k».proof.Proof.Gen.KernelIdeal.Skeleton
public import proofs.«01_k».proof.Proof.Gen.KernelIdeal.Launch
public import Idealize.ShloMosaic.Lib.Quiescent
public import Idealize.ShloMosaic.Lib.Transfers
public import Idealize.ShloMosaic.Lib.Pipeline.Kit
public import Idealize.ShloMosaic.Lib.Pipeline.TalkSites
public import Idealize.ShloMosaic.Lib.ValueIdxCore
public import Idealize.ShloMosaic.Lib.ValueIdxCoords

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

/-! ## The resource algebra -/

/-- The ring of rounds. -/
abbrev UB : Type := URounds (GSem nD τ sig) (Dev nD)
/-- The ghost state. -/
abbrev UU : Type := UR sig nD τ × (UB × Counters)

local notation "𝕄" => MT nD τ sig ℕ (Elt F) ℕ UU ℕ

/-- The pipeline's part of the ghost state. -/
abbrev EP : Emb (UR sig nD τ) (MT nD τ sig ℕ (Elt F) ℕ UU ℕ) := embL
/-- The rounds library of the kernel's own cells: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
/-- The ring's part lies in the user's. -/
instance ER_landsIn : (ER : Emb UB 𝕄).LandsIn (upEmb : UEmb _ 𝕄) := by unfold ER; infer_instance

/-- No variants are used. -/
abbrev 𝒱₀ : Variants := Variants.none

variable (m : (ℓ : Loc nD τ sig) → Buf (Elt F) ℓ)

/-! ## Boxes of a rank-3 buffer, and reading one at natural numbers -/

/-- The elements whose three coordinates lie in the given ranges. -/
def bx3 {n0 n1 n2 : ℕ} (a a' b b' c c' : ℕ) : Finset (⟨3, ![n0, n1, n2]⟩ : Shape).Idx :=
  Finset.univ.filter fun i => (a ≤ (i 0).val ∧ (i 0).val < a') ∧ (b ≤ (i 1).val ∧ (i 1).val < b') ∧ (c ≤ (i 2).val ∧ (i 2).val < c')

/-- Membership in a box, by coordinates. -/
theorem mem_bx3 {n0 n1 n2 a a' b b' c c' : ℕ} (i : (⟨3, ![n0, n1, n2]⟩ : Shape).Idx) :
    i ∈ (bx3 a a' b b' c c' : Finset (⟨3, ![n0, n1, n2]⟩ : Shape).Idx)
      ↔ (a ≤ (i 0).val ∧ (i 0).val < a') ∧ (b ≤ (i 1).val ∧ (i 1).val < b') ∧ (c ≤ (i 2).val ∧ (i 2).val < c') := by
  unfold bx3; rw [Finset.mem_filter]; exact ⟨fun h => h.2, fun h => ⟨Finset.mem_univ _, h⟩⟩

/-- A unit-stride rectangle of a rank-3 buffer is a box. -/
theorem unit_set_bx3 {n0 n1 n2 : ℕ} {off size : Fin 3 → ℕ} (inb : ∀ a, off a + size a ≤ (⟨3, ![n0, n1, n2]⟩ : Shape).size a) :
    (Rect.unit (s := (⟨3, ![n0, n1, n2]⟩ : Shape)) off size inb).set
      = bx3 (off 0) (off 0 + size 0) (off 1) (off 1 + size 1) (off 2) (off 2 + size 2) := by
  ext i
  rw [Rect.mem_set_unit, mem_bx3]
  exact ⟨fun h => ⟨h 0, h 1, h 2⟩, fun h a => by
    match a with
    | ⟨0, _⟩ => exact h.1
    | ⟨1, _⟩ => exact h.2.1
    | ⟨2, _⟩ => exact h.2.2⟩

/-- A rank-3 array read at three natural numbers, each taken modulo its extent. -/
def g3 {α : Type} {n0 n1 n2 : ℕ} [NeZero n0] [NeZero n1] [NeZero n2] (f : (⟨3, ![n0, n1, n2]⟩ : Shape).Idx → α) (i j k : ℕ) : α :=
  f (ix3 (Fin.ofNat n0 i) (Fin.ofNat n1 j) (Fin.ofNat n2 k))

/-- A function on indices, read by coordinates. -/
theorem g3_eq {α : Type} {n0 n1 n2 : ℕ} [NeZero n0] [NeZero n1] [NeZero n2] (f : (⟨3, ![n0, n1, n2]⟩ : Shape).Idx → α)
    (x : (⟨3, ![n0, n1, n2]⟩ : Shape).Idx) (i j k : ℕ) (h0 : (x 0).val = i) (h1 : (x 1).val = j) (h2 : (x 2).val = k) : f x = g3 f i j k := by
  unfold g3
  congr 1
  funext a
  match a with
  | ⟨0, _⟩ => exact Fin.ext (by subst h0; exact (Nat.mod_eq_of_lt (x 0).isLt).symm)
  | ⟨1, _⟩ => exact Fin.ext (by subst h1; exact (Nat.mod_eq_of_lt (x 1).isLt).symm)
  | ⟨2, _⟩ => exact Fin.ext (by subst h2; exact (Nat.mod_eq_of_lt (x 2).isLt).symm)

/-! ## Devices -/

/-- The device whose place is `n` modulo 4. -/
def dv (n : ℕ) : Dev nD := ⟨n % 4, Nat.mod_lt _ (by decide)⟩

/-! ## What the buffers hold -/

/-- Device `p`'s argument buffer `b` at launch. -/
abbrev arg (p : Dev nD) (b : Ref sig .tc) : Buf (Elt F) ((p : Thread nD τ).loc b) := m ((p : Thread nD τ).loc b)

/-- The rows of K that device `p` holds, rounded: what its staging buffer holds once copied. -/
def kc (p : Dev nD) : FVec F S1024x32x128 .bf16 :=
  truncf .bf16 (fun i => (arg m p main_arg2 : FVec F S1x1024x32x128 .f32) (ix4 (0 : Fin 1) (i 0) (i 1) (i 2))) bitsLt_bf16_f32
/-- The same of V. -/
def vc (p : Dev nD) : FVec F S1024x32x128 .bf16 :=
  truncf .bf16 (fun i => (arg m p main_arg3 : FVec F S1x1024x32x128 .f32) (ix4 (0 : Fin 1) (i 0) (i 1) (i 2))) bitsLt_bf16_f32

/-- Of an array held by devices 0 and 1, the 1152 rows of device `c`'s eight heads: 1024 of device 0's, then 128 of device 1's. -/
def ext (f : Dev nD → FVec F S1024x32x128 .bf16) (c : Dev nD) : FVec F S1152x8x128 .bf16 := fun i =>
  if (i 0).val < 1024 then g3 (f 0) (i 0).val (8 * c.val + (i 1).val) (i 2).val else g3 (f 1) ((i 0).val - 1024) (8 * c.val + (i 1).val) (i 2).val
/-- The K window buffer of device `c`. -/
def KB (c : Dev nD) : FVec F S1152x8x128 .bf16 := ext (kc m) c
/-- The V window buffer of device `c`. -/
def VB (c : Dev nD) : FVec F S1152x8x128 .bf16 := ext (vc m) c
/-- What device `c` relays to device 2: device 0's rows of heads 16 to 23, of K on device 1, of V on device 3. -/
def RL (c : Dev nD) : FVec F S1024x8x128 .bf16 := fun i => g3 (if c = 1 then kc m 0 else vc m 0) (i 0).val (16 + (i 1).val) (i 2).val

/-- The queries of device `c`, scaled and rounded. -/
def QS (c : Dev nD) : FVec F S1024x1024 .bf16 := k0_pay17 (k0_pay16 (arg m c main_arg0) (arg m c main_arg1))
/-- The rows of the output projection that device `c` holds, rounded. -/
def WO (c : Dev nD) : FVec F S1024x1024 .bf16 := k0_pay18 (arg m c main_arg4)

/-- The block of rows device `c` works on at step `t`. -/
def cb (c : Dev nD) (t : Fin 4) : ℕ := ((c.val + 8) - t.val) % 4
/-- The first row of the window of keys for that block. -/
def ks (c : Dev nD) (t : Fin 4) : ℕ := min (256 * cb c t - 128) 640

/-- A block of queries lies in its buffer. -/
theorem qinb (c : Dev nD) (t : Fin 4) (h : Fin 8) : ∀ a, (![256 * cb c t, 128 * h.val] : Fin 2 → ℕ) a + S256x128.size a ≤ S1024x1024.size a := by
  revert c t h; decide +kernel
/-- A window of keys lies in its buffer. -/
theorem kinb (c : Dev nD) (t : Fin 4) (h : Fin 8) : ∀ a, (![ks c t, h.val, 0] : Fin 3 → ℕ) a + S512x1x128.size a ≤ S1152x8x128.size a := by
  revert c t h; decide +kernel
/-- A block of the output projection lies in its buffer. -/
theorem winb (h : Fin 8) : ∀ a, (![128 * h.val, 0] : Fin 2 → ℕ) a + S128x1024.size a ≤ S1024x1024.size a := by
  revert h; decide +kernel

/-- Head `h`'s queries at step `t`, -/
def qw (c : Dev nD) (t : Fin 4) (h : Fin 8) : FVec F S256x128 .bf16 := fun j => QS m c ((Rect.unit (s := S1024x1024) ![256 * cb c t, 128 * h.val] S256x128.size (qinb c t h)).emb j)
/-- its window of keys, -/
def kw (c : Dev nD) (t : Fin 4) (h : Fin 8) : FVec F S512x1x128 .bf16 := fun j => KB m c ((Rect.unit (s := S1152x8x128) ![ks c t, h.val, 0] S512x1x128.size (kinb c t h)).emb j)
/-- its window of values, -/
def vw (c : Dev nD) (t : Fin 4) (h : Fin 8) : FVec F S512x1x128 .bf16 := fun j => VB m c ((Rect.unit (s := S1152x8x128) ![ks c t, h.val, 0] S512x1x128.size (kinb c t h)).emb j)
/-- and its rows of the output projection. -/
def ww (c : Dev nD) (h : Fin 8) : FVec F S128x1024 .bf16 := fun j => WO m c ((Rect.unit (s := S1024x1024) ![128 * h.val, 0] S128x1024.size (winb h)).emb j)

/-- Which keys of the window a row of the block attends to, from the numbers of the block's first row and the window's. -/
def mskOf (r0 ks0 : BitVec 32) : IVec S256x512 1 :=
  cmpi .sle (absi (subi (addi (broadcast S256x512 r0) (iota .tc S256x512 32 [0] iota_S256x512_d0_w32))
    (addi (broadcast S256x512 ks0) (iota .tc S256x512 32 [1] iota_S256x512_d1_w32)))) (broadcast S256x512 128#32)
/-- The same at device `c` and step `t`. -/
def msk (c : Dev nD) (t : Fin 4) : IVec S256x512 1 := mskOf (BitVec.ofNat 32 (256 * cb c t)) (BitVec.ofNat 32 (ks c t))

/-- What head `h` adds to the output block at step `t`. -/
def hd (c : Dev nD) (t : Fin 4) (h : Fin 8) : FVec F S256x1024 .f32 := k0_pay25 (msk c t) (qw m c t h) (kw m c t h) (vw m c t h) (ww m c h)
/-- The sum of the first `n` heads at step `t`, -/
def sm (c : Dev nD) (t : Fin 4) : ℕ → FVec F S256x1024 .f32
  | 0 => k0_pay20 (F := F)
  | n + 1 => addf (sm c t n) (hd m c t (Fin.ofNat 8 n))
/-- and of all eight: device `c`'s output block at step `t`. -/
def acc (c : Dev nD) (t : Fin 4) : FVec F S256x1024 .f32 := sm m c t 8

/-- The sum that device `c` has at step `t` of the ring reduction: its own block and what the device before it sent, rounded. -/
def red : ℕ → Dev nD → FVec F S256x1024 .f32
  | 0, c => acc m c 0
  | t + 1, c => addf (acc m c (Fin.ofNat 4 (t + 1))) (extf .f32 (truncf .bf16 (red t (dv (c.val + 3))) bitsLt_bf16_f32) bitsLt_bf16_f32)

/-- The sums device `c` sends on, by step, -/
def RS (c : Dev nD) : FVec F S3x256x1024 .bf16 := fun i => truncf .bf16 (red m (i 0).val c) bitsLt_bf16_f32 (ix2 (i 1) (i 2))
/-- and those it receives. -/
def RB (c : Dev nD) : FVec F S3x256x1024 .bf16 := RS m (dv (c.val + 3))
/-- The finished blocks, by their number: block `b` is finished by the device after place `b + 2`. -/
def AG : FVec F S4x256x1024 .bf16 := fun i => truncf .bf16 (red m 3 (dv ((i 0).val + 3))) bitsLt_bf16_f32 (ix2 (i 1) (i 2))
/-- The result of device `c`: the block it finished as it is, the others as they were sent. -/
def OUT (c : Dev nD) : FVec F S1x1024x1024 .f32 := fun i =>
  if (i 1).val / 256 = (c.val + 1) % 4 then red m 3 c (ix2 (Fin.ofNat 256 (i 1).val) (i 2))
  else extf .f32 (truncf .bf16 (red m 3 (dv ((i 1).val / 256 + 3))) bitsLt_bf16_f32) bitsLt_bf16_f32 (ix2 (Fin.ofNat 256 (i 1).val) (i 2))

/-! ## Owning part of a buffer -/

/-- Device `c` owns the elements `S` of its buffer `b`, holding `f`. -/
def own (c : Dev nD) (b : Ref sig .tc) (S : Finset b.ty.shape.Idx) (f : b.ty.Contents (Elt F)) : sProp 𝕄 :=
  (((c : Thread nD τ).loc b) ↦[S]{fullShare} f)
/-- The same with contents unknown. -/
def hole (c : Dev nD) (b : Ref sig .tc) (S : Finset b.ty.shape.Idx) : sProp 𝕄 := iprop(∃ f : b.ty.Contents (Elt F), own c b S f)

/-- Ownership can be stored in an invariant. -/
instance own_storable (c : Dev nD) (b : Ref sig .tc) (S) (f) : BI.Storable (upEmb : UEmb _ 𝕄) (own (F := F) c b S f) := by unfold own; infer_instance
/-- So can ownership at any contents. -/
instance hole_storable (c : Dev nD) (b : Ref sig .tc) (S) : BI.Storable (upEmb : UEmb _ 𝕄) (hole (F := F) c b S) := by unfold hole; infer_instance

/-- A region of a buffer and what it holds once written. -/
structure Reg (F : FTy → Type) [FloatOps F] [Named F] where
  b : Ref sig .tc
  S : Finset b.ty.shape.Idx
  f : b.ty.Contents (Elt F)
/-- The region written, -/
def Reg.full (c : Dev nD) (R : Reg F) : sProp 𝕄 := own c R.b R.S R.f
/-- and not written yet. -/
def Reg.hole (c : Dev nD) (R : Reg F) : sProp 𝕄 := Cert.KernelIdealProof.hole c R.b R.S

/-- Rows `a` to `a'` of eight heads from `h` in the K staging buffer, -/
def kR (a a' h : ℕ) : Reg F := ⟨cc0_scratch5, (bx3 a a' h (h + 8) 0 128 : Finset S1024x32x128.Idx), kc m 0⟩
/-- Rows `a` to `a'` of eight heads in the V staging buffer. -/
def vR (a a' h : ℕ) : Reg F := ⟨cc0_scratch6, (bx3 a a' h (h + 8) 0 128 : Finset S1024x32x128.Idx), vc m 0⟩
/-- The first 128 rows of eight heads of K from device 1. -/
def kR1 (h : ℕ) : Reg F := ⟨cc0_scratch5, (bx3 0 128 h (h + 8) 0 128 : Finset S1024x32x128.Idx), kc m 1⟩
/-- The same of V. -/
def vR1 (h : ℕ) : Reg F := ⟨cc0_scratch6, (bx3 0 128 h (h + 8) 0 128 : Finset S1024x32x128.Idx), vc m 1⟩
/-- Rows of the K window. -/
def kbR (c : Dev nD) (a a' : ℕ) : Reg F := ⟨cc0_scratch0, (bx3 a a' 0 8 0 128 : Finset S1152x8x128.Idx), KB m c⟩
/-- Rows of the V window. -/
def vbR (c : Dev nD) (a a' : ℕ) : Reg F := ⟨cc0_scratch1, (bx3 a a' 0 8 0 128 : Finset S1152x8x128.Idx), VB m c⟩
/-- Rows of the relay buffer. -/
def rlR (c : Dev nD) (a a' : ℕ) : Reg F := ⟨cc0_scratch7, (bx3 a a' 0 8 0 128 : Finset S1024x8x128.Idx), RL m c⟩
/-- A slot of the buffer that the ring sends from. -/
def rsR (c : Dev nD) (t : ℕ) : Reg F := ⟨cc0_scratch8, (bx3 t (t + 1) 0 256 0 1024 : Finset S3x256x1024.Idx), RS m c⟩
/-- A slot of the buffer that the ring receives in. -/
def rbR (c : Dev nD) (t : ℕ) : Reg F := ⟨cc0_scratch9, (bx3 t (t + 1) 0 256 0 1024 : Finset S3x256x1024.Idx), RB m c⟩
/-- The left half of a finished block. -/
def agL (b : ℕ) : Reg F := ⟨cc0_scratch10, (bx3 (b % 4) (b % 4 + 1) 0 256 0 512 : Finset S4x256x1024.Idx), AG m⟩
/-- The right half of it. -/
def agR (b : ℕ) : Reg F := ⟨cc0_scratch10, (bx3 (b % 4) (b % 4 + 1) 0 256 512 1024 : Finset S4x256x1024.Idx), AG m⟩
/-- No region. -/
def noR : Reg F := ⟨cc0_scratch10, (∅ : Finset S4x256x1024.Idx), AG m⟩

/-- What the landing on cell `n` of device `c` hands over: a receive cell the region written, a send cell the region read. -/
def reg (c : Dev nD) (n : ℕ) : Reg F :=
  match n with
  | 4 => if c = 0 then kR m 128 896 16 else kR1 m 0
  | 5 => if c = 0 then kR m 0 640 8 else kR1 m 16
  | 6 => if c = 0 then kR m 384 1024 24 else kR1 m 24
  | 7 => if c = 0 then vR m 128 896 16 else vR1 m 0
  | 8 => if c = 0 then vR m 0 640 8 else vR1 m 16
  | 9 => if c = 0 then vR m 384 1024 24 else vR1 m 24
  | 10 => kR m 640 1024 8
  | 11 => vR m 640 1024 8
  | 12 => kR m 0 384 24
  | 13 => vR m 0 384 24
  | 14 => kR m 0 128 16
  | 15 => kR m 896 1024 16
  | 16 => vR m 0 128 16
  | 17 => vR m 896 1024 16
  | 18 => rlR m c 128 896
  | 19 => rlR m c 0 128
  | 20 => rlR m c 896 1024
  | 21 => if c = 1 then kbR m c 0 640 else kbR m c 384 1024
  | 22 => if c = 1 then vbR m c 0 640 else vbR m c 384 1024
  | 23 => if c = 1 then kbR m c 640 1024 else kbR m c 0 384
  | 24 => if c = 1 then vbR m c 640 1024 else vbR m c 0 384
  | 25 => kbR m c 896 1024
  | 26 => vbR m c 896 1024
  | 27 => kbR m c 1024 1152
  | 28 => vbR m c 1024 1152
  | 29 => kbR m c 128 896
  | 30 => vbR m c 128 896
  | 31 => kbR m c 0 128
  | 32 => vbR m c 0 128
  | 37 => rlR m c 128 896
  | 38 => rlR m c 0 128
  | 39 => rlR m c 896 1024
  | 40 => rsR m c 0
  | 41 => rsR m c 1
  | 42 => rsR m c 2
  | 43 => rbR m c 0
  | 44 => rbR m c 1
  | 45 => rbR m c 2
  | 46 => agL m (c.val + 1)
  | 47 => agL m (c.val + 4)
  | 48 => agL m (c.val + 3)
  | 49 => agL m (c.val + 4)
  | 50 => agL m (c.val + 3)
  | 51 => agL m (c.val + 2)
  | 52 => agR m (c.val + 1)
  | 53 => agR m (c.val + 2)
  | 54 => agR m (c.val + 3)
  | 55 => agR m (c.val + 2)
  | 56 => agR m (c.val + 3)
  | 57 => agR m (c.val + 4)
  | _ => noR m

/-- What the landing on cell `n` of device `c` hands over. -/
def pay (c : Dev nD) (n : ℕ) : sProp 𝕄 := (reg m c n).full c

/-! ## The transfers and the waits, in program order -/

/-- A transfer: its send cell, the device it goes to, the receive cell there, the level at which that cell is waited for, and
    the credit. -/
structure Tr where
  s : Fin 58
  d : Dev nD
  r : Fin 58
  lev : ℕ
  N : ℕ
  deriving DecidableEq
/-- A wait for a receive cell: the cell, the level, the credit. -/
structure Aw where
  r : Fin 58
  lev : ℕ
  N : ℕ
  deriving DecidableEq

/-- The transfers of device 0 and of device 1 before any other. -/
def trD (c : Dev nD) : List Tr :=
  match c with
  | 0 => [⟨4, 1, 37, 2, 49152⟩, ⟨5, 1, 21, 3, 40960⟩, ⟨6, 3, 21, 3, 40960⟩, ⟨7, 3, 37, 2, 49152⟩, ⟨8, 1, 22, 3, 40960⟩, ⟨9, 3, 22, 3, 40960⟩,
      ⟨10, 1, 23, 6, 24576⟩, ⟨11, 1, 24, 6, 24576⟩, ⟨12, 3, 23, 6, 24576⟩, ⟨13, 3, 24, 6, 24576⟩,
      ⟨14, 1, 38, 5, 8192⟩, ⟨15, 1, 39, 5, 8192⟩, ⟨16, 3, 38, 5, 8192⟩, ⟨17, 3, 39, 5, 8192⟩]
  | 1 => [⟨4, 0, 27, 3, 8192⟩, ⟨7, 0, 28, 3, 8192⟩, ⟨5, 2, 27, 3, 8192⟩, ⟨8, 2, 28, 3, 8192⟩, ⟨6, 3, 27, 3, 8192⟩, ⟨9, 3, 28, 3, 8192⟩]
  | _ => []
/-- The first forwarding by devices 1 and 3, -/
def trF (c : Dev nD) : List Tr := match c with | 1 => [⟨18, 2, 29, 3, 49152⟩] | 3 => [⟨18, 2, 30, 3, 49152⟩] | _ => []
/-- and the second. -/
def trG (c : Dev nD) : List Tr := match c with | 1 => [⟨19, 2, 31, 6, 8192⟩, ⟨20, 2, 25, 6, 8192⟩] | 3 => [⟨19, 2, 32, 6, 8192⟩, ⟨20, 2, 26, 6, 8192⟩] | _ => []
/-- The reduce-scatter's transfer at step 0. -/
abbrev rs0 (c : Dev nD) : Tr := ⟨40, dv (c.val + 1), 43, 4, 16384⟩
/-- The reduce-scatter's transfer at step 1. -/
abbrev rs1 (c : Dev nD) : Tr := ⟨41, dv (c.val + 1), 44, 7, 16384⟩
/-- The reduce-scatter's transfer at step 2. -/
abbrev rs2 (c : Dev nD) : Tr := ⟨42, dv (c.val + 1), 45, 8, 16384⟩
/-- The all-gather's transfer 0 to the next device. -/
abbrev cw0 (c : Dev nD) : Tr := ⟨46, dv (c.val + 1), 49, 9, 8192⟩
/-- The all-gather's transfer 1 to the next device. -/
abbrev cw1 (c : Dev nD) : Tr := ⟨47, dv (c.val + 1), 50, 10, 8192⟩
/-- The all-gather's transfer 2 to the next device. -/
abbrev cw2 (c : Dev nD) : Tr := ⟨48, dv (c.val + 1), 51, 11, 8192⟩
/-- The all-gather's transfer 0 to the previous device. -/
abbrev cc0 (c : Dev nD) : Tr := ⟨52, dv (c.val + 3), 55, 9, 8192⟩
/-- The all-gather's transfer 1 to the previous device. -/
abbrev cc1 (c : Dev nD) : Tr := ⟨53, dv (c.val + 3), 56, 10, 8192⟩
/-- The all-gather's transfer 2 to the previous device. -/
abbrev cc2 (c : Dev nD) : Tr := ⟨54, dv (c.val + 3), 57, 11, 8192⟩
/-- The transfers of the all-gather. -/
def trH (c : Dev nD) : List Tr := [cw0 c, cc0 c, cw1 c, cc1 c, cw2 c, cc2 c]
/-- All of device `c`'s transfers. -/
def trs (c : Dev nD) : List Tr := trD c ++ (trF c ++ (rs0 c :: rs1 c :: (trG c ++ (rs2 c :: trH c))))

/-- The waits for the first relay, -/
def awF (c : Dev nD) : List Aw := match c with | 1 => [⟨37, 2, 49152⟩] | 3 => [⟨37, 2, 49152⟩] | _ => []
/-- for device 1's rows, -/
def awE (c : Dev nD) : List Aw := match c with | 1 => [] | _ => [⟨27, 3, 8192⟩, ⟨28, 3, 8192⟩]
/-- for the first part of the window, -/
def awP (c : Dev nD) : List Aw := match c with | 0 => [] | 2 => [⟨29, 3, 49152⟩, ⟨30, 3, 49152⟩] | _ => [⟨21, 3, 40960⟩, ⟨22, 3, 40960⟩]
/-- for the second relay, -/
def awG (c : Dev nD) : List Aw := match c with | 1 => [⟨38, 5, 8192⟩, ⟨39, 5, 8192⟩] | 3 => [⟨38, 5, 8192⟩, ⟨39, 5, 8192⟩] | _ => []
/-- for the rest of the window, -/
def awQ (c : Dev nD) : List Aw :=
  match c with
  | 0 => []
  | 2 => [⟨31, 6, 8192⟩, ⟨32, 6, 8192⟩, ⟨25, 6, 8192⟩, ⟨26, 6, 8192⟩]
  | _ => [⟨23, 6, 24576⟩, ⟨24, 6, 24576⟩]
/-- and in the all-gather. -/
def awH : List Aw := [⟨49, 9, 8192⟩, ⟨55, 9, 8192⟩, ⟨50, 10, 8192⟩, ⟨56, 10, 8192⟩, ⟨51, 11, 8192⟩, ⟨57, 11, 8192⟩]
/-- All of device `c`'s waits for receive cells. -/
def aws (c : Dev nD) : List Aw := awF c ++ (awE c ++ (awP c ++ (⟨43, 4, 16384⟩ :: (awG c ++ (awQ c ++ (⟨44, 7, 16384⟩ :: ⟨45, 8, 16384⟩ :: awH))))))

/-- The cells of device `c` that some transfer uses. -/
def used (c : Dev nD) : List (Fin 58) := (trs c).map (·.s) ++ (aws c).map (·.r)
/-- The credit of cell `n` of device `c`, zero if no transfer uses it. -/
def amt (c : Dev nD) (n : Fin 58) : ℕ :=
  match (trs c).find? (fun t => t.s = n) with
  | some t => t.N
  | none => match (aws c).find? (fun w => w.r = n) with
    | some w => w.N
    | none => 0

/-- The barrier semaphore. -/
abbrev barS : Sem sig := (SemArray.scalar (sig.barrier 0 rfl) : Sems sig S_).sem
/-- The barrier cell of device `c`, -/
abbrev barCell (c : Dev nD) : GSem nD τ sig := ((c : Thread nD τ), .reg barS)
/-- and its cell of DMA semaphore `n`. -/
abbrev cellD (c : Dev nD) (n : Fin 58) : GSem nD τ sig := ((c : Thread nD τ), .dma (n : DmaSem sig))

/-- A conjunction over a list. -/
def sepL {α : Type} : List α → (α → sProp 𝕄) → sProp 𝕄
  | [], _ => iprop(emp)
  | x :: l, Φ => iprop(Φ x ∗ sepL l Φ)

/-- What device `p` hands device `c` at the entry barrier: the regions of its own that `c` will write. -/
def gift (p c : Dev nD) : sProp 𝕄 := sepL ((trs c).filter fun t => t.d = p) fun t => (reg m t.d t.r.val).hole t.d

/-- A listed conjunction of storable parts can be stored. -/
theorem sepL_storable {α : Type} (l : List α) (Φ : α → sProp 𝕄) (h : ∀ x, BI.Storable (upEmb : UEmb _ 𝕄) (Φ x)) :
    BI.Storable (upEmb : UEmb _ 𝕄) (sepL l Φ) := by
  induction l with
  | nil => unfold sepL; infer_instance
  | cons x l ih => unfold sepL; have := h x; infer_instance

/-- What a cell carries can be stored. -/
instance pay_storable (c : Dev nD) (n : ℕ) : BI.Storable (upEmb : UEmb _ 𝕄) (pay (F := F) m c n) := by unfold pay Reg.full; infer_instance
/-- What a cell carries can be stored. -/
instance gift_storable (p c : Dev nD) : BI.Storable (upEmb : UEmb _ 𝕄) (gift (F := F) m p c) := by
  unfold gift; exact sepL_storable _ _ fun t => by unfold Reg.hole; infer_instance

/-- The duties of a cell in its one round: on a barrier cell one of each other device, on a DMA cell that is used one. -/
def dut (c : Dev nD) : SemLoc sig → Finset (Dev nD)
  | .reg _ => {dv (c.val + 1), dv (c.val + 2), dv (c.val + 3)}
  | .dma n => if amt c n = 0 then ∅ else {0}

/-- The schedule of the cells: one round each. -/
def Rd : Rounds.Schedule (GSem nD τ sig) (Dev nD) 𝕄 where
  duties g r := if r = 0 then dut g.1.1 g.2 else ∅
  unitless _ := False
  amount g _ _ := match g.2 with
    | .reg _ => 1
    | .dma n => amt g.1.1 n
  payload g _ d := match g.2 with
    | .reg _ => gift m d g.1.1
    | .dma n => pay m g.1.1 (n : Fin 58).val
  amount_pos g r d hd := by
    obtain ⟨t, sm⟩ := g
    cases sm with
    | reg s => exact Nat.one_pos
    | dma n =>
      by_cases hr : r = 0
      · rw [if_pos hr] at hd
        by_cases h : amt t.1 n = 0
        · simp only [dut, h, if_pos] at hd; exact absurd hd (Finset.notMem_empty _)
        · exact Nat.pos_of_ne_zero h
      · rw [if_neg hr] at hd; exact absurd hd (Finset.notMem_empty _)

/-- What a cell carries can be stored. -/
instance Rd_payload_storable (g : GSem nD τ sig) (r : ℕ) (d : Dev nD) : BI.Storable (upEmb : UEmb _ 𝕄) ((Rd (F := F) m).payload g r d) := by
  obtain ⟨t, sm⟩ := g
  cases sm with
  | reg s => show BI.Storable upEmb (gift m d t.1); infer_instance
  | dma n => show BI.Storable upEmb (pay m t.1 (n : Fin 58).val); infer_instance

/-- A cell has one round only. -/
theorem duties_later (g : GSem nD τ sig) : ∀ r, 1 ≤ r → (Rd (F := F) m).duties g r = ∅ := fun r hr => by
  dsimp only [Rd]; exact if_neg (by omega)
/-- A transfer's cell has one duty. -/
theorem duties_dma {c : Dev nD} {n : Fin 58} {N : ℕ} (h : amt c n = N) (hN : 0 < N) : (Rd (F := F) m).duties (cellD c n) 0 = {0} := by
  show (if amt c n = 0 then (∅ : Finset (Dev nD)) else {0}) = {0}
  exact if_neg (by omega)
/-- What that duty carries is the region landed. -/
theorem rest_dma {c : Dev nD} {n : Fin 58} {N : ℕ} (h : amt c n = N) (hN : 0 < N) :
    bigSep ((Rd (F := F) m).duties (cellD c n) 0 \ ∅) (fun d => (Rd (F := F) m).payload (cellD c n) 0 d) = pay m c n.val := by
  rw [Finset.sdiff_empty, duties_dma m h hN, bigSep_singleton]; rfl
/-- A transfer's cell waits for its credit. -/
theorem expect_dma {c : Dev nD} {n : Fin 58} {N : ℕ} (h : amt c n = N) (hN : 0 < N) : (Rd (F := F) m).expect (cellD c n) 0 = N := by
  unfold Schedule.expect Schedule.amountOf; rw [duties_dma m h hN, Finset.sum_singleton]; exact h

end Cert.KernelIdealProof
-- ==== Proof.KI.Steps.lean ====
/-
The step lemmas: a device's state between two operations — what it still owes, the transfers it has still to issue, the
waits it has still to make, the transfers in flight — and how a send, a wait for a landing and a wait for a send's own
completion change it; loads and stores of part of a buffer; local copies.
-/
module

public import proofs.«01_k».proof.Proof.KI.Common
public import Idealize.ShloMosaic.Lib.Pipeline.Launch
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

/-! ## The cells and their records -/

/-- The cells of device `c` that the schedule governs. -/
def cellsL (c : Dev nD) : List (GSem nD τ sig) := barCell c :: (used c).map (cellD c)
/-- All of them. -/
def cells : Finset (GSem nD τ sig) := (Finset.univ : Finset (Dev nD)).biUnion fun c => (cellsL c).toFinset

/-- The barrier is a cell. -/
theorem bar_mem (c : Dev nD) : barCell c ∈ cells :=
  Finset.mem_biUnion.mpr ⟨c, Finset.mem_univ _, List.mem_toFinset.mpr (List.mem_cons_self ..)⟩
/-- A used semaphore is a cell. -/
theorem cellD_mem {c : Dev nD} {n : Fin 58} (h : n ∈ used c) : cellD c n ∈ cells :=
  Finset.mem_biUnion.mpr ⟨c, Finset.mem_univ _, List.mem_toFinset.mpr (List.mem_cons_of_mem _ (List.mem_map_of_mem h))⟩

/-- What everyone may know: each cell's invariant, and that it has reached its round. -/
def records (K : GSem nD τ sig → ℕ) : sProp 𝕄 :=
  iprop((bigSep cells fun g => cellInv ER (Rd m) (K g) g) ∗ bigSep cells fun g => reached ER g 0)

/-- What everyone may know is kept. -/
instance (K : GSem nD τ sig → ℕ) : BI.Persistent (records (F := F) m K) := by unfold records; infer_instance

/-- A cell's invariant among all. -/
theorem inv_of (K : GSem nD τ sig → ℕ) {g : GSem nD τ sig} (h : g ∈ cells) :
    (bigSep cells fun g => (cellInv ER (Rd m) (K g) g : sProp 𝕄)) ⊢ cellInv ER (Rd (F := F) m) (K g) g := bigSep_elim h
/-- A cell's round among all. -/
theorem reached_of {g : GSem nD τ sig} (h : g ∈ cells) :
    (bigSep cells fun g => (reached ER g 0 : sProp 𝕄)) ⊢ reached (ER (F := F)) g 0 := bigSep_elim h
/-- Everyone may know a cell's invariant. -/
theorem rec_inv (K : GSem nD τ sig → ℕ) {g : GSem nD τ sig} (h : g ∈ cells) : records m K ⊢ cellInv ER (Rd (F := F) m) (K g) g := by
  unfold records; iintro ⟨H, -⟩
  iapply (inv_of m K h); iexact H
/-- And its round. -/
theorem rec_reached (K : GSem nD τ sig → ℕ) {g : GSem nD τ sig} (h : g ∈ cells) : records m K ⊢ reached (ER (F := F)) g 0 := by
  unfold records; iintro ⟨-, H⟩
  iapply (reached_of h); iexact H

/-! ## The state of a device -/

/-- A transfer's debt: the credit it raises at its target. -/
def Tr.due (t : Tr) : Pay nD τ sig := (cellD t.d t.r, t.lev, t.N)

/-- The owner's place at its cell `n`. -/
abbrev pos (c : Dev nD) (n : Fin 58) : sProp 𝕄 := atPos ER (cellD c n) 0 ∅ 0
/-- What device `c` holds for a transfer it has still to issue: the right to both landings, its place at the send cell, and
    the region to be written, -/
def trS (c : Dev nD) (t : Tr) : sProp 𝕄 :=
  iprop(dutyTok ER (cellD c t.s) 0 (0 : Dev nD) ∗ dutyTok ER (cellD t.d t.r) 0 (0 : Dev nD) ∗ pos c t.s ∗ (reg m t.d t.r.val).hole t.d)
/-- for a transfer in flight, -/
def flS (c : Dev nD) (t : Tr) : sProp 𝕄 := iprop(cred (tallyAt (cellD c t.s) 0 t.N) ∗ pos c t.s)
/-- and for a wait it has still to make. -/
def awS (c : Dev nD) (w : Aw) : sProp 𝕄 := iprop(cred (tallyAt (cellD c w.r) w.lev w.N) ∗ pos c w.r)
/-- Cell `n` of device `c` at zero. -/
abbrev zer (c : Dev nD) (n : Fin 58) : sProp 𝕄 := semVal (cellD c n) 0

/-- The state of device `c`: `A` the transfers to issue, `W` the waits to make, `S` the transfers in flight; closing all
    their cells gives `X`. -/
def St (K : GSem nD τ sig → ℕ) (X : sProp 𝕄) (c : Dev nD) (A : List Tr) (W : List Aw) (S : List Tr) : sProp 𝕄 :=
  iprop(records m K ∗ levAts (L (nD := nD) (τ := τ) (sig := sig) 12) lv ∗ (∃ Ws, owes (c : Thread nD τ) (tallyL (A.map Tr.due)) Ws)
    ∗ sepL A (trS m c) ∗ sepL W (awS c) ∗ sepL S (flS c)
    ∗ (iprop(sepL A (fun t => zer c t.s) ∗ sepL W (fun w => zer c w.r) ∗ sepL S (fun t => zer c t.s)) -∗ X))

/-- A listed conjunction, member by member. -/
theorem sepL_cons {α : Type} (x : α) (l : List α) (Φ : α → sProp 𝕄) : sepL (x :: l) Φ = iprop(Φ x ∗ sepL l Φ) := rfl
/-- Its first member is taken out. -/
theorem sepL_out {α : Type} (x : α) (l : List α) (Φ : α → sProp 𝕄) : sepL (x :: l) Φ ⊢ iprop(Φ x ∗ sepL l Φ) := BI.Entails.refl _
/-- A member is put in front. -/
theorem sepL_in {α : Type} (x : α) (l : List α) (Φ : α → sProp 𝕄) : iprop(Φ x ∗ sepL l Φ) ⊢ sepL (x :: l) Φ := BI.Entails.refl _
/-- A transfer to issue, unfolded. -/
theorem trS_out (c : Dev nD) (t : Tr) :
    trS m c t ⊢ iprop(dutyTok ER (cellD c t.s) 0 (0 : Dev nD) ∗ dutyTok ER (cellD t.d t.r) 0 (0 : Dev nD) ∗ pos c t.s ∗ (reg m t.d t.r.val).hole t.d) := BI.Entails.refl _
/-- A transfer in flight, unfolded. -/
theorem flS_out (c : Dev nD) (t : Tr) : (flS c t : sProp 𝕄) ⊢ iprop(cred (tallyAt (cellD c t.s) 0 t.N) ∗ pos c t.s) := BI.Entails.refl _
/-- A wait, unfolded. -/
theorem awS_out (c : Dev nD) (w : Aw) : (awS c w : sProp 𝕄) ⊢ iprop(cred (tallyAt (cellD c w.r) w.lev w.N) ∗ pos c w.r) := BI.Entails.refl _
/-- It splits along an append. -/
theorem sepL_append {α : Type} (l l' : List α) (Φ : α → sProp 𝕄) : sepL (l ++ l') Φ ⊣⊢ iprop(sepL l Φ ∗ sepL l' Φ) := by
  induction l with
  | nil =>
    constructor
    · show sepL l' Φ ⊢ iprop(emp ∗ sepL l' Φ)
      iintro H; isplitr; · iempintro
      iexact H
    · show iprop(emp ∗ sepL l' Φ) ⊢ sepL l' Φ
      iintro ⟨-, H⟩; iexact H
  | cons x l ih =>
    constructor
    · show iprop(Φ x ∗ sepL (l ++ l') Φ) ⊢ iprop((Φ x ∗ sepL l Φ) ∗ sepL l' Φ)
      iintro ⟨H, H2⟩
      ihave H2 := ih.1 $$ H2
      icases H2 with ⟨H2, H3⟩
      isplitl [H H2]; · isplitl [H] <;> iassumption
      iexact H3
    · show iprop((Φ x ∗ sepL l Φ) ∗ sepL l' Φ) ⊢ iprop(Φ x ∗ sepL (l ++ l') Φ)
      iintro ⟨⟨H, H2⟩, H3⟩
      isplitl [H]; · iexact H
      iapply ih.2
      isplitl [H2] <;> iassumption

/-- The program logic's statement of a piece of device `c`'s program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : GSem nD τ sig → ℕ) (X : sProp (MT nD τ sig ℕ (Elt F) ℕ UU ℕ))

/-- A debt belongs to a transfer that is left. -/
theorem due_lev {A : List Tr} {g : GSem nD τ sig} {i : ℕ} (h : 0 < tallyL (A.map Tr.due) g i) : ∃ t ∈ A, g = cellD t.d t.r ∧ i = t.lev := by
  obtain ⟨x, hx, hg, hi⟩ := TalkSites.tallyL_pos h
  obtain ⟨t, ht, rfl⟩ := List.mem_map.mp hx
  exact ⟨t, ht, hg, hi⟩

/-- A wait below every debt is allowed. -/
theorem mw (c : Dev nD) (s : SemLoc sig) (i : ℕ) (A : List Tr) (hi : i < 12) (hA : ∀ t ∈ A, i < t.lev ∧ t.lev < 12) :
    (levAts (L 12) lv : sProp 𝕄) ⊢ MayWait (c : Thread nD τ) s i (tallyL (A.map Tr.due)) :=
  SiteBlocks.mayWait_of hi c s _ fun g k hk => by
    obtain ⟨t, ht, rfl, rfl⟩ := due_lev hk
    exact ⟨by unfold L; rw [if_pos rfl]; exact Finset.mem_range.mpr (hA t ht).2, (hA t ht).1⟩

/-- A view's elements rewritten with what another array holds there are that array's. -/
theorem write_read_on {sp : Space} {s : Shape} {e : EltTy} (v : View sig .tc sp s e) {c : Dev nD} (fd f2 : Buf (Elt F) (v.loc (c : Thread nD τ)))
    (w : s.Idx → Elt F e) (hv : w = v.read (Elt F) f2) : ∀ i ∈ v.set, v.write (Elt F) fd w Finset.univ i = f2 i := by
  intro i hi
  obtain ⟨x, -, rfl⟩ := Finset.mem_map.mp hi
  rw [View.write_emb_of_mem (Val := Elt F) (v := v) (f := fd) (w := w) (Finset.mem_univ x), hv, View.read_apply, cast_cast, cast_eq]

set_option maxHeartbeats 1000000 in
/-- Issuing the next transfer. -/
theorem st_send {c n : Dev nD} {t : Tr} {A : List Tr} {W : List Aw} {S : List Tr} (hn : n = t.d)
    {sS sR : DmaSem sig} (hs : sS = t.s) (hr : sR = t.r)
    {sp sp' : Space} {s : Shape} {e : EltTy} {src : Memref sig .tc sp s e} {dst : Memref sig (Dev.tc n : Thread nD τ).2.kind sp' s e}
    {hsc : dst.view.ref.isScScratch = false} {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α}
    (fs : Buf (Elt F) (src.view.loc (c : Thread nD τ))) (f2 : Buf (Elt F) (dst.view.loc (t.d : Thread nD τ)))
    (hu : t.s ∈ used c ∧ t.r ∈ used t.d ∧ amt c t.s = t.N ∧ amt t.d t.r = t.N ∧ 0 < t.N)
    (hN : dst.view.dmaCredit = t.N)
    (hR1 : pay m c t.s.val = (src.view.loc (c : Thread nD τ) ↦[src.view.set]{fullShare} fs))
    (hR2 : (reg m t.d t.r.val).hole t.d ⊢ iprop(∃ fd, (dst.view.loc (t.d : Thread nD τ) ↦[dst.view.set]{fullShare} fd)))
    (hR3 : pay m t.d t.r.val = (dst.view.loc (t.d : Thread nD τ) ↦[dst.view.set]{fullShare} f2))
    (hv : src.view.read (Elt F) fs = dst.view.read (Elt F) f2) :
    iprop(St m K X c (t :: A) W S ∗ pay m c t.s.val)
      ⊢ iprop((St m K X c A W (t :: S) -∗ WP c (k ⟨⟩) Q)
        -∗ WP c (.op (.enqueueDma src (.remote (Dev.tc n : Thread nD τ) dst (.dma sS) hsc) (.dma sR) hsrc hdst hsem) k) Q) := by
  subst hn hs hr
  obtain ⟨hu1, hu2, ha1, ha2, hN0⟩ := hu
  iintro ⟨HSt, Hsrc⟩ Hk
  unfold St
  icases HSt with ⟨#Hrec, #Hlev, ⟨%Ws, HO⟩, HA, HW, HS, HX⟩
  ihave HA := (sepL_out t A (trS m c)) $$ HA
  icases HA with ⟨Ht, HA⟩
  ihave Ht := (trS_out m c t) $$ Ht
  icases Ht with ⟨Ht1, Ht2, Hpos, Hdst⟩
  ihave Hsrc := (Entails.of_eq hR1) $$ Hsrc
  ihave Hdst := hR2 $$ Hdst
  icases Hdst with ⟨%fd, Hdst⟩
  iapply (Rounds.wp_send_pointsTo 𝒱₀ ER (Rd m) (c : Thread nD τ) none (κ₁ := K (cellD c t.s)) (κ₂ := K (cellD t.d t.r)) (r₁ := 0) (r₂ := 0)
    (d₁ := (0 : Dev nD)) (d₂ := (0 : Dev nD)) (fd := fd) (sS := .dma (t.s : DmaSem sig)) (sem := .dma (t.r : DmaSem sig)) (dst := dst)
    (by rw [duties_dma m ha1 hN0]; exact Finset.mem_singleton_self _) (by rw [duties_dma m ha2 hN0]; exact Finset.mem_singleton_self _)
    t.lev 0 t.N (by rw [View.amount_dma]; exact hN) ha1 ha2 (O₀ := tallyL (List.map Tr.due (t :: A))) (tallyL (A.map Tr.due)) (add_comm _ _) (W := Ws)
    (by rw [← hR1]; exact BI.Entails.refl _)
    (by
      show _ ⊢ pay m t.d t.r.val
      rw [hR3, pointsTo_congr (write_read_on dst.view fd f2 _ hv)])) $$ [Ht1 Ht2 Hsrc Hdst HO]
  · isplitr; · iapply (rec_inv m K (cellD_mem hu1)); iexact Hrec
    isplitr; · iapply (rec_inv m K (cellD_mem hu2)); iexact Hrec
    isplitl [Hsrc]; · iexact Hsrc
    isplitl [Hdst]; · iexact Hdst
    isplitl [HO]; · iexact HO
    isplitl [Ht1]; · iexact Ht1
    isplitr; · iapply (rec_reached m K (cellD_mem hu1)); iexact Hrec
    isplitl [Ht2]; · iexact Ht2
    iapply (rec_reached m K (cellD_mem hu2)); iexact Hrec
  iintro ⟨Hc, HO⟩
  iapply Hk
  isplitr; · iexact Hrec
  isplitr; · iexact Hlev
  isplitl [HO]; · iexists Ws; iexact HO
  isplitl [HA]; · iexact HA
  isplitl [HW]; · iexact HW
  isplitl [Hc Hpos HS]
  · iapply (sepL_in t S (flS c)); isplitl [Hc Hpos]
    · unfold flS; isplitl [Hc] <;> iassumption
    iexact HS
  iintro ⟨HA, HW, HS⟩
  ihave HS := (sepL_out t S (fun t => zer c t.s)) $$ HS
  icases HS with ⟨Hz, HS⟩
  iapply HX
  isplitl [HA Hz]
  · iapply (sepL_in t A (fun t => zer c t.s)); isplitl [Hz] <;> iassumption
  isplitl [HW] <;> iassumption

/-- Waiting for the next landing. -/
theorem st_wait {c : Dev nD} {w : Aw} {n : DmaSem sig} (hn : n = w.r) {A : List Tr} {W : List Aw} {S : List Tr}
    {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hu : w.r ∈ used c ∧ amt c w.r = w.N ∧ 0 < w.N ∧ w.lev < 12) (hA : ∀ t ∈ A, w.lev < t.lev ∧ t.lev < 12)
    (hN : dst.view.dmaCredit = w.N) :
    St m K X c A (w :: W) S
      ⊢ iprop((iprop(St m K X c A W S ∗ pay m c w.r.val) -∗ WP c (k ⟨⟩) Q) -∗ WP c (.op (.waitDma2 n src dst hsrc hdst) k) Q) := by
  subst hn
  obtain ⟨hu1, ha, hN0, hl⟩ := hu
  iintro HSt Hk
  unfold St
  icases HSt with ⟨#Hrec, #Hlev, ⟨%Ws, HO⟩, HA, HW, HS, HX⟩
  ihave HW := (sepL_out w W (awS c)) $$ HW
  icases HW with ⟨Hw, HW⟩
  ihave Hw := (awS_out c w) $$ Hw
  icases Hw with ⟨Hc, Hpos⟩
  iapply (Rounds.wp_wait_rest_token 𝒱₀ ER (Rd m) (c : Thread nD τ) none (κ := K (cellD c w.r)) (wpE_waitDma2_eq 𝒱₀ (c : Thread nD τ) none Set.univ)
    (Set.mem_univ _) w.lev (O := tallyL (A.map Tr.due)) (W := Ws) (R := 0) (m := 0) (T := ∅) (by rw [Nat.zero_add, expect_dma m ha hN0]; exact hN)) $$ [Hc HO Hpos]
  · isplitr; · iapply (rec_inv m K (cellD_mem hu1)); iexact Hrec
    isplitl [Hc]; · rw [hN]; iexact Hc
    isplitl [HO]; · iexact HO
    isplitr; · iapply (mw c _ w.lev A hl hA); iexact Hlev
    iexact Hpos
  rw [rest_dma m ha hN0]
  iintro ⟨HO, Hpos, -, Hpay⟩
  imod (Rounds.cell_close ER (Rd m) (κ := K (cellD c w.r)) (Set.mem_univ _) (fun h => h) (R := 1) (duties_later m _)) $$ [Hpos] with Hz
  · isplitr; · iapply (rec_inv m K (cellD_mem hu1)); iexact Hrec
    iexact Hpos
  iapply Hk
  isplitr [Hpay]
  · isplitr; · iexact Hrec
    isplitr; · iexact Hlev
    isplitl [HO]; · iexists _; iexact HO
    isplitl [HA]; · iexact HA
    isplitl [HW]; · iexact HW
    isplitl [HS]; · iexact HS
    iintro ⟨HA, HW, HS⟩
    iapply HX
    isplitl [HA]; · iexact HA
    isplitl [Hz HW]; · iapply (sepL_in w W (fun w => zer c w.r)); isplitl [Hz] <;> iassumption
    iexact HS
  iexact Hpay

/-- Waiting for the completion of a transfer in flight. -/
theorem st_sendwait {c : Dev nD} (t : Tr) (S1 S2 : List Tr) {A : List Tr} {W : List Aw} {n : Fin 58} (hn : n = t.s)
    {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hu : t.s ∈ used c ∧ amt c t.s = t.N ∧ 0 < t.N) (hA : ∀ t ∈ A, 0 < t.lev ∧ t.lev < 12)
    (hN : dst.view.dmaCredit = t.N) :
    St m K X c A W (S1 ++ t :: S2)
      ⊢ iprop((iprop(St m K X c A W (S1 ++ S2) ∗ pay m c t.s.val) -∗ WP c (k ⟨⟩) Q) -∗ WP c (.op (.waitDma2 (n : DmaSem sig) src dst hsrc hdst) k) Q) := by
  subst hn
  obtain ⟨hu1, ha, hN0⟩ := hu
  iintro HSt Hk
  unfold St
  icases HSt with ⟨#Hrec, #Hlev, ⟨%Ws, HO⟩, HA, HW, HS, HX⟩
  ihave HS := (sepL_append S1 (t :: S2) (flS c)).1 $$ HS
  icases HS with ⟨HS1, HS2⟩
  ihave HS2 := (sepL_out t S2 (flS c)) $$ HS2
  icases HS2 with ⟨Hw, HS2⟩
  ihave Hw := (flS_out c t) $$ Hw
  icases Hw with ⟨Hc, Hpos⟩
  iapply (Rounds.wp_wait_rest_token 𝒱₀ ER (Rd m) (c : Thread nD τ) none (κ := K (cellD c t.s)) (wpE_waitDma2_eq 𝒱₀ (c : Thread nD τ) none Set.univ)
    (Set.mem_univ _) 0 (O := tallyL (A.map Tr.due)) (W := Ws) (R := 0) (m := 0) (T := ∅) (by rw [Nat.zero_add, expect_dma m ha hN0]; exact hN)) $$ [Hc HO Hpos]
  · isplitr; · iapply (rec_inv m K (cellD_mem hu1)); iexact Hrec
    isplitl [Hc]; · rw [hN]; iexact Hc
    isplitl [HO]; · iexact HO
    isplitr; · iapply (mw c _ 0 A (by decide) hA); iexact Hlev
    iexact Hpos
  rw [rest_dma m ha hN0]
  iintro ⟨HO, Hpos, -, Hpay⟩
  imod (Rounds.cell_close ER (Rd m) (κ := K (cellD c t.s)) (Set.mem_univ _) (fun h => h) (R := 1) (duties_later m _)) $$ [Hpos] with Hz
  · isplitr; · iapply (rec_inv m K (cellD_mem hu1)); iexact Hrec
    iexact Hpos
  iapply Hk
  isplitr [Hpay]
  · isplitr; · iexact Hrec
    isplitr; · iexact Hlev
    isplitl [HO]; · iexists _; iexact HO
    isplitl [HA]; · iexact HA
    isplitl [HW]; · iexact HW
    isplitl [HS1 HS2]
    · iapply (sepL_append S1 S2 (flS c)).2; isplitl [HS1] <;> iassumption
    iintro ⟨HA, HW, HS⟩
    iapply HX
    isplitl [HA]; · iexact HA
    isplitl [HW]; · iexact HW
    ihave HS := (sepL_append S1 S2 (fun t => zer c t.s)).1 $$ HS
    icases HS with ⟨HS1, HS2⟩
    iapply (sepL_append S1 (t :: S2) (fun t => zer c t.s)).2
    isplitl [HS1]; · iexact HS1
    iapply (sepL_in t S2 (fun t => zer c t.s)); isplitl [Hz] <;> iassumption
  iexact Hpay

/-! The waits with the regions named. -/

/-- Waiting for the next landing: the region it wrote. -/
theorem st_wt {c : Dev nD} (r : Fin 58) (lev N : ℕ) (R : Reg F) {n : DmaSem sig} (hn : n = r) (hR : reg m c r.val = R) {A : List Tr} {W : List Aw} {S : List Tr}
    {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hu : r ∈ used c ∧ amt c r = N ∧ 0 < N ∧ lev < 12) (hA : ∀ t ∈ A, lev < t.lev ∧ t.lev < 12) (hN : dst.view.dmaCredit = N) :
    St m K X c A ((⟨r, lev, N⟩ : Aw) :: W) S
      ⊢ iprop((iprop(St m K X c A W S ∗ R.full c) -∗ WP c (k ⟨⟩) Q) -∗ WP c (.op (.waitDma2 n src dst hsrc hdst) k) Q) := by
  subst hR
  exact st_wait m K X (w := ⟨r, lev, N⟩) hn hu hA hN

/-- Waiting for the completion of a transfer in flight: the region it read. -/
theorem st_sw {c : Dev nD} (t : Tr) (S1 S2 : List Tr) (R : Reg F) {A : List Tr} {W : List Aw} {n : DmaSem sig} (hn : n = t.s) (hR : reg m c t.s.val = R)
    {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hu : t.s ∈ used c ∧ amt c t.s = t.N ∧ 0 < t.N) (hA : ∀ t ∈ A, 0 < t.lev ∧ t.lev < 12) (hN : dst.view.dmaCredit = t.N) :
    St m K X c A W (S1 ++ t :: S2)
      ⊢ iprop((iprop(St m K X c A W (S1 ++ S2) ∗ R.full c) -∗ WP c (k ⟨⟩) Q) -∗ WP c (.op (.waitDma2 n src dst hsrc hdst) k) Q) := by
  subst hR
  exact st_sendwait m K X t S1 S2 hn hu hA hN

end Cert.KernelIdealProof
-- ==== Proof.KI.Mem.lean ====
/-
Loads and stores of part of a buffer, and the loads of the attention step: a head's queries, its window of keys and of
values, and its rows of the output projection.
-/
module

public import proofs.«01_k».proof.Proof.KI.Steps

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

universe u

/-- A program that only returns. -/
theorem WP_ret {c : Dev nD} {α : Type} {a : α} {Q : α → sProp 𝕄} : Q a ⊢ WP c (.ret a) Q := by
  unfold WP; iintro H; rw [wp_ret]; imodintro; iexact H

/-- A piece of the kernel at the buffers and semaphores it is launched with. -/
abbrev app {β : Sort u} (f : (arg0 : Memref sig .tc .vmem S1x1024x1024 .f32) → (harg0 : arg0.IsWhole) → (arg1 : Memref sig .tc .vmem S1024x1024 .f32) → (harg1 : arg1.IsWhole) → (arg2 : Memref sig .tc .hbm S1x1024x32x128 .f32) → (harg2 : arg2.IsWhole) → (arg3 : Memref sig .tc .hbm S1x1024x32x128 .f32) → (harg3 : arg3.IsWhole) → (arg4 : Memref sig .tc .vmem S1024x1024 .f32) → (harg4 : arg4.IsWhole) → (arg5 : Memref sig .tc .vmem S1x1024x1024 .f32) → (harg5 : arg5.IsWhole) → (arg6 : Memref sig .tc .vmem S1152x8x128 .bf16) → (harg6 : arg6.IsWhole) → (arg7 : Memref sig .tc .vmem S1152x8x128 .bf16) → (harg7 : arg7.IsWhole) → (arg8 : Memref sig .tc .vmem S1024x1024 .bf16) → (harg8 : arg8.IsWhole) → (arg9 : Memref sig .tc .vmem S1024x1024 .bf16) → (harg9 : arg9.IsWhole) → (arg10 : Memref sig .tc .vmem S256x32x128 .f32) → (harg10 : arg10.IsWhole) → (arg11 : Memref sig .tc .vmem S1024x32x128 .bf16) → (harg11 : arg11.IsWhole) → (arg12 : Memref sig .tc .vmem S1024x32x128 .bf16) → (harg12 : arg12.IsWhole) → (arg13 : Memref sig .tc .vmem S1024x8x128 .bf16) → (harg13 : arg13.IsWhole) → (arg14 : Memref sig .tc .vmem S3x256x1024 .bf16) → (harg14 : arg14.IsWhole) → (arg15 : Memref sig .tc .vmem S3x256x1024 .bf16) → (harg15 : arg15.IsWhole) → (arg16 : Memref sig .tc .vmem S4x256x1024 .bf16) → (harg16 : arg16.IsWhole) → (arg17 : DmaSems sig S17) → (arg18 : DmaSems sig S12) → (arg19 : DmaSems sig S4) → (arg20 : DmaSems sig S3) → (arg21 : DmaSems sig S3) → (arg22 : DmaSems sig S3) → (arg23 : DmaSems sig S3) → (arg24 : DmaSems sig S3) → (arg25 : DmaSems sig S3) → (arg26 : DmaSems sig S3) → β) : β :=
  f (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20

/-- A load of part of a buffer that is owned on at least that part. -/
theorem ld {c : Dev nD} {s : Shape} {e : EltTy} {mr : Memref sig .tc .vmem s e} {r : Rect s} {hl : mr.view.LoadsAt r.toLoadRect}
    {α : Type} {Q : α → sProp 𝕄} {k : (r.shape.Idx → Elt F e) → Prog (TpuEff nD τ sig (Elt F) Λ₀ .tc) α}
    {S : Finset (Idx ((mr.access r).loc (c : Thread nD τ)))} {f : Buf (Elt F) ((mr.access r).loc (c : Thread nD τ))}
    (P : sProp 𝕄) (hP : P = ((mr.access r).loc (c : Thread nD τ) ↦[S]{fullShare} f)) (hS : (mr.access r).set ⊆ S)
    (val : r.shape.Idx → Elt F e) (hv : (mr.access r).read (Elt F) f = val) :
    P ⊢ iprop((P -∗ WP c (k val) Q) -∗ WP c (.op (.load mr r.toLoadRect hl) k) Q) := by
  subst hP hv
  exact wp_load_rect (m := mr) (r := r) 𝒱₀ (c : Thread nD τ) none Set.univ hS

/-- A store of the whole of a part of a buffer that is owned: the part then holds what was stored. -/
theorem sto {c : Dev nD} {s : Shape} {e : EltTy} {mr : Memref sig .tc .vmem s e} {r : Rect s} {w : r.shape.Idx → Elt F e}
    {hx : (mr.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (H P : sProp 𝕄) (f2 : Buf (Elt F) ((mr.access r).loc (c : Thread nD τ)))
    (hH : H ⊢ iprop(∃ f, ((mr.access r).loc (c : Thread nD τ) ↦[(mr.access r).set]{fullShare} f)))
    (hP : P = ((mr.access r).loc (c : Thread nD τ) ↦[(mr.access r).set]{fullShare} f2))
    (hv : w = (mr.access r).read (Elt F) f2) :
    H ⊢ iprop((P -∗ WP c (k ⟨⟩) Q) -∗ WP c (.op (.store mr r w Finset.univ hx hm) k) Q) := by
  subst hP
  iintro H Hk
  ihave H := hH $$ H
  icases H with ⟨%f, H⟩
  iapply (wp_store (m := mr) (r := r) (w := w) (Mk := Finset.univ) (f := f) 𝒱₀ (c : Thread nD τ) none Set.univ (S := (mr.access r).set) (Finset.Subset.refl _)) $$ H
  iintro H
  iapply Hk
  ihave H := (Entails.of_eq (pointsTo_congr (write_read_on (mr.access r) f f2 w hv))) $$ H
  iexact H

/-- A unit-stride rectangle is the box between its corners. -/
theorem box_set {n0 n1 n2 a a' b b' c c' : ℕ} {off size o : Fin 3 → ℕ} {inb : ∀ a, off a + size a ≤ (⟨3, ![n0, n1, n2]⟩ : Shape).size a} (ho : off = o)
    (h : o 0 = a ∧ o 0 + size 0 = a' ∧ o 1 = b ∧ o 1 + size 1 = b' ∧ o 2 = c ∧ o 2 + size 2 = c') :
    (Rect.unit (s := (⟨3, ![n0, n1, n2]⟩ : Shape)) off size inb).set = bx3 a a' b b' c c' := by
  subst ho
  obtain ⟨rfl, rfl, rfl, rfl, rfl, rfl⟩ := h
  exact unit_set_bx3 inb

/-- A load whose value is not used, of part of a buffer that is owned on at least that part. -/
theorem ldd {c : Dev nD} {s : Shape} {e : EltTy} {mr : Memref sig .tc .vmem s e} {r : Rect s} {hl : mr.view.LoadsAt r.toLoadRect}
    {α : Type} {Q : α → sProp 𝕄} {k : (r.shape.Idx → Elt F e) → Prog (TpuEff nD τ sig (Elt F) Λ₀ .tc) α}
    {S : Finset (Idx ((mr.access r).loc (c : Thread nD τ)))}
    (H : sProp 𝕄) (hH : H = iprop(∃ f : Buf (Elt F) ((mr.access r).loc (c : Thread nD τ)), ((mr.access r).loc (c : Thread nD τ) ↦[S]{fullShare} f)))
    (hS : (mr.access r).set = S) :
    H ⊢ iprop((∀ v, H -∗ WP c (k v) Q) -∗ WP c (.op (.load mr r.toLoadRect hl) k) Q) := by
  subst hH
  iintro ⟨%f, H⟩ Hk
  iapply (ld (mr := mr) (r := r) (S := S) (f := f) _ rfl hS.subset _ rfl) $$ H
  iintro H
  iapply Hk
  iexists f; iexact H

/-- A store of the whole of a part of a buffer that is owned: the part then holds what was stored. -/
theorem stw {c : Dev nD} {s : Shape} {e : EltTy} {mr : Memref sig .tc .vmem s e} {r : Rect s} {w : r.shape.Idx → Elt F e}
    {hx : (mr.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    {S : Finset (Idx ((mr.access r).loc (c : Thread nD τ)))}
    (H P : sProp 𝕄) (f2 : Buf (Elt F) ((mr.access r).loc (c : Thread nD τ)))
    (hH : H = iprop(∃ f : Buf (Elt F) ((mr.access r).loc (c : Thread nD τ)), ((mr.access r).loc (c : Thread nD τ) ↦[S]{fullShare} f)))
    (hP : P = ((mr.access r).loc (c : Thread nD τ) ↦[S]{fullShare} f2)) (hS : (mr.access r).set = S)
    (hv : w = (mr.access r).read (Elt F) f2) :
    H ⊢ iprop((P -∗ WP c (k ⟨⟩) Q) -∗ WP c (.op (.store mr r w Finset.univ hx hm) k) Q) := by
  subst hH hP hS
  exact sto _ _ f2 (BI.Entails.refl _) rfl hv

/-- The same where what it then holds does not matter. -/
theorem sth {c : Dev nD} {s : Shape} {e : EltTy} {mr : Memref sig .tc .vmem s e} {r : Rect s} {w : r.shape.Idx → Elt F e}
    {hx : (mr.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    {S : Finset (Idx ((mr.access r).loc (c : Thread nD τ)))}
    (H : sProp 𝕄)
    (hH : H = iprop(∃ f : Buf (Elt F) ((mr.access r).loc (c : Thread nD τ)), ((mr.access r).loc (c : Thread nD τ) ↦[S]{fullShare} f)))
    (hS : (mr.access r).set = S) :
    H ⊢ iprop((H -∗ WP c (k ⟨⟩) Q) -∗ WP c (.op (.store mr r w Finset.univ hx hm) k) Q) := by
  subst hH hS
  iintro ⟨%f, H⟩ Hk
  iapply (wp_store (m := mr) (r := r) (w := w) (Mk := Finset.univ) (f := f) 𝒱₀ (c : Thread nD τ) none Set.univ (S := (mr.access r).set) (Finset.Subset.refl _)) $$ H
  iintro H
  iapply Hk
  iexists _; iexact H

/-! ## The loads of the attention step -/

/-- A rectangle's embedding depends on its offset only. -/
theorem emb_at {s : Shape} {off off' size : Fin s.rank → ℕ} (h : off = off') {i : ∀ a, off a + size a ≤ s.size a} {i' : ∀ a, off' a + size a ≤ s.size a}
    (j : (Rect.unit off size i).shape.Idx) : (Rect.unit off size i).emb j = (Rect.unit off' size i').emb j := by subst h; rfl

/-- Rows `a` to `a'` of all heads, and the rows from 1024. -/
def rows (a a' : ℕ) : Finset S1152x8x128.Idx := Finset.univ.filter fun i => (a ≤ (i 0).val ∧ (i 0).val < a') ∨ 1024 ≤ (i 0).val
/-- The first row of the window that device `c` holds before the rest of it has arrived, -/
def lo (c : Dev nD) : ℕ := match c with | 0 => 0 | 1 => 0 | 2 => 128 | 3 => 384
/-- and the row after the last one below 1024. -/
def hi (c : Dev nD) : ℕ := match c with | 0 => 1024 | 1 => 640 | 2 => 896 | 3 => 1024
/-- The rows of the K and V windows that the attention at step `t` may rely on. -/
def win (c : Dev nD) (t : Fin 4) : Finset S1152x8x128.Idx := if t.val < 2 then rows (lo c) (hi c) else Finset.univ

/-- What the attention reads at step `t`. -/
def At (c : Dev nD) (t : Fin 4) : sProp 𝕄 :=
  iprop(own c cc0_scratch2 (Finset.univ : Finset S1024x1024.Idx) (QS m c) ∗ own c cc0_scratch3 (Finset.univ : Finset S1024x1024.Idx) (WO m c)
    ∗ own c cc0_scratch0 (win c t) (KB m c) ∗ own c cc0_scratch1 (win c t) (VB m c))

/-- The window of a step lies in the rows held then. -/
theorem off_ks (c : Dev nD) (t : Fin 4) : (lo c ≤ ks c t ∧ ks c t + 512 ≤ hi c) ∨ 1024 ≤ ks c t ∨ (lo c ≤ ks c t ∧ hi c = 1024) ∨ 2 ≤ t.val := by
  revert c t; decide

/-- So every index read is held. -/
theorem win_sub (c : Dev nD) (t : Fin 4) {off : Fin 3 → ℕ} {h : ℕ} (ho : off = ![ks c t, h, 0]) {i : ∀ a, off a + S512x1x128.size a ≤ S1152x8x128.size a} :
    (Rect.unit (s := S1152x8x128) off S512x1x128.size i).set ⊆ win c t := by
  subst ho
  intro x hx
  rw [Rect.mem_set_unit] at hx
  have h0 : ks c t ≤ (x 0).val ∧ (x 0).val < ks c t + 512 := hx 0
  unfold win
  split
  · refine Finset.mem_filter.mpr ⟨Finset.mem_univ _, ?_⟩
    have := off_ks c t
    omega
  · exact Finset.mem_univ _

variable {α : Type} {Q : α → sProp (MT nD τ sig ℕ (Elt F) ℕ UU ℕ)}

/-- Loading head `h`'s queries. -/
theorem ldq (c : Dev nD) (t : Fin 4) (h : Fin 8) {off : Fin 2 → ℕ} (ho : off = ![256 * cb c t, 128 * h.val])
    {i : ∀ a, off a + S256x128.size a ≤ S1024x1024.size a} {hl} {k : Vec F S256x128 .bf16 → Prog (TpuEff nD τ sig (Elt F) Λ₀ .tc) α} :
    At m c t ⊢ iprop((At m c t -∗ WP c (k (qw m c t h)) Q)
      -∗ WP c (.op (.load (Memref.whole cc0_scratch2 : Memref sig .tc .vmem S1024x1024 .bf16) (Rect.unit (s := S1024x1024) off S256x128.size i).toLoadRect hl) k) Q) := by
  iintro H Hk
  unfold At
  icases H with ⟨H1, H2, H3, H4⟩
  iapply (ld (mr := (Memref.whole cc0_scratch2 : Memref sig .tc .vmem S1024x1024 .bf16)) (r := Rect.unit (s := S1024x1024) off S256x128.size i) (S := (Finset.univ : Finset S1024x1024.Idx)) (f := QS m c) (own c cc0_scratch2 (Finset.univ : Finset S1024x1024.Idx) (QS m c)) rfl (Finset.subset_univ _) (qw m c t h)
    (funext fun j => congrArg (QS m c) (emb_at ho j))) $$ H1
  iintro H1
  iapply Hk
  isplitl [H1]; · iexact H1
  isplitl [H2]; · iexact H2
  isplitl [H3] <;> iassumption

/-- Loading head `h`'s rows of the output projection. -/
theorem ldw (c : Dev nD) (t : Fin 4) (h : Fin 8) {off : Fin 2 → ℕ} (ho : off = ![128 * h.val, 0])
    {i : ∀ a, off a + S128x1024.size a ≤ S1024x1024.size a} {hl} {k : Vec F S128x1024 .bf16 → Prog (TpuEff nD τ sig (Elt F) Λ₀ .tc) α} :
    At m c t ⊢ iprop((At m c t -∗ WP c (k (ww m c h)) Q)
      -∗ WP c (.op (.load (Memref.whole cc0_scratch3 : Memref sig .tc .vmem S1024x1024 .bf16) (Rect.unit (s := S1024x1024) off S128x1024.size i).toLoadRect hl) k) Q) := by
  iintro H Hk
  unfold At
  icases H with ⟨H1, H2, H3, H4⟩
  iapply (ld (mr := (Memref.whole cc0_scratch3 : Memref sig .tc .vmem S1024x1024 .bf16)) (r := Rect.unit (s := S1024x1024) off S128x1024.size i) (S := (Finset.univ : Finset S1024x1024.Idx)) (f := WO m c) (own c cc0_scratch3 (Finset.univ : Finset S1024x1024.Idx) (WO m c)) rfl (Finset.subset_univ _) (ww m c h)
    (funext fun j => congrArg (WO m c) (emb_at ho j))) $$ H2
  iintro H2
  iapply Hk
  isplitl [H1]; · iexact H1
  isplitl [H2]; · iexact H2
  isplitl [H3] <;> iassumption

/-- Loading head `h`'s window of keys. -/
theorem ldk (c : Dev nD) (t : Fin 4) (h : Fin 8) {off : Fin 3 → ℕ} (ho : off = ![ks c t, h.val, 0])
    {i : ∀ a, off a + S512x1x128.size a ≤ S1152x8x128.size a} {hl} {k : Vec F S512x1x128 .bf16 → Prog (TpuEff nD τ sig (Elt F) Λ₀ .tc) α} :
    At m c t ⊢ iprop((At m c t -∗ WP c (k (kw m c t h)) Q)
      -∗ WP c (.op (.load (Memref.whole cc0_scratch0 : Memref sig .tc .vmem S1152x8x128 .bf16) (Rect.unit (s := S1152x8x128) off S512x1x128.size i).toLoadRect hl) k) Q) := by
  iintro H Hk
  unfold At
  icases H with ⟨H1, H2, H3, H4⟩
  iapply (ld (mr := (Memref.whole cc0_scratch0 : Memref sig .tc .vmem S1152x8x128 .bf16)) (r := Rect.unit (s := S1152x8x128) off S512x1x128.size i) (S := win c t) (f := KB m c) (own c cc0_scratch0 (win c t) (KB m c)) rfl (by rw [View.set_slice_whole]; exact win_sub c t ho) (kw m c t h)
    (funext fun j => congrArg (KB m c) (emb_at ho j))) $$ H3
  iintro H3
  iapply Hk
  isplitl [H1]; · iexact H1
  isplitl [H2]; · iexact H2
  isplitl [H3] <;> iassumption

/-- Loading head `h`'s window of values. -/
theorem ldv (c : Dev nD) (t : Fin 4) (h : Fin 8) {off : Fin 3 → ℕ} (ho : off = ![ks c t, h.val, 0])
    {i : ∀ a, off a + S512x1x128.size a ≤ S1152x8x128.size a} {hl} {k : Vec F S512x1x128 .bf16 → Prog (TpuEff nD τ sig (Elt F) Λ₀ .tc) α} :
    At m c t ⊢ iprop((At m c t -∗ WP c (k (vw m c t h)) Q)
      -∗ WP c (.op (.load (Memref.whole cc0_scratch1 : Memref sig .tc .vmem S1152x8x128 .bf16) (Rect.unit (s := S1152x8x128) off S512x1x128.size i).toLoadRect hl) k) Q) := by
  iintro H Hk
  unfold At
  icases H with ⟨H1, H2, H3, H4⟩
  iapply (ld (mr := (Memref.whole cc0_scratch1 : Memref sig .tc .vmem S1152x8x128 .bf16)) (r := Rect.unit (s := S1152x8x128) off S512x1x128.size i) (S := win c t) (f := VB m c) (own c cc0_scratch1 (win c t) (VB m c)) rfl (by rw [View.set_slice_whole]; exact win_sub c t ho) (vw m c t h)
    (funext fun j => congrArg (VB m c) (emb_at ho j))) $$ H4
  iintro H4
  iapply Hk
  isplitl [H1]; · iexact H1
  isplitl [H2]; · iexact H2
  isplitl [H3] <;> iassumption

/-! ## The offsets of the attention step -/

/-- Where the queries of head 0 start. -/
theorem oq0 (c : Dev nD) (t : Fin 4) : k0_off1 c (BitVec.ofNat 32 t.val) = ![256 * cb c t, 128 * (0 : Fin 8).val] := k0_off1_eq c t
/-- Where the queries of head 1 start. -/
theorem oq1 (c : Dev nD) (t : Fin 4) : k0_off3 c (BitVec.ofNat 32 t.val) = ![256 * cb c t, 128 * (1 : Fin 8).val] := k0_off3_eq c t
/-- Where the queries of head 2 start. -/
theorem oq2 (c : Dev nD) (t : Fin 4) : k0_off5 c (BitVec.ofNat 32 t.val) = ![256 * cb c t, 128 * (2 : Fin 8).val] := k0_off5_eq c t
/-- Where the queries of head 3 start. -/
theorem oq3 (c : Dev nD) (t : Fin 4) : k0_off7 c (BitVec.ofNat 32 t.val) = ![256 * cb c t, 128 * (3 : Fin 8).val] := k0_off7_eq c t
/-- Where the queries of head 4 start. -/
theorem oq4 (c : Dev nD) (t : Fin 4) : k0_off9 c (BitVec.ofNat 32 t.val) = ![256 * cb c t, 128 * (4 : Fin 8).val] := k0_off9_eq c t
/-- Where the queries of head 5 start. -/
theorem oq5 (c : Dev nD) (t : Fin 4) : k0_off11 c (BitVec.ofNat 32 t.val) = ![256 * cb c t, 128 * (5 : Fin 8).val] := k0_off11_eq c t
/-- Where the queries of head 6 start. -/
theorem oq6 (c : Dev nD) (t : Fin 4) : k0_off13 c (BitVec.ofNat 32 t.val) = ![256 * cb c t, 128 * (6 : Fin 8).val] := k0_off13_eq c t
/-- Where the queries of head 7 start. -/
theorem oq7 (c : Dev nD) (t : Fin 4) : k0_off15 c (BitVec.ofNat 32 t.val) = ![256 * cb c t, 128 * (7 : Fin 8).val] := k0_off15_eq c t
/-- Where the keys of head 0 start. -/
theorem ok0 (c : Dev nD) (t : Fin 4) : k0_off2 c (BitVec.ofNat 32 t.val) = ![ks c t, (0 : Fin 8).val, 0] := by revert c t; decide +kernel
/-- Where the keys of head 1 start. -/
theorem ok1 (c : Dev nD) (t : Fin 4) : k0_off4 c (BitVec.ofNat 32 t.val) = ![ks c t, (1 : Fin 8).val, 0] := by revert c t; decide +kernel
/-- Where the keys of head 2 start. -/
theorem ok2 (c : Dev nD) (t : Fin 4) : k0_off6 c (BitVec.ofNat 32 t.val) = ![ks c t, (2 : Fin 8).val, 0] := by revert c t; decide +kernel
/-- Where the keys of head 3 start. -/
theorem ok3 (c : Dev nD) (t : Fin 4) : k0_off8 c (BitVec.ofNat 32 t.val) = ![ks c t, (3 : Fin 8).val, 0] := by revert c t; decide +kernel
/-- Where the keys of head 4 start. -/
theorem ok4 (c : Dev nD) (t : Fin 4) : k0_off10 c (BitVec.ofNat 32 t.val) = ![ks c t, (4 : Fin 8).val, 0] := by revert c t; decide +kernel
/-- Where the keys of head 5 start. -/
theorem ok5 (c : Dev nD) (t : Fin 4) : k0_off12 c (BitVec.ofNat 32 t.val) = ![ks c t, (5 : Fin 8).val, 0] := by revert c t; decide +kernel
/-- Where the keys of head 6 start. -/
theorem ok6 (c : Dev nD) (t : Fin 4) : k0_off14 c (BitVec.ofNat 32 t.val) = ![ks c t, (6 : Fin 8).val, 0] := by revert c t; decide +kernel
/-- Where the keys of head 7 start. -/
theorem ok7 (c : Dev nD) (t : Fin 4) : k0_off16 c (BitVec.ofNat 32 t.val) = ![ks c t, (7 : Fin 8).val, 0] := by revert c t; decide +kernel

end Cert.KernelIdealProof
-- ==== Proof.KI.Attn.lean ====
/-
The attention step, printed piece by printed piece: every piece loads what it needs of some heads and passes partial sums
on. The values are named as sums of the first heads.
-/
module

public import proofs.«01_k».proof.Proof.KI.Mem

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

/-- Device `c`'s place as the kernel computes it. -/
def w2 (c : Dev nD) : BitVec 32 := Scalar.remsi (Scalar.divsi (Dev.word c) 1#32) 4#32

/-! ## The masks and the partial sums -/

/-- The mask of equal offsets is the same mask. -/
theorem mk_of (a b a' b' : BitVec 32) (ha : a = a') (hb : b = b') : mskOf a b = mskOf a' b' := by subst ha hb; rfl
/-- The mask that is computed at step 0 is that step's band. -/
theorem mk0 (c : Dev nD) : k0_pay19 (w2 c) = msk c 0 := mk_of _ _ _ _ (by revert c; decide +kernel) (by revert c; decide +kernel)
/-- The mask that is computed at step 1 is that step's band. -/
theorem mk1 (c : Dev nD) : k0_pay37 (w2 c) = msk c 1 := mk_of _ _ _ _ (by revert c; decide +kernel) (by revert c; decide +kernel)
/-- The mask that is computed at step 2 is that step's band. -/
theorem mk2 (c : Dev nD) : k0_pay57 (w2 c) = msk c 2 := mk_of _ _ _ _ (by revert c; decide +kernel) (by revert c; decide +kernel)
/-- The mask that is computed at step 3 is that step's band. -/
theorem mk3 (c : Dev nD) : k0_pay73 (Scalar.addi (Scalar.subi (w2 c) 3#32) 8#32) 4#32 = msk c 3 :=
  mk_of _ _ _ _ (by revert c; decide +kernel) (by revert c; decide +kernel)

/-- Computed value 24 is the partial output after the heads it adds. -/
theorem e24 (c : Dev nD) : k0_pay24 (msk c 0) (sm m c 0 0) (k0_pay21 (vw m c 0 0)) (k0_pay22 (qw m c 0 0) (kw m c 0 0)) k0_pay23 (ww m c 0) = (sm m c 0 1) := rfl
/-- The head is computed as stated. -/
theorem e25 (c : Dev nD) : k0_pay25 (msk c 0) (qw m c 0 1) (kw m c 0 1) (vw m c 0 1) (ww m c 1) = (hd m c 0 1) := rfl
/-- Computed value 26 is the partial output after the heads it adds. -/
theorem e26 (c : Dev nD) : k0_pay26 (msk c 0) (sm m c 0 1) (hd m c 0 1) (qw m c 0 2) (kw m c 0 2) (vw m c 0 2) (ww m c 2) = (sm m c 0 3) := rfl
/-- Computed value 30 is the partial output after the heads it adds. -/
theorem e30 (c : Dev nD) : k0_pay30 (msk c 0) (sm m c 0 3) (k0_pay27 (vw m c 0 3)) (k0_pay28 (msk c 0) (qw m c 0 3) (kw m c 0 3)) (k0_pay29 (msk c 0) (qw m c 0 3) (kw m c 0 3)) (ww m c 3) (qw m c 0 4) (kw m c 0 4) (vw m c 0 4) (ww m c 4) = (sm m c 0 5) := rfl
/-- Computed value 31 is the partial output after the heads it adds. -/
theorem e31 (c : Dev nD) : k0_pay31 (msk c 0) (sm m c 0 5) (qw m c 0 5) (kw m c 0 5) (vw m c 0 5) (ww m c 5) = (sm m c 0 6) := rfl
/-- Computed value 39 is the partial output after the heads it adds. -/
theorem e39 (c : Dev nD) : k0_pay39 (msk c 1) (sm m c 1 0) (qw m c 1 0) (kw m c 1 0) (vw m c 1 0) (ww m c 0) = (sm m c 1 1) := rfl
/-- Computed value 42 is the partial output after the heads it adds. -/
theorem e42 (c : Dev nD) : k0_pay42 (msk c 1) (sm m c 1 1) (k0_pay40 (vw m c 1 1)) (k0_pay41 (msk c 1) (qw m c 1 1) (kw m c 1 1)) (ww m c 1) (qw m c 1 2) (kw m c 1 2) (vw m c 1 2) (ww m c 2) = (sm m c 1 3) := rfl
/-- Computed value 43 is the partial output after the heads it adds. -/
theorem e43 (c : Dev nD) : k0_pay43 (msk c 1) (sm m c 1 3) (qw m c 1 3) (kw m c 1 3) (vw m c 1 3) (ww m c 3) = (sm m c 1 4) := rfl
/-- Computed value 47 is the partial output after the heads it adds. -/
theorem e47 (c : Dev nD) : k0_pay47 (msk c 1) (sm m c 1 4) (k0_pay44 (vw m c 1 4)) (k0_pay45 (msk c 1) (qw m c 1 4) (kw m c 1 4)) (k0_pay46 (msk c 1) (qw m c 1 4) (kw m c 1 4)) (ww m c 4) (qw m c 1 5) (kw m c 1 5) (vw m c 1 5) (ww m c 5) = (sm m c 1 6) := rfl
/-- Computed value 49 is the partial output after the heads it adds. -/
theorem e49 (c : Dev nD) : k0_pay49 (msk c 1) (sm m c 1 6) (qw m c 1 6) (k0_pay48 (kw m c 1 6)) (vw m c 1 6) (ww m c 6) = (sm m c 1 7) := rfl
/-- Computed value 61 is the partial output after the heads it adds. -/
theorem e61 (c : Dev nD) : k0_pay61 (msk c 2) (sm m c 2 0) (k0_pay59 (vw m c 2 0)) (k0_pay60 (w2 c) (qw m c 2 0) (kw m c 2 0)) (ww m c 0) (qw m c 2 1) (kw m c 2 1) (vw m c 2 1) (ww m c 1) = (sm m c 2 2) := by
  show k0_pay61 (msk c 2) _ _ (select (k0_pay57 (w2 c)) _ _) _ _ _ _ _ = _
  rw [mk2]; rfl
/-- Computed value 62 is the partial output after the heads it adds. -/
theorem e62 (c : Dev nD) : k0_pay62 (msk c 2) (sm m c 2 2) (qw m c 2 2) (kw m c 2 2) (vw m c 2 2) (ww m c 2) = (sm m c 2 3) := rfl
/-- Computed value 66 is the partial output after the heads it adds. -/
theorem e66 (c : Dev nD) : k0_pay66 (msk c 2) (sm m c 2 3) (k0_pay63 (vw m c 2 3)) (k0_pay64 (msk c 2) (qw m c 2 3) (kw m c 2 3)) (k0_pay65 (msk c 2) (qw m c 2 3) (kw m c 2 3)) (ww m c 3) (qw m c 2 4) (kw m c 2 4) (vw m c 2 4) (ww m c 4) = (sm m c 2 5) := rfl
/-- Computed value 67 is the partial output after the heads it adds. -/
theorem e67 (c : Dev nD) : k0_pay67 (msk c 2) (sm m c 2 5) (qw m c 2 5) (kw m c 2 5) (vw m c 2 5) (ww m c 5) = (sm m c 2 6) := rfl
/-- Computed value 76 is the partial output after the heads it adds. -/
theorem e76 (c : Dev nD) : k0_pay76 (msk c 3) (sm m c 3 0) (hd m c 3 0) (qw m c 3 1) (kw m c 3 1) (vw m c 3 1) (ww m c 1) = (sm m c 3 2) := rfl
/-- Computed value 80 is the partial output after the heads it adds. -/
theorem e80 (c : Dev nD) : k0_pay80 (msk c 3) (sm m c 3 2) (k0_pay77 (vw m c 3 2)) (k0_pay78 (msk c 3) (qw m c 3 2) (kw m c 3 2)) (k0_pay79 (msk c 3) (qw m c 3 2) (kw m c 3 2)) (ww m c 2) (qw m c 3 3) (kw m c 3 3) (vw m c 3 3) (ww m c 3) = (sm m c 3 4) := rfl
/-- Computed value 81 is the partial output after the heads it adds. -/
theorem e81 (c : Dev nD) : k0_pay81 (msk c 3) (sm m c 3 4) (qw m c 3 4) (kw m c 3 4) (vw m c 3 4) (ww m c 4) = (sm m c 3 5) := rfl
/-- Computed value 84 is the partial output after the heads it adds. -/
theorem e84 (c : Dev nD) : k0_pay84 (msk c 3) (sm m c 3 5) (k0_pay82 (vw m c 3 5)) (k0_pay83 (msk c 3) (qw m c 3 5) (kw m c 3 5)) (ww m c 5) (qw m c 3 6) (kw m c 3 6) (vw m c 3 6) (ww m c 6) = (sm m c 3 7) := rfl
/-- Computed value 34 is the finished partial output of its step. -/
theorem e34 (c : Dev nD) : k0_pay34 (msk c 0) (sm m c 0 6) (k0_pay32 (vw m c 0 6)) (k0_pay33 (msk c 0) (qw m c 0 6) (kw m c 0 6)) (ww m c 6) (qw m c 0 7) (kw m c 0 7) (vw m c 0 7) (ww m c 7) = (sm m c 0 8) := rfl
/-- Computed value 54 is the finished partial output of its step. -/
theorem e54 (c : Dev nD) : k0_pay54 (sm m c 1 7) (k0_pay50 (vw m c 1 7)) (k0_pay52 (msk c 1) (qw m c 1 7) (kw m c 1 7)) (k0_pay53 (msk c 1) (qw m c 1 7) (kw m c 1 7)) (constant S256x128 .f32 0x00000000#32) (ww m c 7) = (sm m c 1 8) := rfl
/-- Computed value 70 is the finished partial output of its step. -/
theorem e70 (c : Dev nD) : k0_pay70 (msk c 2) (sm m c 2 6) (k0_pay68 (vw m c 2 6)) (k0_pay69 (msk c 2) (qw m c 2 6) (kw m c 2 6)) (ww m c 6) (qw m c 2 7) (kw m c 2 7) (vw m c 2 7) (ww m c 7) = (sm m c 2 8) := rfl
/-- Computed value 85 is the finished partial output of its step. -/
theorem e85 (c : Dev nD) : k0_pay85 (msk c 3) (sm m c 3 7) (qw m c 3 7) (kw m c 3 7) (vw m c 3 7) (ww m c 7) = (sm m c 3 8) := rfl

/-! ## The pieces that only load -/

/-- Window 23 of the statements: what it takes and what it leaves. -/
theorem part23 (c : Dev nD) (u1 u2 : BitVec 32) {Q : _ → sProp 𝕄} :
    iprop(At m c 0 ∗ (At m c 0 -∗ Q ⟨(sm m c 0 1), (hd m c 0 1)⟩))
      ⊢ WP c (app (k0_part23 (F := F)) c u1 u2 (msk c 0) (sm m c 0 0) (k0_pay21 (vw m c 0 0)) (k0_pay22 (qw m c 0 0) (kw m c 0 0)) k0_pay23) Q := by
  unfold app; rw [k0_part23_eq_skeleton]; unfold k0_part23_skel
  simp only [Prog.lift, Prog.bind_op, Prog.bind_ret, Prog.pure_eq_ret]
  iintro ⟨H, Hk⟩
  iapply (ldw m c 0 0 rfl) $$ H; iintro H
  iapply (ldq m c 0 1 (oq1 c 0)) $$ H; iintro H
  iapply (ldk m c 0 1 (ok1 c 0)) $$ H; iintro H
  iapply (ldv m c 0 1 (ok1 c 0)) $$ H; iintro H
  iapply (ldw m c 0 1 rfl) $$ H; iintro H
  rw [e24 m c, e25 m c]
  iapply WP_ret; iapply Hk; iexact H

/-- Window 24 of the statements: what it takes and what it leaves. -/
theorem part24 (c : Dev nD) (u1 u2 : BitVec 32) {Q : _ → sProp 𝕄} :
    iprop(At m c 0 ∗ (At m c 0 -∗ Q ⟨(sm m c 0 3), k0_pay27 (vw m c 0 3), k0_pay28 (msk c 0) (qw m c 0 3) (kw m c 0 3), k0_pay29 (msk c 0) (qw m c 0 3) (kw m c 0 3)⟩))
      ⊢ WP c (app (k0_part24 (F := F)) c u1 u2 (msk c 0) (sm m c 0 1) (hd m c 0 1)) Q := by
  unfold app; rw [k0_part24_eq_skeleton]; unfold k0_part24_skel
  simp only [Prog.lift, Prog.bind_op, Prog.bind_ret, Prog.pure_eq_ret]
  iintro ⟨H, Hk⟩
  iapply (ldq m c 0 2 (oq2 c 0)) $$ H; iintro H
  iapply (ldk m c 0 2 (ok2 c 0)) $$ H; iintro H
  iapply (ldv m c 0 2 (ok2 c 0)) $$ H; iintro H
  iapply (ldw m c 0 2 rfl) $$ H; iintro H
  iapply (ldq m c 0 3 (oq3 c 0)) $$ H; iintro H
  iapply (ldk m c 0 3 (ok3 c 0)) $$ H; iintro H
  iapply (ldv m c 0 3 (ok3 c 0)) $$ H; iintro H
  rw [e26 m c]
  iapply WP_ret; iapply Hk; iexact H

/-- Window 25 of the statements: what it takes and what it leaves. -/
theorem part25 (c : Dev nD) (u1 u2 : BitVec 32) {Q : _ → sProp 𝕄} :
    iprop(At m c 0 ∗ (At m c 0 -∗ Q ((sm m c 0 5))))
      ⊢ WP c (app (k0_part25 (F := F)) c u1 u2 (msk c 0) (sm m c 0 3) (k0_pay27 (vw m c 0 3)) (k0_pay28 (msk c 0) (qw m c 0 3) (kw m c 0 3)) (k0_pay29 (msk c 0) (qw m c 0 3) (kw m c 0 3))) Q := by
  unfold app; rw [k0_part25_eq_skeleton]; unfold k0_part25_skel
  simp only [Prog.lift, Prog.bind_op, Prog.bind_ret, Prog.pure_eq_ret]
  iintro ⟨H, Hk⟩
  iapply (ldw m c 0 3 rfl) $$ H; iintro H
  iapply (ldq m c 0 4 (oq4 c 0)) $$ H; iintro H
  iapply (ldk m c 0 4 (ok4 c 0)) $$ H; iintro H
  iapply (ldv m c 0 4 (ok4 c 0)) $$ H; iintro H
  iapply (ldw m c 0 4 rfl) $$ H; iintro H
  rw [e30 m c]
  iapply WP_ret; iapply Hk; iexact H

/-- Window 26 of the statements: what it takes and what it leaves. -/
theorem part26 (c : Dev nD) (u1 u2 : BitVec 32) {Q : _ → sProp 𝕄} :
    iprop(At m c 0 ∗ (At m c 0 -∗ Q ⟨(sm m c 0 6), k0_pay32 (vw m c 0 6), k0_pay33 (msk c 0) (qw m c 0 6) (kw m c 0 6)⟩))
      ⊢ WP c (app (k0_part26 (F := F)) c u1 u2 (msk c 0) (sm m c 0 5)) Q := by
  unfold app; rw [k0_part26_eq_skeleton]; unfold k0_part26_skel
  simp only [Prog.lift, Prog.bind_op, Prog.bind_ret, Prog.pure_eq_ret]
  iintro ⟨H, Hk⟩
  iapply (ldq m c 0 5 (oq5 c 0)) $$ H; iintro H
  iapply (ldk m c 0 5 (ok5 c 0)) $$ H; iintro H
  iapply (ldv m c 0 5 (ok5 c 0)) $$ H; iintro H
  iapply (ldw m c 0 5 rfl) $$ H; iintro H
  iapply (ldq m c 0 6 (oq6 c 0)) $$ H; iintro H
  iapply (ldk m c 0 6 (ok6 c 0)) $$ H; iintro H
  iapply (ldv m c 0 6 (ok6 c 0)) $$ H; iintro H
  rw [e31 m c]
  iapply WP_ret; iapply Hk; iexact H

/-- Window 29 of the statements: what it takes and what it leaves. -/
theorem part29 (c : Dev nD) (u1 u2 : BitVec 32) {Q : _ → sProp 𝕄} :
    iprop(At m c 1 ∗ (At m c 1 -∗ Q ⟨(sm m c 1 1), k0_pay40 (vw m c 1 1), k0_pay41 (msk c 1) (qw m c 1 1) (kw m c 1 1)⟩))
      ⊢ WP c (app (k0_part29 (F := F)) c u1 u2 (msk c 1) (sm m c 1 0)) Q := by
  unfold app; rw [k0_part29_eq_skeleton]; unfold k0_part29_skel
  simp only [Prog.lift, Prog.bind_op, Prog.bind_ret, Prog.pure_eq_ret]
  iintro ⟨H, Hk⟩
  iapply (ldq m c 1 0 (oq0 c 1)) $$ H; iintro H
  iapply (ldk m c 1 0 (ok0 c 1)) $$ H; iintro H
  iapply (ldv m c 1 0 (ok0 c 1)) $$ H; iintro H
  iapply (ldw m c 1 0 rfl) $$ H; iintro H
  iapply (ldq m c 1 1 (oq1 c 1)) $$ H; iintro H
  iapply (ldk m c 1 1 (ok1 c 1)) $$ H; iintro H
  iapply (ldv m c 1 1 (ok1 c 1)) $$ H; iintro H
  rw [e39 m c]
  iapply WP_ret; iapply Hk; iexact H

/-- Window 30 of the statements: what it takes and what it leaves. -/
theorem part30 (c : Dev nD) (u1 u2 : BitVec 32) {Q : _ → sProp 𝕄} :
    iprop(At m c 1 ∗ (At m c 1 -∗ Q ⟨(sm m c 1 3), (qw m c 1 3)⟩))
      ⊢ WP c (app (k0_part30 (F := F)) c u1 u2 (msk c 1) (sm m c 1 1) (k0_pay40 (vw m c 1 1)) (k0_pay41 (msk c 1) (qw m c 1 1) (kw m c 1 1))) Q := by
  unfold app; rw [k0_part30_eq_skeleton]; unfold k0_part30_skel
  simp only [Prog.lift, Prog.bind_op, Prog.bind_ret, Prog.pure_eq_ret]
  iintro ⟨H, Hk⟩
  iapply (ldw m c 1 1 rfl) $$ H; iintro H
  iapply (ldq m c 1 2 (oq2 c 1)) $$ H; iintro H
  iapply (ldk m c 1 2 (ok2 c 1)) $$ H; iintro H
  iapply (ldv m c 1 2 (ok2 c 1)) $$ H; iintro H
  iapply (ldw m c 1 2 rfl) $$ H; iintro H
  iapply (ldq m c 1 3 (oq3 c 1)) $$ H; iintro H
  rw [e42 m c]
  iapply WP_ret; iapply Hk; iexact H

/-- Window 31 of the statements: what it takes and what it leaves. -/
theorem part31 (c : Dev nD) (u1 u2 : BitVec 32) {Q : _ → sProp 𝕄} :
    iprop(At m c 1 ∗ (At m c 1 -∗ Q ⟨(sm m c 1 4), k0_pay44 (vw m c 1 4), k0_pay45 (msk c 1) (qw m c 1 4) (kw m c 1 4), k0_pay46 (msk c 1) (qw m c 1 4) (kw m c 1 4)⟩))
      ⊢ WP c (app (k0_part31 (F := F)) c u1 u2 (msk c 1) (sm m c 1 3) (qw m c 1 3)) Q := by
  unfold app; rw [k0_part31_eq_skeleton]; unfold k0_part31_skel
  simp only [Prog.lift, Prog.bind_op, Prog.bind_ret, Prog.pure_eq_ret]
  iintro ⟨H, Hk⟩
  iapply (ldk m c 1 3 (ok3 c 1)) $$ H; iintro H
  iapply (ldv m c 1 3 (ok3 c 1)) $$ H; iintro H
  iapply (ldw m c 1 3 rfl) $$ H; iintro H
  iapply (ldq m c 1 4 (oq4 c 1)) $$ H; iintro H
  iapply (ldk m c 1 4 (ok4 c 1)) $$ H; iintro H
  iapply (ldv m c 1 4 (ok4 c 1)) $$ H; iintro H
  rw [e43 m c]
  iapply WP_ret; iapply Hk; iexact H

/-- Window 32 of the statements: what it takes and what it leaves. -/
theorem part32 (c : Dev nD) (u1 u2 : BitVec 32) {Q : _ → sProp 𝕄} :
    iprop(At m c 1 ∗ (At m c 1 -∗ Q ⟨(sm m c 1 6), (qw m c 1 6), k0_pay48 (kw m c 1 6)⟩))
      ⊢ WP c (app (k0_part32 (F := F)) c u1 u2 (msk c 1) (sm m c 1 4) (k0_pay44 (vw m c 1 4)) (k0_pay45 (msk c 1) (qw m c 1 4) (kw m c 1 4)) (k0_pay46 (msk c 1) (qw m c 1 4) (kw m c 1 4))) Q := by
  unfold app; rw [k0_part32_eq_skeleton]; unfold k0_part32_skel
  simp only [Prog.lift, Prog.bind_op, Prog.bind_ret, Prog.pure_eq_ret]
  iintro ⟨H, Hk⟩
  iapply (ldw m c 1 4 rfl) $$ H; iintro H
  iapply (ldq m c 1 5 (oq5 c 1)) $$ H; iintro H
  iapply (ldk m c 1 5 (ok5 c 1)) $$ H; iintro H
  iapply (ldv m c 1 5 (ok5 c 1)) $$ H; iintro H
  iapply (ldw m c 1 5 rfl) $$ H; iintro H
  iapply (ldq m c 1 6 (oq6 c 1)) $$ H; iintro H
  iapply (ldk m c 1 6 (ok6 c 1)) $$ H; iintro H
  rw [e47 m c]
  iapply WP_ret; iapply Hk; iexact H

/-- Window 33 of the statements: what it takes and what it leaves. -/
theorem part33 (c : Dev nD) (u1 u2 : BitVec 32) {Q : _ → sProp 𝕄} :
    iprop(At m c 1 ∗ (At m c 1 -∗ Q ⟨(sm m c 1 7), k0_pay50 (vw m c 1 7), k0_pay52 (msk c 1) (qw m c 1 7) (kw m c 1 7), k0_pay53 (msk c 1) (qw m c 1 7) (kw m c 1 7), constant S256x128 .f32 0x00000000#32⟩))
      ⊢ WP c (app (k0_part33 (F := F)) c u1 u2 (msk c 1) (sm m c 1 6) (qw m c 1 6) (k0_pay48 (kw m c 1 6))) Q := by
  unfold app; rw [k0_part33_eq_skeleton]; unfold k0_part33_skel
  simp only [Prog.lift, Prog.bind_op, Prog.bind_ret, Prog.pure_eq_ret]
  iintro ⟨H, Hk⟩
  iapply (ldv m c 1 6 (ok6 c 1)) $$ H; iintro H
  iapply (ldw m c 1 6 rfl) $$ H; iintro H
  iapply (ldq m c 1 7 (oq7 c 1)) $$ H; iintro H
  iapply (ldk m c 1 7 (ok7 c 1)) $$ H; iintro H
  iapply (ldv m c 1 7 (ok7 c 1)) $$ H; iintro H
  rw [e49 m c]
  iapply WP_ret; iapply Hk; iexact H

/-- Window 37 of the statements: what it takes and what it leaves. -/
theorem part37 (c : Dev nD) (u1 u2 : BitVec 32) {Q : _ → sProp 𝕄} :
    iprop(At m c 2 ∗ (At m c 2 -∗ Q ((sm m c 2 2))))
      ⊢ WP c (app (k0_part37 (F := F)) c u1 u2 (msk c 2) (sm m c 2 0) (k0_pay59 (vw m c 2 0)) (k0_pay60 (w2 c) (qw m c 2 0) (kw m c 2 0))) Q := by
  unfold app; rw [k0_part37_eq_skeleton]; unfold k0_part37_skel
  simp only [Prog.lift, Prog.bind_op, Prog.bind_ret, Prog.pure_eq_ret]
  iintro ⟨H, Hk⟩
  iapply (ldw m c 2 0 rfl) $$ H; iintro H
  iapply (ldq m c 2 1 (oq1 c 2)) $$ H; iintro H
  iapply (ldk m c 2 1 (ok1 c 2)) $$ H; iintro H
  iapply (ldv m c 2 1 (ok1 c 2)) $$ H; iintro H
  iapply (ldw m c 2 1 rfl) $$ H; iintro H
  rw [e61 m c]
  iapply WP_ret; iapply Hk; iexact H

/-- Window 38 of the statements: what it takes and what it leaves. -/
theorem part38 (c : Dev nD) (u1 u2 : BitVec 32) {Q : _ → sProp 𝕄} :
    iprop(At m c 2 ∗ (At m c 2 -∗ Q ⟨(sm m c 2 3), k0_pay63 (vw m c 2 3), k0_pay64 (msk c 2) (qw m c 2 3) (kw m c 2 3), k0_pay65 (msk c 2) (qw m c 2 3) (kw m c 2 3)⟩))
      ⊢ WP c (app (k0_part38 (F := F)) c u1 u2 (msk c 2) (sm m c 2 2)) Q := by
  unfold app; rw [k0_part38_eq_skeleton]; unfold k0_part38_skel
  simp only [Prog.lift, Prog.bind_op, Prog.bind_ret, Prog.pure_eq_ret]
  iintro ⟨H, Hk⟩
  iapply (ldq m c 2 2 (oq2 c 2)) $$ H; iintro H
  iapply (ldk m c 2 2 (ok2 c 2)) $$ H; iintro H
  iapply (ldv m c 2 2 (ok2 c 2)) $$ H; iintro H
  iapply (ldw m c 2 2 rfl) $$ H; iintro H
  iapply (ldq m c 2 3 (oq3 c 2)) $$ H; iintro H
  iapply (ldk m c 2 3 (ok3 c 2)) $$ H; iintro H
  iapply (ldv m c 2 3 (ok3 c 2)) $$ H; iintro H
  rw [e62 m c]
  iapply WP_ret; iapply Hk; iexact H

/-- Window 39 of the statements: what it takes and what it leaves. -/
theorem part39 (c : Dev nD) (u1 u2 : BitVec 32) {Q : _ → sProp 𝕄} :
    iprop(At m c 2 ∗ (At m c 2 -∗ Q ⟨(sm m c 2 5), (qw m c 2 5)⟩))
      ⊢ WP c (app (k0_part39 (F := F)) c u1 u2 (msk c 2) (sm m c 2 3) (k0_pay63 (vw m c 2 3)) (k0_pay64 (msk c 2) (qw m c 2 3) (kw m c 2 3)) (k0_pay65 (msk c 2) (qw m c 2 3) (kw m c 2 3))) Q := by
  unfold app; rw [k0_part39_eq_skeleton]; unfold k0_part39_skel
  simp only [Prog.lift, Prog.bind_op, Prog.bind_ret, Prog.pure_eq_ret]
  iintro ⟨H, Hk⟩
  iapply (ldw m c 2 3 rfl) $$ H; iintro H
  iapply (ldq m c 2 4 (oq4 c 2)) $$ H; iintro H
  iapply (ldk m c 2 4 (ok4 c 2)) $$ H; iintro H
  iapply (ldv m c 2 4 (ok4 c 2)) $$ H; iintro H
  iapply (ldw m c 2 4 rfl) $$ H; iintro H
  iapply (ldq m c 2 5 (oq5 c 2)) $$ H; iintro H
  rw [e66 m c]
  iapply WP_ret; iapply Hk; iexact H

/-- Window 40 of the statements: what it takes and what it leaves. -/
theorem part40 (c : Dev nD) (u1 u2 : BitVec 32) {Q : _ → sProp 𝕄} :
    iprop(At m c 2 ∗ (At m c 2 -∗ Q ⟨(sm m c 2 6), k0_pay68 (vw m c 2 6), k0_pay69 (msk c 2) (qw m c 2 6) (kw m c 2 6)⟩))
      ⊢ WP c (app (k0_part40 (F := F)) c u1 u2 (msk c 2) (sm m c 2 5) (qw m c 2 5)) Q := by
  unfold app; rw [k0_part40_eq_skeleton]; unfold k0_part40_skel
  simp only [Prog.lift, Prog.bind_op, Prog.bind_ret, Prog.pure_eq_ret]
  iintro ⟨H, Hk⟩
  iapply (ldk m c 2 5 (ok5 c 2)) $$ H; iintro H
  iapply (ldv m c 2 5 (ok5 c 2)) $$ H; iintro H
  iapply (ldw m c 2 5 rfl) $$ H; iintro H
  iapply (ldq m c 2 6 (oq6 c 2)) $$ H; iintro H
  iapply (ldk m c 2 6 (ok6 c 2)) $$ H; iintro H
  iapply (ldv m c 2 6 (ok6 c 2)) $$ H; iintro H
  rw [e67 m c]
  iapply WP_ret; iapply Hk; iexact H

/-- Window 43 of the statements: what it takes and what it leaves. -/
theorem part43 (c : Dev nD) {Q : _ → sProp 𝕄} :
    iprop(At m c 3 ∗ (∀ u1 u2 u3, At m c 3 -∗ Q ⟨u1, u2, u3, msk c 3, sm m c 3 0, hd m c 3 0⟩))
      ⊢ WP c (app (k0_part43 (F := F)) c (Scalar.addi (Scalar.subi (w2 c) 3#32) 8#32) 4#32) Q := by
  unfold app; rw [k0_part43_eq_skeleton]; unfold k0_part43_skel
  simp only [Prog.lift, Prog.bind_op, Prog.bind_ret, Prog.pure_eq_ret]
  iintro ⟨H, Hk⟩
  iapply (ldq m c 3 0 (oq0 c 3)) $$ H; iintro H
  iapply (ldk m c 3 0 (ok0 c 3)) $$ H; iintro H
  iapply (ldv m c 3 0 (ok0 c 3)) $$ H; iintro H
  iapply (ldw m c 3 0 rfl) $$ H; iintro H
  rw [show k0_pay75 (Scalar.addi (Scalar.subi (w2 c) 3#32) 8#32) 4#32 (qw m c 3 0) (kw m c 3 0) (vw m c 3 0) (ww m c 0)
    = k0_pay25 (k0_pay73 (Scalar.addi (Scalar.subi (w2 c) 3#32) 8#32) 4#32) (qw m c 3 0) (kw m c 3 0) (vw m c 3 0) (ww m c 0) from rfl, mk3, show k0_pay25 (msk c 3) (qw m c 3 0) (kw m c 3 0) (vw m c 3 0) (ww m c 0) = hd m c 3 0 from rfl,
    show k0_pay74 (F := F) = sm m c 3 0 from rfl]
  iapply WP_ret; iapply Hk; iexact H

/-- Window 44 of the statements: what it takes and what it leaves. -/
theorem part44 (c : Dev nD) (u1 u2 : BitVec 32) {Q : _ → sProp 𝕄} :
    iprop(At m c 3 ∗ (At m c 3 -∗ Q ⟨(sm m c 3 2), k0_pay77 (vw m c 3 2), k0_pay78 (msk c 3) (qw m c 3 2) (kw m c 3 2), k0_pay79 (msk c 3) (qw m c 3 2) (kw m c 3 2)⟩))
      ⊢ WP c (app (k0_part44 (F := F)) c u1 u2 (msk c 3) (sm m c 3 0) (hd m c 3 0)) Q := by
  unfold app; rw [k0_part44_eq_skeleton]; unfold k0_part44_skel
  simp only [Prog.lift, Prog.bind_op, Prog.bind_ret, Prog.pure_eq_ret]
  iintro ⟨H, Hk⟩
  iapply (ldq m c 3 1 (oq1 c 3)) $$ H; iintro H
  iapply (ldk m c 3 1 (ok1 c 3)) $$ H; iintro H
  iapply (ldv m c 3 1 (ok1 c 3)) $$ H; iintro H
  iapply (ldw m c 3 1 rfl) $$ H; iintro H
  iapply (ldq m c 3 2 (oq2 c 3)) $$ H; iintro H
  iapply (ldk m c 3 2 (ok2 c 3)) $$ H; iintro H
  iapply (ldv m c 3 2 (ok2 c 3)) $$ H; iintro H
  rw [e76 m c]
  iapply WP_ret; iapply Hk; iexact H

/-- Window 45 of the statements: what it takes and what it leaves. -/
theorem part45 (c : Dev nD) (u1 u2 : BitVec 32) {Q : _ → sProp 𝕄} :
    iprop(At m c 3 ∗ (At m c 3 -∗ Q ((sm m c 3 4))))
      ⊢ WP c (app (k0_part45 (F := F)) c u1 u2 (msk c 3) (sm m c 3 2) (k0_pay77 (vw m c 3 2)) (k0_pay78 (msk c 3) (qw m c 3 2) (kw m c 3 2)) (k0_pay79 (msk c 3) (qw m c 3 2) (kw m c 3 2))) Q := by
  unfold app; rw [k0_part45_eq_skeleton]; unfold k0_part45_skel
  simp only [Prog.lift, Prog.bind_op, Prog.bind_ret, Prog.pure_eq_ret]
  iintro ⟨H, Hk⟩
  iapply (ldw m c 3 2 rfl) $$ H; iintro H
  iapply (ldq m c 3 3 (oq3 c 3)) $$ H; iintro H
  iapply (ldk m c 3 3 (ok3 c 3)) $$ H; iintro H
  iapply (ldv m c 3 3 (ok3 c 3)) $$ H; iintro H
  iapply (ldw m c 3 3 rfl) $$ H; iintro H
  rw [e80 m c]
  iapply WP_ret; iapply Hk; iexact H

/-- Window 46 of the statements: what it takes and what it leaves. -/
theorem part46 (c : Dev nD) (u1 u2 : BitVec 32) {Q : _ → sProp 𝕄} :
    iprop(At m c 3 ∗ (At m c 3 -∗ Q ⟨(sm m c 3 5), k0_pay82 (vw m c 3 5), k0_pay83 (msk c 3) (qw m c 3 5) (kw m c 3 5)⟩))
      ⊢ WP c (app (k0_part46 (F := F)) c u1 u2 (msk c 3) (sm m c 3 4)) Q := by
  unfold app; rw [k0_part46_eq_skeleton]; unfold k0_part46_skel
  simp only [Prog.lift, Prog.bind_op, Prog.bind_ret, Prog.pure_eq_ret]
  iintro ⟨H, Hk⟩
  iapply (ldq m c 3 4 (oq4 c 3)) $$ H; iintro H
  iapply (ldk m c 3 4 (ok4 c 3)) $$ H; iintro H
  iapply (ldv m c 3 4 (ok4 c 3)) $$ H; iintro H
  iapply (ldw m c 3 4 rfl) $$ H; iintro H
  iapply (ldq m c 3 5 (oq5 c 3)) $$ H; iintro H
  iapply (ldk m c 3 5 (ok5 c 3)) $$ H; iintro H
  iapply (ldv m c 3 5 (ok5 c 3)) $$ H; iintro H
  rw [e81 m c]
  iapply WP_ret; iapply Hk; iexact H

/-- Window 47 of the statements: what it takes and what it leaves. -/
theorem part47 (c : Dev nD) (u1 u2 : BitVec 32) {Q : _ → sProp 𝕄} :
    iprop(At m c 3 ∗ (At m c 3 -∗ Q ⟨(sm m c 3 7), (qw m c 3 7)⟩))
      ⊢ WP c (app (k0_part47 (F := F)) c u1 u2 (msk c 3) (sm m c 3 5) (k0_pay82 (vw m c 3 5)) (k0_pay83 (msk c 3) (qw m c 3 5) (kw m c 3 5))) Q := by
  unfold app; rw [k0_part47_eq_skeleton]; unfold k0_part47_skel
  simp only [Prog.lift, Prog.bind_op, Prog.bind_ret, Prog.pure_eq_ret]
  iintro ⟨H, Hk⟩
  iapply (ldw m c 3 5 rfl) $$ H; iintro H
  iapply (ldq m c 3 6 (oq6 c 3)) $$ H; iintro H
  iapply (ldk m c 3 6 (ok6 c 3)) $$ H; iintro H
  iapply (ldv m c 3 6 (ok6 c 3)) $$ H; iintro H
  iapply (ldw m c 3 6 rfl) $$ H; iintro H
  iapply (ldq m c 3 7 (oq7 c 3)) $$ H; iintro H
  rw [e84 m c]
  iapply WP_ret; iapply Hk; iexact H

end Cert.KernelIdealProof
-- ==== Proof.KI.Ring.lean ====
/-
The pieces between which the blocks travel: the end of each attention step, where the block goes into the result and into
the ring, and the all-gather of the finished blocks.
-/
module

public import proofs.«01_k».proof.Proof.KI.Attn
public import Idealize.ShloMosaic.Lib.ValueLayout
public import Idealize.ShloMosaic.Lib.Pipeline.ValueKit.Geometry

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)
variable (K : GSem nD τ sig → ℕ) (X : sProp (MT nD τ sig ℕ (Elt F) ℕ UU ℕ))

/-! ## The ring's values -/

/-- Slot `t` of a buffer of three blocks. -/
theorem slot_emb {n : ℕ} {off : Fin 3 → ℕ} {t : ℕ} (ht : t < n) (ho : off = ![t, 0, 0]) {inb : ∀ a, off a + S1x256x1024.size a ≤ (⟨3, ![n, 256, 1024]⟩ : Shape).size a}
    (a : Fin 1) (i : Fin 256) (j : Fin 1024) :
    (Rect.unit (s := (⟨3, ![n, 256, 1024]⟩ : Shape)) off S1x256x1024.size inb).emb (ix3 a i j) = ix3 (⟨t, ht⟩ : Fin n) i j := by
  subst ho
  funext x
  match x with
  | ⟨0, _⟩ => exact Fin.ext ((ValueKit.rect_emb_unit_val ..).trans (by show t + a.val = t; omega))
  | ⟨1, _⟩ => exact Fin.ext ((ValueKit.rect_emb_unit_val ..).trans (Nat.zero_add _))
  | ⟨2, _⟩ => exact Fin.ext ((ValueKit.rect_emb_unit_val ..).trans (Nat.zero_add _))

/-- What a device stores in slot `t` for the next one. -/
theorem rs_val (c : Dev nD) (t : ℕ) (ht : t < 3) {off : Fin 3 → ℕ} (ho : off = ![t, 0, 0]) {inb : ∀ a, off a + S1x256x1024.size a ≤ S3x256x1024.size a}
    (w : FVec F S1x256x1024 .bf16) (hw : w = shapeCast S1x256x1024 (truncf .bf16 (red m t c) bitsLt_bf16_f32) shapeCasts_S256x1024_S1x256x1024) :
    w = fun j => RS m c ((Rect.unit (s := S3x256x1024) off S1x256x1024.size inb).emb j) := by
  subst hw
  funext j
  obtain ⟨a, i, k, rfl⟩ : ∃ (a : Fin 1) (i : Fin 256) (k : Fin 1024), j = ix3 a i k := ⟨j 0, j 1, j 2, eq_ix3 j⟩
  exact (shapeCast_ab_1ab_apply _ _ a i k).trans (congrArg (RS m c) (slot_emb ht ho a i k)).symm

/-- What it finds in slot `t` from the device before it. -/
theorem rb_val (c : Dev nD) (t : ℕ) (ht : t < 3) {off : Fin 3 → ℕ} (ho : off = ![t, 0, 0]) {inb : ∀ a, off a + S1x256x1024.size a ≤ S3x256x1024.size a} :
    shapeCast S256x1024 (fun j => RB m c ((Rect.unit (s := S3x256x1024) off S1x256x1024.size inb).emb j) : FVec F S1x256x1024 .bf16) shapeCasts_S1x256x1024_S256x1024
      = truncf .bf16 (red m t (dv (c.val + 3))) bitsLt_bf16_f32 := by
  funext j
  obtain ⟨i, k, rfl⟩ : ∃ (i : Fin 256) (k : Fin 1024), j = ix2 i k := ⟨j 0, j 1, eq_ix2 j⟩
  exact (shapeCast_1ab_ab_apply _ _ i k).trans (congrArg (RB m c) (slot_emb ht ho 0 i k))

/-- Three devices on from the next is the device itself. -/
theorem dv_next (c : Dev nD) : dv ((dv (c.val + 1)).val + 3) = c := by revert c; decide
/-- What the next device receives is what this one sent. -/
theorem RB_next (c : Dev nD) : RB m (dv (c.val + 1)) = RS m c := by unfold RB; rw [dv_next]

/-! ## The result's blocks -/

/-- Block `b` of the result not finished, -/
abbrev oH (c : Dev nD) (b : ℕ) : sProp 𝕄 := hole c cc0_stg3_0 (bx3 0 1 (256 * b) (256 * b + 256) 0 1024 : Finset S1x1024x1024.Idx)
/-- finished, -/
abbrev oB (c : Dev nD) (b : ℕ) : sProp 𝕄 := own c cc0_stg3_0 (bx3 0 1 (256 * b) (256 * b + 256) 0 1024 : Finset S1x1024x1024.Idx) (OUT m c)

/-- A block of the result, as a box. -/
theorem out_set (c : Dev nD) (t : Fin 4) {inb : ∀ a, k0_off17 c (BitVec.ofNat 32 t.val) a + S1x256x1024.size a ≤ S1x1024x1024.size a} :
    (Rect.unit (s := S1x1024x1024) (k0_off17 c (BitVec.ofNat 32 t.val)) S1x256x1024.size inb).set = bx3 0 1 (256 * cb c t) (256 * cb c t + 256) 0 1024 :=
  box_set (k0_off17_eq c t) ⟨rfl, rfl, rfl, rfl, rfl, rfl⟩

variable {α : Type} {Q : α → sProp (MT nD τ sig ℕ (Elt F) ℕ UU ℕ)}

/-- A load of an unfinished block, whose value is not used. -/
theorem ldo (c : Dev nD) (t : Fin 4) {inb : ∀ a, k0_off17 c (BitVec.ofNat 32 t.val) a + S1x256x1024.size a ≤ S1x1024x1024.size a} {hl}
    {k : Vec F S1x256x1024 .f32 → Prog (TpuEff nD τ sig (Elt F) Λ₀ .tc) α} :
    oH c (cb c t) ⊢ iprop((∀ v, oH c (cb c t) -∗ WP c (k v) Q) -∗ WP c (.op (.load (Memref.whole cc0_stg3_0 : Memref sig .tc .vmem S1x1024x1024 .f32)
      (Rect.unit (s := S1x1024x1024) (k0_off17 c (BitVec.ofNat 32 t.val)) S1x256x1024.size inb).toLoadRect hl) k) Q) :=
  ldd (mr := (Memref.whole cc0_stg3_0 : Memref sig .tc .vmem S1x1024x1024 .f32)) (r := Rect.unit (s := S1x1024x1024) (k0_off17 c (BitVec.ofNat 32 t.val)) S1x256x1024.size inb)
    _ rfl (by rw [View.set_slice_whole]; exact out_set c t)

/-- A store of an unfinished block. -/
theorem sto_o (c : Dev nD) (t : Fin 4) {inb : ∀ a, k0_off17 c (BitVec.ofNat 32 t.val) a + S1x256x1024.size a ≤ S1x1024x1024.size a} {hx hm} {w : Vec F S1x256x1024 .f32}
    {k : PUnit → Prog (TpuEff nD τ sig (Elt F) Λ₀ .tc) α} :
    oH c (cb c t) ⊢ iprop((oH c (cb c t) -∗ WP c (k ⟨⟩) Q) -∗ WP c (.op (.store (Memref.whole cc0_stg3_0 : Memref sig .tc .vmem S1x1024x1024 .f32)
      (Rect.unit (s := S1x1024x1024) (k0_off17 c (BitVec.ofNat 32 t.val)) S1x256x1024.size inb) w Finset.univ hx hm) k) Q) :=
  sth (mr := (Memref.whole cc0_stg3_0 : Memref sig .tc .vmem S1x1024x1024 .f32)) (r := Rect.unit (s := S1x1024x1024) (k0_off17 c (BitVec.ofNat 32 t.val)) S1x256x1024.size inb)
    _ rfl (by rw [View.set_slice_whole]; exact out_set c t)

/-! ## The ring's slots -/

/-- A slot, as a box. -/
theorem slot_set (t : ℕ) {off : Fin 3 → ℕ} (ho : off = ![t, 0, 0]) {inb : ∀ a, off a + S1x256x1024.size a ≤ S3x256x1024.size a} :
    (Rect.unit (s := S3x256x1024) off S1x256x1024.size inb).set = bx3 t (t + 1) 0 256 0 1024 := box_set ho ⟨rfl, rfl, rfl, rfl, rfl, rfl⟩

/-- A load of an unwritten slot, whose value is not used. -/
theorem lds (c : Dev nD) (t : ℕ) {off : Fin 3 → ℕ} (ho : off = ![t, 0, 0]) {inb : ∀ a, off a + S1x256x1024.size a ≤ S3x256x1024.size a} {hl}
    {k : Vec F S1x256x1024 .bf16 → Prog (TpuEff nD τ sig (Elt F) Λ₀ .tc) α} :
    (rsR m c t).hole c ⊢ iprop((∀ v, (rsR m c t).hole c -∗ WP c (k v) Q) -∗ WP c (.op (.load (Memref.whole cc0_scratch8 : Memref sig .tc .vmem S3x256x1024 .bf16)
      (Rect.unit (s := S3x256x1024) off S1x256x1024.size inb).toLoadRect hl) k) Q) :=
  ldd (mr := (Memref.whole cc0_scratch8 : Memref sig .tc .vmem S3x256x1024 .bf16)) (r := Rect.unit (s := S3x256x1024) off S1x256x1024.size inb)
    _ rfl (by rw [View.set_slice_whole]; exact slot_set t ho)

/-- Storing the sum for the next device. -/
theorem sts (c : Dev nD) (t : ℕ) (ht : t < 3) {off : Fin 3 → ℕ} (ho : off = ![t, 0, 0]) {inb : ∀ a, off a + S1x256x1024.size a ≤ S3x256x1024.size a} {hx hm}
    {w : Vec F S1x256x1024 .bf16} (hw : w = shapeCast S1x256x1024 (truncf .bf16 (red m t c) bitsLt_bf16_f32) shapeCasts_S256x1024_S1x256x1024)
    {k : PUnit → Prog (TpuEff nD τ sig (Elt F) Λ₀ .tc) α} :
    (rsR m c t).hole c ⊢ iprop(((rsR m c t).full c -∗ WP c (k ⟨⟩) Q) -∗ WP c (.op (.store (Memref.whole cc0_scratch8 : Memref sig .tc .vmem S3x256x1024 .bf16)
      (Rect.unit (s := S3x256x1024) off S1x256x1024.size inb) w Finset.univ hx hm) k) Q) :=
  stw (mr := (Memref.whole cc0_scratch8 : Memref sig .tc .vmem S3x256x1024 .bf16)) (r := Rect.unit (s := S3x256x1024) off S1x256x1024.size inb)
    _ _ (RS m c) rfl rfl (by rw [View.set_slice_whole]; exact slot_set t ho) (rs_val m c t ht ho w hw)

/-- Loading the sum of the device before. -/
theorem ldrb (c : Dev nD) (t : ℕ) {off : Fin 3 → ℕ} (ho : off = ![t, 0, 0]) {inb : ∀ a, off a + S1x256x1024.size a ≤ S3x256x1024.size a} {hl}
    {k : Vec F S1x256x1024 .bf16 → Prog (TpuEff nD τ sig (Elt F) Λ₀ .tc) α} :
    (rbR m c t).full c ⊢ iprop(((rbR m c t).full c -∗ WP c (k (fun j => RB m c ((Rect.unit (s := S3x256x1024) off S1x256x1024.size inb).emb j))) Q)
      -∗ WP c (.op (.load (Memref.whole cc0_scratch9 : Memref sig .tc .vmem S3x256x1024 .bf16) (Rect.unit (s := S3x256x1024) off S1x256x1024.size inb).toLoadRect hl) k) Q) :=
  ld (mr := (Memref.whole cc0_scratch9 : Memref sig .tc .vmem S3x256x1024 .bf16)) (r := Rect.unit (s := S3x256x1024) off S1x256x1024.size inb)
    (S := (bx3 t (t + 1) 0 256 0 1024 : Finset S3x256x1024.Idx)) (f := RB m c) _ rfl (by rw [View.set_slice_whole]; exact (slot_set t ho).subset) _ rfl

/-- The partial output starts at zero. -/
theorem e38 (c : Dev nD) : k0_pay38 (F := F) = sm m c 1 0 := rfl

/-! ## The ends of the attention steps -/

/-- Window 27 of the statements: what it takes and what it leaves. -/
theorem part27 (c : Dev nD) (u1 u2 : BitVec 32) {Q : _ → sProp 𝕄} :
    iprop(At m c 0 ∗ oH c (cb c 0) ∗ (At m c 0 -∗ oH c (cb c 0) -∗ Q (acc m c 0)))
      ⊢ WP c (app (k0_part27 (F := F)) c u1 u2 (msk c 0) (sm m c 0 6) (k0_pay32 (vw m c 0 6)) (k0_pay33 (msk c 0) (qw m c 0 6) (kw m c 0 6))) Q := by
  unfold app; rw [k0_part27_eq_skeleton]; unfold k0_part27_skel
  simp only [Prog.lift, Prog.bind_op, Prog.bind_ret, Prog.pure_eq_ret]
  iintro ⟨H, Ho, Hk⟩
  iapply (ldw m c 0 6 rfl) $$ H; iintro H
  iapply (ldq m c 0 7 (oq7 c 0)) $$ H; iintro H
  iapply (ldk m c 0 7 (ok7 c 0)) $$ H; iintro H
  iapply (ldv m c 0 7 (ok7 c 0)) $$ H; iintro H
  iapply (ldw m c 0 7 rfl) $$ H; iintro H
  iapply (ldo c 0) $$ Ho; iintro %v Ho
  rw [e34 m c, show sm m c 0 8 = acc m c 0 from rfl]
  iapply WP_ret; iapply Hk $$ H Ho

/-- The elements of a slice of a whole buffer, re-indexed or not, are the rectangle's. -/
theorem sq_set (b : Ref sig .tc) (r : Rect b.ty.shape) (s' : Shape) (h : s'.numel = r.shape.numel) : (((View.whole b).slice r).reshape s' h).set = r.set := by
  rw [View.set_reshape, View.set_slice_whole]

/-- Sending slot `t` to the next device. -/
theorem send_rs (c n : Dev nD) (t lev : ℕ) {s r sS sR : Fin 58} {A : List Tr} {W : List Aw} {S : List Tr} (hn : n = dv (c.val + 1)) (hs : sS = s) (hr : sR = r)
    (h1 : reg m c s.val = rsR m c t) (h2 : reg m (dv (c.val + 1)) r.val = rbR m (dv (c.val + 1)) t)
    (hu : s ∈ used c ∧ r ∈ used (dv (c.val + 1)) ∧ amt c s = 16384 ∧ amt (dv (c.val + 1)) r = 16384)
    {off : Fin 3 → ℕ} (ho : off = ![t, 0, 0]) {inb : ∀ a, off a + S1x256x1024.size a ≤ S3x256x1024.size a} {hq : S1x256x1024.Squeezes S256x1024} {hs1 hs2 hsc h3 h4 h5}
    {k : PUnit → Prog (TpuEff nD τ sig (Elt F) Λ₀ .tc) α} :
    iprop(St m K X c ((⟨s, dv (c.val + 1), r, lev, 16384⟩ : Tr) :: A) W S ∗ (rsR m c t).full c)
      ⊢ iprop((St m K X c A W ((⟨s, dv (c.val + 1), r, lev, 16384⟩ : Tr) :: S) -∗ WP c (k ⟨⟩) Q)
        -∗ WP c (.op (.enqueueDma (((Memref.whole cc0_scratch8 : Memref sig .tc .vmem S3x256x1024 .bf16).slice (Rect.unit (s := S3x256x1024) off S1x256x1024.size inb) hs1).squeeze S256x1024 hq)
          (.remote (Dev.tc n : Thread nD τ) (((Memref.whole cc0_scratch9 : Memref sig .tc .vmem S3x256x1024 .bf16).slice (Rect.unit (s := S3x256x1024) off S1x256x1024.size inb) hs2).squeeze S256x1024 hq)
            (.dma (sS : DmaSem sig)) hsc) (.dma (sR : DmaSem sig)) h3 h4 h5) k) Q) := by
  have hA : ((((Memref.whole cc0_scratch8 : Memref sig .tc .vmem S3x256x1024 .bf16).slice (Rect.unit (s := S3x256x1024) off S1x256x1024.size inb) hs1).squeeze S256x1024 hq).view).set
      = (bx3 t (t + 1) 0 256 0 1024 : Finset S3x256x1024.Idx) := (sq_set cc0_scratch8 _ _ _).trans (slot_set t ho)
  have hB : ((((Memref.whole cc0_scratch9 : Memref sig .tc .vmem S3x256x1024 .bf16).slice (Rect.unit (s := S3x256x1024) off S1x256x1024.size inb) hs2).squeeze S256x1024 hq).view).set
      = (bx3 t (t + 1) 0 256 0 1024 : Finset S3x256x1024.Idx) := (sq_set cc0_scratch9 _ _ _).trans (slot_set t ho)
  iintro ⟨HS, Hr⟩ Hk
  iapply (st_send m K X (A := A) (W := W) (S := S) (t := ⟨s, dv (c.val + 1), r, lev, 16384⟩) hn hs hr (RS m c) (RB m (dv (c.val + 1)))
    ⟨hu.1, hu.2.1, hu.2.2.1, hu.2.2.2, (by decide : 0 < 16384)⟩ rfl
    ((congrArg (Reg.full c) h1).trans (by rw [hA]; rfl))
    ((Entails.of_eq (congrArg (Reg.hole (dv (c.val + 1))) h2)).trans (by rw [hB]; exact BI.Entails.refl _))
    ((congrArg (Reg.full (dv (c.val + 1))) h2).trans (by rw [hB]; rfl))
    (by rw [RB_next]; rfl)) $$ [HS Hr]
  · isplitl [HS]; · iexact HS
    iapply (Entails.of_eq (show (rsR m c t).full c = pay m c s.val by unfold pay; rw [h1])); iexact Hr
  iexact Hk

set_option maxHeartbeats 400000 in
/-- Window 28 of the statements: what it takes and what it leaves. -/
theorem part28 (c : Dev nD) (A : List Tr) (W : List Aw) (S : List Tr) (u : BitVec 32) {Q : _ → sProp 𝕄} :
    iprop(St m K X c (rs0 c :: A) W S ∗ oH c (cb c 0) ∗ (rsR m c 0).hole c ∗ (∀ u1 u2, St m K X c A W (rs0 c :: S) -∗ oH c (cb c 0) -∗ Q ⟨u1, u2, msk c 1, sm m c 1 0⟩))
      ⊢ WP c (app (k0_part28 (F := F)) c (w2 c) u (acc m c 0)) Q := by
  unfold app; rw [k0_part28_eq_skeleton]; unfold k0_part28_skel
  simp only [Prog.lift, Prog.bind_op, Prog.bind_ret, Prog.pure_eq_ret]
  iintro ⟨HS, Ho, Hr, Hk⟩
  iapply (sto_o c 0) $$ Ho; iintro Ho
  iapply (lds m c 0 rfl) $$ Hr; iintro %v Hr
  iapply (sts m c 0 (by decide) rfl rfl) $$ Hr; iintro Hr
  iapply (send_rs m K X c _ 0 4 (s := 40) (r := 43) (A := A) (W := W) (S := S) (Fin.ext (k0_dev26_eq c)) rfl rfl rfl rfl (by revert c; decide) rfl) $$ [HS Hr]
  · isplitl [HS]; · iexact HS
    iexact Hr
  iintro HS
  rw [mk1, e38 m c, show (⟨40, dv (c.val + 1), 43, 4, 16384⟩ : Tr) = rs0 c from rfl]
  iapply WP_ret; iapply Hk $$ HS Ho

/-- The next sum: a device's own block and what it received. -/
theorem red_next (c : Dev nD) (t : ℕ) (ht : t < 3) {off : Fin 3 → ℕ} (ho : off = ![t, 0, 0]) {inb : ∀ a, off a + S1x256x1024.size a ≤ S3x256x1024.size a} :
    addf (acc m c (Fin.ofNat 4 (t + 1))) (extf .f32 (shapeCast S256x1024 (fun j => RB m c ((Rect.unit (s := S3x256x1024) off S1x256x1024.size inb).emb j) : FVec F S1x256x1024 .bf16)
      shapeCasts_S1x256x1024_S256x1024) bitsLt_bf16_f32) = red m (t + 1) c := by
  rw [rb_val m c t ht ho]; rfl

/-- What the ring sends at step 1: the sum received and the own block. -/
theorem e56 (c : Dev nD) (v : FVec F S1x256x1024 .bf16) :
    k0_pay56 (sm m c 1 7) (k0_pay50 (vw m c 1 7)) (k0_pay52 (msk c 1) (qw m c 1 7) (kw m c 1 7)) (k0_pay53 (msk c 1) (qw m c 1 7) (kw m c 1 7)) (constant S256x128 .f32 0x00000000#32) (ww m c 7) v
      = shapeCast S1x256x1024 (truncf .bf16 (addf (acc m c 1) (extf .f32 (shapeCast S256x1024 v shapeCasts_S1x256x1024_S256x1024) bitsLt_bf16_f32)) bitsLt_bf16_f32) shapeCasts_S256x1024_S1x256x1024 := rfl

/-- Window 34 of the statements: what it takes and what it leaves. -/
theorem part34 (c : Dev nD) (A : List Tr) (W : List Aw) (S : List Tr) (u1 u2 : BitVec 32) (hA : ∀ t ∈ A, 4 < t.lev ∧ t.lev < 12) {Q : _ → sProp 𝕄} :
    iprop(At m c 1 ∗ oH c (cb c 1) ∗ (rsR m c 1).hole c ∗ St m K X c A (⟨43, 4, 16384⟩ :: W) S
        ∗ (At m c 1 -∗ oH c (cb c 1) -∗ (rsR m c 1).full c -∗ (rbR m c 0).full c -∗ St m K X c A W S -∗ Q ⟨⟩))
      ⊢ WP c (app (k0_part34 (F := F)) c u1 u2 (sm m c 1 7) (k0_pay50 (vw m c 1 7)) (k0_pay52 (msk c 1) (qw m c 1 7) (kw m c 1 7)) (k0_pay53 (msk c 1) (qw m c 1 7) (kw m c 1 7))
          (constant S256x128 .f32 0x00000000#32)) Q := by
  unfold app; rw [k0_part34_eq_skeleton]; unfold k0_part34_skel
  simp only [Prog.lift, Prog.bind_op, Prog.bind_ret, Prog.pure_eq_ret]
  iintro ⟨H, Ho, Hr, HS, Hk⟩
  iapply (ldw m c 1 7 rfl) $$ H; iintro H
  iapply (ldo c 1) $$ Ho; iintro %v Ho
  iapply (sto_o c 1) $$ Ho; iintro Ho
  iapply (st_wt m K X 43 4 16384 (rbR m c 0) rfl rfl (A := A) (W := W) (S := S) (by clear hA; revert c; decide) hA rfl) $$ HS
  iintro ⟨HS, Hp⟩
  iapply (ldrb m c 0 rfl) $$ Hp; iintro Hp
  iapply (lds m c 1 rfl) $$ Hr; iintro %v2 Hr
  iapply (sts m c 1 (by decide) rfl ((e56 m c _).trans (by rw [show (1 : Fin 4) = Fin.ofNat 4 (0 + 1) from rfl, red_next m c 0 (by decide) rfl]))) $$ Hr; iintro Hr
  iapply WP_ret; iapply Hk $$ H Ho Hr Hp HS

/-- Window 41 of the statements: what it takes and what it leaves. -/
theorem part41 (c : Dev nD) (u1 u2 : BitVec 32) {Q : _ → sProp 𝕄} :
    iprop(At m c 2 ∗ oH c (cb c 2) ∗ (At m c 2 -∗ oH c (cb c 2) -∗ Q (acc m c 2)))
      ⊢ WP c (app (k0_part41 (F := F)) c u1 u2 (msk c 2) (sm m c 2 6) (k0_pay68 (vw m c 2 6)) (k0_pay69 (msk c 2) (qw m c 2 6) (kw m c 2 6))) Q := by
  unfold app; rw [k0_part41_eq_skeleton]; unfold k0_part41_skel
  simp only [Prog.lift, Prog.bind_op, Prog.bind_ret, Prog.pure_eq_ret]
  iintro ⟨H, Ho, Hk⟩
  iapply (ldw m c 2 6 rfl) $$ H; iintro H
  iapply (ldq m c 2 7 (oq7 c 2)) $$ H; iintro H
  iapply (ldk m c 2 7 (ok7 c 2)) $$ H; iintro H
  iapply (ldv m c 2 7 (ok7 c 2)) $$ H; iintro H
  iapply (ldw m c 2 7 rfl) $$ H; iintro H
  iapply (ldo c 2) $$ Ho; iintro %v Ho
  iapply (sto_o c 2) $$ Ho; iintro Ho
  rw [e70 m c, show sm m c 2 8 = acc m c 2 from rfl]
  iapply WP_ret; iapply Hk $$ H Ho

/-- Window 42 of the statements: what it takes and what it leaves. -/
theorem part42 (c : Dev nD) (A : List Tr) (W : List Aw) (S : List Tr) (u : BitVec 32) (hA : ∀ t ∈ rs2 c :: A, 7 < t.lev ∧ t.lev < 12) {Q : _ → sProp 𝕄} :
    iprop((rsR m c 2).hole c ∗ St m K X c (rs2 c :: A) (⟨44, 7, 16384⟩ :: W) S
        ∗ ((rbR m c 1).full c -∗ St m K X c A W (rs2 c :: S) -∗ Q ⟨Scalar.addi (Scalar.subi (w2 c) 3#32) 8#32, 4#32⟩))
      ⊢ WP c (app (k0_part42 (F := F)) c (w2 c) u (acc m c 2)) Q := by
  unfold app; rw [k0_part42_eq_skeleton]; unfold k0_part42_skel
  simp only [Prog.lift, Prog.bind_op, Prog.bind_ret, Prog.pure_eq_ret]
  iintro ⟨Hr, HS, Hk⟩
  iapply (st_wt m K X 44 7 16384 (rbR m c 1) rfl rfl (A := rs2 c :: A) (W := W) (S := S) (by clear hA; revert c; decide) hA rfl) $$ HS
  iintro ⟨HS, Hp⟩
  iapply (ldrb m c 1 rfl) $$ Hp; iintro Hp
  iapply (lds m c 2 rfl) $$ Hr; iintro %v2 Hr
  iapply (sts m c 2 (by decide) rfl (by rw [← red_next m c 1 (by decide) rfl]; rfl)) $$ Hr; iintro Hr
  iapply (send_rs m K X c _ 2 8 (s := 42) (r := 45) (A := A) (W := W) (S := S) (Fin.ext (k0_dev32_eq c)) rfl rfl rfl rfl (by clear hA; revert c; decide) rfl) $$ [HS Hr]
  · isplitl [HS]; · iexact HS
    iexact Hr
  iintro HS
  rw [show (⟨42, dv (c.val + 1), 45, 8, 16384⟩ : Tr) = rs2 c from rfl]
  iapply WP_ret; iapply Hk $$ Hp HS

/-- Window 48 of the statements: what it takes and what it leaves. -/
theorem part48 (c : Dev nD) (A : List Tr) (W : List Aw) (S : List Tr) (u1 u2 u3 : BitVec 32) (hA : ∀ t ∈ A, 8 < t.lev ∧ t.lev < 12) {Q : _ → sProp 𝕄} :
    iprop(At m c 3 ∗ oH c (cb c 3) ∗ St m K X c A (⟨45, 8, 16384⟩ :: W) S
        ∗ (At m c 3 -∗ oH c (cb c 3) -∗ (rbR m c 2).full c -∗ St m K X c A W S -∗ Q (acc m c 3)))
      ⊢ WP c (app (k0_part48 (F := F)) c u1 u2 u3 (msk c 3) (sm m c 3 7) (qw m c 3 7)) Q := by
  unfold app; rw [k0_part48_eq_skeleton]; unfold k0_part48_skel
  simp only [Prog.lift, Prog.bind_op, Prog.bind_ret, Prog.pure_eq_ret]
  iintro ⟨H, Ho, HS, Hk⟩
  iapply (ldk m c 3 7 (ok7 c 3)) $$ H; iintro H
  iapply (ldv m c 3 7 (ok7 c 3)) $$ H; iintro H
  iapply (ldw m c 3 7 rfl) $$ H; iintro H
  iapply (ldo c 3) $$ Ho; iintro %v Ho
  iapply (sto_o c 3) $$ Ho; iintro Ho
  iapply (st_wt m K X 45 8 16384 (rbR m c 2) rfl rfl (A := A) (W := W) (S := S) (by clear hA; revert c; decide) hA rfl) $$ HS
  iintro ⟨HS, Hp⟩
  rw [e85 m c, show sm m c 3 8 = acc m c 3 from rfl]
  iapply WP_ret; iapply Hk $$ H Ho Hp HS

end Cert.KernelIdealProof
-- ==== Proof.KI.Cut.lean ====
/-
Cutting an owned box in two, and putting two together.
-/
module

public import proofs.«01_k».proof.Proof.KI.Common

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)
/-- Two disjoint parts of an owned region, -/
theorem own_cut (c : Dev nD) (b : Ref sig .tc) {S I J : Finset b.ty.shape.Idx} (h : Disjoint I J ∧ I ∪ J = S) (f : b.ty.Contents (Elt F)) :
    own c b S f ⊣⊢ iprop(own c b I f ∗ own c b J f) := by
  obtain ⟨hd, rfl⟩ := h
  unfold own
  exact pointsTo_union hd
/-- of one with contents unknown, -/
theorem hole_cut (c : Dev nD) (b : Ref sig .tc) {S I J : Finset b.ty.shape.Idx} (h : Disjoint I J ∧ I ∪ J = S) :
    (hole c b S : sProp 𝕄) ⊢ iprop(hole c b I ∗ hole c b J) := by
  unfold hole
  iintro ⟨%f, H⟩
  ihave H := (own_cut c b h f).1 $$ H
  icases H with ⟨H1, H2⟩
  isplitl [H1]
  · iexists f; iexact H1
  iexists f; iexact H2
/-- and put together. -/
theorem hole_join (c : Dev nD) (b : Ref sig .tc) {S I J : Finset b.ty.shape.Idx} (h : Disjoint I J ∧ I ∪ J = S) :
    iprop(hole c b I ∗ hole c b J) ⊢ (hole c b S : sProp 𝕄) := by
  obtain ⟨hd, rfl⟩ := h
  unfold hole own
  iintro ⟨⟨%f, H1⟩, ⟨%g, H2⟩⟩
  iexists _
  iapply (pointsTo_join hd)
  isplitl [H1] <;> iassumption
/-- What is owned with known contents is owned. -/
theorem own_hole (c : Dev nD) (b : Ref sig .tc) (S : Finset b.ty.shape.Idx) (f : b.ty.Contents (Elt F)) : own c b S f ⊢ (hole c b S : sProp 𝕄) := by
  unfold hole
  iintro H; iexists f; iexact H

section
variable {n0 n1 n2 : ℕ}
/-- A box cut across its first axis, -/
theorem cut0 (a a' a'' b b' d d' : ℕ) (h : a ≤ a' ∧ a' ≤ a'') :
    Disjoint (bx3 a a' b b' d d' : Finset (⟨3, ![n0, n1, n2]⟩ : Shape).Idx) (bx3 a' a'' b b' d d') ∧ (bx3 a a' b b' d d' ∪ bx3 a' a'' b b' d d' : Finset (⟨3, ![n0, n1, n2]⟩ : Shape).Idx) = bx3 a a'' b b' d d' := by
  constructor
  · rw [Finset.disjoint_left]; intro i h1 h2; rw [mem_bx3] at h1 h2; omega
  · ext i; rw [Finset.mem_union, mem_bx3, mem_bx3, mem_bx3]; omega
/-- its second, -/
theorem cut1 (a a' b b' b'' d d' : ℕ) (h : b ≤ b' ∧ b' ≤ b'') :
    Disjoint (bx3 a a' b b' d d' : Finset (⟨3, ![n0, n1, n2]⟩ : Shape).Idx) (bx3 a a' b' b'' d d') ∧ (bx3 a a' b b' d d' ∪ bx3 a a' b' b'' d d' : Finset (⟨3, ![n0, n1, n2]⟩ : Shape).Idx) = bx3 a a' b b'' d d' := by
  constructor
  · rw [Finset.disjoint_left]; intro i h1 h2; rw [mem_bx3] at h1 h2; omega
  · ext i; rw [Finset.mem_union, mem_bx3, mem_bx3, mem_bx3]; omega
/-- its third. -/
theorem cut2 (a a' b b' d d' d'' : ℕ) (h : d ≤ d' ∧ d' ≤ d'') :
    Disjoint (bx3 a a' b b' d d' : Finset (⟨3, ![n0, n1, n2]⟩ : Shape).Idx) (bx3 a a' b b' d' d'') ∧ (bx3 a a' b b' d d' ∪ bx3 a a' b b' d' d'' : Finset (⟨3, ![n0, n1, n2]⟩ : Shape).Idx) = bx3 a a' b b' d d'' := by
  constructor
  · rw [Finset.disjoint_left]; intro i h1 h2; rw [mem_bx3] at h1 h2; omega
  · ext i; rw [Finset.mem_union, mem_bx3, mem_bx3, mem_bx3]; omega
/-- The box of all. -/
theorem bx3_univ : (bx3 0 n0 0 n1 0 n2 : Finset (⟨3, ![n0, n1, n2]⟩ : Shape).Idx) = Finset.univ := by
  ext i; rw [mem_bx3]
  exact ⟨fun _ => Finset.mem_univ _, fun _ => ⟨⟨Nat.zero_le _, (i 0).isLt⟩, ⟨Nat.zero_le _, (i 1).isLt⟩, ⟨Nat.zero_le _, (i 2).isLt⟩⟩⟩
end

end Cert.KernelIdealProof
-- ==== Proof.KI.Gather.lean ====
/-
The last step of the ring and the all-gather of the finished blocks.
-/
module

public import proofs.«01_k».proof.Proof.KI.Ring
public import proofs.«01_k».proof.Proof.KI.Cut

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)
variable (K : GSem nD τ sig → ℕ) (X : sProp (MT nD τ sig ℕ (Elt F) ℕ UU ℕ))

/-- Half of block `b` in the buffer of finished blocks, from column `x`. -/
def agB (b x : ℕ) : Reg F := ⟨cc0_scratch10, (bx3 b (b + 1) 0 256 x (x + 512) : Finset S4x256x1024.Idx), AG m⟩
/-- Half of block `b` of the result, not finished, -/
abbrev hH (c : Dev nD) (b x : ℕ) : sProp 𝕄 := hole c cc0_stg3_0 (bx3 0 1 (256 * b) (256 * b + 256) x (x + 512) : Finset S1x1024x1024.Idx)
/-- finished, -/
abbrev hB (c : Dev nD) (b x : ℕ) : sProp 𝕄 := own c cc0_stg3_0 (bx3 0 1 (256 * b) (256 * b + 256) x (x + 512) : Finset S1x1024x1024.Idx) (OUT m c)

variable {α : Type} {Q : α → sProp (MT nD τ sig ℕ (Elt F) ℕ UU ℕ)}

/-- Half a slot of the buffer of finished blocks, as a box. -/
theorem ag_set (b x : ℕ) {off : Fin 3 → ℕ} (ho : off = ![b, 0, x]) {inb : ∀ a, off a + S1x256x512.size a ≤ S4x256x1024.size a} :
    (Rect.unit (s := S4x256x1024) off S1x256x512.size inb).set = bx3 b (b + 1) 0 256 x (x + 512) := box_set ho ⟨rfl, rfl, rfl, rfl, rfl, rfl⟩
/-- Half a block of the result, as a box. -/
theorem oh_set (b x : ℕ) {off : Fin 3 → ℕ} (ho : off = ![0, 256 * b, x]) {inb : ∀ a, off a + S1x256x512.size a ≤ S1x1024x1024.size a} :
    (Rect.unit (s := S1x1024x1024) off S1x256x512.size inb).set = bx3 0 1 (256 * b) (256 * b + 256) x (x + 512) := box_set ho ⟨rfl, rfl, rfl, rfl, rfl, rfl⟩

/-! ## Sending half a block on -/

/-- Half a finished block is sent. -/
theorem send_ag (c n p : Dev nD) (b x lev : ℕ) {s r sS sR : Fin 58} {A : List Tr} {W : List Aw} {S : List Tr} (hn : n = p) (hs : sS = s) (hr : sR = r)
    (h1 : reg m c s.val = agB m b x) (h2 : reg m p r.val = agB m b x)
    (hu : s ∈ used c ∧ r ∈ used p ∧ amt c s = 8192 ∧ amt p r = 8192)
    {off : Fin 3 → ℕ} (ho : off = ![b, 0, x]) {inb : ∀ a, off a + S1x256x512.size a ≤ S4x256x1024.size a} {hq : S1x256x512.Squeezes S256x512} {hs1 hs2 hsc h3 h4 h5}
    {k : PUnit → Prog (TpuEff nD τ sig (Elt F) Λ₀ .tc) α} :
    iprop(St m K X c ((⟨s, p, r, lev, 8192⟩ : Tr) :: A) W S ∗ (agB m b x).full c)
      ⊢ iprop((St m K X c A W ((⟨s, p, r, lev, 8192⟩ : Tr) :: S) -∗ WP c (k ⟨⟩) Q)
        -∗ WP c (.op (.enqueueDma (((Memref.whole cc0_scratch10 : Memref sig .tc .vmem S4x256x1024 .bf16).slice (Rect.unit (s := S4x256x1024) off S1x256x512.size inb) hs1).squeeze S256x512 hq)
          (.remote (Dev.tc n : Thread nD τ) (((Memref.whole cc0_scratch10 : Memref sig .tc .vmem S4x256x1024 .bf16).slice (Rect.unit (s := S4x256x1024) off S1x256x512.size inb) hs2).squeeze S256x512 hq)
            (.dma (sS : DmaSem sig)) hsc) (.dma (sR : DmaSem sig)) h3 h4 h5) k) Q) := by
  have hA : ((((Memref.whole cc0_scratch10 : Memref sig .tc .vmem S4x256x1024 .bf16).slice (Rect.unit (s := S4x256x1024) off S1x256x512.size inb) hs1).squeeze S256x512 hq).view).set
      = (bx3 b (b + 1) 0 256 x (x + 512) : Finset S4x256x1024.Idx) := (sq_set cc0_scratch10 _ _ _).trans (ag_set b x ho)
  iintro ⟨HS, Hr⟩ Hk
  iapply (st_send m K X (A := A) (W := W) (S := S) (t := ⟨s, p, r, lev, 8192⟩) hn hs hr (AG m) (AG m)
    ⟨hu.1, hu.2.1, hu.2.2.1, hu.2.2.2, (by decide : 0 < 8192)⟩ rfl
    ((congrArg (Reg.full c) h1).trans (by rw [hA]; rfl))
    ((Entails.of_eq (congrArg (Reg.hole p) h2)).trans (by rw [hA]; exact BI.Entails.refl _))
    ((congrArg (Reg.full p) h2).trans (by rw [hA]; rfl))
    rfl) $$ [HS Hr]
  · isplitl [HS]; · iexact HS
    iapply (Entails.of_eq (show (agB m b x).full c = pay m c s.val by unfold pay; rw [h1])); iexact Hr
  iexact Hk

/-! ## Copying half a block into the result -/

/-- Loading half a finished block. -/
theorem ldag (c : Dev nD) (b x : ℕ) {off : Fin 3 → ℕ} (ho : off = ![b, 0, x]) {inb : ∀ a, off a + S1x256x512.size a ≤ S4x256x1024.size a} {hl}
    {k : Vec F S1x256x512 .bf16 → Prog (TpuEff nD τ sig (Elt F) Λ₀ .tc) α} :
    (agB m b x).full c ⊢ iprop(((agB m b x).full c -∗ WP c (k (fun j => AG m ((Rect.unit (s := S4x256x1024) off S1x256x512.size inb).emb j))) Q)
      -∗ WP c (.op (.load (Memref.whole cc0_scratch10 : Memref sig .tc .vmem S4x256x1024 .bf16) (Rect.unit (s := S4x256x1024) off S1x256x512.size inb).toLoadRect hl) k) Q) :=
  ld (mr := (Memref.whole cc0_scratch10 : Memref sig .tc .vmem S4x256x1024 .bf16)) (r := Rect.unit (s := S4x256x1024) off S1x256x512.size inb)
    (S := (bx3 b (b + 1) 0 256 x (x + 512) : Finset S4x256x1024.Idx)) (f := AG m) _ rfl (by rw [View.set_slice_whole]; exact (ag_set b x ho).subset) _ rfl

/-- A load of half an unfinished block, whose value is not used. -/
theorem ldoh (c : Dev nD) (b x : ℕ) {off : Fin 3 → ℕ} (ho : off = ![0, 256 * b, x]) {inb : ∀ a, off a + S1x256x512.size a ≤ S1x1024x1024.size a} {hl}
    {k : Vec F S1x256x512 .f32 → Prog (TpuEff nD τ sig (Elt F) Λ₀ .tc) α} :
    hH c b x ⊢ iprop((∀ v, hH c b x -∗ WP c (k v) Q)
      -∗ WP c (.op (.load (Memref.whole cc0_stg3_0 : Memref sig .tc .vmem S1x1024x1024 .f32) (Rect.unit (s := S1x1024x1024) off S1x256x512.size inb).toLoadRect hl) k) Q) :=
  ldd (mr := (Memref.whole cc0_stg3_0 : Memref sig .tc .vmem S1x1024x1024 .f32)) (r := Rect.unit (s := S1x1024x1024) off S1x256x512.size inb)
    _ rfl (by rw [View.set_slice_whole]; exact oh_set b x ho)

/-- An element of the result outside the device's own block, -/
theorem OUT_at (c : Dev nD) (b : ℕ) (hne : b ≠ (c.val + 1) % 4) (r : Fin 1024) (i : Fin 256) (k : Fin 1024) (hr : r.val = 256 * b + i.val) :
    OUT m c (ix3 (0 : Fin 1) r k) = extf .f32 (truncf .bf16 (red m 3 (dv (b + 3))) bitsLt_bf16_f32) bitsLt_bf16_f32 (ix2 i k) := by
  have hi := i.isLt
  have h1 : r.val / 256 = b := by omega
  have h2 : Fin.ofNat 256 r.val = i := Fin.ext (by show r.val % 256 = i.val; omega)
  have h3 : OUT m c (ix3 (0 : Fin 1) r k) = if r.val / 256 = (c.val + 1) % 4 then red m 3 c (ix2 (Fin.ofNat 256 r.val) k)
      else extf .f32 (truncf .bf16 (red m 3 (dv (r.val / 256 + 3))) bitsLt_bf16_f32) bitsLt_bf16_f32 (ix2 (Fin.ofNat 256 r.val) k) := rfl
  rw [h3, h1, h2, if_neg hne]
/-- and inside it. -/
theorem OUT_own (c : Dev nD) (r : Fin 1024) (i : Fin 256) (k : Fin 1024) (hr : r.val = 256 * ((c.val + 1) % 4) + i.val) :
    OUT m c (ix3 (0 : Fin 1) r k) = red m 3 c (ix2 i k) := by
  have hi := i.isLt
  have h1 : r.val / 256 = (c.val + 1) % 4 := by omega
  have h2 : Fin.ofNat 256 r.val = i := Fin.ext (by show r.val % 256 = i.val; omega)
  have h3 : OUT m c (ix3 (0 : Fin 1) r k) = if r.val / 256 = (c.val + 1) % 4 then red m 3 c (ix2 (Fin.ofNat 256 r.val) k)
      else extf .f32 (truncf .bf16 (red m 3 (dv (r.val / 256 + 3))) bitsLt_bf16_f32) bitsLt_bf16_f32 (ix2 (Fin.ofNat 256 r.val) k) := rfl
  rw [h3, h1, h2, if_pos rfl]

/-- Where a part of the buffer of finished blocks lies, -/
theorem ag_emb (b x : ℕ) (hb : b < 4) {off : Fin 3 → ℕ} (ho : off = ![b, 0, x]) {inb : ∀ a, off a + S1x256x512.size a ≤ S4x256x1024.size a}
    (a : Fin 1) (i : Fin 256) (k : Fin 512) (hk : x + k.val < 1024) :
    (Rect.unit (s := S4x256x1024) off S1x256x512.size inb).emb (ix3 a i k) = ix3 (⟨b, hb⟩ : Fin 4) i (⟨x + k.val, hk⟩ : Fin 1024) := by
  subst ho
  funext y
  match y with
  | ⟨0, _⟩ => exact Fin.ext ((ValueKit.rect_emb_unit_val ..).trans (by show b + a.val = b; omega))
  | ⟨1, _⟩ => exact Fin.ext ((ValueKit.rect_emb_unit_val ..).trans (Nat.zero_add _))
  | ⟨2, _⟩ => exact Fin.ext (ValueKit.rect_emb_unit_val ..)
/-- and a part of the result. -/
theorem out_emb {w : ℕ} (r x : ℕ) {off : Fin 3 → ℕ} (ho : off = ![0, r, x]) {inb : ∀ a, off a + ![1, 256, w] a ≤ S1x1024x1024.size a}
    (a : Fin 1) (i : Fin 256) (k : Fin w) (hi : r + i.val < 1024) (hk : x + k.val < 1024) :
    (Rect.unit (s := S1x1024x1024) off ![1, 256, w] inb).emb (ix3 a i k) = ix3 (0 : Fin 1) (⟨r + i.val, hi⟩ : Fin 1024) (⟨x + k.val, hk⟩ : Fin 1024) := by
  subst ho
  funext y
  match y with
  | ⟨0, _⟩ => exact Fin.ext ((ValueKit.rect_emb_unit_val ..).trans (by show 0 + a.val = 0; omega))
  | ⟨1, _⟩ => exact Fin.ext (ValueKit.rect_emb_unit_val ..)
  | ⟨2, _⟩ => exact Fin.ext (ValueKit.rect_emb_unit_val ..)

/-- Widening reads pointwise. -/
theorem ext_at (x : FVec F S256x512 .bf16) (y : FVec F S256x1024 .bf16) (i : S256x512.Idx) (j : S256x1024.Idx) (h : x i = y j) :
    extf .f32 x bitsLt_bf16_f32 i = extf .f32 y bitsLt_bf16_f32 j :=
  congrArg (fun v : F .bf16 => (extf .f32 (fun _ : S256x512.Idx => v) bitsLt_bf16_f32 : FVec F S256x512 .f32) i) h

/-- Half a block of the result is the half block that was sent. -/
theorem half_val (c : Dev nD) (b x : ℕ) (hb : b < 4) (hne : b ≠ (c.val + 1) % 4) (hx : x + 512 ≤ 1024) {off off' : Fin 3 → ℕ} (ho : off = ![b, 0, x]) (ho' : off' = ![0, 256 * b, x])
    {inb : ∀ a, off a + S1x256x512.size a ≤ S4x256x1024.size a} {inb' : ∀ a, off' a + S1x256x512.size a ≤ S1x1024x1024.size a} :
    (shapeCast S1x256x512 (extf .f32 (shapeCast S256x512 (fun j => AG m ((Rect.unit (s := S4x256x1024) off S1x256x512.size inb).emb j) : FVec F S1x256x512 .bf16)
      shapeCasts_S1x256x512_S256x512) bitsLt_bf16_f32) shapeCasts_S256x512_S1x256x512 : FVec F S1x256x512 .f32)
      = fun j => OUT m c ((Rect.unit (s := S1x1024x1024) off' S1x256x512.size inb').emb j) := by
  funext j
  obtain ⟨a, i, k, rfl⟩ : ∃ (a : Fin 1) (i : Fin 256) (k : Fin 512), j = ix3 a i k := ⟨j 0, j 1, j 2, eq_ix3 j⟩
  have hk : x + k.val < 1024 := by have := k.isLt; omega
  have hi := i.isLt
  refine (shapeCast_ab_1ab_apply _ _ a i k).trans ?_
  refine Eq.trans ?_ (((congrArg (OUT m c) (out_emb (w := 512) (256 * b) x ho' a i k (by omega) hk)).trans (OUT_at m c b hne _ i _ rfl)).symm)
  refine ext_at _ _ _ _ ((shapeCast_1ab_ab_apply _ _ i k).trans ((congrArg (AG m) (ag_emb b x hb ho 0 i k hk)).trans ?_))
  rfl

/-- Storing half a block of the result. -/
theorem stoh (c : Dev nD) (b x : ℕ) {off : Fin 3 → ℕ} (ho : off = ![0, 256 * b, x]) {inb : ∀ a, off a + S1x256x512.size a ≤ S1x1024x1024.size a} {hx hm} {w : Vec F S1x256x512 .f32}
    (hw : w = fun j => OUT m c ((Rect.unit (s := S1x1024x1024) off S1x256x512.size inb).emb j)) {k : PUnit → Prog (TpuEff nD τ sig (Elt F) Λ₀ .tc) α} :
    hH c b x ⊢ iprop((hB m c b x -∗ WP c (k ⟨⟩) Q) -∗ WP c (.op (.store (Memref.whole cc0_stg3_0 : Memref sig .tc .vmem S1x1024x1024 .f32)
      (Rect.unit (s := S1x1024x1024) off S1x256x512.size inb) w Finset.univ hx hm) k) Q) :=
  stw (mr := (Memref.whole cc0_stg3_0 : Memref sig .tc .vmem S1x1024x1024 .f32)) (r := Rect.unit (s := S1x1024x1024) off S1x256x512.size inb)
    _ _ (OUT m c) rfl rfl (by rw [View.set_slice_whole]; exact oh_set b x ho) hw

/-! ## The block a device finishes itself -/

/-- Three devices on from the next is the device itself. -/
theorem dv_own (c : Dev nD) : dv ((c.val + 1) % 4 + 3) = c := by revert c; decide

/-- The own block of the result, as it is read. -/
theorem out_val (c : Dev nD) {off : Fin 3 → ℕ} (ho : off = ![0, 256 * ((c.val + 1) % 4), 0]) {inb : ∀ a, off a + S1x256x1024.size a ≤ S1x1024x1024.size a} :
    (shapeCast S1x256x1024 (red m 3 c) shapeCasts_S256x1024_S1x256x1024 : FVec F S1x256x1024 .f32)
      = fun j => OUT m c ((Rect.unit (s := S1x1024x1024) off S1x256x1024.size inb).emb j) := by
  funext j
  obtain ⟨a, i, k, rfl⟩ : ∃ (a : Fin 1) (i : Fin 256) (k : Fin 1024), j = ix3 a i k := ⟨j 0, j 1, j 2, eq_ix3 j⟩
  have hi := i.isLt
  refine (shapeCast_ab_1ab_apply _ _ a i k).trans ?_
  refine Eq.trans ?_ (((congrArg (OUT m c) (out_emb (w := 1024) (256 * ((c.val + 1) % 4)) 0 ho a i k (by omega) (by have := k.isLt; omega))).trans (OUT_own m c _ i _ rfl)).symm)
  exact congrArg (fun k => red m 3 c (ix2 i k)) (Fin.ext (Nat.zero_add _).symm)

/-- The own finished block, as it is stored. -/
theorem agv_val (c : Dev nD) {off : Fin 3 → ℕ} (ho : off = ![(c.val + 1) % 4, 0, 0]) {inb : ∀ a, off a + S1x256x1024.size a ≤ S4x256x1024.size a} :
    (shapeCast S1x256x1024 (truncf .bf16 (red m 3 c) bitsLt_bf16_f32) shapeCasts_S256x1024_S1x256x1024 : FVec F S1x256x1024 .bf16)
      = fun j => AG m ((Rect.unit (s := S4x256x1024) off S1x256x1024.size inb).emb j) := by
  funext j
  obtain ⟨a, i, k, rfl⟩ : ∃ (a : Fin 1) (i : Fin 256) (k : Fin 1024), j = ix3 a i k := ⟨j 0, j 1, j 2, eq_ix3 j⟩
  refine (shapeCast_ab_1ab_apply _ _ a i k).trans (Eq.trans ?_ (congrArg (AG m) (slot_emb (n := 4) (by omega) ho a i k)).symm)
  show _ = truncf .bf16 (red m 3 (dv ((c.val + 1) % 4 + 3))) bitsLt_bf16_f32 (ix2 i k)
  rw [dv_own]

/-- Slot `(c + 1) % 4` of device `c`'s buffer of finished blocks, not written yet, -/
abbrev agH (c : Dev nD) : sProp 𝕄 := hole c cc0_scratch10 (bx3 ((c.val + 1) % 4) ((c.val + 1) % 4 + 1) 0 256 0 1024 : Finset S4x256x1024.Idx)

/-- The own slot, as a box. -/
theorem ags_set (c : Dev nD) {off : Fin 3 → ℕ} (ho : off = ![(c.val + 1) % 4, 0, 0]) {inb : ∀ a, off a + S1x256x1024.size a ≤ S4x256x1024.size a} :
    (Rect.unit (s := S4x256x1024) off S1x256x1024.size inb).set = bx3 ((c.val + 1) % 4) ((c.val + 1) % 4 + 1) 0 256 0 1024 := box_set ho ⟨rfl, rfl, rfl, rfl, rfl, rfl⟩
/-- Where the block of step 3 starts in the result. -/
theorem o17_3 (c : Dev nD) : k0_off17 c 3#32 = ![0, 256 * ((c.val + 1) % 4), 0] :=
  (k0_off17_eq c 3).trans (by revert c; decide)
/-- Where the own slot starts. -/
theorem o18 (c : Dev nD) : k0_off18 c = ![(c.val + 1) % 4, 0, 0] := (k0_off18_eq c).trans (by revert c; decide)
/-- The block of step 3. -/
theorem cb3 (c : Dev nD) : cb c 3 = (c.val + 1) % 4 := by revert c; decide

/-- Storing the finished block in the result, -/
theorem sto49 (c : Dev nD) {inb : ∀ a, k0_off17 c 3#32 a + S1x256x1024.size a ≤ S1x1024x1024.size a} {hx hm} {w : Vec F S1x256x1024 .f32}
    (hw : w = shapeCast S1x256x1024 (red m 3 c) shapeCasts_S256x1024_S1x256x1024) {k : PUnit → Prog (TpuEff nD τ sig (Elt F) Λ₀ .tc) α} :
    oH c (cb c 3) ⊢ iprop((oB m c (cb c 3) -∗ WP c (k ⟨⟩) Q) -∗ WP c (.op (.store (Memref.whole cc0_stg3_0 : Memref sig .tc .vmem S1x1024x1024 .f32)
      (Rect.unit (s := S1x1024x1024) (k0_off17 c 3#32) S1x256x1024.size inb) w Finset.univ hx hm) k) Q) :=
  stw (mr := (Memref.whole cc0_stg3_0 : Memref sig .tc .vmem S1x1024x1024 .f32)) (r := Rect.unit (s := S1x1024x1024) (k0_off17 c 3#32) S1x256x1024.size inb)
    _ _ (OUT m c) rfl rfl (by rw [View.set_slice_whole]; exact out_set c 3) (hw.trans (out_val m c (o17_3 c)))
/-- a load of the slot it goes to, whose value is not used, -/
theorem ldg (c : Dev nD) {inb : ∀ a, k0_off18 c a + S1x256x1024.size a ≤ S4x256x1024.size a} {hl}
    {k : Vec F S1x256x1024 .bf16 → Prog (TpuEff nD τ sig (Elt F) Λ₀ .tc) α} :
    agH c ⊢ iprop((∀ v, agH c -∗ WP c (k v) Q)
      -∗ WP c (.op (.load (Memref.whole cc0_scratch10 : Memref sig .tc .vmem S4x256x1024 .bf16) (Rect.unit (s := S4x256x1024) (k0_off18 c) S1x256x1024.size inb).toLoadRect hl) k) Q) :=
  ldd (mr := (Memref.whole cc0_scratch10 : Memref sig .tc .vmem S4x256x1024 .bf16)) (r := Rect.unit (s := S4x256x1024) (k0_off18 c) S1x256x1024.size inb)
    _ rfl (by rw [View.set_slice_whole]; exact ags_set c (o18 c))
/-- and the store there. -/
theorem stg49 (c : Dev nD) {inb : ∀ a, k0_off18 c a + S1x256x1024.size a ≤ S4x256x1024.size a} {hx hm} {w : Vec F S1x256x1024 .bf16}
    (hw : w = shapeCast S1x256x1024 (truncf .bf16 (red m 3 c) bitsLt_bf16_f32) shapeCasts_S256x1024_S1x256x1024) {k : PUnit → Prog (TpuEff nD τ sig (Elt F) Λ₀ .tc) α} :
    agH c ⊢ iprop((own c cc0_scratch10 (bx3 ((c.val + 1) % 4) ((c.val + 1) % 4 + 1) 0 256 0 1024 : Finset S4x256x1024.Idx) (AG m) -∗ WP c (k ⟨⟩) Q)
      -∗ WP c (.op (.store (Memref.whole cc0_scratch10 : Memref sig .tc .vmem S4x256x1024 .bf16)
      (Rect.unit (s := S4x256x1024) (k0_off18 c) S1x256x1024.size inb) w Finset.univ hx hm) k) Q) :=
  stw (mr := (Memref.whole cc0_scratch10 : Memref sig .tc .vmem S4x256x1024 .bf16)) (r := Rect.unit (s := S4x256x1024) (k0_off18 c) S1x256x1024.size inb)
    _ _ (AG m) rfl rfl (by rw [View.set_slice_whole]; exact ags_set c (o18 c)) (hw.trans (agv_val m c (o18 c)))

/-- A slot splits into two halves. -/
theorem agB_cut (c : Dev nD) (b : ℕ) : own c cc0_scratch10 (bx3 b (b + 1) 0 256 0 1024 : Finset S4x256x1024.Idx) (AG m) ⊢ iprop((agB m b 0).full c ∗ (agB m b 512).full c) :=
  (own_cut c cc0_scratch10 (cut2 b (b + 1) 0 256 0 512 1024 (by decide)) (AG m)).1

/-- Window 49 of the statements: what it takes and what it leaves. -/
theorem part49 (c : Dev nD) (u1 u2 u3 : BitVec 32) {Q : _ → sProp 𝕄} :
    iprop(oH c (cb c 3) ∗ (rbR m c 2).full c ∗ agH c
        ∗ (∀ u1 u2, oB m c (cb c 3) -∗ (rbR m c 2).full c -∗ (agB m ((c.val + 1) % 4) 0).full c -∗ (agB m ((c.val + 1) % 4) 512).full c -∗ Q ⟨u1, u2⟩))
      ⊢ WP c (app (k0_part49 (F := F)) c (w2 c) u1 u2 u3 (acc m c 3)) Q := by
  unfold app; rw [k0_part49_eq_skeleton]; unfold k0_part49_skel
  simp only [Prog.lift, Prog.bind_op, Prog.bind_ret, Prog.pure_eq_ret]
  iintro ⟨Ho, Hr, Ha, Hk⟩
  iapply (ldrb m c 2 rfl) $$ Hr; iintro Hr
  iapply (ldo c 3) $$ Ho; iintro %v Ho
  iapply (sto49 m c (by rw [← red_next m c 2 (by decide) rfl]; rfl)) $$ Ho; iintro Ho
  iapply (ldg c) $$ Ha; iintro %v2 Ha
  iapply (stg49 m c (by rw [← red_next m c 2 (by decide) rfl]; rfl)) $$ Ha; iintro Ha
  ihave Ha := (agB_cut m c ((c.val + 1) % 4)) $$ Ha
  icases Ha with ⟨Ha1, Ha2⟩
  iapply WP_ret; iapply Hk $$ Ho Hr Ha1 Ha2

/-! ## The hops of the all-gather -/

/-- Where the half moved at step 0 starts. -/
theorem o19_0 (c : Dev nD) : k0_off19 c 0#32 = ![(c.val + 1) % 4, 0, 0] := (k0_off19_eq c 0).trans (by revert c; decide)
/-- Where the half moved at step 1 starts. -/
theorem o19_1 (c : Dev nD) : k0_off19 c 1#32 = ![(c.val + 4) % 4, 0, 0] := (k0_off19_eq c 1).trans (by revert c; decide)
/-- Where the half moved at step 2 starts. -/
theorem o19_2 (c : Dev nD) : k0_off19 c 2#32 = ![(c.val + 3) % 4, 0, 0] := (k0_off19_eq c 2).trans (by revert c; decide)
/-- Where the half moved at step 0 starts. -/
theorem o20_0 (c : Dev nD) : k0_off20 c 0#32 = ![(c.val + 1) % 4, 0, 512] := (k0_off20_eq c 0).trans (by revert c; decide)
/-- Where the half moved at step 1 starts. -/
theorem o20_1 (c : Dev nD) : k0_off20 c 1#32 = ![(c.val + 2) % 4, 0, 512] := (k0_off20_eq c 1).trans (by revert c; decide)
/-- Where the half moved at step 2 starts. -/
theorem o20_2 (c : Dev nD) : k0_off20 c 2#32 = ![(c.val + 3) % 4, 0, 512] := (k0_off20_eq c 2).trans (by revert c; decide)
/-- Where the half moved at step 0 starts. -/
theorem o21_0 (c : Dev nD) : k0_off21 c 0#32 = ![(c.val + 4) % 4, 0, 0] := (k0_off21_eq c 0).trans (by revert c; decide)
/-- Where the half moved at step 1 starts. -/
theorem o21_1 (c : Dev nD) : k0_off21 c 1#32 = ![(c.val + 3) % 4, 0, 0] := (k0_off21_eq c 1).trans (by revert c; decide)
/-- Where the half moved at step 2 starts. -/
theorem o21_2 (c : Dev nD) : k0_off21 c 2#32 = ![(c.val + 2) % 4, 0, 0] := (k0_off21_eq c 2).trans (by revert c; decide)
/-- Where the half moved at step 0 starts. -/
theorem o22_0 (c : Dev nD) : k0_off22 c 0#32 = ![0, 256 * ((c.val + 4) % 4), 0] := (k0_off22_eq c 0).trans (by revert c; decide)
/-- Where the half moved at step 1 starts. -/
theorem o22_1 (c : Dev nD) : k0_off22 c 1#32 = ![0, 256 * ((c.val + 3) % 4), 0] := (k0_off22_eq c 1).trans (by revert c; decide)
/-- Where the half moved at step 2 starts. -/
theorem o22_2 (c : Dev nD) : k0_off22 c 2#32 = ![0, 256 * ((c.val + 2) % 4), 0] := (k0_off22_eq c 2).trans (by revert c; decide)
/-- Where the half moved at step 0 starts. -/
theorem o23_0 (c : Dev nD) : k0_off23 c 0#32 = ![(c.val + 2) % 4, 0, 512] := (k0_off23_eq c 0).trans (by revert c; decide)
/-- Where the half moved at step 1 starts. -/
theorem o23_1 (c : Dev nD) : k0_off23 c 1#32 = ![(c.val + 3) % 4, 0, 512] := (k0_off23_eq c 1).trans (by revert c; decide)
/-- Where the half moved at step 2 starts. -/
theorem o23_2 (c : Dev nD) : k0_off23 c 2#32 = ![(c.val + 4) % 4, 0, 512] := (k0_off23_eq c 2).trans (by revert c; decide)
/-- Where the half moved at step 0 starts. -/
theorem o24_0 (c : Dev nD) : k0_off24 c 0#32 = ![0, 256 * ((c.val + 2) % 4), 512] := (k0_off24_eq c 0).trans (by revert c; decide)
/-- Where the half moved at step 1 starts. -/
theorem o24_1 (c : Dev nD) : k0_off24 c 1#32 = ![0, 256 * ((c.val + 3) % 4), 512] := (k0_off24_eq c 1).trans (by revert c; decide)
/-- Where the half moved at step 2 starts. -/
theorem o24_2 (c : Dev nD) : k0_off24 c 2#32 = ![0, 256 * ((c.val + 4) % 4), 512] := (k0_off24_eq c 2).trans (by revert c; decide)
/-- Two slots differ. -/
theorem ne2 (c : Dev nD) : (c.val + 2) % 4 ≠ (c.val + 1) % 4 := by omega
/-- Two slots differ. -/
theorem ne3 (c : Dev nD) : (c.val + 3) % 4 ≠ (c.val + 1) % 4 := by omega
/-- Two slots differ. -/
theorem ne4 (c : Dev nD) : (c.val + 4) % 4 ≠ (c.val + 1) % 4 := by omega
/-- A remainder by 4 is below 4. -/
theorem lt4 (n : ℕ) : n % 4 < 4 := Nat.mod_lt _ (by decide)

/-- A landing on the next device's cell, by the sender's place. -/
theorem to_next (c : Dev nD) (x j k : ℕ) (hj : ((c.val + 1) % 4 + j) % 4 = (c.val + k) % 4) :
    agB m (((dv (c.val + 1)).val + j) % 4) x = agB m ((c.val + k) % 4) x := congrArg (fun b => agB m b x) hj
/-- A landing on the cell of the device before, by the sender's place. -/
theorem to_prev (c : Dev nD) (x j k : ℕ) (hj : ((c.val + 3) % 4 + j) % 4 = (c.val + k) % 4) :
    agB m (((dv (c.val + 3)).val + j) % 4) x = agB m ((c.val + k) % 4) x := congrArg (fun b => agB m b x) hj

/-- Window 50 of the statements: what it takes and what it leaves. -/
theorem part50 (c : Dev nD) (A : List Tr) (W : List Aw) (S : List Tr) (u1 u2 : BitVec 32) (hA : ∀ t ∈ A, 9 < t.lev ∧ t.lev < 12) {Q : _ → sProp 𝕄} :
    iprop(St m K X c (cw0 c :: cc0 c :: A) (⟨49, 9, 8192⟩ :: ⟨55, 9, 8192⟩ :: W) S ∗ (agB m ((c.val + 1) % 4) 0).full c ∗ (agB m ((c.val + 1) % 4) 512).full c
        ∗ (St m K X c A W (cc0 c :: cw0 c :: S) -∗ (agB m ((c.val + 4) % 4) 0).full c -∗ (agB m ((c.val + 2) % 4) 512).full c -∗ Q ⟨⟩))
      ⊢ WP c (app (k0_part50 (F := F)) c u1 u2) Q := by
  unfold app; rw [k0_part50_eq_skeleton]; unfold k0_part50_skel
  simp only [Prog.lift, Prog.bind_op, Prog.bind_ret, Prog.pure_eq_ret]
  iintro ⟨HS, Ha, Hb, Hk⟩
  iapply (send_ag m K X c _ (dv (c.val + 1)) ((c.val + 1) % 4) 0 9 (s := 46) (r := 49) (A := cc0 c :: A) (W := ⟨49, 9, 8192⟩ :: ⟨55, 9, 8192⟩ :: W) (S := S) (Fin.ext (k0_dev33_eq c)) rfl rfl rfl (to_next m c 0 4 1 (by omega)) (by clear hA; revert c; decide) (o19_0 c)) $$ [HS Ha]
  · isplitl [HS]; · iexact HS
    iexact Ha
  iintro HS
  iapply (send_ag m K X c _ (dv (c.val + 3)) ((c.val + 1) % 4) 512 9 (s := 52) (r := 55) (A := A) (W := ⟨49, 9, 8192⟩ :: ⟨55, 9, 8192⟩ :: W) (S := cw0 c :: S) (Fin.ext (k0_dev34_eq c)) rfl rfl rfl (to_prev m c 512 2 1 (by omega)) (by clear hA; revert c; decide) (o20_0 c)) $$ [HS Hb]
  · isplitl [HS]; · iexact HS
    iexact Hb
  iintro HS
  iapply (st_wt m K X 49 9 8192 (agB m ((c.val + 4) % 4) 0) rfl rfl (A := A) (W := ⟨55, 9, 8192⟩ :: W) (S := cc0 c :: cw0 c :: S) (by clear hA; revert c; decide) hA rfl) $$ HS
  iintro ⟨HS, Hp⟩
  iapply (st_wt m K X 55 9 8192 (agB m ((c.val + 2) % 4) 512) rfl rfl (A := A) (W := W) (S := cc0 c :: cw0 c :: S) (by clear hA; revert c; decide) hA rfl) $$ HS
  iintro ⟨HS, Hq⟩
  iapply WP_ret; iapply Hk $$ HS Hp Hq

/-- Window 51 of the statements: what it takes and what it leaves. -/
theorem part51 (c : Dev nD) (u1 u2 u3 : BitVec 32) {Q : _ → sProp 𝕄} :
    iprop((agB m ((c.val + 4) % 4) 0).full c ∗ (agB m ((c.val + 2) % 4) 512).full c ∗ hH c ((c.val + 4) % 4) 0 ∗ hH c ((c.val + 2) % 4) 512
        ∗ (∀ u1 u2 u3, (agB m ((c.val + 4) % 4) 0).full c -∗ (agB m ((c.val + 2) % 4) 512).full c -∗ hB m c ((c.val + 4) % 4) 0 -∗ hB m c ((c.val + 2) % 4) 512 -∗ Q ⟨u1, u2, u3⟩))
      ⊢ WP c (app (k0_part51 (F := F)) c (w2 c) u1 u2 u3) Q := by
  unfold app; rw [k0_part51_eq_skeleton]; unfold k0_part51_skel
  simp only [Prog.lift, Prog.bind_op, Prog.bind_ret, Prog.pure_eq_ret]
  iintro ⟨Hp, Hq, Ho, Hr, Hk⟩
  iapply (ldag m c _ 0 (o21_0 c)) $$ Hp; iintro Hp
  iapply (ldoh c _ 0 (o22_0 c)) $$ Ho; iintro %v1 Ho
  iapply (stoh m c _ 0 (o22_0 c) (half_val m c _ 0 (lt4 _) (ne4 c) (by decide) (o21_0 c) (o22_0 c))) $$ Ho; iintro Ho
  iapply (ldag m c _ 512 (o23_0 c)) $$ Hq; iintro Hq
  iapply (ldoh c _ 512 (o24_0 c)) $$ Hr; iintro %v2 Hr
  iapply (stoh m c _ 512 (o24_0 c) (half_val m c _ 512 (lt4 _) (ne2 c) (by decide) (o23_0 c) (o24_0 c))) $$ Hr; iintro Hr
  iapply WP_ret; iapply Hk $$ Hp Hq Ho Hr

/-- Window 52 of the statements: what it takes and what it leaves. -/
theorem part52 (c : Dev nD) (A : List Tr) (W : List Aw) (S : List Tr) (u1 u2 u3 : BitVec 32) (hA : ∀ t ∈ A, 10 < t.lev ∧ t.lev < 12) {Q : _ → sProp 𝕄} :
    iprop(St m K X c (cw1 c :: cc1 c :: A) (⟨50, 10, 8192⟩ :: W) S ∗ (agB m ((c.val + 4) % 4) 0).full c ∗ (agB m ((c.val + 2) % 4) 512).full c
        ∗ (St m K X c A W (cc1 c :: cw1 c :: S) -∗ (agB m ((c.val + 3) % 4) 0).full c -∗ Q ⟨⟩))
      ⊢ WP c (app (k0_part52 (F := F)) c u1 u2 u3) Q := by
  unfold app; rw [k0_part52_eq_skeleton]; unfold k0_part52_skel
  simp only [Prog.lift, Prog.bind_op, Prog.bind_ret, Prog.pure_eq_ret]
  iintro ⟨HS, Ha, Hb, Hk⟩
  iapply (send_ag m K X c _ (dv (c.val + 1)) ((c.val + 4) % 4) 0 10 (s := 47) (r := 50) (A := cc1 c :: A) (W := ⟨50, 10, 8192⟩ :: W) (S := S) (Fin.ext (k0_dev35_eq c)) rfl rfl rfl (to_next m c 0 3 4 (by omega)) (by clear hA; revert c; decide) (o19_1 c)) $$ [HS Ha]
  · isplitl [HS]; · iexact HS
    iexact Ha
  iintro HS
  iapply (send_ag m K X c _ (dv (c.val + 3)) ((c.val + 2) % 4) 512 10 (s := 53) (r := 56) (A := A) (W := ⟨50, 10, 8192⟩ :: W) (S := cw1 c :: S) (Fin.ext (k0_dev36_eq c)) rfl rfl rfl (to_prev m c 512 3 2 (by omega)) (by clear hA; revert c; decide) (o20_1 c)) $$ [HS Hb]
  · isplitl [HS]; · iexact HS
    iexact Hb
  iintro HS
  iapply (st_wt m K X 50 10 8192 (agB m ((c.val + 3) % 4) 0) rfl rfl (A := A) (W := W) (S := cc1 c :: cw1 c :: S) (by clear hA; revert c; decide) hA rfl) $$ HS
  iintro ⟨HS, Hp⟩
  iapply WP_ret; iapply Hk $$ HS Hp

/-- Window 53 of the statements: what it takes and what it leaves. -/
theorem part53 (c : Dev nD) (A : List Tr) (W : List Aw) (S : List Tr) (u1 u2 : BitVec 32) (hA : ∀ t ∈ A, 10 < t.lev ∧ t.lev < 12) {Q : _ → sProp 𝕄} :
    iprop(St m K X c A (⟨56, 10, 8192⟩ :: W) S ∗ (agB m ((c.val + 3) % 4) 0).full c ∗ hH c ((c.val + 3) % 4) 0 ∗ hH c ((c.val + 3) % 4) 512
        ∗ (∀ u1 u2, St m K X c A W S -∗ (agB m ((c.val + 3) % 4) 0).full c -∗ (agB m ((c.val + 3) % 4) 512).full c -∗ hB m c ((c.val + 3) % 4) 0 -∗ hB m c ((c.val + 3) % 4) 512 -∗ Q ⟨u1, u2⟩))
      ⊢ WP c (app (k0_part53 (F := F)) c (w2 c) u1 u2) Q := by
  unfold app; rw [k0_part53_eq_skeleton]; unfold k0_part53_skel
  simp only [Prog.lift, Prog.bind_op, Prog.bind_ret, Prog.pure_eq_ret]
  iintro ⟨HS, Hp, Ho, Hr, Hk⟩
  iapply (st_wt m K X 56 10 8192 (agB m ((c.val + 3) % 4) 512) rfl rfl (A := A) (W := W) (S := S) (by clear hA; revert c; decide) hA rfl) $$ HS
  iintro ⟨HS, Hq⟩
  iapply (ldag m c _ 0 (o21_1 c)) $$ Hp; iintro Hp
  iapply (ldoh c _ 0 (o22_1 c)) $$ Ho; iintro %v1 Ho
  iapply (stoh m c _ 0 (o22_1 c) (half_val m c _ 0 (lt4 _) (ne3 c) (by decide) (o21_1 c) (o22_1 c))) $$ Ho; iintro Ho
  iapply (ldag m c _ 512 (o23_1 c)) $$ Hq; iintro Hq
  iapply (ldoh c _ 512 (o24_1 c)) $$ Hr; iintro %v2 Hr
  iapply (stoh m c _ 512 (o24_1 c) (half_val m c _ 512 (lt4 _) (ne3 c) (by decide) (o23_1 c) (o24_1 c))) $$ Hr; iintro Hr
  iapply WP_ret; iapply Hk $$ HS Hp Hq Ho Hr

/-- Window 54 of the statements: what it takes and what it leaves. -/
theorem part54 (c : Dev nD) (A : List Tr) (W : List Aw) (S : List Tr) (u1 u2 u3 : BitVec 32) (hA : ∀ t ∈ A, 11 < t.lev ∧ t.lev < 12) {Q : _ → sProp 𝕄} :
    iprop(St m K X c (cw2 c :: cc2 c :: A) (⟨51, 11, 8192⟩ :: W) S ∗ (agB m ((c.val + 3) % 4) 0).full c ∗ (agB m ((c.val + 3) % 4) 512).full c
        ∗ (∀ u1, St m K X c A W (cc2 c :: cw2 c :: S) -∗ (agB m ((c.val + 2) % 4) 0).full c -∗ Q u1))
      ⊢ WP c (app (k0_part54 (F := F)) c u1 u2 u3) Q := by
  unfold app; rw [k0_part54_eq_skeleton]; unfold k0_part54_skel
  simp only [Prog.lift, Prog.bind_op, Prog.bind_ret, Prog.pure_eq_ret]
  iintro ⟨HS, Ha, Hb, Hk⟩
  iapply (send_ag m K X c _ (dv (c.val + 1)) ((c.val + 3) % 4) 0 11 (s := 48) (r := 51) (A := cc2 c :: A) (W := ⟨51, 11, 8192⟩ :: W) (S := S) (Fin.ext (k0_dev37_eq c)) rfl rfl rfl (to_next m c 0 2 3 (by omega)) (by clear hA; revert c; decide) (o19_2 c)) $$ [HS Ha]
  · isplitl [HS]; · iexact HS
    iexact Ha
  iintro HS
  iapply (send_ag m K X c _ (dv (c.val + 3)) ((c.val + 3) % 4) 512 11 (s := 54) (r := 57) (A := A) (W := ⟨51, 11, 8192⟩ :: W) (S := cw2 c :: S) (Fin.ext (k0_dev38_eq c)) rfl rfl rfl (to_prev m c 512 4 3 (by omega)) (by clear hA; revert c; decide) (o20_2 c)) $$ [HS Hb]
  · isplitl [HS]; · iexact HS
    iexact Hb
  iintro HS
  iapply (st_wt m K X 51 11 8192 (agB m ((c.val + 2) % 4) 0) rfl rfl (A := A) (W := W) (S := cc2 c :: cw2 c :: S) (by clear hA; revert c; decide) hA rfl) $$ HS
  iintro ⟨HS, Hp⟩
  iapply WP_ret; iapply Hk $$ HS Hp

/-- Window 55 of the statements: what it takes and what it leaves. -/
theorem part55 (c : Dev nD) (A : List Tr) (W : List Aw) (S : List Tr) (u1 u2 u3 : BitVec 32) (hA : ∀ t ∈ A, 11 < t.lev ∧ t.lev < 12) {Q : _ → sProp 𝕄} :
    iprop(St m K X c A (⟨57, 11, 8192⟩ :: W) S ∗ (agB m ((c.val + 2) % 4) 0).full c ∗ hH c ((c.val + 2) % 4) 0 ∗ hH c ((c.val + 4) % 4) 512
        ∗ (St m K X c A W S -∗ (agB m ((c.val + 2) % 4) 0).full c -∗ (agB m ((c.val + 4) % 4) 512).full c -∗ hB m c ((c.val + 2) % 4) 0 -∗ hB m c ((c.val + 4) % 4) 512 -∗ Q ⟨⟩))
      ⊢ WP c (app (k0_part55 (F := F)) c u1 u2 u3) Q := by
  unfold app; rw [k0_part55_eq_skeleton]; unfold k0_part55_skel
  simp only [Prog.lift, Prog.bind_op, Prog.bind_ret, Prog.pure_eq_ret]
  iintro ⟨HS, Hp, Ho, Hr, Hk⟩
  iapply (st_wt m K X 57 11 8192 (agB m ((c.val + 4) % 4) 512) rfl rfl (A := A) (W := W) (S := S) (by clear hA; revert c; decide) hA rfl) $$ HS
  iintro ⟨HS, Hq⟩
  iapply (ldag m c _ 0 (o21_2 c)) $$ Hp; iintro Hp
  iapply (ldoh c _ 0 (o22_2 c)) $$ Ho; iintro %v1 Ho
  iapply (stoh m c _ 0 (o22_2 c) (half_val m c _ 0 (lt4 _) (ne2 c) (by decide) (o21_2 c) (o22_2 c))) $$ Ho; iintro Ho
  iapply (ldag m c _ 512 (o23_2 c)) $$ Hq; iintro Hq
  iapply (ldoh c _ 512 (o24_2 c)) $$ Hr; iintro %v2 Hr
  iapply (stoh m c _ 512 (o24_2 c) (half_val m c _ 512 (lt4 _) (ne4 c) (by decide) (o23_2 c) (o24_2 c))) $$ Hr; iintro Hr
  iapply WP_ret; iapply Hk $$ HS Hp Hq Ho Hr

end Cert.KernelIdealProof
-- ==== Proof.KI.Send.lean ====
/-
Device 0 and device 1 hold the rows of K and V that the attention needs: each is copied, rounded into a staging buffer, and
its heads are sent to the devices that use them.
-/
module

public import proofs.«01_k».proof.Proof.KI.Gather
public import Idealize.ShloMosaic.Lib.Transfers

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ) (X : sProp (MT nD τ sig ℕ (Elt F) ℕ UU ℕ))
variable {α : Type} {Q : α → sProp (MT nD τ sig ℕ (Elt F) ℕ UU ℕ)}

/-! ## Sending part of a buffer -/

/-- Device `p`'s staging buffer of K, rows `a` to `a'` of the eight heads from `h`; and of V. -/
abbrev kG (p : Dev nD) (a a' h : ℕ) : Reg F := ⟨cc0_scratch5, (bx3 a a' h (h + 8) 0 128 : Finset S1024x32x128.Idx), kc m p⟩
/-- Rows of eight heads in device `p`'s V staging buffer. -/
abbrev vG (p : Dev nD) (a a' h : ℕ) : Reg F := ⟨cc0_scratch6, (bx3 a a' h (h + 8) 0 128 : Finset S1024x32x128.Idx), vc m p⟩

/-- Row `a2 + i` of the window buffer of device `d` is row `a + i` of what device `p` sends it. -/
theorem ext_read (f : Dev nD → FVec F S1024x32x128 .bf16) (p d : Dev nD) (k a h a2 : ℕ) (hp : (p = 0 ∧ a2 = a ∧ a + k ≤ 1024 ∨ p = 1 ∧ a2 = a + 1024) ∧ h = 8 * d.val)
    {off off2 : Fin 3 → ℕ} (ho : off = ![a, h, 0]) (ho2 : off2 = ![a2, 0, 0])
    {inb : ∀ x, off x + (⟨3, ![k, 8, 128]⟩ : Shape).size x ≤ S1024x32x128.size x} {inb2 : ∀ x, off2 x + (⟨3, ![k, 8, 128]⟩ : Shape).size x ≤ S1152x8x128.size x}
    (j : (⟨3, ![k, 8, 128]⟩ : Shape).Idx) :
    f p ((Rect.unit (s := S1024x32x128) off (⟨3, ![k, 8, 128]⟩ : Shape).size inb).emb j) = ext f d ((Rect.unit (s := S1152x8x128) off2 (⟨3, ![k, 8, 128]⟩ : Shape).size inb2).emb j) := by
  subst ho ho2
  obtain ⟨hp, rfl⟩ := hp
  have hj : (j 0).val < k := (j 0).isLt
  rw [g3_eq (f p) _ (a + (j 0).val) (8 * d.val + (j 1).val) (j 2).val (ValueKit.rect_emb_unit_val ..) (ValueKit.rect_emb_unit_val ..)
    ((ValueKit.rect_emb_unit_val ..).trans (Nat.zero_add _))]
  have e0 : ((Rect.unit (s := S1152x8x128) ![a2, 0, 0] (⟨3, ![k, 8, 128]⟩ : Shape).size inb2).emb j 0 : ℕ) = a2 + (j 0).val := ValueKit.rect_emb_unit_val ..
  have e1 : ((Rect.unit (s := S1152x8x128) ![a2, 0, 0] (⟨3, ![k, 8, 128]⟩ : Shape).size inb2).emb j 1 : ℕ) = (j 1).val := (ValueKit.rect_emb_unit_val ..).trans (Nat.zero_add _)
  have e2 : ((Rect.unit (s := S1152x8x128) ![a2, 0, 0] (⟨3, ![k, 8, 128]⟩ : Shape).size inb2).emb j 2 : ℕ) = (j 2).val := (ValueKit.rect_emb_unit_val ..).trans (Nat.zero_add _)
  unfold ext
  rw [e0, e1, e2]
  obtain ⟨rfl, rfl, h⟩ | ⟨rfl, rfl⟩ := hp
  · rw [if_pos (by omega)]
  · rw [if_neg (by omega), show a + 1024 + (j 0).val - 1024 = a + (j 0).val by omega]

/-- What device 1 and device 3 relay, read where it was staged. -/
theorem rl_read (f : FVec F S1024x32x128 .bf16) (k a : ℕ)
    {off off2 : Fin 3 → ℕ} (ho : off = ![a, 16, 0]) (ho2 : off2 = ![a, 0, 0])
    {inb : ∀ x, off x + (⟨3, ![k, 8, 128]⟩ : Shape).size x ≤ S1024x32x128.size x} {inb2 : ∀ x, off2 x + (⟨3, ![k, 8, 128]⟩ : Shape).size x ≤ S1024x8x128.size x}
    (j : (⟨3, ![k, 8, 128]⟩ : Shape).Idx) :
    f ((Rect.unit (s := S1024x32x128) off (⟨3, ![k, 8, 128]⟩ : Shape).size inb).emb j)
      = (fun i : S1024x8x128.Idx => g3 f (i 0).val (16 + (i 1).val) (i 2).val) ((Rect.unit (s := S1024x8x128) off2 (⟨3, ![k, 8, 128]⟩ : Shape).size inb2).emb j) := by
  subst ho ho2
  have e0 : ((Rect.unit (s := S1024x8x128) ![a, 0, 0] (⟨3, ![k, 8, 128]⟩ : Shape).size inb2).emb j 0 : ℕ) = a + (j 0).val := ValueKit.rect_emb_unit_val ..
  have e1 : ((Rect.unit (s := S1024x8x128) ![a, 0, 0] (⟨3, ![k, 8, 128]⟩ : Shape).size inb2).emb j 1 : ℕ) = (j 1).val := (ValueKit.rect_emb_unit_val ..).trans (Nat.zero_add _)
  have e2 : ((Rect.unit (s := S1024x8x128) ![a, 0, 0] (⟨3, ![k, 8, 128]⟩ : Shape).size inb2).emb j 2 : ℕ) = (j 2).val := (ValueKit.rect_emb_unit_val ..).trans (Nat.zero_add _)
  show _ = g3 f _ _ _
  rw [e0, e1, e2]
  exact g3_eq f _ _ _ _ (ValueKit.rect_emb_unit_val ..) (ValueKit.rect_emb_unit_val ..) ((ValueKit.rect_emb_unit_val ..).trans (Nat.zero_add _))

/-- What is relayed is what device 2 is to hold. -/
theorem fw_read (f : Dev nD → FVec F S1024x32x128 .bf16) (g : FVec F S1024x8x128 .bf16) (d : Dev nD) (k a : ℕ)
    (hp : d = 2 ∧ a + k ≤ 1024 ∧ g = fun i : S1024x8x128.Idx => g3 (f 0) (i 0).val (16 + (i 1).val) (i 2).val)
    {off off2 : Fin 3 → ℕ} (ho : off = ![a, 0, 0]) (ho2 : off2 = ![a, 0, 0])
    {inb : ∀ x, off x + (⟨3, ![k, 8, 128]⟩ : Shape).size x ≤ S1024x8x128.size x} {inb2 : ∀ x, off2 x + (⟨3, ![k, 8, 128]⟩ : Shape).size x ≤ S1152x8x128.size x}
    (j : (⟨3, ![k, 8, 128]⟩ : Shape).Idx) :
    g ((Rect.unit (s := S1024x8x128) off (⟨3, ![k, 8, 128]⟩ : Shape).size inb).emb j) = ext f d ((Rect.unit (s := S1152x8x128) off2 (⟨3, ![k, 8, 128]⟩ : Shape).size inb2).emb j) := by
  subst ho ho2
  obtain ⟨rfl, hk, rfl⟩ := hp
  have hj : (j 0).val < k := (j 0).isLt
  have e0 : ((Rect.unit (s := S1024x8x128) ![a, 0, 0] (⟨3, ![k, 8, 128]⟩ : Shape).size inb).emb j 0 : ℕ) = a + (j 0).val := ValueKit.rect_emb_unit_val ..
  have e1 : ((Rect.unit (s := S1024x8x128) ![a, 0, 0] (⟨3, ![k, 8, 128]⟩ : Shape).size inb).emb j 1 : ℕ) = (j 1).val := (ValueKit.rect_emb_unit_val ..).trans (Nat.zero_add _)
  have e2 : ((Rect.unit (s := S1024x8x128) ![a, 0, 0] (⟨3, ![k, 8, 128]⟩ : Shape).size inb).emb j 2 : ℕ) = (j 2).val := (ValueKit.rect_emb_unit_val ..).trans (Nat.zero_add _)
  have g0 : ((Rect.unit (s := S1152x8x128) ![a, 0, 0] (⟨3, ![k, 8, 128]⟩ : Shape).size inb2).emb j 0 : ℕ) = a + (j 0).val := ValueKit.rect_emb_unit_val ..
  have g1 : ((Rect.unit (s := S1152x8x128) ![a, 0, 0] (⟨3, ![k, 8, 128]⟩ : Shape).size inb2).emb j 1 : ℕ) = (j 1).val := (ValueKit.rect_emb_unit_val ..).trans (Nat.zero_add _)
  have g2 : ((Rect.unit (s := S1152x8x128) ![a, 0, 0] (⟨3, ![k, 8, 128]⟩ : Shape).size inb2).emb j 2 : ℕ) = (j 2).val := (ValueKit.rect_emb_unit_val ..).trans (Nat.zero_add _)
  unfold ext
  rw [g0, g1, g2, if_pos (by omega)]
  show g3 (f 0) _ _ _ = _
  rw [e0, e1, e2]
  rfl

/-- Sending rows of K to the window buffer of the device that uses the heads. -/
theorem send_kk (c n : Dev nD) (t : Tr) (p : Dev nD) (k a h a2 : ℕ) {A : List Tr} {W : List Aw} {S : List Tr} {sS sR : Fin 58} (hn : n = t.d) (hs : sS = t.s) (hr : sR = t.r)
    (h1 : reg m c t.s.val = kG m p a (a + k) h) (h2 : reg m t.d t.r.val = kbR m t.d a2 (a2 + k))
    (hu : t.s ∈ used c ∧ t.r ∈ used t.d ∧ amt c t.s = t.N ∧ amt t.d t.r = t.N ∧ 0 < t.N)
    (hp : (p = 0 ∧ a2 = a ∧ a + k ≤ 1024 ∨ p = 1 ∧ a2 = a + 1024) ∧ h = 8 * t.d.val)
    {off off2 : Fin 3 → ℕ} (ho : off = ![a, h, 0]) (ho2 : off2 = ![a2, 0, 0])
    {inb : ∀ x, off x + (⟨3, ![k, 8, 128]⟩ : Shape).size x ≤ S1024x32x128.size x} {inb2 : ∀ x, off2 x + (⟨3, ![k, 8, 128]⟩ : Shape).size x ≤ S1152x8x128.size x} {hs1 hs2 hsc h3 h4 h5}
    (hN : ((Memref.whole cc0_scratch0 : Memref sig .tc .vmem S1152x8x128 .bf16).slice (Rect.unit (s := S1152x8x128) off2 (⟨3, ![k, 8, 128]⟩ : Shape).size inb2) hs2).view.dmaCredit = t.N)
    {k' : PUnit → Prog (TpuEff nD τ sig (Elt F) Λ₀ .tc) α} :
    iprop(St m K X c (t :: A) W S ∗ (kG m p a (a + k) h : Reg F).full c)
      ⊢ iprop((St m K X c A W (t :: S) -∗ WP c (k' ⟨⟩) Q)
        -∗ WP c (.op (.enqueueDma ((Memref.whole cc0_scratch5 : Memref sig .tc .vmem S1024x32x128 .bf16).slice (Rect.unit (s := S1024x32x128) off (⟨3, ![k, 8, 128]⟩ : Shape).size inb) hs1)
          (.remote (Dev.tc n : Thread nD τ) ((Memref.whole cc0_scratch0 : Memref sig .tc .vmem S1152x8x128 .bf16).slice (Rect.unit (s := S1152x8x128) off2 (⟨3, ![k, 8, 128]⟩ : Shape).size inb2) hs2)
            (.dma (sS : DmaSem sig)) hsc) (.dma (sR : DmaSem sig)) h3 h4 h5) k') Q) := by
  have hA : (((Memref.whole cc0_scratch5 : Memref sig .tc .vmem S1024x32x128 .bf16).slice (Rect.unit (s := S1024x32x128) off (⟨3, ![k, 8, 128]⟩ : Shape).size inb) hs1).view).set
      = (bx3 a (a + k) h (h + 8) 0 128 : Finset S1024x32x128.Idx) := (View.set_slice_whole cc0_scratch5 _).trans (box_set ho ⟨rfl, rfl, rfl, rfl, rfl, rfl⟩)
  have hB : (((Memref.whole cc0_scratch0 : Memref sig .tc .vmem S1152x8x128 .bf16).slice (Rect.unit (s := S1152x8x128) off2 (⟨3, ![k, 8, 128]⟩ : Shape).size inb2) hs2).view).set
      = (bx3 a2 (a2 + k) 0 8 0 128 : Finset S1152x8x128.Idx) := (View.set_slice_whole cc0_scratch0 _).trans (box_set ho2 ⟨rfl, rfl, rfl, rfl, rfl, rfl⟩)
  iintro ⟨HS, Hr⟩ Hk
  iapply (st_send m K X (A := A) (W := W) (S := S) (t := t) hn hs hr (kc m p) (KB m t.d)
    hu hN
    ((congrArg (Reg.full c) h1).trans (by rw [hA]; rfl))
    ((Entails.of_eq (congrArg (Reg.hole t.d) h2)).trans (by rw [hB]; exact BI.Entails.refl _))
    ((congrArg (Reg.full t.d) h2).trans (by rw [hB]; rfl))
    (by exact funext fun j => ext_read (kc m) p t.d k a h a2 hp ho ho2 j)) $$ [HS Hr]
  · isplitl [HS]; · iexact HS
    iapply (Entails.of_eq (show (kG m p a (a + k) h : Reg F).full c = pay m c t.s.val by unfold pay; rw [h1])); iexact Hr
  iexact Hk

/-- Sending rows of V to the window buffer of the device that uses the heads. -/
theorem send_vv (c n : Dev nD) (t : Tr) (p : Dev nD) (k a h a2 : ℕ) {A : List Tr} {W : List Aw} {S : List Tr} {sS sR : Fin 58} (hn : n = t.d) (hs : sS = t.s) (hr : sR = t.r)
    (h1 : reg m c t.s.val = vG m p a (a + k) h) (h2 : reg m t.d t.r.val = vbR m t.d a2 (a2 + k))
    (hu : t.s ∈ used c ∧ t.r ∈ used t.d ∧ amt c t.s = t.N ∧ amt t.d t.r = t.N ∧ 0 < t.N)
    (hp : (p = 0 ∧ a2 = a ∧ a + k ≤ 1024 ∨ p = 1 ∧ a2 = a + 1024) ∧ h = 8 * t.d.val)
    {off off2 : Fin 3 → ℕ} (ho : off = ![a, h, 0]) (ho2 : off2 = ![a2, 0, 0])
    {inb : ∀ x, off x + (⟨3, ![k, 8, 128]⟩ : Shape).size x ≤ S1024x32x128.size x} {inb2 : ∀ x, off2 x + (⟨3, ![k, 8, 128]⟩ : Shape).size x ≤ S1152x8x128.size x} {hs1 hs2 hsc h3 h4 h5}
    (hN : ((Memref.whole cc0_scratch1 : Memref sig .tc .vmem S1152x8x128 .bf16).slice (Rect.unit (s := S1152x8x128) off2 (⟨3, ![k, 8, 128]⟩ : Shape).size inb2) hs2).view.dmaCredit = t.N)
    {k' : PUnit → Prog (TpuEff nD τ sig (Elt F) Λ₀ .tc) α} :
    iprop(St m K X c (t :: A) W S ∗ (vG m p a (a + k) h : Reg F).full c)
      ⊢ iprop((St m K X c A W (t :: S) -∗ WP c (k' ⟨⟩) Q)
        -∗ WP c (.op (.enqueueDma ((Memref.whole cc0_scratch6 : Memref sig .tc .vmem S1024x32x128 .bf16).slice (Rect.unit (s := S1024x32x128) off (⟨3, ![k, 8, 128]⟩ : Shape).size inb) hs1)
          (.remote (Dev.tc n : Thread nD τ) ((Memref.whole cc0_scratch1 : Memref sig .tc .vmem S1152x8x128 .bf16).slice (Rect.unit (s := S1152x8x128) off2 (⟨3, ![k, 8, 128]⟩ : Shape).size inb2) hs2)
            (.dma (sS : DmaSem sig)) hsc) (.dma (sR : DmaSem sig)) h3 h4 h5) k') Q) := by
  have hA : (((Memref.whole cc0_scratch6 : Memref sig .tc .vmem S1024x32x128 .bf16).slice (Rect.unit (s := S1024x32x128) off (⟨3, ![k, 8, 128]⟩ : Shape).size inb) hs1).view).set
      = (bx3 a (a + k) h (h + 8) 0 128 : Finset S1024x32x128.Idx) := (View.set_slice_whole cc0_scratch6 _).trans (box_set ho ⟨rfl, rfl, rfl, rfl, rfl, rfl⟩)
  have hB : (((Memref.whole cc0_scratch1 : Memref sig .tc .vmem S1152x8x128 .bf16).slice (Rect.unit (s := S1152x8x128) off2 (⟨3, ![k, 8, 128]⟩ : Shape).size inb2) hs2).view).set
      = (bx3 a2 (a2 + k) 0 8 0 128 : Finset S1152x8x128.Idx) := (View.set_slice_whole cc0_scratch1 _).trans (box_set ho2 ⟨rfl, rfl, rfl, rfl, rfl, rfl⟩)
  iintro ⟨HS, Hr⟩ Hk
  iapply (st_send m K X (A := A) (W := W) (S := S) (t := t) hn hs hr (vc m p) (VB m t.d)
    hu hN
    ((congrArg (Reg.full c) h1).trans (by rw [hA]; rfl))
    ((Entails.of_eq (congrArg (Reg.hole t.d) h2)).trans (by rw [hB]; exact BI.Entails.refl _))
    ((congrArg (Reg.full t.d) h2).trans (by rw [hB]; rfl))
    (by exact funext fun j => ext_read (vc m) p t.d k a h a2 hp ho ho2 j)) $$ [HS Hr]
  · isplitl [HS]; · iexact HS
    iapply (Entails.of_eq (show (vG m p a (a + k) h : Reg F).full c = pay m c t.s.val by unfold pay; rw [h1])); iexact Hr
  iexact Hk

/-- Sending rows of K to the device that relays them. -/
theorem send_kr (c n : Dev nD) (t : Tr) (k a : ℕ) {A : List Tr} {W : List Aw} {S : List Tr} {sS sR : Fin 58} (hn : n = t.d) (hs : sS = t.s) (hr : sR = t.r)
    (h1 : reg m c t.s.val = kG m 0 a (a + k) 16) (h2 : reg m t.d t.r.val = rlR m t.d a (a + k))
    (hu : t.s ∈ used c ∧ t.r ∈ used t.d ∧ amt c t.s = t.N ∧ amt t.d t.r = t.N ∧ 0 < t.N)
    (hp : RL m t.d = fun i : S1024x8x128.Idx => g3 (kc m 0) (i 0).val (16 + (i 1).val) (i 2).val)
    {off off2 : Fin 3 → ℕ} (ho : off = ![a, 16, 0]) (ho2 : off2 = ![a, 0, 0])
    {inb : ∀ x, off x + (⟨3, ![k, 8, 128]⟩ : Shape).size x ≤ S1024x32x128.size x} {inb2 : ∀ x, off2 x + (⟨3, ![k, 8, 128]⟩ : Shape).size x ≤ S1024x8x128.size x} {hs1 hs2 hsc h3 h4 h5}
    (hN : ((Memref.whole cc0_scratch7 : Memref sig .tc .vmem S1024x8x128 .bf16).slice (Rect.unit (s := S1024x8x128) off2 (⟨3, ![k, 8, 128]⟩ : Shape).size inb2) hs2).view.dmaCredit = t.N)
    {k' : PUnit → Prog (TpuEff nD τ sig (Elt F) Λ₀ .tc) α} :
    iprop(St m K X c (t :: A) W S ∗ (kG m 0 a (a + k) 16 : Reg F).full c)
      ⊢ iprop((St m K X c A W (t :: S) -∗ WP c (k' ⟨⟩) Q)
        -∗ WP c (.op (.enqueueDma ((Memref.whole cc0_scratch5 : Memref sig .tc .vmem S1024x32x128 .bf16).slice (Rect.unit (s := S1024x32x128) off (⟨3, ![k, 8, 128]⟩ : Shape).size inb) hs1)
          (.remote (Dev.tc n : Thread nD τ) ((Memref.whole cc0_scratch7 : Memref sig .tc .vmem S1024x8x128 .bf16).slice (Rect.unit (s := S1024x8x128) off2 (⟨3, ![k, 8, 128]⟩ : Shape).size inb2) hs2)
            (.dma (sS : DmaSem sig)) hsc) (.dma (sR : DmaSem sig)) h3 h4 h5) k') Q) := by
  have hA : (((Memref.whole cc0_scratch5 : Memref sig .tc .vmem S1024x32x128 .bf16).slice (Rect.unit (s := S1024x32x128) off (⟨3, ![k, 8, 128]⟩ : Shape).size inb) hs1).view).set
      = (bx3 a (a + k) 16 24 0 128 : Finset S1024x32x128.Idx) := (View.set_slice_whole cc0_scratch5 _).trans (box_set ho ⟨rfl, rfl, rfl, rfl, rfl, rfl⟩)
  have hB : (((Memref.whole cc0_scratch7 : Memref sig .tc .vmem S1024x8x128 .bf16).slice (Rect.unit (s := S1024x8x128) off2 (⟨3, ![k, 8, 128]⟩ : Shape).size inb2) hs2).view).set
      = (bx3 a (a + k) 0 8 0 128 : Finset S1024x8x128.Idx) := (View.set_slice_whole cc0_scratch7 _).trans (box_set ho2 ⟨rfl, rfl, rfl, rfl, rfl, rfl⟩)
  iintro ⟨HS, Hr⟩ Hk
  iapply (st_send m K X (A := A) (W := W) (S := S) (t := t) hn hs hr (kc m 0) (RL m t.d)
    hu hN
    ((congrArg (Reg.full c) h1).trans (by rw [hA]; rfl))
    ((Entails.of_eq (congrArg (Reg.hole t.d) h2)).trans (by rw [hB]; exact BI.Entails.refl _))
    ((congrArg (Reg.full t.d) h2).trans (by rw [hB]; rfl))
    (by exact funext fun j => (rl_read (kc m 0) k a ho ho2 j).trans (congrFun hp _).symm)) $$ [HS Hr]
  · isplitl [HS]; · iexact HS
    iapply (Entails.of_eq (show (kG m 0 a (a + k) 16 : Reg F).full c = pay m c t.s.val by unfold pay; rw [h1])); iexact Hr
  iexact Hk

/-- Sending rows of V to the device that relays them. -/
theorem send_vr (c n : Dev nD) (t : Tr) (k a : ℕ) {A : List Tr} {W : List Aw} {S : List Tr} {sS sR : Fin 58} (hn : n = t.d) (hs : sS = t.s) (hr : sR = t.r)
    (h1 : reg m c t.s.val = vG m 0 a (a + k) 16) (h2 : reg m t.d t.r.val = rlR m t.d a (a + k))
    (hu : t.s ∈ used c ∧ t.r ∈ used t.d ∧ amt c t.s = t.N ∧ amt t.d t.r = t.N ∧ 0 < t.N)
    (hp : RL m t.d = fun i : S1024x8x128.Idx => g3 (vc m 0) (i 0).val (16 + (i 1).val) (i 2).val)
    {off off2 : Fin 3 → ℕ} (ho : off = ![a, 16, 0]) (ho2 : off2 = ![a, 0, 0])
    {inb : ∀ x, off x + (⟨3, ![k, 8, 128]⟩ : Shape).size x ≤ S1024x32x128.size x} {inb2 : ∀ x, off2 x + (⟨3, ![k, 8, 128]⟩ : Shape).size x ≤ S1024x8x128.size x} {hs1 hs2 hsc h3 h4 h5}
    (hN : ((Memref.whole cc0_scratch7 : Memref sig .tc .vmem S1024x8x128 .bf16).slice (Rect.unit (s := S1024x8x128) off2 (⟨3, ![k, 8, 128]⟩ : Shape).size inb2) hs2).view.dmaCredit = t.N)
    {k' : PUnit → Prog (TpuEff nD τ sig (Elt F) Λ₀ .tc) α} :
    iprop(St m K X c (t :: A) W S ∗ (vG m 0 a (a + k) 16 : Reg F).full c)
      ⊢ iprop((St m K X c A W (t :: S) -∗ WP c (k' ⟨⟩) Q)
        -∗ WP c (.op (.enqueueDma ((Memref.whole cc0_scratch6 : Memref sig .tc .vmem S1024x32x128 .bf16).slice (Rect.unit (s := S1024x32x128) off (⟨3, ![k, 8, 128]⟩ : Shape).size inb) hs1)
          (.remote (Dev.tc n : Thread nD τ) ((Memref.whole cc0_scratch7 : Memref sig .tc .vmem S1024x8x128 .bf16).slice (Rect.unit (s := S1024x8x128) off2 (⟨3, ![k, 8, 128]⟩ : Shape).size inb2) hs2)
            (.dma (sS : DmaSem sig)) hsc) (.dma (sR : DmaSem sig)) h3 h4 h5) k') Q) := by
  have hA : (((Memref.whole cc0_scratch6 : Memref sig .tc .vmem S1024x32x128 .bf16).slice (Rect.unit (s := S1024x32x128) off (⟨3, ![k, 8, 128]⟩ : Shape).size inb) hs1).view).set
      = (bx3 a (a + k) 16 24 0 128 : Finset S1024x32x128.Idx) := (View.set_slice_whole cc0_scratch6 _).trans (box_set ho ⟨rfl, rfl, rfl, rfl, rfl, rfl⟩)
  have hB : (((Memref.whole cc0_scratch7 : Memref sig .tc .vmem S1024x8x128 .bf16).slice (Rect.unit (s := S1024x8x128) off2 (⟨3, ![k, 8, 128]⟩ : Shape).size inb2) hs2).view).set
      = (bx3 a (a + k) 0 8 0 128 : Finset S1024x8x128.Idx) := (View.set_slice_whole cc0_scratch7 _).trans (box_set ho2 ⟨rfl, rfl, rfl, rfl, rfl, rfl⟩)
  iintro ⟨HS, Hr⟩ Hk
  iapply (st_send m K X (A := A) (W := W) (S := S) (t := t) hn hs hr (vc m 0) (RL m t.d)
    hu hN
    ((congrArg (Reg.full c) h1).trans (by rw [hA]; rfl))
    ((Entails.of_eq (congrArg (Reg.hole t.d) h2)).trans (by rw [hB]; exact BI.Entails.refl _))
    ((congrArg (Reg.full t.d) h2).trans (by rw [hB]; rfl))
    (by exact funext fun j => (rl_read (vc m 0) k a ho ho2 j).trans (congrFun hp _).symm)) $$ [HS Hr]
  · isplitl [HS]; · iexact HS
    iapply (Entails.of_eq (show (vG m 0 a (a + k) 16 : Reg F).full c = pay m c t.s.val by unfold pay; rw [h1])); iexact Hr
  iexact Hk

/-- Sending relayed rows of K on to device 2. -/
theorem send_rk (c n : Dev nD) (t : Tr) (k a : ℕ) {A : List Tr} {W : List Aw} {S : List Tr} {sS sR : Fin 58} (hn : n = t.d) (hs : sS = t.s) (hr : sR = t.r)
    (h1 : reg m c t.s.val = rlR m c a (a + k)) (h2 : reg m t.d t.r.val = kbR m t.d a (a + k))
    (hu : t.s ∈ used c ∧ t.r ∈ used t.d ∧ amt c t.s = t.N ∧ amt t.d t.r = t.N ∧ 0 < t.N)
    (hp : t.d = 2 ∧ a + k ≤ 1024 ∧ RL m c = fun i : S1024x8x128.Idx => g3 (kc m 0) (i 0).val (16 + (i 1).val) (i 2).val)
    {off off2 : Fin 3 → ℕ} (ho : off = ![a, 0, 0]) (ho2 : off2 = ![a, 0, 0])
    {inb : ∀ x, off x + (⟨3, ![k, 8, 128]⟩ : Shape).size x ≤ S1024x8x128.size x} {inb2 : ∀ x, off2 x + (⟨3, ![k, 8, 128]⟩ : Shape).size x ≤ S1152x8x128.size x} {hs1 hs2 hsc h3 h4 h5}
    (hN : ((Memref.whole cc0_scratch0 : Memref sig .tc .vmem S1152x8x128 .bf16).slice (Rect.unit (s := S1152x8x128) off2 (⟨3, ![k, 8, 128]⟩ : Shape).size inb2) hs2).view.dmaCredit = t.N)
    {k' : PUnit → Prog (TpuEff nD τ sig (Elt F) Λ₀ .tc) α} :
    iprop(St m K X c (t :: A) W S ∗ (rlR m c a (a + k) : Reg F).full c)
      ⊢ iprop((St m K X c A W (t :: S) -∗ WP c (k' ⟨⟩) Q)
        -∗ WP c (.op (.enqueueDma ((Memref.whole cc0_scratch7 : Memref sig .tc .vmem S1024x8x128 .bf16).slice (Rect.unit (s := S1024x8x128) off (⟨3, ![k, 8, 128]⟩ : Shape).size inb) hs1)
          (.remote (Dev.tc n : Thread nD τ) ((Memref.whole cc0_scratch0 : Memref sig .tc .vmem S1152x8x128 .bf16).slice (Rect.unit (s := S1152x8x128) off2 (⟨3, ![k, 8, 128]⟩ : Shape).size inb2) hs2)
            (.dma (sS : DmaSem sig)) hsc) (.dma (sR : DmaSem sig)) h3 h4 h5) k') Q) := by
  have hA : (((Memref.whole cc0_scratch7 : Memref sig .tc .vmem S1024x8x128 .bf16).slice (Rect.unit (s := S1024x8x128) off (⟨3, ![k, 8, 128]⟩ : Shape).size inb) hs1).view).set
      = (bx3 a (a + k) 0 8 0 128 : Finset S1024x8x128.Idx) := (View.set_slice_whole cc0_scratch7 _).trans (box_set ho ⟨rfl, rfl, rfl, rfl, rfl, rfl⟩)
  have hB : (((Memref.whole cc0_scratch0 : Memref sig .tc .vmem S1152x8x128 .bf16).slice (Rect.unit (s := S1152x8x128) off2 (⟨3, ![k, 8, 128]⟩ : Shape).size inb2) hs2).view).set
      = (bx3 a (a + k) 0 8 0 128 : Finset S1152x8x128.Idx) := (View.set_slice_whole cc0_scratch0 _).trans (box_set ho2 ⟨rfl, rfl, rfl, rfl, rfl, rfl⟩)
  iintro ⟨HS, Hr⟩ Hk
  iapply (st_send m K X (A := A) (W := W) (S := S) (t := t) hn hs hr (RL m c) (KB m t.d)
    hu hN
    ((congrArg (Reg.full c) h1).trans (by rw [hA]; rfl))
    ((Entails.of_eq (congrArg (Reg.hole t.d) h2)).trans (by rw [hB]; exact BI.Entails.refl _))
    ((congrArg (Reg.full t.d) h2).trans (by rw [hB]; rfl))
    (by exact funext fun j => fw_read (kc m) (RL m c) t.d k a hp ho ho2 j)) $$ [HS Hr]
  · isplitl [HS]; · iexact HS
    iapply (Entails.of_eq (show (rlR m c a (a + k) : Reg F).full c = pay m c t.s.val by unfold pay; rw [h1])); iexact Hr
  iexact Hk

/-- Sending relayed rows of V on to device 2. -/
theorem send_rv (c n : Dev nD) (t : Tr) (k a : ℕ) {A : List Tr} {W : List Aw} {S : List Tr} {sS sR : Fin 58} (hn : n = t.d) (hs : sS = t.s) (hr : sR = t.r)
    (h1 : reg m c t.s.val = rlR m c a (a + k)) (h2 : reg m t.d t.r.val = vbR m t.d a (a + k))
    (hu : t.s ∈ used c ∧ t.r ∈ used t.d ∧ amt c t.s = t.N ∧ amt t.d t.r = t.N ∧ 0 < t.N)
    (hp : t.d = 2 ∧ a + k ≤ 1024 ∧ RL m c = fun i : S1024x8x128.Idx => g3 (vc m 0) (i 0).val (16 + (i 1).val) (i 2).val)
    {off off2 : Fin 3 → ℕ} (ho : off = ![a, 0, 0]) (ho2 : off2 = ![a, 0, 0])
    {inb : ∀ x, off x + (⟨3, ![k, 8, 128]⟩ : Shape).size x ≤ S1024x8x128.size x} {inb2 : ∀ x, off2 x + (⟨3, ![k, 8, 128]⟩ : Shape).size x ≤ S1152x8x128.size x} {hs1 hs2 hsc h3 h4 h5}
    (hN : ((Memref.whole cc0_scratch1 : Memref sig .tc .vmem S1152x8x128 .bf16).slice (Rect.unit (s := S1152x8x128) off2 (⟨3, ![k, 8, 128]⟩ : Shape).size inb2) hs2).view.dmaCredit = t.N)
    {k' : PUnit → Prog (TpuEff nD τ sig (Elt F) Λ₀ .tc) α} :
    iprop(St m K X c (t :: A) W S ∗ (rlR m c a (a + k) : Reg F).full c)
      ⊢ iprop((St m K X c A W (t :: S) -∗ WP c (k' ⟨⟩) Q)
        -∗ WP c (.op (.enqueueDma ((Memref.whole cc0_scratch7 : Memref sig .tc .vmem S1024x8x128 .bf16).slice (Rect.unit (s := S1024x8x128) off (⟨3, ![k, 8, 128]⟩ : Shape).size inb) hs1)
          (.remote (Dev.tc n : Thread nD τ) ((Memref.whole cc0_scratch1 : Memref sig .tc .vmem S1152x8x128 .bf16).slice (Rect.unit (s := S1152x8x128) off2 (⟨3, ![k, 8, 128]⟩ : Shape).size inb2) hs2)
            (.dma (sS : DmaSem sig)) hsc) (.dma (sR : DmaSem sig)) h3 h4 h5) k') Q) := by
  have hA : (((Memref.whole cc0_scratch7 : Memref sig .tc .vmem S1024x8x128 .bf16).slice (Rect.unit (s := S1024x8x128) off (⟨3, ![k, 8, 128]⟩ : Shape).size inb) hs1).view).set
      = (bx3 a (a + k) 0 8 0 128 : Finset S1024x8x128.Idx) := (View.set_slice_whole cc0_scratch7 _).trans (box_set ho ⟨rfl, rfl, rfl, rfl, rfl, rfl⟩)
  have hB : (((Memref.whole cc0_scratch1 : Memref sig .tc .vmem S1152x8x128 .bf16).slice (Rect.unit (s := S1152x8x128) off2 (⟨3, ![k, 8, 128]⟩ : Shape).size inb2) hs2).view).set
      = (bx3 a (a + k) 0 8 0 128 : Finset S1152x8x128.Idx) := (View.set_slice_whole cc0_scratch1 _).trans (box_set ho2 ⟨rfl, rfl, rfl, rfl, rfl, rfl⟩)
  iintro ⟨HS, Hr⟩ Hk
  iapply (st_send m K X (A := A) (W := W) (S := S) (t := t) hn hs hr (RL m c) (VB m t.d)
    hu hN
    ((congrArg (Reg.full c) h1).trans (by rw [hA]; rfl))
    ((Entails.of_eq (congrArg (Reg.hole t.d) h2)).trans (by rw [hB]; exact BI.Entails.refl _))
    ((congrArg (Reg.full t.d) h2).trans (by rw [hB]; rfl))
    (by exact funext fun j => fw_read (vc m) (RL m c) t.d k a hp ho ho2 j)) $$ [HS Hr]
  · isplitl [HS]; · iexact HS
    iapply (Entails.of_eq (show (rlR m c a (a + k) : Reg F).full c = pay m c t.s.val by unfold pay; rw [h1])); iexact Hr
  iexact Hk

end Cert.KernelIdealProof
-- ==== Proof.KI.Stage.lean ====
/-
The rows of K and V that devices 0 and 1 hold: copied piece by piece into a temporary buffer, rounded into a staging buffer,
and, of the heads a device uses itself, stored in its own window buffers.
-/
module

public import proofs.«01_k».proof.Proof.KI.Send

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ) (X : sProp (MT nD τ sig ℕ (Elt F) ℕ UU ℕ))
variable {α : Type} {Q : α → sProp (MT nD τ sig ℕ (Elt F) ℕ UU ℕ)}

/-! ## Copies within a device -/

/-- A copy in flight on a device's own semaphore `sm`, which gives `P` once waited for. -/
def LF (c : Dev nD) (sm : Fin 58) (N : ℕ) (P : sProp 𝕄) : sProp 𝕄 :=
  iprop(∃ D : sProp 𝕄, Transfers.Flight (Name := ℕ) (Lvl := ℕ) (countersEmb (U := UU)) (c : Thread nD τ) (.dma (sm : DmaSem sig)) 0 N D ∗ (D -∗ P))

/-- Starting a copy within a device. -/
theorem st_cp {c : Dev nD} {sm : Fin 58} {sM : DmaSem sig} (hs : sM = sm) {sp sp' : Space} {s : Shape} {e : EltTy} {src : Memref sig .tc sp s e} {dst : Memref sig .tc sp' s e}
    {hsrc : src.view.WordExact} {hdst : dst.view.WordExact} {hsem : DmaTarget.Typed sp (.dma sM) (.here dst : DmaTarget nD τ sig .tc sp' s e)}
    {k : PUnit → Prog (TpuEff nD τ sig (Elt F) Λ₀ .tc) α} (N : ℕ) (hN : dst.view.dmaCredit = N) (hN0 : 0 < N)
    (P H T : sProp 𝕄) (fs : Buf (Elt F) (src.view.loc (c : Thread nD τ))) (f2 : Buf (Elt F) (dst.view.loc (c : Thread nD τ)))
    (hP : P = (src.view.loc (c : Thread nD τ) ↦[Finset.univ]{fullShare} fs))
    (hH : H ⊢ iprop(∃ f, (dst.view.loc (c : Thread nD τ) ↦[dst.view.set]{fullShare} f)))
    (hT : T = (dst.view.loc (c : Thread nD τ) ↦[dst.view.set]{fullShare} f2))
    (hv : src.view.read (Elt F) fs = dst.view.read (Elt F) f2) :
    iprop(P ∗ H ∗ zer c sm) ⊢ iprop((LF c sm N iprop(P ∗ T) -∗ WP c (k ⟨⟩) Q)
      -∗ WP c (.op (.enqueueDma src (.here dst) (.dma sM) hsrc hdst hsem) k) Q) := by
  subst hs hP hT
  iintro ⟨HP, HH, Hz⟩ Hk
  ihave HH := hH $$ HH
  icases HH with ⟨%fd, HH⟩
  ihave HP := (pointsTo_split_subset (Finset.subset_univ src.view.set)).1 $$ HP
  icases HP with ⟨HP1, HP2⟩
  iapply (Transfers.wp_dmaLocal (Name := ℕ) (Lvl := ℕ) (countersEmb (U := UU)) 𝒱₀ (c : Thread nD τ) none (src := src) (via := .same) (dst := dst) (q := fullShare) (fs := fs) (Sd := dst.view.set) (fd := fd)
    0 N ((View.amount_dma dst.view sM).trans hN) hN0 (Finset.Subset.refl _)) $$ [HP1 HH Hz]
  · isplitl [HP1]; · iexact HP1
    isplitl [HH]; · iexact HH
    iexact Hz
  iintro HF
  iapply Hk
  unfold LF
  iexists _
  isplitl [HF]; · iexact HF
  iintro ⟨Hd, Hs⟩
  isplitl [Hs HP2]
  · iapply (pointsTo_split_subset (Finset.subset_univ src.view.set)).2
    isplitl [Hs] <;> iassumption
  ihave Hd := (Entails.of_eq (pointsTo_congr (write_read_on dst.view fd f2 _ hv))) $$ Hd
  iexact Hd

/-- Waiting for it. -/
theorem st_lw {c : Dev nD} {sm sM : Fin 58} (hs : sM = sm) {sp sp' : Space} {s s' : Shape} {e e' : EltTy} {src : Memref sig .tc sp' s' e'} {dst : Memref sig .tc sp s e}
    {hsrc : src.view.WordExact} {hdst : dst.view.WordExact} {A : List Tr} {W : List Aw} {S : List Tr}
    {k : PUnit → Prog (TpuEff nD τ sig (Elt F) Λ₀ .tc) α} (N : ℕ) (hN : dst.view.dmaCredit = N) (hA : ∀ t ∈ A, 0 < t.lev ∧ t.lev < 12) (P : sProp 𝕄) :
    iprop(LF c sm N P ∗ St m K X c A W S) ⊢ iprop((iprop(P ∗ zer c sm ∗ St m K X c A W S) -∗ WP c (k ⟨⟩) Q)
      -∗ WP c (.op (.waitDma2 (sM : DmaSem sig) src dst hsrc hdst) k) Q) := by
  subst hs
  iintro ⟨HF, HSt⟩ Hk
  unfold LF
  icases HF with ⟨%D, HF, HD⟩
  unfold St
  icases HSt with ⟨#Hrec, #Hlev, ⟨%Ws, HO⟩, HA, HW, HS, HX⟩
  iapply (Transfers.wp_waitLocalO (Name := ℕ) (Lvl := ℕ) (countersEmb (U := UU)) 𝒱₀ (c : Thread nD τ) none 0 hN (D := D)) $$ [HF HO]
  · isplitl [HF]; · iexact HF
    isplitl [HO]; · iexact HO
    iapply (mw c (.dma (sM : DmaSem sig)) 0 A (by decide) hA); iexact Hlev
  iintro ⟨Hd, Hz, HO⟩
  iapply Hk
  isplitl [HD Hd]; · iapply HD; iexact Hd
  isplitl [Hz]; · iexact Hz
  isplitr; · iexact Hrec
  isplitr; · iexact Hlev
  isplitl [HO]; · iexists _; iexact HO
  isplitl [HA]; · iexact HA
  isplitl [HW]; · iexact HW
  isplitl [HS] <;> iassumption

/-! ## The temporary buffer -/

/-- Rows of an argument, from row `r`, as they lie in the temporary buffer from row `r0`. -/
def tmpF {β : Type} (f : S1x1024x32x128.Idx → β) (r r0 : ℕ) : S256x32x128.Idx → β := fun i => f (ix4 (0 : Fin 1) (Fin.ofNat 1024 (r + (i 0).val - r0)) (i 1) (i 2))

/-- The arguments that hold K and V. -/
abbrev aK (c : Dev nD) : sProp 𝕄 := own c main_arg2 (Finset.univ : Finset S1x1024x32x128.Idx) (arg m c main_arg2)
/-- The argument V. -/
abbrev aV (c : Dev nD) : sProp 𝕄 := own c main_arg3 (Finset.univ : Finset S1x1024x32x128.Idx) (arg m c main_arg3)
/-- Rows `r0` to `r1` of the temporary buffer. -/
abbrev tH (c : Dev nD) (r0 r1 : ℕ) : sProp 𝕄 := hole c cc0_scratch4 (bx3 r0 r1 0 32 0 128 : Finset S256x32x128.Idx)
/-- Rows of the temporary buffer at contents `f`. -/
abbrev tO (c : Dev nD) (r0 r1 : ℕ) (f : S256x32x128.Idx → F .f32) : sProp 𝕄 := own c cc0_scratch4 (bx3 r0 r1 0 32 0 128 : Finset S256x32x128.Idx) f

/-- Rows of an argument, read at an index. -/
theorem arg_row {β : Type} (f : S1x1024x32x128.Idx → β) (r n : ℕ) (hn : r + n ≤ 1024) {off : Fin 4 → ℕ} (ho : off = ![0, r, 0, 0])
    {inb : ∀ x, off x + (⟨4, ![1, n, 32, 128]⟩ : Shape).size x ≤ S1x1024x32x128.size x} (k : Fin n) (i : Fin 32) (j : Fin 128) :
    f ((Rect.unit (s := S1x1024x32x128) off (⟨4, ![1, n, 32, 128]⟩ : Shape).size inb).emb (ix4 (0 : Fin 1) k i j)) = f (ix4 (0 : Fin 1) (Fin.ofNat 1024 (r + k.val)) i j) := by
  have hk : r + k.val < 1024 := by have : k.val < n := k.isLt; omega
  subst ho
  congr 1
  funext x
  match x with
  | ⟨0, _⟩ => exact Fin.ext ((ValueKit.rect_emb_unit_val ..).trans rfl)
  | ⟨1, _⟩ => exact Fin.ext ((ValueKit.rect_emb_unit_val ..).trans (Nat.mod_eq_of_lt hk).symm)
  | ⟨2, _⟩ => exact Fin.ext ((ValueKit.rect_emb_unit_val ..).trans (Nat.zero_add _))
  | ⟨3, _⟩ => exact Fin.ext ((ValueKit.rect_emb_unit_val ..).trans (Nat.zero_add _))

/-- Rows of an argument, as a copy reads them. -/
theorem cp_read {β : Type} (f : S1x1024x32x128.Idx → β) (r n : ℕ) (hn : r + n ≤ 1024) {off : Fin 4 → ℕ} (ho : off = ![0, r, 0, 0])
    {inb : ∀ x, off x + (⟨4, ![1, n, 32, 128]⟩ : Shape).size x ≤ S1x1024x32x128.size x} (h : (⟨4, ![1, n, 32, 128]⟩ : Shape).ShapeCasts ⟨3, ![n, 32, 128]⟩)
    (j : (⟨3, ![n, 32, 128]⟩ : Shape).Idx) :
    shapeCast ⟨3, ![n, 32, 128]⟩ (fun x => f ((Rect.unit (s := S1x1024x32x128) off (⟨4, ![1, n, 32, 128]⟩ : Shape).size inb).emb x)) h j
      = f (ix4 (0 : Fin 1) (Fin.ofNat 1024 (r + (j 0).val)) (j 1) (j 2)) := by
  obtain ⟨k, i, l, rfl⟩ : ∃ (k : Fin n) (i : Fin 32) (l : Fin 128), j = ix3 k i l := ⟨j 0, j 1, j 2, eq_ix3 j⟩
  refine (shapeCast_1abc_abc_apply _ _ k i l).trans ?_
  exact arg_row f r n hn ho k i l

/-- Rows of the temporary buffer, read at an index. -/
theorem tmp_emb {β : Type} (f : S1x1024x32x128.Idx → β) (r r0 n : ℕ) {off : Fin 3 → ℕ} (ho : off = ![r0, 0, 0])
    {inb : ∀ x, off x + (⟨3, ![n, 32, 128]⟩ : Shape).size x ≤ S256x32x128.size x} (j : (⟨3, ![n, 32, 128]⟩ : Shape).Idx) :
    tmpF f r r0 ((Rect.unit (s := S256x32x128) off (⟨3, ![n, 32, 128]⟩ : Shape).size inb).emb j) = f (ix4 (0 : Fin 1) (Fin.ofNat 1024 (r + (j 0).val)) (j 1) (j 2)) := by
  subst ho
  have e0 : ((Rect.unit (s := S256x32x128) ![r0, 0, 0] (⟨3, ![n, 32, 128]⟩ : Shape).size inb).emb j 0 : ℕ) = r0 + (j 0).val := ValueKit.rect_emb_unit_val ..
  have e1 : (Rect.unit (s := S256x32x128) ![r0, 0, 0] (⟨3, ![n, 32, 128]⟩ : Shape).size inb).emb j 1 = j 1 := Fin.ext ((ValueKit.rect_emb_unit_val ..).trans (Nat.zero_add _))
  have e2 : (Rect.unit (s := S256x32x128) ![r0, 0, 0] (⟨3, ![n, 32, 128]⟩ : Shape).size inb).emb j 2 = j 2 := Fin.ext ((ValueKit.rect_emb_unit_val ..).trans (Nat.zero_add _))
  unfold tmpF
  rw [e0, e1, e2, show r + (r0 + (j 0).val) - r0 = r + (j 0).val by omega]

/-- The rows of the temporary buffer, rounded, are those of the staging buffer. -/
theorem stg_val (f : S1x1024x32x128.Idx → F .f32) (r r0 n : ℕ) {off off2 : Fin 3 → ℕ} (ho : off = ![r0, 0, 0]) (ho2 : off2 = ![r, 0, 0])
    {inb : ∀ x, off x + (⟨3, ![n, 32, 128]⟩ : Shape).size x ≤ S256x32x128.size x} {inb2 : ∀ x, off2 x + (⟨3, ![n, 32, 128]⟩ : Shape).size x ≤ S1024x32x128.size x} :
    truncf .bf16 (fun j => tmpF f r r0 ((Rect.unit (s := S256x32x128) off (⟨3, ![n, 32, 128]⟩ : Shape).size inb).emb j) : FVec F ⟨3, ![n, 32, 128]⟩ .f32) bitsLt_bf16_f32
      = fun j => (truncf .bf16 (fun i => f (ix4 (0 : Fin 1) (i 0) (i 1) (i 2)) : FVec F S1024x32x128 .f32) bitsLt_bf16_f32 : FVec F S1024x32x128 .bf16)
          ((Rect.unit (s := S1024x32x128) off2 (⟨3, ![n, 32, 128]⟩ : Shape).size inb2).emb j) := by
  subst ho2
  funext j
  refine congrArg (fun x : F .f32 => (truncf .bf16 (fun _ => x : FVec F ⟨3, ![n, 32, 128]⟩ .f32) bitsLt_bf16_f32 : FVec F ⟨3, ![n, 32, 128]⟩ .bf16) j) ((tmp_emb f r r0 n ho j).trans ?_)
  have hlt : r + (j 0).val < 1024 := by have h1 := inb2 0; have h2 : (j 0).val < n := (j 0).isLt; have h1 : r + n ≤ 1024 := h1; omega
  have e0 : ((Rect.unit (s := S1024x32x128) ![r, 0, 0] (⟨3, ![n, 32, 128]⟩ : Shape).size inb2).emb j 0 : ℕ) = r + (j 0).val := ValueKit.rect_emb_unit_val ..
  have e1 : (Rect.unit (s := S1024x32x128) ![r, 0, 0] (⟨3, ![n, 32, 128]⟩ : Shape).size inb2).emb j 1 = j 1 := Fin.ext ((ValueKit.rect_emb_unit_val ..).trans (Nat.zero_add _))
  have e2 : (Rect.unit (s := S1024x32x128) ![r, 0, 0] (⟨3, ![n, 32, 128]⟩ : Shape).size inb2).emb j 2 = j 2 := Fin.ext ((ValueKit.rect_emb_unit_val ..).trans (Nat.zero_add _))
  refine congrArg f ?_
  rw [e1, e2]
  congr 1
  exact Fin.ext ((Nat.mod_eq_of_lt hlt).trans e0.symm)

/-- Loading what was copied. -/
theorem ldt (c : Dev nD) (r0 n : ℕ) (f : S256x32x128.Idx → F .f32) {off : Fin 3 → ℕ} (ho : off = ![r0, 0, 0]) {inb : ∀ x, off x + (⟨3, ![n, 32, 128]⟩ : Shape).size x ≤ S256x32x128.size x} {hl}
    {k : Vec F ⟨3, ![n, 32, 128]⟩ .f32 → Prog (TpuEff nD τ sig (Elt F) Λ₀ .tc) α} :
    tO c r0 (r0 + n) f ⊢ iprop((tO c r0 (r0 + n) f -∗ WP c (k (fun j => f ((Rect.unit (s := S256x32x128) off (⟨3, ![n, 32, 128]⟩ : Shape).size inb).emb j))) Q)
      -∗ WP c (.op (.load (Memref.whole cc0_scratch4 : Memref sig .tc .vmem S256x32x128 .f32) (Rect.unit (s := S256x32x128) off (⟨3, ![n, 32, 128]⟩ : Shape).size inb).toLoadRect hl) k) Q) := by
  have hA : ((Memref.whole cc0_scratch4 : Memref sig .tc .vmem S256x32x128 .f32).access (Rect.unit (s := S256x32x128) off (⟨3, ![n, 32, 128]⟩ : Shape).size inb)).set = (bx3 r0 (r0 + n) 0 32 0 128 : Finset S256x32x128.Idx) :=
    (View.set_slice_whole cc0_scratch4 _).trans (box_set ho ⟨rfl, rfl, rfl, rfl, rfl, rfl⟩)
  exact ld (mr := (Memref.whole cc0_scratch4 : Memref sig .tc .vmem S256x32x128 .f32)) (r := Rect.unit (s := S256x32x128) off (⟨3, ![n, 32, 128]⟩ : Shape).size inb)
    (S := (bx3 r0 (r0 + n) 0 32 0 128 : Finset S256x32x128.Idx)) (f := f) _ rfl hA.subset _ rfl

/-! ## The same of K -/

/-- Starting the copy of 256 rows of K from row `r`. -/
theorem cpK (c : Dev nD) (r : ℕ) (hr : r + 256 ≤ 1024) {sm sM : Fin 58} (hs : sM = sm) {off : Fin 4 → ℕ} (ho : off = ![0, r, 0, 0])
    {inb : ∀ x, off x + (⟨4, ![1, 256, 32, 128]⟩ : Shape).size x ≤ S1x1024x32x128.size x} {hq : S1x256x32x128.Squeezes S256x32x128} {hs1 h1 h2 h3}
    {k : PUnit → Prog (TpuEff nD τ sig (Elt F) Λ₀ .tc) α} :
    iprop(aK m c ∗ tH c 0 256 ∗ zer c sm) ⊢ iprop((LF c sm 131072 iprop(aK m c ∗ tO c 0 256 (tmpF (arg m c main_arg2) r 0)) -∗ WP c (k ⟨⟩) Q)
      -∗ WP c (.op (.enqueueDma (((Memref.whole main_arg2 : Memref sig .tc .hbm S1x1024x32x128 .f32).slice (Rect.unit (s := S1x1024x32x128) off (⟨4, ![1, 256, 32, 128]⟩ : Shape).size inb) hs1).squeeze S256x32x128 hq)
        (.here (Memref.whole cc0_scratch4 : Memref sig .tc .vmem S256x32x128 .f32)) (.dma (sM : DmaSem sig)) h1 h2 h3) k) Q) := by
  have hA : ((Memref.whole cc0_scratch4 : Memref sig .tc .vmem S256x32x128 .f32).view).set = (bx3 0 256 0 32 0 128 : Finset S256x32x128.Idx) :=
    (View.set_whole cc0_scratch4).trans (bx3_univ (n0 := 256) (n1 := 32) (n2 := 128)).symm
  exact st_cp hs 131072 rfl (by decide) _ _ _ (arg m c main_arg2) (tmpF (arg m c main_arg2) r 0) rfl
    (by rw [hA]; exact BI.Entails.refl _) (by rw [hA]; rfl)
    (by exact funext fun j => cp_read (arg m c main_arg2) r 256 hr ho hq.numel_eq j)

/-- Starting the copy of its first 128 rows to row `r0` of the temporary buffer. -/
theorem cqK (c : Dev nD) (r0 : ℕ) {sm sM : Fin 58} (hs : sM = sm) {off : Fin 4 → ℕ} (ho : off = ![0, 0, 0, 0]) {off2 : Fin 3 → ℕ} (ho2 : off2 = ![r0, 0, 0])
    {inb : ∀ x, off x + (⟨4, ![1, 128, 32, 128]⟩ : Shape).size x ≤ S1x1024x32x128.size x} {inb2 : ∀ x, off2 x + (⟨3, ![128, 32, 128]⟩ : Shape).size x ≤ S256x32x128.size x}
    {hq : S1x128x32x128.Squeezes S128x32x128} {hs1 hs2 h1 h2 h3}
    (hN : ((Memref.whole cc0_scratch4 : Memref sig .tc .vmem S256x32x128 .f32).slice (Rect.unit (s := S256x32x128) off2 (⟨3, ![128, 32, 128]⟩ : Shape).size inb2) hs2).view.dmaCredit = 65536)
    {k : PUnit → Prog (TpuEff nD τ sig (Elt F) Λ₀ .tc) α} :
    iprop(aK m c ∗ tH c r0 (r0 + 128) ∗ zer c sm) ⊢ iprop((LF c sm 65536 iprop(aK m c ∗ tO c r0 (r0 + 128) (tmpF (arg m c main_arg2) 0 r0)) -∗ WP c (k ⟨⟩) Q)
      -∗ WP c (.op (.enqueueDma (((Memref.whole main_arg2 : Memref sig .tc .hbm S1x1024x32x128 .f32).slice (Rect.unit (s := S1x1024x32x128) off (⟨4, ![1, 128, 32, 128]⟩ : Shape).size inb) hs1).squeeze S128x32x128 hq)
        (.here ((Memref.whole cc0_scratch4 : Memref sig .tc .vmem S256x32x128 .f32).slice (Rect.unit (s := S256x32x128) off2 (⟨3, ![128, 32, 128]⟩ : Shape).size inb2) hs2)) (.dma (sM : DmaSem sig)) h1 h2 h3) k) Q) := by
  have hA : (((Memref.whole cc0_scratch4 : Memref sig .tc .vmem S256x32x128 .f32).slice (Rect.unit (s := S256x32x128) off2 (⟨3, ![128, 32, 128]⟩ : Shape).size inb2) hs2).view).set = (bx3 r0 (r0 + 128) 0 32 0 128 : Finset S256x32x128.Idx) :=
    (View.set_slice_whole cc0_scratch4 _).trans (box_set ho2 ⟨rfl, rfl, rfl, rfl, rfl, rfl⟩)
  exact st_cp hs 65536 hN (by decide) _ _ _ (arg m c main_arg2) (tmpF (arg m c main_arg2) 0 r0) rfl
    (by rw [hA]; exact BI.Entails.refl _) (by rw [hA]; rfl)
    (by exact funext fun j => (cp_read (arg m c main_arg2) 0 128 (by decide) ho hq.numel_eq j).trans (tmp_emb (arg m c main_arg2) 0 r0 128 ho2 j).symm)

/-- Rows `r` to `r'` of the staging buffer of K. -/
abbrev sK (c : Dev nD) (r r' : ℕ) : Reg F := ⟨cc0_scratch5, (bx3 r r' 0 32 0 128 : Finset S1024x32x128.Idx), kc m c⟩

/-- Loading from the staging buffer before it is written; the value is not used. -/
theorem lsK (c : Dev nD) (r n : ℕ) {off : Fin 3 → ℕ} (ho : off = ![r, 0, 0]) {inb : ∀ x, off x + (⟨3, ![n, 32, 128]⟩ : Shape).size x ≤ S1024x32x128.size x} {hl}
    {k : Vec F ⟨3, ![n, 32, 128]⟩ .bf16 → Prog (TpuEff nD τ sig (Elt F) Λ₀ .tc) α} :
    (sK m c r (r + n)).hole c ⊢ iprop((∀ v, (sK m c r (r + n)).hole c -∗ WP c (k v) Q)
      -∗ WP c (.op (.load (Memref.whole cc0_scratch5 : Memref sig .tc .vmem S1024x32x128 .bf16) (Rect.unit (s := S1024x32x128) off (⟨3, ![n, 32, 128]⟩ : Shape).size inb).toLoadRect hl) k) Q) :=
  ldd (mr := (Memref.whole cc0_scratch5 : Memref sig .tc .vmem S1024x32x128 .bf16)) (r := Rect.unit (s := S1024x32x128) off (⟨3, ![n, 32, 128]⟩ : Shape).size inb)
    (S := (bx3 r (r + n) 0 32 0 128 : Finset S1024x32x128.Idx)) _ rfl ((View.set_slice_whole cc0_scratch5 _).trans (box_set ho ⟨rfl, rfl, rfl, rfl, rfl, rfl⟩))

/-- Storing the rounded rows. -/
theorem ssK (c : Dev nD) (r r0 n : ℕ) {off off2 : Fin 3 → ℕ} (ho : off = ![r, 0, 0]) (ho2 : off2 = ![r0, 0, 0])
    {inb : ∀ x, off x + (⟨3, ![n, 32, 128]⟩ : Shape).size x ≤ S1024x32x128.size x} {inb2 : ∀ x, off2 x + (⟨3, ![n, 32, 128]⟩ : Shape).size x ≤ S256x32x128.size x}
    {w : FVec F ⟨3, ![n, 32, 128]⟩ .bf16}
    (hw : w = truncf .bf16 (fun j => tmpF (arg m c main_arg2) r r0 ((Rect.unit (s := S256x32x128) off2 (⟨3, ![n, 32, 128]⟩ : Shape).size inb2).emb j) : FVec F ⟨3, ![n, 32, 128]⟩ .f32) bitsLt_bf16_f32)
    {hx hm} {k : PUnit → Prog (TpuEff nD τ sig (Elt F) Λ₀ .tc) α} :
    (sK m c r (r + n)).hole c ⊢ iprop(((sK m c r (r + n)).full c -∗ WP c (k ⟨⟩) Q)
      -∗ WP c (.op (.store (Memref.whole cc0_scratch5 : Memref sig .tc .vmem S1024x32x128 .bf16) (Rect.unit (s := S1024x32x128) off (⟨3, ![n, 32, 128]⟩ : Shape).size inb) w Finset.univ hx hm) k) Q) :=
  stw (mr := (Memref.whole cc0_scratch5 : Memref sig .tc .vmem S1024x32x128 .bf16)) (r := Rect.unit (s := S1024x32x128) off (⟨3, ![n, 32, 128]⟩ : Shape).size inb)
    (S := (bx3 r (r + n) 0 32 0 128 : Finset S1024x32x128.Idx)) _ _ (kc m c) rfl rfl ((View.set_slice_whole cc0_scratch5 _).trans (box_set ho ⟨rfl, rfl, rfl, rfl, rfl, rfl⟩))
    (hw.trans (stg_val (arg m c main_arg2) r r0 n ho2 ho))

/-- Loading eight heads of the staging buffer, -/
theorem lhK (c : Dev nD) (k h : ℕ) {off : Fin 3 → ℕ} (ho : off = ![0, h, 0]) {inb : ∀ x, off x + (⟨3, ![k, 8, 128]⟩ : Shape).size x ≤ S1024x32x128.size x} {hl}
    {k' : Vec F ⟨3, ![k, 8, 128]⟩ .bf16 → Prog (TpuEff nD τ sig (Elt F) Λ₀ .tc) α} :
    (kG m c 0 k h).full c ⊢ iprop(((kG m c 0 k h).full c -∗ WP c (k' (fun j => kc m c ((Rect.unit (s := S1024x32x128) off (⟨3, ![k, 8, 128]⟩ : Shape).size inb).emb j))) Q)
      -∗ WP c (.op (.load (Memref.whole cc0_scratch5 : Memref sig .tc .vmem S1024x32x128 .bf16) (Rect.unit (s := S1024x32x128) off (⟨3, ![k, 8, 128]⟩ : Shape).size inb).toLoadRect hl) k') Q) := by
  have hA : ((Memref.whole cc0_scratch5 : Memref sig .tc .vmem S1024x32x128 .bf16).access (Rect.unit (s := S1024x32x128) off (⟨3, ![k, 8, 128]⟩ : Shape).size inb)).set = (bx3 0 k h (h + 8) 0 128 : Finset S1024x32x128.Idx) :=
    (View.set_slice_whole cc0_scratch5 _).trans (box_set ho ⟨rfl, Nat.zero_add k, rfl, rfl, rfl, rfl⟩)
  exact ld (mr := (Memref.whole cc0_scratch5 : Memref sig .tc .vmem S1024x32x128 .bf16)) (r := Rect.unit (s := S1024x32x128) off (⟨3, ![k, 8, 128]⟩ : Shape).size inb)
    (S := (bx3 0 k h (h + 8) 0 128 : Finset S1024x32x128.Idx)) (f := kc m c) _ rfl hA.subset _ rfl

/-- loading from the window buffer before it is written, the value not being used, -/
theorem lwK (c : Dev nD) (a k : ℕ) {off : Fin 3 → ℕ} (ho : off = ![a, 0, 0]) {inb : ∀ x, off x + (⟨3, ![k, 8, 128]⟩ : Shape).size x ≤ S1152x8x128.size x} {hl}
    {k' : Vec F ⟨3, ![k, 8, 128]⟩ .bf16 → Prog (TpuEff nD τ sig (Elt F) Λ₀ .tc) α} :
    (kbR m c a (a + k)).hole c ⊢ iprop((∀ v, (kbR m c a (a + k)).hole c -∗ WP c (k' v) Q)
      -∗ WP c (.op (.load (Memref.whole cc0_scratch0 : Memref sig .tc .vmem S1152x8x128 .bf16) (Rect.unit (s := S1152x8x128) off (⟨3, ![k, 8, 128]⟩ : Shape).size inb).toLoadRect hl) k') Q) :=
  ldd (mr := (Memref.whole cc0_scratch0 : Memref sig .tc .vmem S1152x8x128 .bf16)) (r := Rect.unit (s := S1152x8x128) off (⟨3, ![k, 8, 128]⟩ : Shape).size inb)
    (S := (bx3 a (a + k) 0 8 0 128 : Finset S1152x8x128.Idx)) _ rfl ((View.set_slice_whole cc0_scratch0 _).trans (box_set ho ⟨rfl, rfl, rfl, rfl, rfl, rfl⟩))

/-- and storing the heads in it. -/
theorem swK (c : Dev nD) (a k : ℕ) (hp : (c = 0 ∧ a = 0 ∧ 0 + k ≤ 1024 ∨ c = 1 ∧ a = 0 + 1024)) {off off2 : Fin 3 → ℕ} (ho : off = ![a, 0, 0]) (ho2 : off2 = ![0, 8 * c.val, 0])
    {inb : ∀ x, off x + (⟨3, ![k, 8, 128]⟩ : Shape).size x ≤ S1152x8x128.size x} {inb2 : ∀ x, off2 x + (⟨3, ![k, 8, 128]⟩ : Shape).size x ≤ S1024x32x128.size x}
    {w : FVec F ⟨3, ![k, 8, 128]⟩ .bf16} (hw : w = fun j => kc m c ((Rect.unit (s := S1024x32x128) off2 (⟨3, ![k, 8, 128]⟩ : Shape).size inb2).emb j))
    {hx hm} {k' : PUnit → Prog (TpuEff nD τ sig (Elt F) Λ₀ .tc) α} :
    (kbR m c a (a + k)).hole c ⊢ iprop(((kbR m c a (a + k)).full c -∗ WP c (k' ⟨⟩) Q)
      -∗ WP c (.op (.store (Memref.whole cc0_scratch0 : Memref sig .tc .vmem S1152x8x128 .bf16) (Rect.unit (s := S1152x8x128) off (⟨3, ![k, 8, 128]⟩ : Shape).size inb) w Finset.univ hx hm) k') Q) :=
  stw (mr := (Memref.whole cc0_scratch0 : Memref sig .tc .vmem S1152x8x128 .bf16)) (r := Rect.unit (s := S1152x8x128) off (⟨3, ![k, 8, 128]⟩ : Shape).size inb)
    (S := (bx3 a (a + k) 0 8 0 128 : Finset S1152x8x128.Idx)) _ _ (KB m c) rfl rfl ((View.set_slice_whole cc0_scratch0 _).trans (box_set ho ⟨rfl, rfl, rfl, rfl, rfl, rfl⟩))
    (hw.trans (by exact funext fun j => ext_read (kc m) c c k 0 (8 * c.val) a ⟨hp, rfl⟩ ho2 ho j))

/-! ## The same of V -/

/-- Starting the copy of 256 rows of V from row `r`. -/
theorem cpV (c : Dev nD) (r : ℕ) (hr : r + 256 ≤ 1024) {sm sM : Fin 58} (hs : sM = sm) {off : Fin 4 → ℕ} (ho : off = ![0, r, 0, 0])
    {inb : ∀ x, off x + (⟨4, ![1, 256, 32, 128]⟩ : Shape).size x ≤ S1x1024x32x128.size x} {hq : S1x256x32x128.Squeezes S256x32x128} {hs1 h1 h2 h3}
    {k : PUnit → Prog (TpuEff nD τ sig (Elt F) Λ₀ .tc) α} :
    iprop(aV m c ∗ tH c 0 256 ∗ zer c sm) ⊢ iprop((LF c sm 131072 iprop(aV m c ∗ tO c 0 256 (tmpF (arg m c main_arg3) r 0)) -∗ WP c (k ⟨⟩) Q)
      -∗ WP c (.op (.enqueueDma (((Memref.whole main_arg3 : Memref sig .tc .hbm S1x1024x32x128 .f32).slice (Rect.unit (s := S1x1024x32x128) off (⟨4, ![1, 256, 32, 128]⟩ : Shape).size inb) hs1).squeeze S256x32x128 hq)
        (.here (Memref.whole cc0_scratch4 : Memref sig .tc .vmem S256x32x128 .f32)) (.dma (sM : DmaSem sig)) h1 h2 h3) k) Q) := by
  have hA : ((Memref.whole cc0_scratch4 : Memref sig .tc .vmem S256x32x128 .f32).view).set = (bx3 0 256 0 32 0 128 : Finset S256x32x128.Idx) :=
    (View.set_whole cc0_scratch4).trans (bx3_univ (n0 := 256) (n1 := 32) (n2 := 128)).symm
  exact st_cp hs 131072 rfl (by decide) _ _ _ (arg m c main_arg3) (tmpF (arg m c main_arg3) r 0) rfl
    (by rw [hA]; exact BI.Entails.refl _) (by rw [hA]; rfl)
    (by exact funext fun j => cp_read (arg m c main_arg3) r 256 hr ho hq.numel_eq j)

/-- Starting the copy of its first 128 rows to row `r0` of the temporary buffer. -/
theorem cqV (c : Dev nD) (r0 : ℕ) {sm sM : Fin 58} (hs : sM = sm) {off : Fin 4 → ℕ} (ho : off = ![0, 0, 0, 0]) {off2 : Fin 3 → ℕ} (ho2 : off2 = ![r0, 0, 0])
    {inb : ∀ x, off x + (⟨4, ![1, 128, 32, 128]⟩ : Shape).size x ≤ S1x1024x32x128.size x} {inb2 : ∀ x, off2 x + (⟨3, ![128, 32, 128]⟩ : Shape).size x ≤ S256x32x128.size x}
    {hq : S1x128x32x128.Squeezes S128x32x128} {hs1 hs2 h1 h2 h3}
    (hN : ((Memref.whole cc0_scratch4 : Memref sig .tc .vmem S256x32x128 .f32).slice (Rect.unit (s := S256x32x128) off2 (⟨3, ![128, 32, 128]⟩ : Shape).size inb2) hs2).view.dmaCredit = 65536)
    {k : PUnit → Prog (TpuEff nD τ sig (Elt F) Λ₀ .tc) α} :
    iprop(aV m c ∗ tH c r0 (r0 + 128) ∗ zer c sm) ⊢ iprop((LF c sm 65536 iprop(aV m c ∗ tO c r0 (r0 + 128) (tmpF (arg m c main_arg3) 0 r0)) -∗ WP c (k ⟨⟩) Q)
      -∗ WP c (.op (.enqueueDma (((Memref.whole main_arg3 : Memref sig .tc .hbm S1x1024x32x128 .f32).slice (Rect.unit (s := S1x1024x32x128) off (⟨4, ![1, 128, 32, 128]⟩ : Shape).size inb) hs1).squeeze S128x32x128 hq)
        (.here ((Memref.whole cc0_scratch4 : Memref sig .tc .vmem S256x32x128 .f32).slice (Rect.unit (s := S256x32x128) off2 (⟨3, ![128, 32, 128]⟩ : Shape).size inb2) hs2)) (.dma (sM : DmaSem sig)) h1 h2 h3) k) Q) := by
  have hA : (((Memref.whole cc0_scratch4 : Memref sig .tc .vmem S256x32x128 .f32).slice (Rect.unit (s := S256x32x128) off2 (⟨3, ![128, 32, 128]⟩ : Shape).size inb2) hs2).view).set = (bx3 r0 (r0 + 128) 0 32 0 128 : Finset S256x32x128.Idx) :=
    (View.set_slice_whole cc0_scratch4 _).trans (box_set ho2 ⟨rfl, rfl, rfl, rfl, rfl, rfl⟩)
  exact st_cp hs 65536 hN (by decide) _ _ _ (arg m c main_arg3) (tmpF (arg m c main_arg3) 0 r0) rfl
    (by rw [hA]; exact BI.Entails.refl _) (by rw [hA]; rfl)
    (by exact funext fun j => (cp_read (arg m c main_arg3) 0 128 (by decide) ho hq.numel_eq j).trans (tmp_emb (arg m c main_arg3) 0 r0 128 ho2 j).symm)

/-- Rows `r` to `r'` of the staging buffer of V. -/
abbrev sV (c : Dev nD) (r r' : ℕ) : Reg F := ⟨cc0_scratch6, (bx3 r r' 0 32 0 128 : Finset S1024x32x128.Idx), vc m c⟩

/-- Loading from the staging buffer before it is written; the value is not used. -/
theorem lsV (c : Dev nD) (r n : ℕ) {off : Fin 3 → ℕ} (ho : off = ![r, 0, 0]) {inb : ∀ x, off x + (⟨3, ![n, 32, 128]⟩ : Shape).size x ≤ S1024x32x128.size x} {hl}
    {k : Vec F ⟨3, ![n, 32, 128]⟩ .bf16 → Prog (TpuEff nD τ sig (Elt F) Λ₀ .tc) α} :
    (sV m c r (r + n)).hole c ⊢ iprop((∀ v, (sV m c r (r + n)).hole c -∗ WP c (k v) Q)
      -∗ WP c (.op (.load (Memref.whole cc0_scratch6 : Memref sig .tc .vmem S1024x32x128 .bf16) (Rect.unit (s := S1024x32x128) off (⟨3, ![n, 32, 128]⟩ : Shape).size inb).toLoadRect hl) k) Q) :=
  ldd (mr := (Memref.whole cc0_scratch6 : Memref sig .tc .vmem S1024x32x128 .bf16)) (r := Rect.unit (s := S1024x32x128) off (⟨3, ![n, 32, 128]⟩ : Shape).size inb)
    (S := (bx3 r (r + n) 0 32 0 128 : Finset S1024x32x128.Idx)) _ rfl ((View.set_slice_whole cc0_scratch6 _).trans (box_set ho ⟨rfl, rfl, rfl, rfl, rfl, rfl⟩))

/-- Storing the rounded rows. -/
theorem ssV (c : Dev nD) (r r0 n : ℕ) {off off2 : Fin 3 → ℕ} (ho : off = ![r, 0, 0]) (ho2 : off2 = ![r0, 0, 0])
    {inb : ∀ x, off x + (⟨3, ![n, 32, 128]⟩ : Shape).size x ≤ S1024x32x128.size x} {inb2 : ∀ x, off2 x + (⟨3, ![n, 32, 128]⟩ : Shape).size x ≤ S256x32x128.size x}
    {w : FVec F ⟨3, ![n, 32, 128]⟩ .bf16}
    (hw : w = truncf .bf16 (fun j => tmpF (arg m c main_arg3) r r0 ((Rect.unit (s := S256x32x128) off2 (⟨3, ![n, 32, 128]⟩ : Shape).size inb2).emb j) : FVec F ⟨3, ![n, 32, 128]⟩ .f32) bitsLt_bf16_f32)
    {hx hm} {k : PUnit → Prog (TpuEff nD τ sig (Elt F) Λ₀ .tc) α} :
    (sV m c r (r + n)).hole c ⊢ iprop(((sV m c r (r + n)).full c -∗ WP c (k ⟨⟩) Q)
      -∗ WP c (.op (.store (Memref.whole cc0_scratch6 : Memref sig .tc .vmem S1024x32x128 .bf16) (Rect.unit (s := S1024x32x128) off (⟨3, ![n, 32, 128]⟩ : Shape).size inb) w Finset.univ hx hm) k) Q) :=
  stw (mr := (Memref.whole cc0_scratch6 : Memref sig .tc .vmem S1024x32x128 .bf16)) (r := Rect.unit (s := S1024x32x128) off (⟨3, ![n, 32, 128]⟩ : Shape).size inb)
    (S := (bx3 r (r + n) 0 32 0 128 : Finset S1024x32x128.Idx)) _ _ (vc m c) rfl rfl ((View.set_slice_whole cc0_scratch6 _).trans (box_set ho ⟨rfl, rfl, rfl, rfl, rfl, rfl⟩))
    (hw.trans (stg_val (arg m c main_arg3) r r0 n ho2 ho))

/-- Loading eight heads of the staging buffer, -/
theorem lhV (c : Dev nD) (k h : ℕ) {off : Fin 3 → ℕ} (ho : off = ![0, h, 0]) {inb : ∀ x, off x + (⟨3, ![k, 8, 128]⟩ : Shape).size x ≤ S1024x32x128.size x} {hl}
    {k' : Vec F ⟨3, ![k, 8, 128]⟩ .bf16 → Prog (TpuEff nD τ sig (Elt F) Λ₀ .tc) α} :
    (vG m c 0 k h).full c ⊢ iprop(((vG m c 0 k h).full c -∗ WP c (k' (fun j => vc m c ((Rect.unit (s := S1024x32x128) off (⟨3, ![k, 8, 128]⟩ : Shape).size inb).emb j))) Q)
      -∗ WP c (.op (.load (Memref.whole cc0_scratch6 : Memref sig .tc .vmem S1024x32x128 .bf16) (Rect.unit (s := S1024x32x128) off (⟨3, ![k, 8, 128]⟩ : Shape).size inb).toLoadRect hl) k') Q) := by
  have hA : ((Memref.whole cc0_scratch6 : Memref sig .tc .vmem S1024x32x128 .bf16).access (Rect.unit (s := S1024x32x128) off (⟨3, ![k, 8, 128]⟩ : Shape).size inb)).set = (bx3 0 k h (h + 8) 0 128 : Finset S1024x32x128.Idx) :=
    (View.set_slice_whole cc0_scratch6 _).trans (box_set ho ⟨rfl, Nat.zero_add k, rfl, rfl, rfl, rfl⟩)
  exact ld (mr := (Memref.whole cc0_scratch6 : Memref sig .tc .vmem S1024x32x128 .bf16)) (r := Rect.unit (s := S1024x32x128) off (⟨3, ![k, 8, 128]⟩ : Shape).size inb)
    (S := (bx3 0 k h (h + 8) 0 128 : Finset S1024x32x128.Idx)) (f := vc m c) _ rfl hA.subset _ rfl

/-- loading from the window buffer before it is written, the value not being used, -/
theorem lwV (c : Dev nD) (a k : ℕ) {off : Fin 3 → ℕ} (ho : off = ![a, 0, 0]) {inb : ∀ x, off x + (⟨3, ![k, 8, 128]⟩ : Shape).size x ≤ S1152x8x128.size x} {hl}
    {k' : Vec F ⟨3, ![k, 8, 128]⟩ .bf16 → Prog (TpuEff nD τ sig (Elt F) Λ₀ .tc) α} :
    (vbR m c a (a + k)).hole c ⊢ iprop((∀ v, (vbR m c a (a + k)).hole c -∗ WP c (k' v) Q)
      -∗ WP c (.op (.load (Memref.whole cc0_scratch1 : Memref sig .tc .vmem S1152x8x128 .bf16) (Rect.unit (s := S1152x8x128) off (⟨3, ![k, 8, 128]⟩ : Shape).size inb).toLoadRect hl) k') Q) :=
  ldd (mr := (Memref.whole cc0_scratch1 : Memref sig .tc .vmem S1152x8x128 .bf16)) (r := Rect.unit (s := S1152x8x128) off (⟨3, ![k, 8, 128]⟩ : Shape).size inb)
    (S := (bx3 a (a + k) 0 8 0 128 : Finset S1152x8x128.Idx)) _ rfl ((View.set_slice_whole cc0_scratch1 _).trans (box_set ho ⟨rfl, rfl, rfl, rfl, rfl, rfl⟩))

/-- and storing the heads in it. -/
theorem swV (c : Dev nD) (a k : ℕ) (hp : (c = 0 ∧ a = 0 ∧ 0 + k ≤ 1024 ∨ c = 1 ∧ a = 0 + 1024)) {off off2 : Fin 3 → ℕ} (ho : off = ![a, 0, 0]) (ho2 : off2 = ![0, 8 * c.val, 0])
    {inb : ∀ x, off x + (⟨3, ![k, 8, 128]⟩ : Shape).size x ≤ S1152x8x128.size x} {inb2 : ∀ x, off2 x + (⟨3, ![k, 8, 128]⟩ : Shape).size x ≤ S1024x32x128.size x}
    {w : FVec F ⟨3, ![k, 8, 128]⟩ .bf16} (hw : w = fun j => vc m c ((Rect.unit (s := S1024x32x128) off2 (⟨3, ![k, 8, 128]⟩ : Shape).size inb2).emb j))
    {hx hm} {k' : PUnit → Prog (TpuEff nD τ sig (Elt F) Λ₀ .tc) α} :
    (vbR m c a (a + k)).hole c ⊢ iprop(((vbR m c a (a + k)).full c -∗ WP c (k' ⟨⟩) Q)
      -∗ WP c (.op (.store (Memref.whole cc0_scratch1 : Memref sig .tc .vmem S1152x8x128 .bf16) (Rect.unit (s := S1152x8x128) off (⟨3, ![k, 8, 128]⟩ : Shape).size inb) w Finset.univ hx hm) k') Q) :=
  stw (mr := (Memref.whole cc0_scratch1 : Memref sig .tc .vmem S1152x8x128 .bf16)) (r := Rect.unit (s := S1152x8x128) off (⟨3, ![k, 8, 128]⟩ : Shape).size inb)
    (S := (bx3 a (a + k) 0 8 0 128 : Finset S1152x8x128.Idx)) _ _ (VB m c) rfl rfl ((View.set_slice_whole cc0_scratch1 _).trans (box_set ho ⟨rfl, rfl, rfl, rfl, rfl, rfl⟩))
    (hw.trans (by exact funext fun j => ext_read (vc m) c c k 0 (8 * c.val) a ⟨hp, rfl⟩ ho2 ho j))

end Cert.KernelIdealProof
-- ==== Proof.KI.Place0.lean ====
/-
Device 0 before the attention: its 1024 rows of K and V are staged and sent, and its own heads stored.
-/
module

public import proofs.«01_k».proof.Proof.KI.Stage

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ) (X : sProp (MT nD τ sig ℕ (Elt F) ℕ UU ℕ))
variable {α : Type} {Q : α → sProp (MT nD τ sig ℕ (Elt F) ℕ UU ℕ)}

/-- 256 rows of an argument, from row `r`. -/
abbrev tv (f : S1x1024x32x128.Idx → F .f32) (r : ℕ) : Vec F S256x32x128 .f32 := fun j => tmpF f r 0 ((Rect.unit (s := S256x32x128) ![0, 0, 0] S256x32x128.size (by decide)).emb j)

/-- Rows of the temporary buffer at any contents. -/
theorem tO_tH (c : Dev nD) (r0 r1 : ℕ) (f : S256x32x128.Idx → F .f32) : (tO c r0 r1 f : sProp 𝕄) ⊢ tH c r0 r1 := own_hole c cc0_scratch4 _ f

/-- A region at any contents. -/
theorem reg_hole (R : Reg F) (c : Dev nD) : R.full c ⊢ (R.hole c : sProp 𝕄) := own_hole c R.b R.S R.f

/-- A region at its contents is owned. -/
theorem fullE (R : Reg F) (c : Dev nD) : R.full c ⊢ (own c R.b R.S R.f : sProp 𝕄) := BI.Entails.refl _
/-- And the converse. -/
theorem fullI (R : Reg F) (c : Dev nD) : own c R.b R.S R.f ⊢ (R.full c : sProp 𝕄) := BI.Entails.refl _

/-- A level bound for one more transfer. -/
theorem lev_cons {t : Tr} {A : List Tr} (h : 0 < t.lev ∧ t.lev < 12) (hA : ∀ t ∈ A, 0 < t.lev ∧ t.lev < 12) : ∀ x ∈ t :: A, 0 < x.lev ∧ x.lev < 12 := fun x hx => by
  rcases List.mem_cons.mp hx with rfl | hx
  · exact h
  · exact hA x hx

/-- Waiting for a copy and loading it. -/
theorem got (c : Dev nD) (r : ℕ) (f : S1x1024x32x128.Idx → F .f32) (P : sProp 𝕄) {sm sM : Fin 58} (hs : sM = sm) {sp : Space} {s' : Shape} {e' : EltTy} {src : Memref sig .tc sp s' e'}
    {hsrc hdst} {A : List Tr} {W : List Aw} {S : List Tr} (hA : ∀ t ∈ A, 0 < t.lev ∧ t.lev < 12)
    {off : Fin 3 → ℕ} (ho : off = ![0, 0, 0]) {inb : ∀ x, off x + S256x32x128.size x ≤ S256x32x128.size x} {hl} {k : Vec F S256x32x128 .f32 → Prog (TpuEff nD τ sig (Elt F) Λ₀ .tc) α} :
    iprop(LF c sm 131072 iprop(P ∗ tO c 0 256 (tmpF f r 0)) ∗ St m K X c A W S) ⊢ iprop((P -∗ tH c 0 256 -∗ zer c sm -∗ St m K X c A W S -∗ WP c (k (tv f r)) Q)
      -∗ WP c (.op (.waitDma2 (sM : DmaSem sig) src (Memref.whole cc0_scratch4 : Memref sig .tc .vmem S256x32x128 .f32) hsrc hdst)
        fun _ => .op (.load (Memref.whole cc0_scratch4 : Memref sig .tc .vmem S256x32x128 .f32) (Rect.unit (s := S256x32x128) off S256x32x128.size inb).toLoadRect hl) k) Q) := by
  subst ho
  iintro ⟨HF, HS⟩ Hk
  iapply (st_lw m K X hs (A := A) (W := W) (S := S) 131072 rfl hA iprop(P ∗ tO c 0 256 (tmpF f r 0))) $$ [HF HS]
  · isplitl [HF] <;> iassumption
  iintro ⟨⟨HP, Ht⟩, Hz, HS⟩
  iapply (ldt c 0 256 (tmpF f r 0) rfl) $$ Ht; iintro Ht
  ihave Ht := (tO_tH c 0 256 (tmpF f r 0)) $$ Ht
  iapply Hk $$ HP Ht Hz HS

/-- Storing 256 rows in the staging buffer of K. -/
theorem putK (r : ℕ) {w : FVec F S256x32x128 .bf16} (hw : w = truncf .bf16 (tv (arg m 0 main_arg2) r) bitsLt_bf16_f32)
    {off off2 : Fin 3 → ℕ} (ho : off = ![r, 0, 0]) (ho2 : off2 = ![r, 0, 0]) {inb : ∀ x, off x + S256x32x128.size x ≤ S1024x32x128.size x} {inb2 : ∀ x, off2 x + S256x32x128.size x ≤ S1024x32x128.size x} {hl hx hm}
    {k : PUnit → Prog (TpuEff nD τ sig (Elt F) Λ₀ .tc) α} :
    (sK m 0 r (r + 256)).hole 0 ⊢ iprop(((sK m 0 r (r + 256)).full 0 -∗ WP 0 (k ⟨⟩) Q)
      -∗ WP 0 (.op (.load (Memref.whole cc0_scratch5 : Memref sig .tc .vmem S1024x32x128 .bf16) (Rect.unit (s := S1024x32x128) off S256x32x128.size inb).toLoadRect hl)
        fun _ => .op (.store (Memref.whole cc0_scratch5 : Memref sig .tc .vmem S1024x32x128 .bf16) (Rect.unit (s := S1024x32x128) off2 S256x32x128.size inb2) w Finset.univ hx hm) k) Q) := by
  iintro Hh Hk
  iapply (lsK m 0 r 256 ho) $$ Hh; iintro %v Hh
  iapply (ssK m 0 r 0 256 ho2 rfl hw) $$ Hh; iintro Hh
  iapply Hk $$ Hh

/-- Storing a device's own heads in its window buffer of K. -/
theorem mineK (c : Dev nD) (a k : ℕ) (hp : (c = 0 ∧ a = 0 ∧ 0 + k ≤ 1024 ∨ c = 1 ∧ a = 0 + 1024)) (w : FVec F ⟨3, ![k, 8, 128]⟩ .bf16 → FVec F ⟨3, ![k, 8, 128]⟩ .bf16) (hw : ∀ x, w x = x)
    {off off2 off3 : Fin 3 → ℕ} (ho : off = ![0, 8 * c.val, 0]) (ho2 : off2 = ![a, 0, 0]) (ho3 : off3 = ![a, 0, 0])
    {inb : ∀ x, off x + (⟨3, ![k, 8, 128]⟩ : Shape).size x ≤ S1024x32x128.size x} {inb2 : ∀ x, off2 x + (⟨3, ![k, 8, 128]⟩ : Shape).size x ≤ S1152x8x128.size x}
    {inb3 : ∀ x, off3 x + (⟨3, ![k, 8, 128]⟩ : Shape).size x ≤ S1152x8x128.size x} {hl hl2 hx hm}
    {k' : PUnit → Prog (TpuEff nD τ sig (Elt F) Λ₀ .tc) α} :
    iprop((kG m c 0 k (8 * c.val)).full c ∗ (kbR m c a (a + k)).hole c) ⊢ iprop(((kG m c 0 k (8 * c.val)).full c -∗ (kbR m c a (a + k)).full c -∗ WP c (k' ⟨⟩) Q)
      -∗ WP c (.op (.load (Memref.whole cc0_scratch5 : Memref sig .tc .vmem S1024x32x128 .bf16) (Rect.unit (s := S1024x32x128) off (⟨3, ![k, 8, 128]⟩ : Shape).size inb).toLoadRect hl)
        fun (v : Vec F ⟨3, ![k, 8, 128]⟩ .bf16) => .op (.load (Memref.whole cc0_scratch0 : Memref sig .tc .vmem S1152x8x128 .bf16) (Rect.unit (s := S1152x8x128) off2 (⟨3, ![k, 8, 128]⟩ : Shape).size inb2).toLoadRect hl2)
        fun _ => .op (.store (Memref.whole cc0_scratch0 : Memref sig .tc .vmem S1152x8x128 .bf16) (Rect.unit (s := S1152x8x128) off3 (⟨3, ![k, 8, 128]⟩ : Shape).size inb3) (w v) Finset.univ hx hm) k') Q) := by
  iintro ⟨Hs, Hh⟩ Hk
  iapply (lhK m c k (8 * c.val) ho) $$ Hs; iintro Hs
  iapply (lwK m c a k ho2) $$ Hh; iintro %v Hh
  iapply (swK m c a k hp ho3 ho (hw _)) $$ Hh; iintro Hh
  iapply Hk $$ Hs Hh

/-- The staging buffer of K of device 0 cut into what is sent, and its own heads. -/
theorem cutK0 : iprop((sK m 0 0 256).full 0 ∗ (sK m 0 256 512).full 0 ∗ (sK m 0 512 768).full 0 ∗ (sK m 0 768 1024).full 0)
    ⊢ (iprop((kG m 0 0 1024 0).full 0 ∗ (kG m 0 0 640 8).full 0 ∗ (kG m 0 640 1024 8).full 0 ∗ (kG m 0 0 128 16).full 0 ∗ (kG m 0 128 896 16).full 0
        ∗ (kG m 0 896 1024 16).full 0 ∗ (kG m 0 0 384 24).full 0 ∗ (kG m 0 384 1024 24).full 0) : sProp 𝕄) := by
  iintro ⟨H1, H2, H3, H4⟩
  ihave H1 := (fullE (sK m 0 0 256) 0) $$ H1
  ihave H2 := (fullE (sK m 0 256 512) 0) $$ H2
  ihave H3 := (fullE (sK m 0 512 768) 0) $$ H3
  ihave H4 := (fullE (sK m 0 768 1024) 0) $$ H4
  ihave H := (own_cut 0 cc0_scratch5 (cut0 0 256 512 0 32 0 128 (by decide)) (kc m 0)).2 $$ [H1 H2]
  · isplitl [H1] <;> iassumption
  ihave H := (own_cut 0 cc0_scratch5 (cut0 0 512 768 0 32 0 128 (by decide)) (kc m 0)).2 $$ [H H3]
  · isplitl [H] <;> iassumption
  ihave H := (own_cut 0 cc0_scratch5 (cut0 0 768 1024 0 32 0 128 (by decide)) (kc m 0)).2 $$ [H H4]
  · isplitl [H] <;> iassumption
  ihave H := (own_cut 0 cc0_scratch5 (cut1 0 1024 0 8 32 0 128 (by decide)) (kc m 0)).1 $$ H; icases H with ⟨H0, H⟩
  ihave H := (own_cut 0 cc0_scratch5 (cut1 0 1024 8 16 32 0 128 (by decide)) (kc m 0)).1 $$ H; icases H with ⟨H1, H⟩
  ihave H := (own_cut 0 cc0_scratch5 (cut1 0 1024 16 24 32 0 128 (by decide)) (kc m 0)).1 $$ H; icases H with ⟨H2, H3⟩
  ihave H1 := (own_cut 0 cc0_scratch5 (cut0 0 640 1024 8 16 0 128 (by decide)) (kc m 0)).1 $$ H1; icases H1 with ⟨H1, H1'⟩
  ihave H2 := (own_cut 0 cc0_scratch5 (cut0 0 128 1024 16 24 0 128 (by decide)) (kc m 0)).1 $$ H2; icases H2 with ⟨H2, H2'⟩
  ihave H2' := (own_cut 0 cc0_scratch5 (cut0 128 896 1024 16 24 0 128 (by decide)) (kc m 0)).1 $$ H2'; icases H2' with ⟨H2', H2''⟩
  ihave H3 := (own_cut 0 cc0_scratch5 (cut0 0 384 1024 24 32 0 128 (by decide)) (kc m 0)).1 $$ H3; icases H3 with ⟨H3, H3'⟩
  isplitl [H0]; · iapply (fullI (kG m 0 0 1024 0) 0); iexact H0
  isplitl [H1]; · iapply (fullI (kG m 0 0 640 8) 0); iexact H1
  isplitl [H1']; · iapply (fullI (kG m 0 640 1024 8) 0); iexact H1'
  isplitl [H2]; · iapply (fullI (kG m 0 0 128 16) 0); iexact H2
  isplitl [H2']; · iapply (fullI (kG m 0 128 896 16) 0); iexact H2'
  isplitl [H2'']; · iapply (fullI (kG m 0 896 1024 16) 0); iexact H2''
  isplitl [H3]; · iapply (fullI (kG m 0 0 384 24) 0); iexact H3
  iapply (fullI (kG m 0 384 1024 24) 0); iexact H3'

/-- Storing 256 rows in the staging buffer of V. -/
theorem putV (r : ℕ) {w : FVec F S256x32x128 .bf16} (hw : w = truncf .bf16 (tv (arg m 0 main_arg3) r) bitsLt_bf16_f32)
    {off off2 : Fin 3 → ℕ} (ho : off = ![r, 0, 0]) (ho2 : off2 = ![r, 0, 0]) {inb : ∀ x, off x + S256x32x128.size x ≤ S1024x32x128.size x} {inb2 : ∀ x, off2 x + S256x32x128.size x ≤ S1024x32x128.size x} {hl hx hm}
    {k : PUnit → Prog (TpuEff nD τ sig (Elt F) Λ₀ .tc) α} :
    (sV m 0 r (r + 256)).hole 0 ⊢ iprop(((sV m 0 r (r + 256)).full 0 -∗ WP 0 (k ⟨⟩) Q)
      -∗ WP 0 (.op (.load (Memref.whole cc0_scratch6 : Memref sig .tc .vmem S1024x32x128 .bf16) (Rect.unit (s := S1024x32x128) off S256x32x128.size inb).toLoadRect hl)
        fun _ => .op (.store (Memref.whole cc0_scratch6 : Memref sig .tc .vmem S1024x32x128 .bf16) (Rect.unit (s := S1024x32x128) off2 S256x32x128.size inb2) w Finset.univ hx hm) k) Q) := by
  iintro Hh Hk
  iapply (lsV m 0 r 256 ho) $$ Hh; iintro %v Hh
  iapply (ssV m 0 r 0 256 ho2 rfl hw) $$ Hh; iintro Hh
  iapply Hk $$ Hh

/-- Storing a device's own heads in its window buffer of V. -/
theorem mineV (c : Dev nD) (a k : ℕ) (hp : (c = 0 ∧ a = 0 ∧ 0 + k ≤ 1024 ∨ c = 1 ∧ a = 0 + 1024)) (w : FVec F ⟨3, ![k, 8, 128]⟩ .bf16 → FVec F ⟨3, ![k, 8, 128]⟩ .bf16) (hw : ∀ x, w x = x)
    {off off2 off3 : Fin 3 → ℕ} (ho : off = ![0, 8 * c.val, 0]) (ho2 : off2 = ![a, 0, 0]) (ho3 : off3 = ![a, 0, 0])
    {inb : ∀ x, off x + (⟨3, ![k, 8, 128]⟩ : Shape).size x ≤ S1024x32x128.size x} {inb2 : ∀ x, off2 x + (⟨3, ![k, 8, 128]⟩ : Shape).size x ≤ S1152x8x128.size x}
    {inb3 : ∀ x, off3 x + (⟨3, ![k, 8, 128]⟩ : Shape).size x ≤ S1152x8x128.size x} {hl hl2 hx hm}
    {k' : PUnit → Prog (TpuEff nD τ sig (Elt F) Λ₀ .tc) α} :
    iprop((vG m c 0 k (8 * c.val)).full c ∗ (vbR m c a (a + k)).hole c) ⊢ iprop(((vG m c 0 k (8 * c.val)).full c -∗ (vbR m c a (a + k)).full c -∗ WP c (k' ⟨⟩) Q)
      -∗ WP c (.op (.load (Memref.whole cc0_scratch6 : Memref sig .tc .vmem S1024x32x128 .bf16) (Rect.unit (s := S1024x32x128) off (⟨3, ![k, 8, 128]⟩ : Shape).size inb).toLoadRect hl)
        fun (v : Vec F ⟨3, ![k, 8, 128]⟩ .bf16) => .op (.load (Memref.whole cc0_scratch1 : Memref sig .tc .vmem S1152x8x128 .bf16) (Rect.unit (s := S1152x8x128) off2 (⟨3, ![k, 8, 128]⟩ : Shape).size inb2).toLoadRect hl2)
        fun _ => .op (.store (Memref.whole cc0_scratch1 : Memref sig .tc .vmem S1152x8x128 .bf16) (Rect.unit (s := S1152x8x128) off3 (⟨3, ![k, 8, 128]⟩ : Shape).size inb3) (w v) Finset.univ hx hm) k') Q) := by
  iintro ⟨Hs, Hh⟩ Hk
  iapply (lhV m c k (8 * c.val) ho) $$ Hs; iintro Hs
  iapply (lwV m c a k ho2) $$ Hh; iintro %v Hh
  iapply (swV m c a k hp ho3 ho (hw _)) $$ Hh; iintro Hh
  iapply Hk $$ Hs Hh

/-- The staging buffer of V of device 0 cut into what is sent, and its own heads. -/
theorem cutV0 : iprop((sV m 0 0 256).full 0 ∗ (sV m 0 256 512).full 0 ∗ (sV m 0 512 768).full 0 ∗ (sV m 0 768 1024).full 0)
    ⊢ (iprop((vG m 0 0 1024 0).full 0 ∗ (vG m 0 0 640 8).full 0 ∗ (vG m 0 640 1024 8).full 0 ∗ (vG m 0 0 128 16).full 0 ∗ (vG m 0 128 896 16).full 0
        ∗ (vG m 0 896 1024 16).full 0 ∗ (vG m 0 0 384 24).full 0 ∗ (vG m 0 384 1024 24).full 0) : sProp 𝕄) := by
  iintro ⟨H1, H2, H3, H4⟩
  ihave H1 := (fullE (sV m 0 0 256) 0) $$ H1
  ihave H2 := (fullE (sV m 0 256 512) 0) $$ H2
  ihave H3 := (fullE (sV m 0 512 768) 0) $$ H3
  ihave H4 := (fullE (sV m 0 768 1024) 0) $$ H4
  ihave H := (own_cut 0 cc0_scratch6 (cut0 0 256 512 0 32 0 128 (by decide)) (vc m 0)).2 $$ [H1 H2]
  · isplitl [H1] <;> iassumption
  ihave H := (own_cut 0 cc0_scratch6 (cut0 0 512 768 0 32 0 128 (by decide)) (vc m 0)).2 $$ [H H3]
  · isplitl [H] <;> iassumption
  ihave H := (own_cut 0 cc0_scratch6 (cut0 0 768 1024 0 32 0 128 (by decide)) (vc m 0)).2 $$ [H H4]
  · isplitl [H] <;> iassumption
  ihave H := (own_cut 0 cc0_scratch6 (cut1 0 1024 0 8 32 0 128 (by decide)) (vc m 0)).1 $$ H; icases H with ⟨H0, H⟩
  ihave H := (own_cut 0 cc0_scratch6 (cut1 0 1024 8 16 32 0 128 (by decide)) (vc m 0)).1 $$ H; icases H with ⟨H1, H⟩
  ihave H := (own_cut 0 cc0_scratch6 (cut1 0 1024 16 24 32 0 128 (by decide)) (vc m 0)).1 $$ H; icases H with ⟨H2, H3⟩
  ihave H1 := (own_cut 0 cc0_scratch6 (cut0 0 640 1024 8 16 0 128 (by decide)) (vc m 0)).1 $$ H1; icases H1 with ⟨H1, H1'⟩
  ihave H2 := (own_cut 0 cc0_scratch6 (cut0 0 128 1024 16 24 0 128 (by decide)) (vc m 0)).1 $$ H2; icases H2 with ⟨H2, H2'⟩
  ihave H2' := (own_cut 0 cc0_scratch6 (cut0 128 896 1024 16 24 0 128 (by decide)) (vc m 0)).1 $$ H2'; icases H2' with ⟨H2', H2''⟩
  ihave H3 := (own_cut 0 cc0_scratch6 (cut0 0 384 1024 24 32 0 128 (by decide)) (vc m 0)).1 $$ H3; icases H3 with ⟨H3, H3'⟩
  isplitl [H0]; · iapply (fullI (vG m 0 0 1024 0) 0); iexact H0
  isplitl [H1]; · iapply (fullI (vG m 0 0 640 8) 0); iexact H1
  isplitl [H1']; · iapply (fullI (vG m 0 640 1024 8) 0); iexact H1'
  isplitl [H2]; · iapply (fullI (vG m 0 0 128 16) 0); iexact H2
  isplitl [H2']; · iapply (fullI (vG m 0 128 896 16) 0); iexact H2'
  isplitl [H2'']; · iapply (fullI (vG m 0 896 1024 16) 0); iexact H2''
  isplitl [H3]; · iapply (fullI (vG m 0 0 384 24) 0); iexact H3
  iapply (fullI (vG m 0 384 1024 24) 0); iexact H3'

/-- Window 1 of the statements: what it takes and what it leaves. -/
theorem part1 (A : List Tr) (W : List Aw) (S : List Tr) (hA : ∀ t ∈ A, 0 < t.lev ∧ t.lev < 12) {Q : _ → sProp 𝕄} :
    iprop(aK m 0 ∗ tH 0 0 256 ∗ zer 0 33 ∗ zer 0 34 ∗ (sK m 0 0 256).hole 0 ∗ St m K X 0 (A) W (S) ∗ (aK m 0 -∗ tH 0 0 256 -∗ zer 0 33 -∗ zer 0 34 -∗ (sK m 0 0 256).full 0 -∗ St m K X 0 (A) W (S) -∗ Q (k0_pay2 (tv (arg m 0 main_arg2) 256))))
      ⊢ WP 0 (app (k0_part1 (F := F))) Q := by
  unfold app; rw [k0_part1_eq_skeleton]; unfold k0_part1_skel
  simp only [Prog.lift, Prog.bind_op, Prog.bind_ret, Prog.pure_eq_ret]
  iintro ⟨HaK, Ht, Hz33, Hz34, Hh, HS, Hk⟩
  iapply (cpK m 0 0 (by decide) (sm := 33) rfl rfl) $$ [HaK Ht Hz33]
  · isplitl [HaK]; · iexact HaK
    isplitl [Ht]; · iexact Ht
    iexact Hz33
  iintro HF
  iapply (got m K X 0 0 (arg m 0 main_arg2) (aK m 0) (sm := 33) rfl (A := A) (W := W) (S := S) hA rfl) $$ [HF HS]
  · isplitl [HF] <;> iassumption
  iintro HaK Ht Hz33 HS
  iapply (putK m 0 (w := k0_pay1 (tv (arg m 0 main_arg2) 0)) (shapeCast_self _ _) rfl rfl) $$ Hh; iintro Hh
  iapply (cpK m 0 256 (by decide) (sm := 34) rfl rfl) $$ [HaK Ht Hz34]
  · isplitl [HaK]; · iexact HaK
    isplitl [Ht]; · iexact Ht
    iexact Hz34
  iintro HF
  iapply (got m K X 0 256 (arg m 0 main_arg2) (aK m 0) (sm := 34) rfl (A := A) (W := W) (S := S) hA rfl) $$ [HF HS]
  · isplitl [HF] <;> iassumption
  iintro HaK Ht Hz34 HS
  iapply WP_ret; iapply Hk $$ HaK Ht Hz33 Hz34 Hh HS

/-- Window 2 of the statements: what it takes and what it leaves. -/
theorem part2 (A : List Tr) (W : List Aw) (S : List Tr) (hA : ∀ t ∈ A, 0 < t.lev ∧ t.lev < 12) {Q : _ → sProp 𝕄} :
    iprop(aK m 0 ∗ tH 0 0 256 ∗ zer 0 33 ∗ zer 0 34 ∗ (sK m 0 256 512).hole 0 ∗ (sK m 0 512 768).hole 0 ∗ St m K X 0 (A) W (S) ∗ (aK m 0 -∗ tH 0 0 256 -∗ zer 0 33 -∗ zer 0 34 -∗ (sK m 0 256 512).full 0 -∗ (sK m 0 512 768).full 0 -∗ St m K X 0 (A) W (S) -∗ Q (tv (arg m 0 main_arg2) 768)))
      ⊢ WP 0 (app (k0_part2 (F := F)) (k0_pay2 (tv (arg m 0 main_arg2) 256))) Q := by
  unfold app; rw [k0_part2_eq_skeleton]; unfold k0_part2_skel
  simp only [Prog.lift, Prog.bind_op, Prog.bind_ret, Prog.pure_eq_ret]
  iintro ⟨HaK, Ht, Hz33, Hz34, Hh, Hg, HS, Hk⟩
  iapply (putK m 256 (w := k0_pay3 (k0_pay2 (tv (arg m 0 main_arg2) 256))) (shapeCast_self _ _) rfl rfl) $$ Hh; iintro Hh
  iapply (cpK m 0 512 (by decide) (sm := 33) rfl rfl) $$ [HaK Ht Hz33]
  · isplitl [HaK]; · iexact HaK
    isplitl [Ht]; · iexact Ht
    iexact Hz33
  iintro HF
  iapply (got m K X 0 512 (arg m 0 main_arg2) (aK m 0) (sm := 33) rfl (A := A) (W := W) (S := S) hA rfl) $$ [HF HS]
  · isplitl [HF] <;> iassumption
  iintro HaK Ht Hz33 HS
  iapply (putK m 512 (w := k0_pay4 (tv (arg m 0 main_arg2) 512)) (shapeCast_self _ _) rfl rfl) $$ Hg; iintro Hg
  iapply (cpK m 0 768 (by decide) (sm := 34) rfl rfl) $$ [HaK Ht Hz34]
  · isplitl [HaK]; · iexact HaK
    isplitl [Ht]; · iexact Ht
    iexact Hz34
  iintro HF
  iapply (got m K X 0 768 (arg m 0 main_arg2) (aK m 0) (sm := 34) rfl (A := A) (W := W) (S := S) hA rfl) $$ [HF HS]
  · isplitl [HF] <;> iassumption
  iintro HaK Ht Hz34 HS
  iapply WP_ret; iapply Hk $$ HaK Ht Hz33 Hz34 Hh Hg HS

/-- Window 3 of the statements: what it takes and what it leaves. -/
theorem part3 (h : k0_cond1 0 = 1#1) (A : List Tr) (W : List Aw) (S : List Tr) (hA : ∀ t ∈ A, 0 < t.lev ∧ t.lev < 12) {Q : _ → sProp 𝕄} :
    iprop((sK m 0 0 256).full 0 ∗ (sK m 0 256 512).full 0 ∗ (sK m 0 512 768).full 0 ∗ (sK m 0 768 1024).hole 0 ∗ St m K X 0 (⟨4, 1, 37, 2, 49152⟩ :: ⟨5, 1, 21, 3, 40960⟩ :: A) W (S) ∗ ((kG m 0 0 1024 0).full 0 -∗ (kG m 0 640 1024 8).full 0 -∗ (kG m 0 0 128 16).full 0 -∗ (kG m 0 896 1024 16).full 0 -∗ (kG m 0 0 384 24).full 0 -∗ (kG m 0 384 1024 24).full 0 -∗ St m K X 0 (A) W (⟨5, 1, 21, 3, 40960⟩ :: ⟨4, 1, 37, 2, 49152⟩ :: S) -∗ Q ⟨⟩))
      ⊢ WP 0 (app (k0_part3 (F := F)) 0 h (tv (arg m 0 main_arg2) 768)) Q := by
  unfold app; rw [k0_part3_eq_skeleton]; unfold k0_part3_skel
  simp only [Prog.lift, Prog.bind_op, Prog.bind_ret, Prog.pure_eq_ret]
  iintro ⟨H1, H2, H3, H4, HS, Hk⟩
  iapply (putK m 768 (w := k0_pay5 (tv (arg m 0 main_arg2) 768)) (shapeCast_self _ _) rfl rfl) $$ H4; iintro H4
  ihave H := (cutK0 m) $$ [H1 H2 H3 H4]
  · isplitl [H1]; · iexact H1
    isplitl [H2]; · iexact H2
    isplitl [H3] <;> iassumption
  icases H with ⟨H0, H1, H1', H2, H2', H2'', H3, H3'⟩
  iapply (send_kr m K X 0 _ ⟨4, 1, 37, 2, 49152⟩ 768 128 (A := ⟨5, 1, 21, 3, 40960⟩ :: A) (W := W) (S := S) (Fin.ext k0_dev4_eq) rfl rfl rfl rfl (by decide) rfl rfl rfl rfl) $$ [HS H2']
  · isplitl [HS]; · iexact HS
    iexact H2'
  iintro HS
  iapply (send_kk m K X 0 _ ⟨5, 1, 21, 3, 40960⟩ 0 640 0 8 0 (A := A) (W := W) (S := ⟨4, 1, 37, 2, 49152⟩ :: S) (Fin.ext k0_dev5_eq) rfl rfl rfl rfl (by decide) ⟨Or.inl ⟨rfl, rfl, by decide⟩, rfl⟩ rfl rfl rfl) $$ [HS H1]
  · isplitl [HS]; · iexact HS
    iexact H1
  iintro HS
  iapply WP_ret; iapply Hk $$ H0 H1' H2 H2'' H3 H3' HS

/-- Window 4 of the statements: what it takes and what it leaves. -/
theorem part4 (h : k0_cond1 0 = 1#1) (A : List Tr) (W : List Aw) (S : List Tr) (hA : ∀ t ∈ A, 0 < t.lev ∧ t.lev < 12) {Q : _ → sProp 𝕄} :
    iprop(aV m 0 ∗ tH 0 0 256 ∗ zer 0 35 ∗ zer 0 36 ∗ (sV m 0 0 256).hole 0 ∗ (kG m 0 0 1024 0).full 0 ∗ (kG m 0 384 1024 24).full 0 ∗ (kbR m 0 0 1024).hole 0 ∗ St m K X 0 (⟨6, 3, 21, 3, 40960⟩ :: A) W (S) ∗ (LF 0 36 131072 iprop(aV m 0 ∗ tO 0 0 256 (tmpF (arg m 0 main_arg3) 256 0)) -∗ zer 0 35 -∗ (sV m 0 0 256).full 0 -∗ (kG m 0 0 1024 0).full 0 -∗ (kbR m 0 0 1024).full 0 -∗ St m K X 0 (A) W (⟨6, 3, 21, 3, 40960⟩ :: S) -∗ Q ⟨⟩))
      ⊢ WP 0 (app (k0_part4 (F := F)) 0 h) Q := by
  unfold app; rw [k0_part4_eq_skeleton]; unfold k0_part4_skel
  simp only [Prog.lift, Prog.bind_op, Prog.bind_ret, Prog.pure_eq_ret]
  iintro ⟨HaV, Ht, Hz35, Hz36, Hh, Hk0, Hk3, Hw, HS, Hk⟩
  iapply (send_kk m K X 0 _ ⟨6, 3, 21, 3, 40960⟩ 0 640 384 24 384 (A := A) (W := W) (S := S) (Fin.ext k0_dev6_eq) rfl rfl rfl rfl (by decide) ⟨Or.inl ⟨rfl, rfl, by decide⟩, rfl⟩ rfl rfl rfl) $$ [HS Hk3]
  · isplitl [HS]; · iexact HS
    iexact Hk3
  iintro HS
  iapply (mineK m 0 0 1024 (Or.inl ⟨rfl, rfl, by decide⟩) k0_pay6 (fun x => shapeCast_self x _) rfl rfl rfl) $$ [Hk0 Hw]
  · isplitl [Hk0] <;> iassumption
  iintro Hk0 Hw
  iapply (cpV m 0 0 (by decide) (sm := 35) rfl rfl) $$ [HaV Ht Hz35]
  · isplitl [HaV]; · iexact HaV
    isplitl [Ht]; · iexact Ht
    iexact Hz35
  iintro HF
  iapply (got m K X 0 0 (arg m 0 main_arg3) (aV m 0) (sm := 35) rfl (A := A) (W := W) (S := (⟨6, 3, 21, 3, 40960⟩ :: S)) hA rfl) $$ [HF HS]
  · isplitl [HF] <;> iassumption
  iintro HaV Ht Hz35 HS
  iapply (putV m 0 (w := k0_pay7 (tv (arg m 0 main_arg3) 0)) (shapeCast_self _ _) rfl rfl) $$ Hh; iintro Hh
  iapply (cpV m 0 256 (by decide) (sm := 36) rfl rfl) $$ [HaV Ht Hz36]
  · isplitl [HaV]; · iexact HaV
    isplitl [Ht]; · iexact Ht
    iexact Hz36
  iintro HF
  iapply WP_ret; iapply Hk $$ HF Hz35 Hh Hk0 Hw HS

/-- Window 5 of the statements: what it takes and what it leaves. -/
theorem part5 (A : List Tr) (W : List Aw) (S : List Tr) (hA : ∀ t ∈ A, 0 < t.lev ∧ t.lev < 12) {Q : _ → sProp 𝕄} :
    iprop(LF 0 36 131072 iprop(aV m 0 ∗ tO 0 0 256 (tmpF (arg m 0 main_arg3) 256 0)) ∗ zer 0 35 ∗ (sV m 0 256 512).hole 0 ∗ (sV m 0 512 768).hole 0 ∗ St m K X 0 (A) W (S) ∗ (LF 0 36 131072 iprop(aV m 0 ∗ tO 0 0 256 (tmpF (arg m 0 main_arg3) 768 0)) -∗ zer 0 35 -∗ (sV m 0 256 512).full 0 -∗ (sV m 0 512 768).full 0 -∗ St m K X 0 (A) W (S) -∗ Q ⟨⟩))
      ⊢ WP 0 (app (k0_part5 (F := F))) Q := by
  unfold app; rw [k0_part5_eq_skeleton]; unfold k0_part5_skel
  simp only [Prog.lift, Prog.bind_op, Prog.bind_ret, Prog.pure_eq_ret]
  iintro ⟨HF, Hz35, Hh, Hg, HS, Hk⟩
  iapply (got m K X 0 256 (arg m 0 main_arg3) (aV m 0) (sm := 36) rfl (A := A) (W := W) (S := S) hA rfl) $$ [HF HS]
  · isplitl [HF] <;> iassumption
  iintro HaV Ht Hz36 HS
  iapply (putV m 256 (w := k0_pay8 (tv (arg m 0 main_arg3) 256)) (shapeCast_self _ _) rfl rfl) $$ Hh; iintro Hh
  iapply (cpV m 0 512 (by decide) (sm := 35) rfl rfl) $$ [HaV Ht Hz35]
  · isplitl [HaV]; · iexact HaV
    isplitl [Ht]; · iexact Ht
    iexact Hz35
  iintro HF
  iapply (got m K X 0 512 (arg m 0 main_arg3) (aV m 0) (sm := 35) rfl (A := A) (W := W) (S := S) hA rfl) $$ [HF HS]
  · isplitl [HF] <;> iassumption
  iintro HaV Ht Hz35 HS
  iapply (putV m 512 (w := k0_pay9 (tv (arg m 0 main_arg3) 512)) (shapeCast_self _ _) rfl rfl) $$ Hg; iintro Hg
  iapply (cpV m 0 768 (by decide) (sm := 36) rfl rfl) $$ [HaV Ht Hz36]
  · isplitl [HaV]; · iexact HaV
    isplitl [Ht]; · iexact Ht
    iexact Hz36
  iintro HF
  iapply WP_ret; iapply Hk $$ HF Hz35 Hh Hg HS

/-- Window 6 of the statements: what it takes and what it leaves. -/
theorem part6 (h : k0_cond1 0 = 1#1) (A : List Tr) (W : List Aw) (S : List Tr) (hA : ∀ t ∈ A, 0 < t.lev ∧ t.lev < 12) {Q : _ → sProp 𝕄} :
    iprop(LF 0 36 131072 iprop(aV m 0 ∗ tO 0 0 256 (tmpF (arg m 0 main_arg3) 768 0)) ∗ (sV m 0 0 256).full 0 ∗ (sV m 0 256 512).full 0 ∗ (sV m 0 512 768).full 0 ∗ (sV m 0 768 1024).hole 0 ∗ St m K X 0 (⟨7, 3, 37, 2, 49152⟩ :: ⟨8, 1, 22, 3, 40960⟩ :: A) W (S) ∗ (aV m 0 -∗ tH 0 0 256 -∗ zer 0 36 -∗ (vG m 0 0 1024 0).full 0 -∗ (vG m 0 640 1024 8).full 0 -∗ (vG m 0 0 128 16).full 0 -∗ (vG m 0 896 1024 16).full 0 -∗ (vG m 0 0 384 24).full 0 -∗ (vG m 0 384 1024 24).full 0 -∗ St m K X 0 (A) W (⟨8, 1, 22, 3, 40960⟩ :: ⟨7, 3, 37, 2, 49152⟩ :: S) -∗ ∀ u, Q u))
      ⊢ WP 0 (app (k0_part6 (F := F)) 0 h) Q := by
  unfold app; rw [k0_part6_eq_skeleton]; unfold k0_part6_skel
  simp only [Prog.lift, Prog.bind_op, Prog.bind_ret, Prog.pure_eq_ret]
  iintro ⟨HF, H1, H2, H3, H4, HS, Hk⟩
  iapply (got m K X 0 768 (arg m 0 main_arg3) (aV m 0) (sm := 36) rfl (A := (⟨7, 3, 37, 2, 49152⟩ :: ⟨8, 1, 22, 3, 40960⟩ :: A)) (W := W) (S := S) (lev_cons (by decide) (lev_cons (by decide) hA)) rfl) $$ [HF HS]
  · isplitl [HF] <;> iassumption
  iintro HaV Ht Hz36 HS
  iapply (putV m 768 (w := k0_pay10 (tv (arg m 0 main_arg3) 768)) (shapeCast_self _ _) rfl rfl) $$ H4; iintro H4
  ihave H := (cutV0 m) $$ [H1 H2 H3 H4]
  · isplitl [H1]; · iexact H1
    isplitl [H2]; · iexact H2
    isplitl [H3] <;> iassumption
  icases H with ⟨H0, H1, H1', H2, H2', H2'', H3, H3'⟩
  iapply (send_vr m K X 0 _ ⟨7, 3, 37, 2, 49152⟩ 768 128 (A := ⟨8, 1, 22, 3, 40960⟩ :: A) (W := W) (S := S) (Fin.ext k0_dev7_eq) rfl rfl rfl rfl (by decide) rfl rfl rfl rfl) $$ [HS H2']
  · isplitl [HS]; · iexact HS
    iexact H2'
  iintro HS
  iapply (send_vv m K X 0 _ ⟨8, 1, 22, 3, 40960⟩ 0 640 0 8 0 (A := A) (W := W) (S := ⟨7, 3, 37, 2, 49152⟩ :: S) (Fin.ext k0_dev8_eq) rfl rfl rfl rfl (by decide) ⟨Or.inl ⟨rfl, rfl, by decide⟩, rfl⟩ rfl rfl rfl) $$ [HS H1]
  · isplitl [HS]; · iexact HS
    iexact H1
  iintro HS
  iapply WP_ret; iapply Hk $$ HaV Ht Hz36 H0 H1' H2 H2'' H3 H3' HS

/-- Window 7 of the statements: what it takes and what it leaves. -/
theorem part7 (h : k0_cond1 0 = 1#1) (u : BitVec 32) (A : List Tr) (W : List Aw) (S : List Tr) (hA : ∀ t ∈ A, 0 < t.lev ∧ t.lev < 12) {Q : _ → sProp 𝕄} :
    iprop((vG m 0 0 1024 0).full 0 ∗ (vG m 0 384 1024 24).full 0 ∗ (vbR m 0 0 1024).hole 0 ∗ (kG m 0 640 1024 8).full 0 ∗ St m K X 0 (⟨9, 3, 22, 3, 40960⟩ :: ⟨10, 1, 23, 6, 24576⟩ :: A) W (S) ∗ ((vG m 0 0 1024 0).full 0 -∗ (vbR m 0 0 1024).full 0 -∗ St m K X 0 (A) W (⟨10, 1, 23, 6, 24576⟩ :: ⟨9, 3, 22, 3, 40960⟩ :: S) -∗ Q ⟨⟩))
      ⊢ WP 0 (app (k0_part7 (F := F)) 0 h u) Q := by
  unfold app; rw [k0_part7_eq_skeleton]; unfold k0_part7_skel
  simp only [Prog.lift, Prog.bind_op, Prog.bind_ret, Prog.pure_eq_ret]
  iintro ⟨Hk0, Hk3, Hw, Hk1, HS, Hk⟩
  iapply (send_vv m K X 0 _ ⟨9, 3, 22, 3, 40960⟩ 0 640 384 24 384 (A := ⟨10, 1, 23, 6, 24576⟩ :: A) (W := W) (S := S) (Fin.ext k0_dev9_eq) rfl rfl rfl rfl (by decide) ⟨Or.inl ⟨rfl, rfl, by decide⟩, rfl⟩ rfl rfl rfl) $$ [HS Hk3]
  · isplitl [HS]; · iexact HS
    iexact Hk3
  iintro HS
  iapply (mineV m 0 0 1024 (Or.inl ⟨rfl, rfl, by decide⟩) k0_pay11 (fun x => shapeCast_self x _) rfl rfl rfl) $$ [Hk0 Hw]
  · isplitl [Hk0] <;> iassumption
  iintro Hk0 Hw
  iapply (send_kk m K X 0 _ ⟨10, 1, 23, 6, 24576⟩ 0 384 640 8 640 (A := A) (W := W) (S := ⟨9, 3, 22, 3, 40960⟩ :: S) (Fin.ext k0_dev10_eq) rfl rfl rfl rfl (by decide) ⟨Or.inl ⟨rfl, rfl, by decide⟩, rfl⟩ rfl rfl rfl) $$ [HS Hk1]
  · isplitl [HS]; · iexact HS
    iexact Hk1
  iintro HS
  iapply WP_ret; iapply Hk $$ Hk0 Hw HS

/-- Window 8 of the statements: what it takes and what it leaves. -/
theorem part8 (h : k0_cond1 0 = 1#1) (A : List Tr) (W : List Aw) (S : List Tr) (hA : ∀ t ∈ A, 0 < t.lev ∧ t.lev < 12) {Q : _ → sProp 𝕄} :
    iprop((vG m 0 640 1024 8).full 0 ∗ (kG m 0 0 384 24).full 0 ∗ (vG m 0 0 384 24).full 0 ∗ (kG m 0 0 128 16).full 0 ∗ St m K X 0 (⟨11, 1, 24, 6, 24576⟩ :: ⟨12, 3, 23, 6, 24576⟩ :: ⟨13, 3, 24, 6, 24576⟩ :: ⟨14, 1, 38, 5, 8192⟩ :: A) W (S) ∗ (St m K X 0 (A) W (⟨14, 1, 38, 5, 8192⟩ :: ⟨13, 3, 24, 6, 24576⟩ :: ⟨12, 3, 23, 6, 24576⟩ :: ⟨11, 1, 24, 6, 24576⟩ :: S) -∗ ∀ u, Q u))
      ⊢ WP 0 (app (k0_part8 (F := F)) 0 h) Q := by
  unfold app; rw [k0_part8_eq_skeleton]; unfold k0_part8_skel
  simp only [Prog.lift, Prog.bind_op, Prog.bind_ret, Prog.pure_eq_ret]
  iintro ⟨H1, H2, H3, H4, HS, Hk⟩
  iapply (send_vv m K X 0 _ ⟨11, 1, 24, 6, 24576⟩ 0 384 640 8 640 (A := ⟨12, 3, 23, 6, 24576⟩ :: ⟨13, 3, 24, 6, 24576⟩ :: ⟨14, 1, 38, 5, 8192⟩ :: A) (W := W) (S := S) (Fin.ext k0_dev11_eq) rfl rfl rfl rfl (by decide) ⟨Or.inl ⟨rfl, rfl, by decide⟩, rfl⟩ rfl rfl rfl) $$ [HS H1]
  · isplitl [HS]; · iexact HS
    iexact H1
  iintro HS
  iapply (send_kk m K X 0 _ ⟨12, 3, 23, 6, 24576⟩ 0 384 0 24 0 (A := ⟨13, 3, 24, 6, 24576⟩ :: ⟨14, 1, 38, 5, 8192⟩ :: A) (W := W) (S := ⟨11, 1, 24, 6, 24576⟩ :: S) (Fin.ext k0_dev12_eq) rfl rfl rfl rfl (by decide) ⟨Or.inl ⟨rfl, rfl, by decide⟩, rfl⟩ rfl rfl rfl) $$ [HS H2]
  · isplitl [HS]; · iexact HS
    iexact H2
  iintro HS
  iapply (send_vv m K X 0 _ ⟨13, 3, 24, 6, 24576⟩ 0 384 0 24 0 (A := ⟨14, 1, 38, 5, 8192⟩ :: A) (W := W) (S := ⟨12, 3, 23, 6, 24576⟩ :: ⟨11, 1, 24, 6, 24576⟩ :: S) (Fin.ext k0_dev13_eq) rfl rfl rfl rfl (by decide) ⟨Or.inl ⟨rfl, rfl, by decide⟩, rfl⟩ rfl rfl rfl) $$ [HS H3]
  · isplitl [HS]; · iexact HS
    iexact H3
  iintro HS
  iapply (send_kr m K X 0 _ ⟨14, 1, 38, 5, 8192⟩ 128 0 (A := A) (W := W) (S := ⟨13, 3, 24, 6, 24576⟩ :: ⟨12, 3, 23, 6, 24576⟩ :: ⟨11, 1, 24, 6, 24576⟩ :: S) (Fin.ext k0_dev14_eq) rfl rfl rfl rfl (by decide) rfl rfl rfl rfl) $$ [HS H4]
  · isplitl [HS]; · iexact HS
    iexact H4
  iintro HS
  iapply WP_ret; iapply Hk $$ HS

end Cert.KernelIdealProof
-- ==== Proof.KI.Place1.lean ====
/-
Device 1 before the attention: its first 128 rows of K and V are staged and sent, and its own heads stored.
-/
module

public import proofs.«01_k».proof.Proof.KI.Place0

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ) (X : sProp (MT nD τ sig ℕ (Elt F) ℕ UU ℕ))
variable {α : Type} {Q : α → sProp (MT nD τ sig ℕ (Elt F) ℕ UU ℕ)}

/-- The staged rows of K of device 1 cut into the heads of the four devices. -/
theorem cutK1 : (sK m 1 0 128).full 1
    ⊢ (iprop((kG m 1 0 128 0).full 1 ∗ (kG m 1 0 128 8).full 1 ∗ (kG m 1 0 128 16).full 1 ∗ (kG m 1 0 128 24).full 1) : sProp 𝕄) := by
  iintro H
  ihave H := (fullE (sK m 1 0 128) 1) $$ H
  ihave H := (own_cut 1 cc0_scratch5 (cut1 0 128 0 8 32 0 128 (by decide)) (kc m 1)).1 $$ H; icases H with ⟨H0, H⟩
  ihave H := (own_cut 1 cc0_scratch5 (cut1 0 128 8 16 32 0 128 (by decide)) (kc m 1)).1 $$ H; icases H with ⟨H1, H⟩
  ihave H := (own_cut 1 cc0_scratch5 (cut1 0 128 16 24 32 0 128 (by decide)) (kc m 1)).1 $$ H; icases H with ⟨H2, H3⟩
  isplitl [H0]; · iapply (fullI (kG m 1 0 128 0) 1); iexact H0
  isplitl [H1]; · iapply (fullI (kG m 1 0 128 8) 1); iexact H1
  isplitl [H2]; · iapply (fullI (kG m 1 0 128 16) 1); iexact H2
  iapply (fullI (kG m 1 0 128 24) 1); iexact H3

/-- The staged rows of V of device 1 cut into the heads of the four devices. -/
theorem cutV1 : (sV m 1 0 128).full 1
    ⊢ (iprop((vG m 1 0 128 0).full 1 ∗ (vG m 1 0 128 8).full 1 ∗ (vG m 1 0 128 16).full 1 ∗ (vG m 1 0 128 24).full 1) : sProp 𝕄) := by
  iintro H
  ihave H := (fullE (sV m 1 0 128) 1) $$ H
  ihave H := (own_cut 1 cc0_scratch6 (cut1 0 128 0 8 32 0 128 (by decide)) (vc m 1)).1 $$ H; icases H with ⟨H0, H⟩
  ihave H := (own_cut 1 cc0_scratch6 (cut1 0 128 8 16 32 0 128 (by decide)) (vc m 1)).1 $$ H; icases H with ⟨H1, H⟩
  ihave H := (own_cut 1 cc0_scratch6 (cut1 0 128 16 24 32 0 128 (by decide)) (vc m 1)).1 $$ H; icases H with ⟨H2, H3⟩
  isplitl [H0]; · iapply (fullI (vG m 1 0 128 0) 1); iexact H0
  isplitl [H1]; · iapply (fullI (vG m 1 0 128 8) 1); iexact H1
  isplitl [H2]; · iapply (fullI (vG m 1 0 128 16) 1); iexact H2
  iapply (fullI (vG m 1 0 128 24) 1); iexact H3

/-- Device 1 stages its rows of K and starts the copy of those of V. -/
theorem part9 (A : List Tr) (W : List Aw) (S : List Tr) (hA : ∀ t ∈ A, 0 < t.lev ∧ t.lev < 12) {Q : _ → sProp 𝕄} :
    iprop(aK m 1 ∗ aV m 1 ∗ tH 1 0 128 ∗ tH 1 128 256 ∗ zer 1 33 ∗ zer 1 34 ∗ (sK m 1 0 128).hole 1 ∗ St m K X 1 A W S
        ∗ (aK m 1 -∗ LF 1 34 65536 iprop(aV m 1 ∗ tO 1 128 256 (tmpF (arg m 1 main_arg3) 0 128)) -∗ tH 1 0 128 -∗ zer 1 33 -∗ (sK m 1 0 128).full 1 -∗ St m K X 1 A W S -∗ Q ⟨⟩))
      ⊢ WP 1 (app (k0_part9 (F := F))) Q := by
  unfold app; rw [k0_part9_eq_skeleton]; unfold k0_part9_skel
  simp only [Prog.lift, Prog.bind_op, Prog.bind_ret, Prog.pure_eq_ret]
  iintro ⟨Ha, Hb, Ht, Ht2, Hz33, Hz34, Hh, HS, Hk⟩
  iapply (cqK m 1 0 (sm := 33) rfl rfl rfl rfl) $$ [Ha Ht Hz33]
  · isplitl [Ha]; · iexact Ha
    isplitl [Ht] <;> iassumption
  iintro HF
  iapply (st_lw m K X (sm := 33) rfl (A := A) (W := W) (S := S) 65536 rfl hA iprop(aK m 1 ∗ tO 1 0 128 (tmpF (arg m 1 main_arg2) 0 0))) $$ [HF HS]
  · isplitl [HF] <;> iassumption
  iintro ⟨⟨Ha, Ht⟩, Hz33, HS⟩
  iapply (ldt 1 0 128 (tmpF (arg m 1 main_arg2) 0 0) rfl) $$ Ht; iintro Ht
  ihave Ht := (tO_tH 1 0 128 _) $$ Ht
  iapply (lsK m 1 0 128 rfl) $$ Hh; iintro %v Hh
  iapply (ssK m 1 0 0 128 rfl rfl (w := k0_pay12 _) (shapeCast_self _ _)) $$ Hh; iintro Hh
  iapply (cqV m 1 128 (sm := 34) rfl rfl rfl rfl) $$ [Hb Ht2 Hz34]
  · isplitl [Hb]; · iexact Hb
    isplitl [Ht2] <;> iassumption
  iintro HF
  iapply WP_ret; iapply Hk $$ Ha HF Ht Hz33 Hh HS

/-- Device 1 stages its rows of V and sends device 0's heads. -/
theorem part10 (h : k0_cond2 1 = 1#1) (A : List Tr) (W : List Aw) (S : List Tr) (hA : ∀ t ∈ A, 0 < t.lev ∧ t.lev < 12) {Q : _ → sProp 𝕄} :
    iprop(LF 1 34 65536 iprop(aV m 1 ∗ tO 1 128 256 (tmpF (arg m 1 main_arg3) 0 128)) ∗ (sK m 1 0 128).full 1 ∗ (sV m 1 0 128).hole 1 ∗ St m K X 1 (⟨4, 0, 27, 3, 8192⟩ :: ⟨7, 0, 28, 3, 8192⟩ :: A) W S
        ∗ (aV m 1 -∗ tH 1 128 256 -∗ zer 1 34 -∗ (kG m 1 0 128 8).full 1 -∗ (kG m 1 0 128 16).full 1 -∗ (kG m 1 0 128 24).full 1 -∗ (vG m 1 0 128 8).full 1 -∗ (vG m 1 0 128 16).full 1
          -∗ (vG m 1 0 128 24).full 1 -∗ St m K X 1 A W (⟨7, 0, 28, 3, 8192⟩ :: ⟨4, 0, 27, 3, 8192⟩ :: S) -∗ ∀ u, Q u))
      ⊢ WP 1 (app (k0_part10 (F := F)) 1 h) Q := by
  unfold app; rw [k0_part10_eq_skeleton]; unfold k0_part10_skel
  simp only [Prog.lift, Prog.bind_op, Prog.bind_ret, Prog.pure_eq_ret]
  iintro ⟨HF, HK, Hh, HS, Hk⟩
  iapply (st_lw m K X (sm := 34) rfl (A := ⟨4, 0, 27, 3, 8192⟩ :: ⟨7, 0, 28, 3, 8192⟩ :: A) (W := W) (S := S) 65536 rfl (lev_cons (by decide) (lev_cons (by decide) hA)) iprop(aV m 1 ∗ tO 1 128 256 (tmpF (arg m 1 main_arg3) 0 128))) $$ [HF HS]
  · isplitl [HF] <;> iassumption
  iintro ⟨⟨Ha, Ht⟩, Hz, HS⟩
  iapply (ldt 1 128 128 (tmpF (arg m 1 main_arg3) 0 128) rfl) $$ Ht; iintro Ht
  ihave Ht := (tO_tH 1 128 256 _) $$ Ht
  iapply (lsV m 1 0 128 rfl) $$ Hh; iintro %v Hh
  iapply (ssV m 1 0 128 128 rfl rfl (w := k0_pay13 _) (shapeCast_self _ _)) $$ Hh; iintro Hh
  ihave H := (cutK1 m) $$ HK; icases H with ⟨K0, K1, K2, K3⟩
  ihave H := (cutV1 m) $$ Hh; icases H with ⟨V0, V1, V2, V3⟩
  iapply (send_kk m K X 1 _ ⟨4, 0, 27, 3, 8192⟩ 1 128 0 0 1024 (A := ⟨7, 0, 28, 3, 8192⟩ :: A) (W := W) (S := S) (Fin.ext k0_dev18_eq) rfl rfl rfl rfl (by decide) ⟨Or.inr ⟨rfl, rfl⟩, rfl⟩ rfl rfl rfl) $$ [HS K0]
  · isplitl [HS]; · iexact HS
    iexact K0
  iintro HS
  iapply (send_vv m K X 1 _ ⟨7, 0, 28, 3, 8192⟩ 1 128 0 0 1024 (A := A) (W := W) (S := ⟨4, 0, 27, 3, 8192⟩ :: S) (Fin.ext k0_dev19_eq) rfl rfl rfl rfl (by decide) ⟨Or.inr ⟨rfl, rfl⟩, rfl⟩ rfl rfl rfl) $$ [HS V0]
  · isplitl [HS]; · iexact HS
    iexact V0
  iintro HS
  iapply WP_ret; iapply Hk $$ Ha Ht Hz K1 K2 K3 V1 V2 V3 HS

/-- Device 1 sends device 2's heads and device 3's heads of K. -/
theorem part11 (h : k0_cond2 1 = 1#1) (u1 u2 : BitVec 32) (A : List Tr) (W : List Aw) (S : List Tr) {Q : _ → sProp 𝕄} :
    iprop((kG m 1 0 128 16).full 1 ∗ (vG m 1 0 128 16).full 1 ∗ (kG m 1 0 128 24).full 1 ∗ St m K X 1 (⟨5, 2, 27, 3, 8192⟩ :: ⟨8, 2, 28, 3, 8192⟩ :: ⟨6, 3, 27, 3, 8192⟩ :: A) W S
        ∗ (St m K X 1 A W (⟨6, 3, 27, 3, 8192⟩ :: ⟨8, 2, 28, 3, 8192⟩ :: ⟨5, 2, 27, 3, 8192⟩ :: S) -∗ Q ⟨⟩))
      ⊢ WP 1 (app (k0_part11 (F := F)) 1 h u1 u2) Q := by
  unfold app; rw [k0_part11_eq_skeleton]; unfold k0_part11_skel
  simp only [Prog.lift, Prog.bind_op, Prog.bind_ret, Prog.pure_eq_ret]
  iintro ⟨K2, V2, K3, HS, Hk⟩
  iapply (send_kk m K X 1 _ ⟨5, 2, 27, 3, 8192⟩ 1 128 0 16 1024 (A := ⟨8, 2, 28, 3, 8192⟩ :: ⟨6, 3, 27, 3, 8192⟩ :: A) (W := W) (S := S) (Fin.ext k0_dev20_eq) rfl rfl rfl rfl (by decide) ⟨Or.inr ⟨rfl, rfl⟩, rfl⟩ rfl rfl rfl) $$ [HS K2]
  · isplitl [HS]; · iexact HS
    iexact K2
  iintro HS
  iapply (send_vv m K X 1 _ ⟨8, 2, 28, 3, 8192⟩ 1 128 0 16 1024 (A := ⟨6, 3, 27, 3, 8192⟩ :: A) (W := W) (S := ⟨5, 2, 27, 3, 8192⟩ :: S) (Fin.ext k0_dev21_eq) rfl rfl rfl rfl (by decide) ⟨Or.inr ⟨rfl, rfl⟩, rfl⟩ rfl rfl rfl) $$ [HS V2]
  · isplitl [HS]; · iexact HS
    iexact V2
  iintro HS
  iapply (send_kk m K X 1 _ ⟨6, 3, 27, 3, 8192⟩ 1 128 0 24 1024 (A := A) (W := W) (S := ⟨8, 2, 28, 3, 8192⟩ :: ⟨5, 2, 27, 3, 8192⟩ :: S) (Fin.ext k0_dev22_eq) rfl rfl rfl rfl (by decide) ⟨Or.inr ⟨rfl, rfl⟩, rfl⟩ rfl rfl rfl) $$ [HS K3]
  · isplitl [HS]; · iexact HS
    iexact K3
  iintro HS
  iapply WP_ret; iapply Hk $$ HS

end Cert.KernelIdealProof
-- ==== Proof.KI.Start.lean ====
/-
The start of the kernel on each device: what it stages and sends, and what it waits for before the attention.
-/
module

public import proofs.«01_k».proof.Proof.KI.Place1

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ) (X : sProp (MT nD τ sig ℕ (Elt F) ℕ UU ℕ))
variable {α : Type} {Q : α → sProp (MT nD τ sig ℕ (Elt F) ℕ UU ℕ)}

/-- Running one program after another. -/
theorem WP_bind {c : Dev nD} {β α : Type} {p : Prog (TpuEff nD τ sig (Elt F) Λ₀ .tc) β} {k : β → Prog (TpuEff nD τ sig (Elt F) Λ₀ .tc) α} {Q : α → sProp 𝕄} :
    WP c p (fun a => WP c (k a) Q) ⊢ WP c (p >>= k) Q := by
  unfold WP; rw [wp_bind]

/-- Any of the four devices is one of these. -/
theorem dev_cases (c : Dev nD) : c = 0 ∨ c = 1 ∨ c = 2 ∨ c = 3 := by revert c; decide

/-- A region at any contents, unfolded. -/
theorem holeE (R : Reg F) (c : Dev nD) : R.hole c ⊢ (hole c R.b R.S : sProp 𝕄) := BI.Entails.refl _
/-- And folded. -/
theorem holeI (R : Reg F) (c : Dev nD) : hole c R.b R.S ⊢ (R.hole c : sProp 𝕄) := BI.Entails.refl _

/-- Levels of a list of transfers and of those after it. -/
theorem lev_app {A : List Tr} (l : List Tr) (hl : ∀ t ∈ l, 0 < t.lev ∧ t.lev < 12) (hA : ∀ t ∈ A, 0 < t.lev ∧ t.lev < 12) : ∀ x ∈ l ++ A, 0 < x.lev ∧ x.lev < 12 := fun x hx =>
  (List.mem_append.mp hx).elim (hl x) (hA x)

/-- The staged blocks of the activations and of the two weights. -/
def XS (c : Dev nD) : sProp 𝕄 :=
  iprop(own c cc0_stg0_0 (Finset.univ : Finset S1x1024x1024.Idx) (arg m c main_arg0) ∗ own c cc0_stg1_0 (Finset.univ : Finset S1024x1024.Idx) (arg m c main_arg1)
    ∗ own c cc0_stg2_0 (Finset.univ : Finset S1024x1024.Idx) (arg m c main_arg4))

/-- What local copies need: the two cached arguments, the landing buffer, and the semaphores. -/
def LB (c : Dev nD) : sProp 𝕄 := iprop(aK m c ∗ aV m c ∗ tH c 0 256 ∗ zer c 33 ∗ zer c 34 ∗ zer c 35 ∗ zer c 36)

/-- The rows of the window buffers that a device stores itself, before, -/
def own0 (c : Dev nD) : sProp 𝕄 :=
  match c with
  | 0 => iprop((kbR m 0 0 1024).hole 0 ∗ (vbR m 0 0 1024).hole 0)
  | 1 => iprop((kbR m 1 1024 1152).hole 1 ∗ (vbR m 1 1024 1152).hole 1)
  | _ => iprop(emp)

/-- and after that. -/
def own1 (c : Dev nD) : sProp 𝕄 :=
  match c with
  | 0 => iprop((kbR m 0 0 1024).full 0 ∗ (vbR m 0 0 1024).full 0)
  | 1 => iprop((kbR m 1 1024 1152).full 1 ∗ (vbR m 1 1024 1152).full 1)
  | _ => iprop(emp)

/-- What stays of the staging buffers of K and V once everything is sent. -/
def stay (c : Dev nD) : sProp 𝕄 :=
  match c with
  | 0 => iprop((kG m 0 0 1024 0).full 0 ∗ (vG m 0 0 1024 0).full 0)
  | 1 => iprop((kG m 1 0 128 8).full 1 ∗ (vG m 1 0 128 8).full 1 ∗ (sK m 1 128 1024).hole 1 ∗ (sV m 1 128 1024).hole 1)
  | c => iprop(hole c cc0_scratch5 (Finset.univ : Finset S1024x32x128.Idx) ∗ hole c cc0_scratch6 (Finset.univ : Finset S1024x32x128.Idx))

/-- The state, along an equation of lists. -/
theorem St_S {c : Dev nD} {A : List Tr} {W : List Aw} {S S2 : List Tr} (h : S = S2) : St m K X c A W S ⊢ St m K X c A W S2 := by subst h; exact BI.Entails.refl _
/-- The state, along an equation of lists. -/
theorem St_A {c : Dev nD} {A A2 : List Tr} {W : List Aw} {S : List Tr} (h : A = A2) : St m K X c A W S ⊢ St m K X c A2 W S := by subst h; exact BI.Entails.refl _
/-- The state, along an equation of lists. -/
theorem St_W {c : Dev nD} {A : List Tr} {W W2 : List Aw} {S : List Tr} (h : W = W2) : St m K X c A W S ⊢ St m K X c A W2 S := by subst h; exact BI.Entails.refl _

/-- The window rows held at stage 0 on device 0, as regions. -/
theorem own0_0 : own0 m 0 ⊢ iprop((kbR m 0 0 1024).hole 0 ∗ (vbR m 0 0 1024).hole 0) := BI.Entails.refl _
/-- The window rows held at stage 0 on device 1, as regions. -/
theorem own0_1 : own0 m 1 ⊢ iprop((kbR m 1 1024 1152).hole 1 ∗ (vbR m 1 1024 1152).hole 1) := BI.Entails.refl _
/-- The window rows held at stage 1 on device 0, as regions. -/
theorem own1_0 : iprop((kbR m 0 0 1024).full 0 ∗ (vbR m 0 0 1024).full 0) ⊢ own1 m 0 := BI.Entails.refl _
/-- The window rows held at stage 1 on device 1, as regions. -/
theorem own1_1 : iprop((kbR m 1 1024 1152).full 1 ∗ (vbR m 1 1024 1152).full 1) ⊢ own1 m 1 := BI.Entails.refl _
/-- The window rows held at stage 1 on device 2, as regions. -/
theorem own1_2 : (iprop(emp) : sProp 𝕄) ⊢ own1 m 2 := BI.Entails.refl _
/-- The window rows held at stage 1 on device 3, as regions. -/
theorem own1_3 : (iprop(emp) : sProp 𝕄) ⊢ own1 m 3 := BI.Entails.refl _
/-- What stays of the staging buffers on device 0, put together. -/
theorem stay_0 : iprop((kG m 0 0 1024 0).full 0 ∗ (vG m 0 0 1024 0).full 0) ⊢ stay m 0 := BI.Entails.refl _
/-- What stays of the staging buffers on device 1, put together. -/
theorem stay_1 : iprop((kG m 1 0 128 8).full 1 ∗ (vG m 1 0 128 8).full 1 ∗ (sK m 1 128 1024).hole 1 ∗ (sV m 1 128 1024).hole 1) ⊢ stay m 1 := BI.Entails.refl _
/-- What stays of the staging buffers on device 2, put together. -/
theorem stay_2 : iprop(hole 2 cc0_scratch5 (Finset.univ : Finset S1024x32x128.Idx) ∗ hole 2 cc0_scratch6 (Finset.univ : Finset S1024x32x128.Idx)) ⊢ stay m 2 := BI.Entails.refl _
/-- What stays of the staging buffers on device 3, put together. -/
theorem stay_3 : iprop(hole 3 cc0_scratch5 (Finset.univ : Finset S1024x32x128.Idx) ∗ hole 3 cc0_scratch6 (Finset.univ : Finset S1024x32x128.Idx)) ⊢ stay m 3 := BI.Entails.refl _

/-- A rectangle that is the whole shape. -/
theorem emb_whole {s : Shape} {off : Fin s.rank → ℕ} (ho : off = fun _ => 0) {i : ∀ a, off a + s.size a ≤ s.size a} (j : s.Idx) : (Rect.unit off s.size i).emb j = j := by
  subst ho; funext a; apply Fin.ext
  exact (ValueKit.rect_emb_unit_val ..).trans (Nat.zero_add _)

/-- The rectangle of a whole shape is everything. -/
theorem set_unit_univ {s : Shape} {off : Fin s.rank → ℕ} (ho : off = fun _ => 0) {i : ∀ a, off a + s.size a ≤ s.size a} : (Rect.unit off s.size i).set = Finset.univ := by
  ext j; simp only [Finset.mem_univ, iff_true]
  subst ho; rw [Rect.mem_set_unit]
  exact fun a => ⟨Nat.zero_le _, (Nat.zero_add (s.size a)).symm ▸ (j a).isLt⟩

/-- The zero offset of rank 2. -/
theorem z2 : (![0, 0] : Fin 2 → ℕ) = fun _ => 0 := by funext a; fin_cases a <;> rfl
/-- The zero offset of rank 3. -/
theorem z3 : (![0, 0, 0] : Fin 3 → ℕ) = fun _ => 0 := by funext a; fin_cases a <;> rfl

/-- The load of the whole of a staged block. -/
theorem ld_x (c : Dev nD) (f : S1x1024x1024.Idx → F .f32) {off : Fin S1x1024x1024.rank → ℕ} (ho : off = fun _ => 0) {inb : ∀ x, off x + S1x1024x1024.size x ≤ S1x1024x1024.size x} {hl}
    {k : Vec F S1x1024x1024 .f32 → Prog (TpuEff nD τ sig (Elt F) Λ₀ .tc) α} :
    own c cc0_stg0_0 (Finset.univ : Finset S1x1024x1024.Idx) f ⊢ iprop((own c cc0_stg0_0 (Finset.univ : Finset S1x1024x1024.Idx) f -∗ WP c (k f) Q)
      -∗ WP c (.op (.load (Memref.whole cc0_stg0_0 : Memref sig .tc .vmem S1x1024x1024 .f32) (Rect.unit (s := S1x1024x1024) off S1x1024x1024.size inb).toLoadRect hl) k) Q) :=
  ld (mr := (Memref.whole cc0_stg0_0 : Memref sig .tc .vmem S1x1024x1024 .f32)) (r := (Rect.unit (s := S1x1024x1024) off S1x1024x1024.size inb))
    (S := (Finset.univ : Finset S1x1024x1024.Idx)) (f := f) _ rfl (Finset.subset_univ _) _ (by exact funext fun j => congrArg f (emb_whole ho j))

/-- The load of the whole of a staged block. -/
theorem ld_wq (c : Dev nD) (f : S1024x1024.Idx → F .f32) {off : Fin S1024x1024.rank → ℕ} (ho : off = fun _ => 0) {inb : ∀ x, off x + S1024x1024.size x ≤ S1024x1024.size x} {hl}
    {k : Vec F S1024x1024 .f32 → Prog (TpuEff nD τ sig (Elt F) Λ₀ .tc) α} :
    own c cc0_stg1_0 (Finset.univ : Finset S1024x1024.Idx) f ⊢ iprop((own c cc0_stg1_0 (Finset.univ : Finset S1024x1024.Idx) f -∗ WP c (k f) Q)
      -∗ WP c (.op (.load (Memref.whole cc0_stg1_0 : Memref sig .tc .vmem S1024x1024 .f32) (Rect.unit (s := S1024x1024) off S1024x1024.size inb).toLoadRect hl) k) Q) :=
  ld (mr := (Memref.whole cc0_stg1_0 : Memref sig .tc .vmem S1024x1024 .f32)) (r := (Rect.unit (s := S1024x1024) off S1024x1024.size inb))
    (S := (Finset.univ : Finset S1024x1024.Idx)) (f := f) _ rfl (Finset.subset_univ _) _ (by exact funext fun j => congrArg f (emb_whole ho j))

/-- The load of the whole of a staged block. -/
theorem ld_wo (c : Dev nD) (f : S1024x1024.Idx → F .f32) {off : Fin S1024x1024.rank → ℕ} (ho : off = fun _ => 0) {inb : ∀ x, off x + S1024x1024.size x ≤ S1024x1024.size x} {hl}
    {k : Vec F S1024x1024 .f32 → Prog (TpuEff nD τ sig (Elt F) Λ₀ .tc) α} :
    own c cc0_stg2_0 (Finset.univ : Finset S1024x1024.Idx) f ⊢ iprop((own c cc0_stg2_0 (Finset.univ : Finset S1024x1024.Idx) f -∗ WP c (k f) Q)
      -∗ WP c (.op (.load (Memref.whole cc0_stg2_0 : Memref sig .tc .vmem S1024x1024 .f32) (Rect.unit (s := S1024x1024) off S1024x1024.size inb).toLoadRect hl) k) Q) :=
  ld (mr := (Memref.whole cc0_stg2_0 : Memref sig .tc .vmem S1024x1024 .f32)) (r := (Rect.unit (s := S1024x1024) off S1024x1024.size inb))
    (S := (Finset.univ : Finset S1024x1024.Idx)) (f := f) _ rfl (Finset.subset_univ _) _ (by exact funext fun j => congrArg f (emb_whole ho j))

/-- Writing the whole of a buffer, after a load whose value is not used. -/
theorem put_q (c : Dev nD) {w : FVec F S1024x1024 .bf16} (hw : w = QS m c) {off2 : Fin S1024x1024.rank → ℕ} (ho2 : off2 = fun _ => 0)
    {inb2 : ∀ x, off2 x + S1024x1024.size x ≤ S1024x1024.size x} {hx hm}
    {k : PUnit → Prog (TpuEff nD τ sig (Elt F) Λ₀ .tc) α} :
    hole c cc0_scratch2 (Finset.univ : Finset S1024x1024.Idx) ⊢ iprop((own c cc0_scratch2 (Finset.univ : Finset S1024x1024.Idx) (QS m c) -∗ WP c (k ⟨⟩) Q)
      -∗ WP c (.op (.store (Memref.whole cc0_scratch2 : Memref sig .tc .vmem S1024x1024 .bf16) (Rect.unit (s := S1024x1024) off2 S1024x1024.size inb2) w Finset.univ hx hm) k) Q) :=
  stw (mr := (Memref.whole cc0_scratch2 : Memref sig .tc .vmem S1024x1024 .bf16)) (r := (Rect.unit (s := S1024x1024) off2 S1024x1024.size inb2))
    (S := (Finset.univ : Finset S1024x1024.Idx)) _ _ (QS m c) rfl rfl ((View.set_slice_whole cc0_scratch2 _).trans (set_unit_univ ho2))
    (hw.trans (by exact funext fun j => (congrArg (QS m c) (emb_whole ho2 j)).symm))

/-- A load of the query buffer whose value is not used. -/
theorem dl_q (c : Dev nD) {off : Fin S1024x1024.rank → ℕ} (ho : off = fun _ => 0)
    {inb : ∀ x, off x + S1024x1024.size x ≤ S1024x1024.size x} {hl} {k : Vec F S1024x1024 .bf16 → Prog (TpuEff nD τ sig (Elt F) Λ₀ .tc) α} :
    hole c cc0_scratch2 (Finset.univ : Finset S1024x1024.Idx) ⊢ iprop((∀ v, hole c cc0_scratch2 (Finset.univ : Finset S1024x1024.Idx) -∗ WP c (k v) Q)
      -∗ WP c (.op (.load (Memref.whole cc0_scratch2 : Memref sig .tc .vmem S1024x1024 .bf16) (Rect.unit (s := S1024x1024) off S1024x1024.size inb).toLoadRect hl) k) Q) :=
  ldd (mr := (Memref.whole cc0_scratch2 : Memref sig .tc .vmem S1024x1024 .bf16)) (r := (Rect.unit (s := S1024x1024) off S1024x1024.size inb))
    (S := (Finset.univ : Finset S1024x1024.Idx)) _ rfl ((View.set_slice_whole cc0_scratch2 _).trans (set_unit_univ ho))

/-- Writing the whole of a buffer, after a load whose value is not used. -/
theorem put_o (c : Dev nD) {w : FVec F S1024x1024 .bf16} (hw : w = WO m c) {off2 : Fin S1024x1024.rank → ℕ} (ho2 : off2 = fun _ => 0)
    {inb2 : ∀ x, off2 x + S1024x1024.size x ≤ S1024x1024.size x} {hx hm}
    {k : PUnit → Prog (TpuEff nD τ sig (Elt F) Λ₀ .tc) α} :
    hole c cc0_scratch3 (Finset.univ : Finset S1024x1024.Idx) ⊢ iprop((own c cc0_scratch3 (Finset.univ : Finset S1024x1024.Idx) (WO m c) -∗ WP c (k ⟨⟩) Q)
      -∗ WP c (.op (.store (Memref.whole cc0_scratch3 : Memref sig .tc .vmem S1024x1024 .bf16) (Rect.unit (s := S1024x1024) off2 S1024x1024.size inb2) w Finset.univ hx hm) k) Q) :=
  stw (mr := (Memref.whole cc0_scratch3 : Memref sig .tc .vmem S1024x1024 .bf16)) (r := (Rect.unit (s := S1024x1024) off2 S1024x1024.size inb2))
    (S := (Finset.univ : Finset S1024x1024.Idx)) _ _ (WO m c) rfl rfl ((View.set_slice_whole cc0_scratch3 _).trans (set_unit_univ ho2))
    (hw.trans (by exact funext fun j => (congrArg (WO m c) (emb_whole ho2 j)).symm))

/-- A load of the projection buffer whose value is not used. -/
theorem dl_o (c : Dev nD) {off : Fin S1024x1024.rank → ℕ} (ho : off = fun _ => 0)
    {inb : ∀ x, off x + S1024x1024.size x ≤ S1024x1024.size x} {hl} {k : Vec F S1024x1024 .bf16 → Prog (TpuEff nD τ sig (Elt F) Λ₀ .tc) α} :
    hole c cc0_scratch3 (Finset.univ : Finset S1024x1024.Idx) ⊢ iprop((∀ v, hole c cc0_scratch3 (Finset.univ : Finset S1024x1024.Idx) -∗ WP c (k v) Q)
      -∗ WP c (.op (.load (Memref.whole cc0_scratch3 : Memref sig .tc .vmem S1024x1024 .bf16) (Rect.unit (s := S1024x1024) off S1024x1024.size inb).toLoadRect hl) k) Q) :=
  ldd (mr := (Memref.whole cc0_scratch3 : Memref sig .tc .vmem S1024x1024 .bf16)) (r := (Rect.unit (s := S1024x1024) off S1024x1024.size inb))
    (S := (Finset.univ : Finset S1024x1024.Idx)) _ rfl ((View.set_slice_whole cc0_scratch3 _).trans (set_unit_univ ho))

/-- The staging buffer of K in four. -/
theorem fourK : hole 0 cc0_scratch5 (Finset.univ : Finset S1024x32x128.Idx) ⊢ (iprop((sK m 0 0 256).hole 0 ∗ (sK m 0 256 512).hole 0 ∗ (sK m 0 512 768).hole 0 ∗ (sK m 0 768 1024).hole 0) : sProp 𝕄) := by
  rw [← bx3_univ]
  iintro H
  ihave H := (hole_cut 0 cc0_scratch5 (cut0 0 256 1024 0 32 0 128 (by decide))) $$ H; icases H with ⟨H1, H⟩
  ihave H := (hole_cut 0 cc0_scratch5 (cut0 256 512 1024 0 32 0 128 (by decide))) $$ H; icases H with ⟨H2, H⟩
  ihave H := (hole_cut 0 cc0_scratch5 (cut0 512 768 1024 0 32 0 128 (by decide))) $$ H; icases H with ⟨H3, H4⟩
  isplitl [H1]; · iapply (holeI (sK m 0 0 256) 0); iexact H1
  isplitl [H2]; · iapply (holeI (sK m 0 256 512) 0); iexact H2
  isplitl [H3]; · iapply (holeI (sK m 0 512 768) 0); iexact H3
  iapply (holeI (sK m 0 768 1024) 0); iexact H4

/-- Device 1 writes the first 128 rows only. -/
theorem twoK : hole 1 cc0_scratch5 (Finset.univ : Finset S1024x32x128.Idx) ⊢ (iprop((sK m 1 0 128).hole 1 ∗ (sK m 1 128 1024).hole 1) : sProp 𝕄) := by
  rw [← bx3_univ]
  iintro H
  ihave H := (hole_cut 1 cc0_scratch5 (cut0 0 128 1024 0 32 0 128 (by decide))) $$ H; icases H with ⟨H1, H2⟩
  isplitl [H1]; · iapply (holeI (sK m 1 0 128) 1); iexact H1
  iapply (holeI (sK m 1 128 1024) 1); iexact H2

/-- The staging buffer of V in four. -/
theorem fourV : hole 0 cc0_scratch6 (Finset.univ : Finset S1024x32x128.Idx) ⊢ (iprop((sV m 0 0 256).hole 0 ∗ (sV m 0 256 512).hole 0 ∗ (sV m 0 512 768).hole 0 ∗ (sV m 0 768 1024).hole 0) : sProp 𝕄) := by
  rw [← bx3_univ]
  iintro H
  ihave H := (hole_cut 0 cc0_scratch6 (cut0 0 256 1024 0 32 0 128 (by decide))) $$ H; icases H with ⟨H1, H⟩
  ihave H := (hole_cut 0 cc0_scratch6 (cut0 256 512 1024 0 32 0 128 (by decide))) $$ H; icases H with ⟨H2, H⟩
  ihave H := (hole_cut 0 cc0_scratch6 (cut0 512 768 1024 0 32 0 128 (by decide))) $$ H; icases H with ⟨H3, H4⟩
  isplitl [H1]; · iapply (holeI (sV m 0 0 256) 0); iexact H1
  isplitl [H2]; · iapply (holeI (sV m 0 256 512) 0); iexact H2
  isplitl [H3]; · iapply (holeI (sV m 0 512 768) 0); iexact H3
  iapply (holeI (sV m 0 768 1024) 0); iexact H4

/-- Device 1 writes the first 128 rows only. -/
theorem twoV : hole 1 cc0_scratch6 (Finset.univ : Finset S1024x32x128.Idx) ⊢ (iprop((sV m 1 0 128).hole 1 ∗ (sV m 1 128 1024).hole 1) : sProp 𝕄) := by
  rw [← bx3_univ]
  iintro H
  ihave H := (hole_cut 1 cc0_scratch6 (cut0 0 128 1024 0 32 0 128 (by decide))) $$ H; icases H with ⟨H1, H2⟩
  isplitl [H1]; · iapply (holeI (sV m 1 0 128) 1); iexact H1
  iapply (holeI (sV m 1 128 1024) 1); iexact H2

/-- The landing buffer in two, -/
theorem tH_cut (c : Dev nD) : tH c 0 256 ⊢ (iprop(tH c 0 128 ∗ tH c 128 256) : sProp 𝕄) := hole_cut c cc0_scratch4 (cut0 0 128 256 0 32 0 128 (by decide))
/-- and joined again. -/
theorem tH_join (c : Dev nD) : iprop(tH c 0 128 ∗ tH c 128 256) ⊢ (tH c 0 256 : sProp 𝕄) := hole_join c cc0_scratch4 (cut0 0 128 256 0 32 0 128 (by decide))

/-- What part 20 needs and what it gives. -/
def pre20 (c : Dev nD) (A : List Tr) (W : List Aw) (S : List Tr) : sProp 𝕄 :=
  iprop(hole c cc0_scratch5 (Finset.univ : Finset S1024x32x128.Idx) ∗ hole c cc0_scratch6 (Finset.univ : Finset S1024x32x128.Idx) ∗ own0 m c ∗ LB m c ∗ XS m c ∗ St m K X c (trD c ++ A) W S)

/-- What window 20 leaves. -/
abbrev post20 (c : Dev nD) (A : List Tr) (W : List Aw) (S : List Tr) (Q : sProp 𝕄) : sProp 𝕄 :=
  iprop(stay m c -∗ own1 m c -∗ LB m c -∗ XS m c -∗ St m K X c A W ((trD c).reverse ++ S) -∗ Q)

/-- Device 0 at the start. -/
theorem part20_0 (v : BitVec 32) (A : List Tr) (W : List Aw) (S : List Tr) (hA : ∀ t ∈ A, 0 < t.lev ∧ t.lev < 12) {Q : _ → sProp 𝕄} :
    iprop(pre20 m K X 0 A W S ∗ post20 m K X 0 A W S (Q (k0_pay16 (arg m 0 main_arg0) (arg m 0 main_arg1))))
      ⊢ WP 0 (app (k0_part20 (F := F)) 0 (w2 0) v) Q := by
  unfold app; rw [k0_part20_eq_skeleton]; unfold k0_part20_skel
  simp (decide := true) only [Prog.lift, Prog.bind_op, Prog.bind_ret, Prog.pure_eq_ret, ↓reduceDIte, bind_assoc]
  unfold pre20 LB XS
  iintro ⟨⟨H5, H6, Ho, ⟨HaK, HaV, Ht, Hz33, Hz34, Hz35, Hz36⟩, ⟨Hx, Hwq, Hwo⟩, HS⟩, Hk⟩
  ihave H := (fourK m) $$ H5; icases H with ⟨K1, K2, K3, K4⟩
  ihave H := (fourV m) $$ H6; icases H with ⟨V1, V2, V3, V4⟩
  ihave Ho := (own0_0 m) $$ Ho; icases Ho with ⟨Hok, Hov⟩
  ihave HS := (Entails.of_eq (show St m K X 0 (trD 0 ++ A) W S = St m K X 0 (⟨4, 1, 37, 2, 49152⟩ :: ⟨5, 1, 21, 3, 40960⟩ :: ⟨6, 3, 21, 3, 40960⟩ :: ⟨7, 3, 37, 2, 49152⟩ :: ⟨8, 1, 22, 3, 40960⟩ :: ⟨9, 3, 22, 3, 40960⟩ :: ⟨10, 1, 23, 6, 24576⟩ :: ⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W S from rfl)) $$ HS
  iapply WP_bind; iapply (part1 m K X (⟨4, 1, 37, 2, 49152⟩ :: ⟨5, 1, 21, 3, 40960⟩ :: ⟨6, 3, 21, 3, 40960⟩ :: ⟨7, 3, 37, 2, 49152⟩ :: ⟨8, 1, 22, 3, 40960⟩ :: ⟨9, 3, 22, 3, 40960⟩ :: ⟨10, 1, 23, 6, 24576⟩ :: ⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W (S) (lev_app [⟨4, 1, 37, 2, 49152⟩, ⟨5, 1, 21, 3, 40960⟩, ⟨6, 3, 21, 3, 40960⟩, ⟨7, 3, 37, 2, 49152⟩, ⟨8, 1, 22, 3, 40960⟩, ⟨9, 3, 22, 3, 40960⟩, ⟨10, 1, 23, 6, 24576⟩, ⟨11, 1, 24, 6, 24576⟩, ⟨12, 3, 23, 6, 24576⟩, ⟨13, 3, 24, 6, 24576⟩, ⟨14, 1, 38, 5, 8192⟩, ⟨15, 1, 39, 5, 8192⟩, ⟨16, 3, 38, 5, 8192⟩, ⟨17, 3, 39, 5, 8192⟩] (by decide) hA))
  isplitl [HaK]; · iexact HaK
  isplitl [Ht]; · iexact Ht
  isplitl [Hz33]; · iexact Hz33
  isplitl [Hz34]; · iexact Hz34
  isplitl [K1]; · iexact K1
  isplitl [HS]; · iexact HS
  iintro HaK Ht Hz33 Hz34 K1 HS
  iapply WP_bind; iapply (part2 m K X (⟨4, 1, 37, 2, 49152⟩ :: ⟨5, 1, 21, 3, 40960⟩ :: ⟨6, 3, 21, 3, 40960⟩ :: ⟨7, 3, 37, 2, 49152⟩ :: ⟨8, 1, 22, 3, 40960⟩ :: ⟨9, 3, 22, 3, 40960⟩ :: ⟨10, 1, 23, 6, 24576⟩ :: ⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W (S) (lev_app [⟨4, 1, 37, 2, 49152⟩, ⟨5, 1, 21, 3, 40960⟩, ⟨6, 3, 21, 3, 40960⟩, ⟨7, 3, 37, 2, 49152⟩, ⟨8, 1, 22, 3, 40960⟩, ⟨9, 3, 22, 3, 40960⟩, ⟨10, 1, 23, 6, 24576⟩, ⟨11, 1, 24, 6, 24576⟩, ⟨12, 3, 23, 6, 24576⟩, ⟨13, 3, 24, 6, 24576⟩, ⟨14, 1, 38, 5, 8192⟩, ⟨15, 1, 39, 5, 8192⟩, ⟨16, 3, 38, 5, 8192⟩, ⟨17, 3, 39, 5, 8192⟩] (by decide) hA))
  isplitl [HaK]; · iexact HaK
  isplitl [Ht]; · iexact Ht
  isplitl [Hz33]; · iexact Hz33
  isplitl [Hz34]; · iexact Hz34
  isplitl [K2]; · iexact K2
  isplitl [K3]; · iexact K3
  isplitl [HS]; · iexact HS
  iintro HaK Ht Hz33 Hz34 K2 K3 HS
  iapply WP_bind; iapply (part3 m K X _ (⟨6, 3, 21, 3, 40960⟩ :: ⟨7, 3, 37, 2, 49152⟩ :: ⟨8, 1, 22, 3, 40960⟩ :: ⟨9, 3, 22, 3, 40960⟩ :: ⟨10, 1, 23, 6, 24576⟩ :: ⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W (S) (lev_app [⟨6, 3, 21, 3, 40960⟩, ⟨7, 3, 37, 2, 49152⟩, ⟨8, 1, 22, 3, 40960⟩, ⟨9, 3, 22, 3, 40960⟩, ⟨10, 1, 23, 6, 24576⟩, ⟨11, 1, 24, 6, 24576⟩, ⟨12, 3, 23, 6, 24576⟩, ⟨13, 3, 24, 6, 24576⟩, ⟨14, 1, 38, 5, 8192⟩, ⟨15, 1, 39, 5, 8192⟩, ⟨16, 3, 38, 5, 8192⟩, ⟨17, 3, 39, 5, 8192⟩] (by decide) hA))
  isplitl [K1]; · iexact K1
  isplitl [K2]; · iexact K2
  isplitl [K3]; · iexact K3
  isplitl [K4]; · iexact K4
  isplitl [HS]; · iexact HS
  iintro K1 K2 K3 K4 K5 K6 HS
  iapply WP_bind; iapply (part4 m K X _ (⟨7, 3, 37, 2, 49152⟩ :: ⟨8, 1, 22, 3, 40960⟩ :: ⟨9, 3, 22, 3, 40960⟩ :: ⟨10, 1, 23, 6, 24576⟩ :: ⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W (⟨5, 1, 21, 3, 40960⟩ :: ⟨4, 1, 37, 2, 49152⟩ :: S) (lev_app [⟨7, 3, 37, 2, 49152⟩, ⟨8, 1, 22, 3, 40960⟩, ⟨9, 3, 22, 3, 40960⟩, ⟨10, 1, 23, 6, 24576⟩, ⟨11, 1, 24, 6, 24576⟩, ⟨12, 3, 23, 6, 24576⟩, ⟨13, 3, 24, 6, 24576⟩, ⟨14, 1, 38, 5, 8192⟩, ⟨15, 1, 39, 5, 8192⟩, ⟨16, 3, 38, 5, 8192⟩, ⟨17, 3, 39, 5, 8192⟩] (by decide) hA))
  isplitl [HaV]; · iexact HaV
  isplitl [Ht]; · iexact Ht
  isplitl [Hz35]; · iexact Hz35
  isplitl [Hz36]; · iexact Hz36
  isplitl [V1]; · iexact V1
  isplitl [K1]; · iexact K1
  isplitl [K6]; · iexact K6
  isplitl [Hok]; · iexact Hok
  isplitl [HS]; · iexact HS
  iintro HF Hz35 V1 K1 Hok HS
  iapply WP_bind; iapply (part5 m K X (⟨7, 3, 37, 2, 49152⟩ :: ⟨8, 1, 22, 3, 40960⟩ :: ⟨9, 3, 22, 3, 40960⟩ :: ⟨10, 1, 23, 6, 24576⟩ :: ⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W (⟨6, 3, 21, 3, 40960⟩ :: ⟨5, 1, 21, 3, 40960⟩ :: ⟨4, 1, 37, 2, 49152⟩ :: S) (lev_app [⟨7, 3, 37, 2, 49152⟩, ⟨8, 1, 22, 3, 40960⟩, ⟨9, 3, 22, 3, 40960⟩, ⟨10, 1, 23, 6, 24576⟩, ⟨11, 1, 24, 6, 24576⟩, ⟨12, 3, 23, 6, 24576⟩, ⟨13, 3, 24, 6, 24576⟩, ⟨14, 1, 38, 5, 8192⟩, ⟨15, 1, 39, 5, 8192⟩, ⟨16, 3, 38, 5, 8192⟩, ⟨17, 3, 39, 5, 8192⟩] (by decide) hA))
  isplitl [HF]; · iexact HF
  isplitl [Hz35]; · iexact Hz35
  isplitl [V2]; · iexact V2
  isplitl [V3]; · iexact V3
  isplitl [HS]; · iexact HS
  iintro HF Hz35 V2 V3 HS
  iapply WP_bind; iapply (part6 m K X _ (⟨9, 3, 22, 3, 40960⟩ :: ⟨10, 1, 23, 6, 24576⟩ :: ⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W (⟨6, 3, 21, 3, 40960⟩ :: ⟨5, 1, 21, 3, 40960⟩ :: ⟨4, 1, 37, 2, 49152⟩ :: S) (lev_app [⟨9, 3, 22, 3, 40960⟩, ⟨10, 1, 23, 6, 24576⟩, ⟨11, 1, 24, 6, 24576⟩, ⟨12, 3, 23, 6, 24576⟩, ⟨13, 3, 24, 6, 24576⟩, ⟨14, 1, 38, 5, 8192⟩, ⟨15, 1, 39, 5, 8192⟩, ⟨16, 3, 38, 5, 8192⟩, ⟨17, 3, 39, 5, 8192⟩] (by decide) hA))
  isplitl [HF]; · iexact HF
  isplitl [V1]; · iexact V1
  isplitl [V2]; · iexact V2
  isplitl [V3]; · iexact V3
  isplitl [V4]; · iexact V4
  isplitl [HS]; · iexact HS
  iintro HaV Ht Hz36 V1 V2 V3 V4 V5 V6 HS
  iintro %u6
  iapply WP_bind; iapply (part7 m K X _ _ (⟨11, 1, 24, 6, 24576⟩ :: ⟨12, 3, 23, 6, 24576⟩ :: ⟨13, 3, 24, 6, 24576⟩ :: ⟨14, 1, 38, 5, 8192⟩ :: ⟨15, 1, 39, 5, 8192⟩ :: ⟨16, 3, 38, 5, 8192⟩ :: ⟨17, 3, 39, 5, 8192⟩ :: A) W (⟨8, 1, 22, 3, 40960⟩ :: ⟨7, 3, 37, 2, 49152⟩ :: ⟨6, 3, 21, 3, 40960⟩ :: ⟨5, 1, 21, 3, 40960⟩ :: ⟨4, 1, 37, 2, 49152⟩ :: S) (lev_app [⟨11, 1, 24, 6, 24576⟩, ⟨12, 3, 23, 6, 24576⟩, ⟨13, 3, 24, 6, 24576⟩, ⟨14, 1, 38, 5, 8192⟩, ⟨15, 1, 39, 5, 8192⟩, ⟨16, 3, 38, 5, 8192⟩, ⟨17, 3, 39, 5, 8192⟩] (by decide) hA))
  isplitl [V1]; · iexact V1
  isplitl [V6]; · iexact V6
  isplitl [Hov]; · iexact Hov
  isplitl [K2]; · iexact K2
  isplitl [HS]; · iexact HS
  iintro V1 Hov HS
  iapply WP_bind; iapply (part8 m K X _ (⟨15, 1, 39, 5, 8192⟩ :: ⟨16, 3, 38, 5, 8192⟩ :: ⟨17, 3, 39, 5, 8192⟩ :: A) W (⟨10, 1, 23, 6, 24576⟩ :: ⟨9, 3, 22, 3, 40960⟩ :: ⟨8, 1, 22, 3, 40960⟩ :: ⟨7, 3, 37, 2, 49152⟩ :: ⟨6, 3, 21, 3, 40960⟩ :: ⟨5, 1, 21, 3, 40960⟩ :: ⟨4, 1, 37, 2, 49152⟩ :: S) (lev_app [⟨15, 1, 39, 5, 8192⟩, ⟨16, 3, 38, 5, 8192⟩, ⟨17, 3, 39, 5, 8192⟩] (by decide) hA))
  isplitl [V2]; · iexact V2
  isplitl [K5]; · iexact K5
  isplitl [V5]; · iexact V5
  isplitl [K3]; · iexact K3
  isplitl [HS]; · iexact HS
  iintro HS
  iintro %u8
  iapply (send_kr m K X 0 _ ⟨15, 1, 39, 5, 8192⟩ 128 896 (A := (⟨16, 3, 38, 5, 8192⟩ :: ⟨17, 3, 39, 5, 8192⟩ :: A)) (W := W) (S := (⟨14, 1, 38, 5, 8192⟩ :: ⟨13, 3, 24, 6, 24576⟩ :: ⟨12, 3, 23, 6, 24576⟩ :: ⟨11, 1, 24, 6, 24576⟩ :: ⟨10, 1, 23, 6, 24576⟩ :: ⟨9, 3, 22, 3, 40960⟩ :: ⟨8, 1, 22, 3, 40960⟩ :: ⟨7, 3, 37, 2, 49152⟩ :: ⟨6, 3, 21, 3, 40960⟩ :: ⟨5, 1, 21, 3, 40960⟩ :: ⟨4, 1, 37, 2, 49152⟩ :: S)) (Fin.ext k0_dev15_eq) rfl rfl rfl rfl (by decide) rfl rfl rfl rfl) $$ [HS K4]
  · isplitl [HS]; · iexact HS
    iexact K4
  iintro HS
  iapply (send_vr m K X 0 _ ⟨16, 3, 38, 5, 8192⟩ 128 0 (A := (⟨17, 3, 39, 5, 8192⟩ :: A)) (W := W) (S := (⟨15, 1, 39, 5, 8192⟩ :: ⟨14, 1, 38, 5, 8192⟩ :: ⟨13, 3, 24, 6, 24576⟩ :: ⟨12, 3, 23, 6, 24576⟩ :: ⟨11, 1, 24, 6, 24576⟩ :: ⟨10, 1, 23, 6, 24576⟩ :: ⟨9, 3, 22, 3, 40960⟩ :: ⟨8, 1, 22, 3, 40960⟩ :: ⟨7, 3, 37, 2, 49152⟩ :: ⟨6, 3, 21, 3, 40960⟩ :: ⟨5, 1, 21, 3, 40960⟩ :: ⟨4, 1, 37, 2, 49152⟩ :: S)) (Fin.ext k0_dev16_eq) rfl rfl rfl rfl (by decide) rfl rfl rfl rfl) $$ [HS V3]
  · isplitl [HS]; · iexact HS
    iexact V3
  iintro HS
  iapply (send_vr m K X 0 _ ⟨17, 3, 39, 5, 8192⟩ 128 896 (A := (A)) (W := W) (S := (⟨16, 3, 38, 5, 8192⟩ :: ⟨15, 1, 39, 5, 8192⟩ :: ⟨14, 1, 38, 5, 8192⟩ :: ⟨13, 3, 24, 6, 24576⟩ :: ⟨12, 3, 23, 6, 24576⟩ :: ⟨11, 1, 24, 6, 24576⟩ :: ⟨10, 1, 23, 6, 24576⟩ :: ⟨9, 3, 22, 3, 40960⟩ :: ⟨8, 1, 22, 3, 40960⟩ :: ⟨7, 3, 37, 2, 49152⟩ :: ⟨6, 3, 21, 3, 40960⟩ :: ⟨5, 1, 21, 3, 40960⟩ :: ⟨4, 1, 37, 2, 49152⟩ :: S)) (Fin.ext k0_dev17_eq) rfl rfl rfl rfl (by decide) rfl rfl rfl rfl) $$ [HS V4]
  · isplitl [HS]; · iexact HS
    iexact V4
  iintro HS
  iapply (ld_x 0 (arg m 0 main_arg0) z3) $$ Hx; iintro Hx
  iapply (ld_wq 0 (arg m 0 main_arg1) z2) $$ Hwq; iintro Hwq
  iapply WP_ret
  ihave HS := (St_S m K X (S2 := (trD 0).reverse ++ S) (by rfl)) $$ HS
  unfold post20 LB XS
  iapply Hk $$ [K1 V1] [Hok Hov] [HaK HaV Ht Hz33 Hz34 Hz35 Hz36] [Hx Hwq Hwo] HS
  · iapply (stay_0 m)
    isplitl [K1]; · iexact K1
    iexact V1
  · iapply (own1_0 m)
    isplitl [Hok]; · iexact Hok
    iexact Hov
  · isplitl [HaK]; · iexact HaK
    isplitl [HaV]; · iexact HaV
    isplitl [Ht]; · iexact Ht
    isplitl [Hz33]; · iexact Hz33
    isplitl [Hz34]; · iexact Hz34
    isplitl [Hz35]; · iexact Hz35
    iexact Hz36
  · isplitl [Hx]; · iexact Hx
    isplitl [Hwq]; · iexact Hwq
    iexact Hwo

/-- Device 1 at the start. -/
theorem part20_1 (v : BitVec 32) (A : List Tr) (W : List Aw) (S : List Tr) (hA : ∀ t ∈ A, 0 < t.lev ∧ t.lev < 12) {Q : _ → sProp 𝕄} :
    iprop(pre20 m K X 1 A W S ∗ post20 m K X 1 A W S (Q (k0_pay16 (arg m 1 main_arg0) (arg m 1 main_arg1))))
      ⊢ WP 1 (app (k0_part20 (F := F)) 1 (w2 1) v) Q := by
  unfold app; rw [k0_part20_eq_skeleton]; unfold k0_part20_skel
  simp (decide := true) only [Prog.lift, Prog.bind_op, Prog.bind_ret, Prog.pure_eq_ret, ↓reduceDIte, bind_assoc]
  unfold pre20 LB XS
  iintro ⟨⟨H5, H6, Ho, ⟨HaK, HaV, Ht, Hz33, Hz34, Hz35, Hz36⟩, ⟨Hx, Hwq, Hwo⟩, HS⟩, Hk⟩
  ihave H := (twoK m) $$ H5; icases H with ⟨K1, KR⟩
  ihave H := (twoV m) $$ H6; icases H with ⟨V1, VR⟩
  ihave H := (tH_cut 1) $$ Ht; icases H with ⟨Ht, Ht2⟩
  ihave Ho := (own0_1 m) $$ Ho; icases Ho with ⟨Hok, Hov⟩
  ihave HS := (Entails.of_eq (show St m K X 1 (trD 1 ++ A) W S = St m K X 1 (⟨4, 0, 27, 3, 8192⟩ :: ⟨7, 0, 28, 3, 8192⟩ :: ⟨5, 2, 27, 3, 8192⟩ :: ⟨8, 2, 28, 3, 8192⟩ :: ⟨6, 3, 27, 3, 8192⟩ :: ⟨9, 3, 28, 3, 8192⟩ :: A) W S from rfl)) $$ HS
  iapply WP_bind; iapply (part9 m K X (⟨4, 0, 27, 3, 8192⟩ :: ⟨7, 0, 28, 3, 8192⟩ :: ⟨5, 2, 27, 3, 8192⟩ :: ⟨8, 2, 28, 3, 8192⟩ :: ⟨6, 3, 27, 3, 8192⟩ :: ⟨9, 3, 28, 3, 8192⟩ :: A) W S (lev_app [⟨4, 0, 27, 3, 8192⟩, ⟨7, 0, 28, 3, 8192⟩, ⟨5, 2, 27, 3, 8192⟩, ⟨8, 2, 28, 3, 8192⟩, ⟨6, 3, 27, 3, 8192⟩, ⟨9, 3, 28, 3, 8192⟩] (by decide) hA))
  isplitl [HaK]; · iexact HaK
  isplitl [HaV]; · iexact HaV
  isplitl [Ht]; · iexact Ht
  isplitl [Ht2]; · iexact Ht2
  isplitl [Hz33]; · iexact Hz33
  isplitl [Hz34]; · iexact Hz34
  isplitl [K1]; · iexact K1
  isplitl [HS]; · iexact HS
  iintro HaK HF Ht Hz33 K1 HS
  iapply WP_bind; iapply (part10 m K X _ (⟨5, 2, 27, 3, 8192⟩ :: ⟨8, 2, 28, 3, 8192⟩ :: ⟨6, 3, 27, 3, 8192⟩ :: ⟨9, 3, 28, 3, 8192⟩ :: A) W S (lev_app [⟨5, 2, 27, 3, 8192⟩, ⟨8, 2, 28, 3, 8192⟩, ⟨6, 3, 27, 3, 8192⟩, ⟨9, 3, 28, 3, 8192⟩] (by decide) hA))
  isplitl [HF]; · iexact HF
  isplitl [K1]; · iexact K1
  isplitl [V1]; · iexact V1
  isplitl [HS]; · iexact HS
  iintro HaV Ht2 Hz34 K1 K2 K3 V1 V2 V3 HS
  iintro %u10
  iapply WP_bind; iapply (part11 m K X _ _ _ (⟨9, 3, 28, 3, 8192⟩ :: A) W (⟨7, 0, 28, 3, 8192⟩ :: ⟨4, 0, 27, 3, 8192⟩ :: S))
  isplitl [K2]; · iexact K2
  isplitl [V2]; · iexact V2
  isplitl [K3]; · iexact K3
  isplitl [HS]; · iexact HS
  iintro HS
  iapply (send_vv m K X 1 _ ⟨9, 3, 28, 3, 8192⟩ 1 128 0 24 1024 (A := (A)) (W := W) (S := (⟨6, 3, 27, 3, 8192⟩ :: ⟨8, 2, 28, 3, 8192⟩ :: ⟨5, 2, 27, 3, 8192⟩ :: ⟨7, 0, 28, 3, 8192⟩ :: ⟨4, 0, 27, 3, 8192⟩ :: S)) (Fin.ext k0_dev23_eq) rfl rfl rfl rfl (by decide) ⟨Or.inr ⟨rfl, rfl⟩, rfl⟩ rfl rfl rfl) $$ [HS V3]
  · isplitl [HS]; · iexact HS
    iexact V3
  iintro HS
  iapply (mineK m 1 1024 128 (Or.inr ⟨rfl, rfl⟩) k0_pay14 (fun x => shapeCast_self x _) rfl rfl rfl) $$ [K1 Hok]
  · isplitl [K1] <;> iassumption
  iintro K1 Hok
  iapply (mineV m 1 1024 128 (Or.inr ⟨rfl, rfl⟩) k0_pay15 (fun x => shapeCast_self x _) rfl rfl rfl) $$ [V1 Hov]
  · isplitl [V1] <;> iassumption
  iintro V1 Hov
  ihave Ht := (tH_join 1) $$ [Ht Ht2]
  · isplitl [Ht] <;> iassumption
  iapply (ld_x 1 (arg m 1 main_arg0) z3) $$ Hx; iintro Hx
  iapply (ld_wq 1 (arg m 1 main_arg1) z2) $$ Hwq; iintro Hwq
  iapply WP_ret
  ihave HS := (St_S m K X (S2 := (trD 1).reverse ++ S) (by rfl)) $$ HS
  unfold post20 LB XS
  iapply Hk $$ [K1 V1 KR VR] [Hok Hov] [HaK HaV Ht Hz33 Hz34 Hz35 Hz36] [Hx Hwq Hwo] HS
  · iapply (stay_1 m)
    isplitl [K1]; · iexact K1
    isplitl [V1]; · iexact V1
    isplitl [KR]; · iexact KR
    iexact VR
  · iapply (own1_1 m)
    isplitl [Hok]; · iexact Hok
    iexact Hov
  · isplitl [HaK]; · iexact HaK
    isplitl [HaV]; · iexact HaV
    isplitl [Ht]; · iexact Ht
    isplitl [Hz33]; · iexact Hz33
    isplitl [Hz34]; · iexact Hz34
    isplitl [Hz35]; · iexact Hz35
    iexact Hz36
  · isplitl [Hx]; · iexact Hx
    isplitl [Hwq]; · iexact Hwq
    iexact Hwo

/-- Device 2 at the start. -/
theorem part20_2 (v : BitVec 32) (A : List Tr) (W : List Aw) (S : List Tr) (hA : ∀ t ∈ A, 0 < t.lev ∧ t.lev < 12) {Q : _ → sProp 𝕄} :
    iprop(pre20 m K X 2 A W S ∗ post20 m K X 2 A W S (Q (k0_pay16 (arg m 2 main_arg0) (arg m 2 main_arg1))))
      ⊢ WP 2 (app (k0_part20 (F := F)) 2 (w2 2) v) Q := by
  unfold app; rw [k0_part20_eq_skeleton]; unfold k0_part20_skel
  simp (decide := true) only [Prog.lift, Prog.bind_op, Prog.bind_ret, Prog.pure_eq_ret, ↓reduceDIte, bind_assoc]
  unfold pre20 LB XS
  iintro ⟨⟨H5, H6, Ho, ⟨HaK, HaV, Ht, Hz33, Hz34, Hz35, Hz36⟩, ⟨Hx, Hwq, Hwo⟩, HS⟩, Hk⟩
  ihave HS := (Entails.of_eq (show St m K X 2 (trD 2 ++ A) W S = St m K X 2 A W S from rfl)) $$ HS
  iapply (ld_x 2 (arg m 2 main_arg0) z3) $$ Hx; iintro Hx
  iapply (ld_wq 2 (arg m 2 main_arg1) z2) $$ Hwq; iintro Hwq
  iapply WP_ret
  ihave HS := (St_S m K X (S2 := (trD 2).reverse ++ S) (by rfl)) $$ HS
  unfold post20 LB XS
  iapply Hk $$ [H5 H6] [] [HaK HaV Ht Hz33 Hz34 Hz35 Hz36] [Hx Hwq Hwo] HS
  · iapply (stay_2 m)
    isplitl [H5]; · iexact H5
    iexact H6
  · iapply (own1_2 m); iempintro
  · isplitl [HaK]; · iexact HaK
    isplitl [HaV]; · iexact HaV
    isplitl [Ht]; · iexact Ht
    isplitl [Hz33]; · iexact Hz33
    isplitl [Hz34]; · iexact Hz34
    isplitl [Hz35]; · iexact Hz35
    iexact Hz36
  · isplitl [Hx]; · iexact Hx
    isplitl [Hwq]; · iexact Hwq
    iexact Hwo

/-- Device 3 at the start. -/
theorem part20_3 (v : BitVec 32) (A : List Tr) (W : List Aw) (S : List Tr) (hA : ∀ t ∈ A, 0 < t.lev ∧ t.lev < 12) {Q : _ → sProp 𝕄} :
    iprop(pre20 m K X 3 A W S ∗ post20 m K X 3 A W S (Q (k0_pay16 (arg m 3 main_arg0) (arg m 3 main_arg1))))
      ⊢ WP 3 (app (k0_part20 (F := F)) 3 (w2 3) v) Q := by
  unfold app; rw [k0_part20_eq_skeleton]; unfold k0_part20_skel
  simp (decide := true) only [Prog.lift, Prog.bind_op, Prog.bind_ret, Prog.pure_eq_ret, ↓reduceDIte, bind_assoc]
  unfold pre20 LB XS
  iintro ⟨⟨H5, H6, Ho, ⟨HaK, HaV, Ht, Hz33, Hz34, Hz35, Hz36⟩, ⟨Hx, Hwq, Hwo⟩, HS⟩, Hk⟩
  ihave HS := (Entails.of_eq (show St m K X 3 (trD 3 ++ A) W S = St m K X 3 A W S from rfl)) $$ HS
  iapply (ld_x 3 (arg m 3 main_arg0) z3) $$ Hx; iintro Hx
  iapply (ld_wq 3 (arg m 3 main_arg1) z2) $$ Hwq; iintro Hwq
  iapply WP_ret
  ihave HS := (St_S m K X (S2 := (trD 3).reverse ++ S) (by rfl)) $$ HS
  unfold post20 LB XS
  iapply Hk $$ [H5 H6] [] [HaK HaV Ht Hz33 Hz34 Hz35 Hz36] [Hx Hwq Hwo] HS
  · iapply (stay_3 m)
    isplitl [H5]; · iexact H5
    iexact H6
  · iapply (own1_3 m); iempintro
  · isplitl [HaK]; · iexact HaK
    isplitl [HaV]; · iexact HaV
    isplitl [Ht]; · iexact Ht
    isplitl [Hz33]; · iexact Hz33
    isplitl [Hz34]; · iexact Hz34
    isplitl [Hz35]; · iexact Hz35
    iexact Hz36
  · isplitl [Hx]; · iexact Hx
    isplitl [Hwq]; · iexact Hwq
    iexact Hwo

/-- Part 20 on any device. -/
theorem part20 (c : Dev nD) (v : BitVec 32) (A : List Tr) (W : List Aw) (S : List Tr) (hA : ∀ t ∈ A, 0 < t.lev ∧ t.lev < 12) {Q : _ → sProp 𝕄} :
    iprop(pre20 m K X c A W S ∗ post20 m K X c A W S (Q (k0_pay16 (arg m c main_arg0) (arg m c main_arg1))))
      ⊢ WP c (app (k0_part20 (F := F)) c (w2 c) v) Q := by
  rcases dev_cases c with rfl | rfl | rfl | rfl
  · exact part20_0 m K X v A W S hA
  · exact part20_1 m K X v A W S hA
  · exact part20_2 m K X v A W S hA
  · exact part20_3 m K X v A W S hA

end Cert.KernelIdealProof
-- ==== Proof.KI.Window.lean ====
/-
Waiting for the rows of the windows, and forwarding the relayed ones.
-/
module

public import proofs.«01_k».proof.Proof.KI.Start

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ) (X : sProp (MT nD τ sig ℕ (Elt F) ℕ UU ℕ))
variable {α : Type} {Q : α → sProp (MT nD τ sig ℕ (Elt F) ℕ UU ℕ)}

/-- The window rows below 1024 and the rows from 1024. -/
def both (c : Dev nD) : sProp 𝕄 :=
  iprop((kbR m c (lo c) (hi c)).full c ∗ (vbR m c (lo c) (hi c)).full c ∗ (kbR m c 1024 1152).full c ∗ (vbR m c 1024 1152).full c)

/-- The window rows held after part 21. -/
def own2 (c : Dev nD) : sProp 𝕄 :=
  match c with
  | 0 => both m 0
  | 1 => both m 1
  | c => iprop((kbR m c 1024 1152).full c ∗ (vbR m c 1024 1152).full c)

/-- The window rows on device 0, put together. -/
theorem both_0 : iprop((kbR m 0 0 1024).full 0 ∗ (vbR m 0 0 1024).full 0 ∗ (kbR m 0 1024 1152).full 0 ∗ (vbR m 0 1024 1152).full 0) ⊢ both m 0 := BI.Entails.refl _
/-- The window rows on device 1, put together. -/
theorem both_1 : iprop((kbR m 1 0 640).full 1 ∗ (vbR m 1 0 640).full 1 ∗ (kbR m 1 1024 1152).full 1 ∗ (vbR m 1 1024 1152).full 1) ⊢ both m 1 := BI.Entails.refl _
/-- The window rows on device 2, put together. -/
theorem both_2 : iprop((kbR m 2 128 896).full 2 ∗ (vbR m 2 128 896).full 2 ∗ (kbR m 2 1024 1152).full 2 ∗ (vbR m 2 1024 1152).full 2) ⊢ both m 2 := BI.Entails.refl _
/-- The window rows on device 3, put together. -/
theorem both_3 : iprop((kbR m 3 384 1024).full 3 ∗ (vbR m 3 384 1024).full 3 ∗ (kbR m 3 1024 1152).full 3 ∗ (vbR m 3 1024 1152).full 3) ⊢ both m 3 := BI.Entails.refl _
/-- The window rows held at stage 2 on device 0, as regions. -/
theorem own2_0 : both m 0 ⊢ own2 m 0 := BI.Entails.refl _
/-- The window rows held at stage 2 on device 1, as regions. -/
theorem own2_1 : both m 1 ⊢ own2 m 1 := BI.Entails.refl _
/-- The window rows held at stage 2 on device 2, as regions. -/
theorem own2_2 : iprop((kbR m 2 1024 1152).full 2 ∗ (vbR m 2 1024 1152).full 2) ⊢ own2 m 2 := BI.Entails.refl _
/-- The window rows held at stage 2 on device 3, as regions. -/
theorem own2_3 : iprop((kbR m 3 1024 1152).full 3 ∗ (vbR m 3 1024 1152).full 3) ⊢ own2 m 3 := BI.Entails.refl _
/-- The window rows held at stage 2 on device 0, put together. -/
theorem own2_0' : own2 m 0 ⊢ both m 0 := BI.Entails.refl _
/-- The window rows held at stage 2 on device 1, put together. -/
theorem own2_1' : own2 m 1 ⊢ both m 1 := BI.Entails.refl _
/-- The window rows held at stage 2 on device 2, put together. -/
theorem own2_2' : own2 m 2 ⊢ iprop((kbR m 2 1024 1152).full 2 ∗ (vbR m 2 1024 1152).full 2) := BI.Entails.refl _
/-- The window rows held at stage 2 on device 3, put together. -/
theorem own2_3' : own2 m 3 ⊢ iprop((kbR m 3 1024 1152).full 3 ∗ (vbR m 3 1024 1152).full 3) := BI.Entails.refl _
/-- The window rows held at stage 1 on device 0, put together. -/
theorem own1_0' : own1 m 0 ⊢ iprop((kbR m 0 0 1024).full 0 ∗ (vbR m 0 0 1024).full 0) := BI.Entails.refl _
/-- The window rows held at stage 1 on device 1, put together. -/
theorem own1_1' : own1 m 1 ⊢ iprop((kbR m 1 1024 1152).full 1 ∗ (vbR m 1 1024 1152).full 1) := BI.Entails.refl _

/-- Levels of a list of transfers and of those after it. -/
theorem lev_ap {n : ℕ} {A : List Tr} (l : List Tr) (hl : ∀ t ∈ l, n < t.lev ∧ t.lev < 12) (hA : ∀ t ∈ A, n < t.lev ∧ t.lev < 12) : ∀ x ∈ l ++ A, n < x.lev ∧ x.lev < 12 := fun x hx =>
  (List.mem_append.mp hx).elim (hl x) (hA x)
/-- A lower level is below the same transfers. -/
theorem lev_le {n n' : ℕ} {A : List Tr} (h : n' ≤ n) (hA : ∀ t ∈ A, n < t.lev ∧ t.lev < 12) : ∀ x ∈ A, n' < x.lev ∧ x.lev < 12 := fun x hx => ⟨h.trans_lt (hA x hx).1, (hA x hx).2⟩

/-- The rows of a window buffer below 1024 and those from 1024 are its first window. -/
theorem rows_cut (a a' : ℕ) (h : a' ≤ 1024) :
    Disjoint (bx3 a a' 0 8 0 128 : Finset S1152x8x128.Idx) (bx3 1024 1152 0 8 0 128) ∧ (bx3 a a' 0 8 0 128 ∪ bx3 1024 1152 0 8 0 128 : Finset S1152x8x128.Idx) = rows a a' := by
  constructor
  · rw [Finset.disjoint_left]; intro i h1 h2; rw [mem_bx3] at h1 h2; omega
  · ext i
    have h0 : (i 0).val < 1152 := (i 0).isLt
    have h1 : (i 1).val < 8 := (i 1).isLt
    have h2 : (i 2).val < 128 := (i 2).isLt
    unfold rows
    rw [Finset.mem_union, mem_bx3, mem_bx3, Finset.mem_filter]
    simp only [Finset.mem_univ, true_and]; omega

/-- The rows held end at 1024. -/
theorem hi_le (c : Dev nD) : hi c ≤ 1024 := by revert c; decide

/-- What the attention reads at its first step. -/
theorem at_intro (c : Dev nD) : iprop(own c cc0_scratch2 (Finset.univ : Finset S1024x1024.Idx) (QS m c) ∗ own c cc0_scratch3 (Finset.univ : Finset S1024x1024.Idx) (WO m c) ∗ both m c) ⊢ (At m c 0 : sProp 𝕄) := by
  unfold both At
  iintro ⟨Hq, Ho, H1, H2, H3, H4⟩
  ihave H1 := (fullE (kbR m c (lo c) (hi c)) c) $$ H1
  ihave H2 := (fullE (vbR m c (lo c) (hi c)) c) $$ H2
  ihave H3 := (fullE (kbR m c 1024 1152) c) $$ H3
  ihave H4 := (fullE (vbR m c 1024 1152) c) $$ H4
  ihave HK := (own_cut c cc0_scratch0 (rows_cut (lo c) (hi c) (hi_le c)) (KB m c)).2 $$ [H1 H3]
  · isplitl [H1]; · iexact H1
    iexact H3
  ihave HV := (own_cut c cc0_scratch1 (rows_cut (lo c) (hi c) (hi_le c)) (VB m c)).2 $$ [H2 H4]
  · isplitl [H2]; · iexact H2
    iexact H4
  isplitl [Hq]; · iexact Hq
  isplitl [Ho]; · iexact Ho
  isplitl [HK]; · iexact HK
  iexact HV

/-- The window rows that arrive after the first two steps. -/
def rest (c : Dev nD) : sProp 𝕄 :=
  match c with
  | 0 => iprop(emp)
  | 1 => iprop((kbR m 1 640 1024).full 1 ∗ (vbR m 1 640 1024).full 1)
  | 2 => iprop((kbR m 2 0 128).full 2 ∗ (vbR m 2 0 128).full 2 ∗ (kbR m 2 896 1024).full 2 ∗ (vbR m 2 896 1024).full 2)
  | 3 => iprop((kbR m 3 0 384).full 3 ∗ (vbR m 3 0 384).full 3)

/-- The rows that arrive late on device 0, put together. -/
theorem rest_0 : (iprop(emp) : sProp 𝕄) ⊢ rest m 0 := BI.Entails.refl _
/-- The rows that arrive late on device 1, put together. -/
theorem rest_1 : iprop((kbR m 1 640 1024).full 1 ∗ (vbR m 1 640 1024).full 1) ⊢ rest m 1 := BI.Entails.refl _
/-- The rows that arrive late on device 2, put together. -/
theorem rest_2 : iprop((kbR m 2 0 128).full 2 ∗ (vbR m 2 0 128).full 2 ∗ (kbR m 2 896 1024).full 2 ∗ (vbR m 2 896 1024).full 2) ⊢ rest m 2 := BI.Entails.refl _
/-- The rows that arrive late on device 3, put together. -/
theorem rest_3 : iprop((kbR m 3 0 384).full 3 ∗ (vbR m 3 0 384).full 3) ⊢ rest m 3 := BI.Entails.refl _
/-- The rows that arrive late on device 1, as regions. -/
theorem rest_1' : rest m 1 ⊢ iprop((kbR m 1 640 1024).full 1 ∗ (vbR m 1 640 1024).full 1) := BI.Entails.refl _
/-- The rows that arrive late on device 2, as regions. -/
theorem rest_2' : rest m 2 ⊢ iprop((kbR m 2 0 128).full 2 ∗ (vbR m 2 0 128).full 2 ∗ (kbR m 2 896 1024).full 2 ∗ (vbR m 2 896 1024).full 2) := BI.Entails.refl _
/-- The rows that arrive late on device 3, as regions. -/
theorem rest_3' : rest m 3 ⊢ iprop((kbR m 3 0 384).full 3 ∗ (vbR m 3 0 384).full 3) := BI.Entails.refl _

/-- Neighbouring rows join. -/
theorem rows_add (a a' b b' c c' : ℕ) (h : b' ≤ 1024 ∧ (b' ≤ a ∨ a' ≤ b) ∧ a' ≤ 1024 ∧ (a' = b ∧ a ≤ a' ∧ b ≤ b' ∧ c = a ∧ c' = b' ∨ b' = a ∧ b ≤ b' ∧ a ≤ a' ∧ c = b ∧ c' = a')) :
    Disjoint (rows a a') (bx3 b b' 0 8 0 128 : Finset S1152x8x128.Idx) ∧ (rows a a' ∪ bx3 b b' 0 8 0 128 : Finset S1152x8x128.Idx) = rows c c' := by
  constructor
  · rw [Finset.disjoint_left]; intro i h1 h2; unfold rows at h1; rw [mem_bx3] at h2; rw [Finset.mem_filter] at h1; omega
  · ext i
    have h1 : (i 1).val < 8 := (i 1).isLt
    have h2 : (i 2).val < 128 := (i 2).isLt
    unfold rows
    rw [Finset.mem_union, mem_bx3, Finset.mem_filter, Finset.mem_filter]
    simp only [Finset.mem_univ, true_and]; omega

/-- Rows 0 to 1024 and those after are everything. -/
theorem rows_all : rows 0 1024 = Finset.univ := by
  ext i; unfold rows; simp only [Finset.mem_filter, Finset.mem_univ, true_and, iff_true]; omega

/-- With the late rows device 0 holds all that later steps read. -/
theorem at_next_0 : iprop(At m 0 1 ∗ rest m 0) ⊢ (At m 0 2 : sProp 𝕄) := by
  unfold At
  iintro ⟨⟨Hq, Ho, HK, HV⟩, Hr⟩
  ihave HK := (Entails.of_eq (show own 0 cc0_scratch0 (win 0 1) (KB m 0) = own 0 cc0_scratch0 (rows 0 1024) (KB m 0) from rfl)) $$ HK
  ihave HV := (Entails.of_eq (show own 0 cc0_scratch1 (win 0 1) (VB m 0) = own 0 cc0_scratch1 (rows 0 1024) (VB m 0) from rfl)) $$ HV
  ihave HK := (Entails.of_eq (congrArg (fun S => own 0 cc0_scratch0 S (KB m 0)) rows_all)) $$ HK
  ihave HV := (Entails.of_eq (congrArg (fun S => own 0 cc0_scratch1 S (VB m 0)) rows_all)) $$ HV
  isplitl [Hq]; · iexact Hq
  isplitl [Ho]; · iexact Ho
  isplitl [HK]; · iexact HK
  iexact HV

/-- With the late rows device 1 holds all that later steps read. -/
theorem at_next_1 : iprop(At m 1 1 ∗ rest m 1) ⊢ (At m 1 2 : sProp 𝕄) := by
  unfold At
  iintro ⟨⟨Hq, Ho, HK, HV⟩, Hr⟩
  ihave HK := (Entails.of_eq (show own 1 cc0_scratch0 (win 1 1) (KB m 1) = own 1 cc0_scratch0 (rows 0 640) (KB m 1) from rfl)) $$ HK
  ihave HV := (Entails.of_eq (show own 1 cc0_scratch1 (win 1 1) (VB m 1) = own 1 cc0_scratch1 (rows 0 640) (VB m 1) from rfl)) $$ HV
  ihave Hr := (rest_1' m) $$ Hr; icases Hr with ⟨K0, V0⟩
  ihave K0 := (fullE (kbR m 1 640 1024) 1) $$ K0
  ihave HK := (own_cut 1 cc0_scratch0 (rows_add 0 640 640 1024 0 1024 (by decide)) (KB m 1)).2 $$ [HK K0]
  · isplitl [HK]; · iexact HK
    iexact K0
  ihave V0 := (fullE (vbR m 1 640 1024) 1) $$ V0
  ihave HV := (own_cut 1 cc0_scratch1 (rows_add 0 640 640 1024 0 1024 (by decide)) (VB m 1)).2 $$ [HV V0]
  · isplitl [HV]; · iexact HV
    iexact V0
  ihave HK := (Entails.of_eq (congrArg (fun S => own 1 cc0_scratch0 S (KB m 1)) rows_all)) $$ HK
  ihave HV := (Entails.of_eq (congrArg (fun S => own 1 cc0_scratch1 S (VB m 1)) rows_all)) $$ HV
  isplitl [Hq]; · iexact Hq
  isplitl [Ho]; · iexact Ho
  isplitl [HK]; · iexact HK
  iexact HV

/-- With the late rows device 2 holds all that later steps read. -/
theorem at_next_2 : iprop(At m 2 1 ∗ rest m 2) ⊢ (At m 2 2 : sProp 𝕄) := by
  unfold At
  iintro ⟨⟨Hq, Ho, HK, HV⟩, Hr⟩
  ihave HK := (Entails.of_eq (show own 2 cc0_scratch0 (win 2 1) (KB m 2) = own 2 cc0_scratch0 (rows 128 896) (KB m 2) from rfl)) $$ HK
  ihave HV := (Entails.of_eq (show own 2 cc0_scratch1 (win 2 1) (VB m 2) = own 2 cc0_scratch1 (rows 128 896) (VB m 2) from rfl)) $$ HV
  ihave Hr := (rest_2' m) $$ Hr; icases Hr with ⟨K0, V0, K1, V1⟩
  ihave K0 := (fullE (kbR m 2 0 128) 2) $$ K0
  ihave HK := (own_cut 2 cc0_scratch0 (rows_add 128 896 0 128 0 896 (by decide)) (KB m 2)).2 $$ [HK K0]
  · isplitl [HK]; · iexact HK
    iexact K0
  ihave V0 := (fullE (vbR m 2 0 128) 2) $$ V0
  ihave HV := (own_cut 2 cc0_scratch1 (rows_add 128 896 0 128 0 896 (by decide)) (VB m 2)).2 $$ [HV V0]
  · isplitl [HV]; · iexact HV
    iexact V0
  ihave K1 := (fullE (kbR m 2 896 1024) 2) $$ K1
  ihave HK := (own_cut 2 cc0_scratch0 (rows_add 0 896 896 1024 0 1024 (by decide)) (KB m 2)).2 $$ [HK K1]
  · isplitl [HK]; · iexact HK
    iexact K1
  ihave V1 := (fullE (vbR m 2 896 1024) 2) $$ V1
  ihave HV := (own_cut 2 cc0_scratch1 (rows_add 0 896 896 1024 0 1024 (by decide)) (VB m 2)).2 $$ [HV V1]
  · isplitl [HV]; · iexact HV
    iexact V1
  ihave HK := (Entails.of_eq (congrArg (fun S => own 2 cc0_scratch0 S (KB m 2)) rows_all)) $$ HK
  ihave HV := (Entails.of_eq (congrArg (fun S => own 2 cc0_scratch1 S (VB m 2)) rows_all)) $$ HV
  isplitl [Hq]; · iexact Hq
  isplitl [Ho]; · iexact Ho
  isplitl [HK]; · iexact HK
  iexact HV

/-- With the late rows device 3 holds all that later steps read. -/
theorem at_next_3 : iprop(At m 3 1 ∗ rest m 3) ⊢ (At m 3 2 : sProp 𝕄) := by
  unfold At
  iintro ⟨⟨Hq, Ho, HK, HV⟩, Hr⟩
  ihave HK := (Entails.of_eq (show own 3 cc0_scratch0 (win 3 1) (KB m 3) = own 3 cc0_scratch0 (rows 384 1024) (KB m 3) from rfl)) $$ HK
  ihave HV := (Entails.of_eq (show own 3 cc0_scratch1 (win 3 1) (VB m 3) = own 3 cc0_scratch1 (rows 384 1024) (VB m 3) from rfl)) $$ HV
  ihave Hr := (rest_3' m) $$ Hr; icases Hr with ⟨K0, V0⟩
  ihave K0 := (fullE (kbR m 3 0 384) 3) $$ K0
  ihave HK := (own_cut 3 cc0_scratch0 (rows_add 384 1024 0 384 0 1024 (by decide)) (KB m 3)).2 $$ [HK K0]
  · isplitl [HK]; · iexact HK
    iexact K0
  ihave V0 := (fullE (vbR m 3 0 384) 3) $$ V0
  ihave HV := (own_cut 3 cc0_scratch1 (rows_add 384 1024 0 384 0 1024 (by decide)) (VB m 3)).2 $$ [HV V0]
  · isplitl [HV]; · iexact HV
    iexact V0
  ihave HK := (Entails.of_eq (congrArg (fun S => own 3 cc0_scratch0 S (KB m 3)) rows_all)) $$ HK
  ihave HV := (Entails.of_eq (congrArg (fun S => own 3 cc0_scratch1 S (VB m 3)) rows_all)) $$ HV
  isplitl [Hq]; · iexact Hq
  isplitl [Ho]; · iexact Ho
  isplitl [HK]; · iexact HK
  iexact HV

/-- With the rest of the rows, the attention may read the whole window. -/
theorem at_next (c : Dev nD) : iprop(At m c 1 ∗ rest m c) ⊢ (At m c 2 : sProp 𝕄) := by
  rcases dev_cases c with rfl | rfl | rfl | rfl
  · exact at_next_0 m
  · exact at_next_1 m
  · exact at_next_2 m
  · exact at_next_3 m

/-- The waits of part 22. -/
def awP' (c : Dev nD) : List Aw := match c with | 1 => [] | c => awP c
/-- The waits of part 36. -/
def awQ' (c : Dev nD) : List Aw := match c with | 1 => [] | c => awQ c

/-- The window rows that device 1 holds before part 36. -/
def early (c : Dev nD) : sProp 𝕄 := match c with | 1 => rest m 1 | _ => iprop(emp)
/-- What has arrived early on device 0. -/
theorem early_0 : (iprop(emp) : sProp 𝕄) ⊢ early m 0 := BI.Entails.refl _
/-- What has arrived early on device 1. -/
theorem early_1 : rest m 1 ⊢ early m 1 := BI.Entails.refl _
/-- What has arrived early on device 2. -/
theorem early_2 : (iprop(emp) : sProp 𝕄) ⊢ early m 2 := BI.Entails.refl _
/-- What has arrived early on device 3. -/
theorem early_3 : (iprop(emp) : sProp 𝕄) ⊢ early m 3 := BI.Entails.refl _
/-- What has arrived early on device 0. -/
theorem early_0' : early m 0 ⊢ rest m 0 := BI.Entails.refl _
/-- What has arrived early on device 1. -/
theorem early_1' : early m 1 ⊢ rest m 1 := BI.Entails.refl _

/-- The partial sums start at zero. -/
theorem e20 (c : Dev nD) : k0_pay20 = sm m c 0 0 := rfl
/-- The partial output starts at zero. -/
theorem e58 (c : Dev nD) : k0_pay58 = sm m c 2 0 := rfl

/-- Window 21 of the statements, on device 0. -/
theorem part21_0 (A : List Tr) (W : List Aw) (S : List Tr) (hA : ∀ t ∈ A, 3 < t.lev ∧ t.lev < 12) {Q : _ → sProp 𝕄} :
    iprop(hole 0 cc0_scratch2 (Finset.univ : Finset S1024x1024.Idx) ∗ hole 0 cc0_scratch3 (Finset.univ : Finset S1024x1024.Idx) ∗ XS m 0 ∗ own1 m 0 ∗ St m K X 0 (trF 0 ++ A) (awF 0 ++ (awE 0 ++ (awP 0 ++ W))) S
        ∗ (own 0 cc0_scratch2 (Finset.univ : Finset S1024x1024.Idx) (QS m 0) -∗ own 0 cc0_scratch3 (Finset.univ : Finset S1024x1024.Idx) (WO m 0) -∗ XS m 0 -∗ own2 m 0 -∗ St m K X 0 A (awP' 0 ++ W) (trF 0 ++ S) -∗ Q (Scalar.extui (Scalar.cmpi .eq (w2 0) 2#32))))
      ⊢ WP 0 (app (k0_part21 (F := F)) 0 (w2 0) (k0_pay16 (arg m 0 main_arg0) (arg m 0 main_arg1))) Q := by
  unfold app; rw [k0_part21_eq_skeleton]; unfold k0_part21_skel
  simp (decide := true) only [Prog.lift, Prog.bind_op, Prog.bind_ret, Prog.pure_eq_ret, ↓reduceDIte, bind_assoc]
  unfold XS
  iintro ⟨Hq, Ho, ⟨Hx, Hwq, Hwo⟩, Hw, HS, Hk⟩
  ihave HS := (St_A m K X (A2 := (A)) (by rfl)) $$ HS
  ihave HS := (St_W m K X (W2 := (⟨27, 3, 8192⟩ :: ⟨28, 3, 8192⟩ :: W)) (by rfl)) $$ HS
  iapply (dl_q 0 z2) $$ Hq; iintro %v0 Hq
  iapply (put_q m 0 rfl z2) $$ Hq; iintro Hq
  iapply (ld_wo 0 (arg m 0 main_arg4) z2) $$ Hwo; iintro Hwo
  iapply (dl_o 0 z2) $$ Ho; iintro %v1 Ho
  iapply (put_o m 0 rfl z2) $$ Ho; iintro Ho
  iapply (st_wt m K X (c := 0) 27 3 8192 (kbR m 0 1024 1152) rfl rfl (A := A) (W := (⟨28, 3, 8192⟩ :: W)) (S := (S)) (by decide) hA rfl) $$ HS
  iintro ⟨HS, HKe⟩
  iapply (st_wt m K X (c := 0) 28 3 8192 (vbR m 0 1024 1152) rfl rfl (A := A) (W := (W)) (S := (S)) (by decide) hA rfl) $$ HS
  iintro ⟨HS, HVe⟩
  ihave Hw := (own1_0' m) $$ Hw; icases Hw with ⟨HKp, HVp⟩
  iapply WP_ret
  ihave HS := (St_S m K X (S2 := trF 0 ++ S) (by rfl)) $$ HS
  ihave HS := (St_W m K X (W2 := awP' 0 ++ W) (by rfl)) $$ HS
  iapply Hk $$ Hq Ho [Hx Hwq Hwo] [HKe HVe HKp HVp] HS
  · isplitl [Hx]; · iexact Hx
    isplitl [Hwq] <;> iassumption
  · iapply (own2_0 m); iapply (both_0 m)
    isplitl [HKp]; · iexact HKp
    isplitl [HVp]; · iexact HVp
    isplitl [HKe] <;> iassumption

/-- Window 22 of the statements, on device 0. -/
theorem part22_0 (A : List Tr) (W : List Aw) (S : List Tr) (hA : ∀ t ∈ A, 3 < t.lev ∧ t.lev < 12) {Q : _ → sProp 𝕄} :
    iprop(own 0 cc0_scratch2 (Finset.univ : Finset S1024x1024.Idx) (QS m 0) ∗ own 0 cc0_scratch3 (Finset.univ : Finset S1024x1024.Idx) (WO m 0) ∗ own2 m 0 ∗ St m K X 0 A (awP' 0 ++ W) S
        ∗ (At m 0 0 -∗ St m K X 0 A W S -∗ ∀ u1 u2, Q ⟨u1, u2, msk 0 0, sm m 0 0 0, k0_pay21 (vw m 0 0 0), k0_pay22 (qw m 0 0 0) (kw m 0 0 0), k0_pay23⟩))
      ⊢ WP 0 (app (k0_part22 (F := F)) 0 (w2 0) (Scalar.extui (Scalar.cmpi .eq (w2 0) 2#32))) Q := by
  unfold app; rw [k0_part22_eq_skeleton]; unfold k0_part22_skel
  simp (decide := true) only [Prog.lift, Prog.bind_op, Prog.bind_ret, Prog.pure_eq_ret, ↓reduceDIte, bind_assoc]
  iintro ⟨Hq, Ho, Hw, HS, Hk⟩
  ihave HS := (St_W m K X (W2 := (W)) (by rfl)) $$ HS
  ihave Hw := (own2_0' m) $$ Hw
  ihave H := (at_intro m 0) $$ [Hq Ho Hw]
  · isplitl [Hq]; · iexact Hq
    isplitl [Ho] <;> iassumption
  iapply (ldq m 0 0 0 (oq0 0 0)) $$ H; iintro H
  iapply (ldk m 0 0 0 (ok0 0 0)) $$ H; iintro H
  iapply (ldv m 0 0 0 (ok0 0 0)) $$ H; iintro H
  rw [mk0 0, e20 m 0]
  iapply WP_ret; iapply Hk $$ H HS

/-- Window 35 of the statements, on device 0. -/
theorem part35_0 (A : List Tr) (W : List Aw) (S : List Tr) (hA : ∀ t ∈ A, 6 < t.lev ∧ t.lev < 12) {Q : _ → sProp 𝕄} :
    iprop((rsR m 0 1).full 0 ∗ St m K X 0 (rs1 0 :: (trG 0 ++ A)) (awG 0 ++ (awQ 0 ++ W)) S ∗ (early m 0 -∗ St m K X 0 A (awQ' 0 ++ W) ((trG 0).reverse ++ rs1 0 :: S) -∗ Q (Scalar.extui (Scalar.cmpi .eq (w2 0) 2#32))))
      ⊢ WP 0 (app (k0_part35 (F := F)) 0 (w2 0)) Q := by
  unfold app; rw [k0_part35_eq_skeleton]; unfold k0_part35_skel
  simp (decide := true) only [Prog.lift, Prog.bind_op, Prog.bind_ret, Prog.pure_eq_ret, ↓reduceDIte, bind_assoc]
  iintro ⟨HR, HS, Hk⟩
  ihave HS := (St_A m K X (A2 := rs1 0 :: (A)) (by rfl)) $$ HS
  ihave HS := (St_W m K X (W2 := (W)) (by rfl)) $$ HS
  iapply (send_rs m K X 0 _ 1 7 (s := 41) (r := 44) (A := (A)) (W := (W)) (S := S) (Fin.ext (k0_dev27_eq 0)) rfl rfl rfl rfl (by decide) rfl) $$ [HS HR]
  · isplitl [HS]; · iexact HS
    iexact HR
  iintro HS
  iapply WP_ret
  ihave HS := (St_S m K X (S2 := (trG 0).reverse ++ rs1 0 :: S) (by rfl)) $$ HS
  ihave HS := (St_W m K X (W2 := awQ' 0 ++ W) (by rfl)) $$ HS
  iapply Hk $$ [] HS
  iapply (early_0 m); iempintro

/-- Window 36 of the statements, on device 0. -/
theorem part36_0 (A : List Tr) (W : List Aw) (S : List Tr) (hA : ∀ t ∈ A, 6 < t.lev ∧ t.lev < 12) {Q : _ → sProp 𝕄} :
    iprop(At m 0 1 ∗ early m 0 ∗ St m K X 0 A (awQ' 0 ++ W) S
        ∗ (At m 0 2 -∗ St m K X 0 A W S -∗ ∀ u1 u2, Q ⟨u1, u2, msk 0 2, sm m 0 2 0, k0_pay59 (vw m 0 2 0), k0_pay60 (w2 0) (qw m 0 2 0) (kw m 0 2 0)⟩))
      ⊢ WP 0 (app (k0_part36 (F := F)) 0 (w2 0) (Scalar.extui (Scalar.cmpi .eq (w2 0) 2#32))) Q := by
  unfold app; rw [k0_part36_eq_skeleton]; unfold k0_part36_skel
  simp (decide := true) only [Prog.lift, Prog.bind_op, Prog.bind_ret, Prog.pure_eq_ret, ↓reduceDIte, bind_assoc]
  iintro ⟨H, Hr, HS, Hk⟩
  ihave HS := (St_W m K X (W2 := (W)) (by rfl)) $$ HS
  ihave Hr := (early_0' m) $$ Hr
  ihave H := (at_next m 0) $$ [H Hr]
  · isplitl [H] <;> iassumption
  iapply (ldq m 0 2 0 (oq0 0 2)) $$ H; iintro H
  iapply (ldk m 0 2 0 (ok0 0 2)) $$ H; iintro H
  iapply (ldv m 0 2 0 (ok0 0 2)) $$ H; iintro H
  rw [mk2 0, e58 m 0]
  iapply WP_ret; iapply Hk $$ H HS

/-- Window 21 of the statements, on device 1. -/
theorem part21_1 (A : List Tr) (W : List Aw) (S : List Tr) (hA : ∀ t ∈ A, 3 < t.lev ∧ t.lev < 12) {Q : _ → sProp 𝕄} :
    iprop(hole 1 cc0_scratch2 (Finset.univ : Finset S1024x1024.Idx) ∗ hole 1 cc0_scratch3 (Finset.univ : Finset S1024x1024.Idx) ∗ XS m 1 ∗ own1 m 1 ∗ St m K X 1 (trF 1 ++ A) (awF 1 ++ (awE 1 ++ (awP 1 ++ W))) S
        ∗ (own 1 cc0_scratch2 (Finset.univ : Finset S1024x1024.Idx) (QS m 1) -∗ own 1 cc0_scratch3 (Finset.univ : Finset S1024x1024.Idx) (WO m 1) -∗ XS m 1 -∗ own2 m 1 -∗ St m K X 1 A (awP' 1 ++ W) (trF 1 ++ S) -∗ Q (Scalar.extui (Scalar.cmpi .eq (w2 1) 2#32))))
      ⊢ WP 1 (app (k0_part21 (F := F)) 1 (w2 1) (k0_pay16 (arg m 1 main_arg0) (arg m 1 main_arg1))) Q := by
  unfold app; rw [k0_part21_eq_skeleton]; unfold k0_part21_skel
  simp (decide := true) only [Prog.lift, Prog.bind_op, Prog.bind_ret, Prog.pure_eq_ret, ↓reduceDIte, bind_assoc]
  unfold XS
  iintro ⟨Hq, Ho, ⟨Hx, Hwq, Hwo⟩, Hw, HS, Hk⟩
  ihave HS := (St_A m K X (A2 := (⟨18, 2, 29, 3, 49152⟩ :: A)) (by rfl)) $$ HS
  ihave HS := (St_W m K X (W2 := (⟨37, 2, 49152⟩ :: ⟨21, 3, 40960⟩ :: ⟨22, 3, 40960⟩ :: W)) (by rfl)) $$ HS
  iapply (dl_q 1 z2) $$ Hq; iintro %v0 Hq
  iapply (put_q m 1 rfl z2) $$ Hq; iintro Hq
  iapply (ld_wo 1 (arg m 1 main_arg4) z2) $$ Hwo; iintro Hwo
  iapply (dl_o 1 z2) $$ Ho; iintro %v1 Ho
  iapply (put_o m 1 rfl z2) $$ Ho; iintro Ho
  iapply (st_wt m K X (c := 1) 37 2 49152 (rlR m 1 128 896) rfl rfl (A := (⟨18, 2, 29, 3, 49152⟩ :: A)) (W := (⟨21, 3, 40960⟩ :: ⟨22, 3, 40960⟩ :: W)) (S := S) (by decide) (lev_ap (⟨18, 2, 29, 3, 49152⟩ :: []) (by decide) (lev_le (by decide) hA)) rfl) $$ HS
  iintro ⟨HS, HR⟩
  iapply (send_rk m K X 1 _ ⟨18, 2, 29, 3, 49152⟩ 768 128 (A := A) (W := (⟨21, 3, 40960⟩ :: ⟨22, 3, 40960⟩ :: W)) (S := S) (Fin.ext k0_dev24_eq) rfl rfl rfl rfl (by decide) ⟨rfl, by decide, rfl⟩ rfl rfl rfl) $$ [HS HR]
  · isplitl [HS]; · iexact HS
    iexact HR
  iintro HS
  iapply (st_wt m K X (c := 1) 21 3 40960 (kbR m 1 0 640) rfl rfl (A := A) (W := (⟨22, 3, 40960⟩ :: W)) (S := (⟨18, 2, 29, 3, 49152⟩ :: S)) (by decide) hA rfl) $$ HS
  iintro ⟨HS, HKp⟩
  iapply (st_wt m K X (c := 1) 22 3 40960 (vbR m 1 0 640) rfl rfl (A := A) (W := W) (S := (⟨18, 2, 29, 3, 49152⟩ :: S)) (by decide) hA rfl) $$ HS
  iintro ⟨HS, HVp⟩
  ihave Hw := (own1_1' m) $$ Hw; icases Hw with ⟨HKe, HVe⟩
  iapply WP_ret
  ihave HS := (St_S m K X (S2 := trF 1 ++ S) (by rfl)) $$ HS
  ihave HS := (St_W m K X (W2 := awP' 1 ++ W) (by rfl)) $$ HS
  iapply Hk $$ Hq Ho [Hx Hwq Hwo] [HKe HVe HKp HVp] HS
  · isplitl [Hx]; · iexact Hx
    isplitl [Hwq] <;> iassumption
  · iapply (own2_1 m); iapply (both_1 m)
    isplitl [HKp]; · iexact HKp
    isplitl [HVp]; · iexact HVp
    isplitl [HKe] <;> iassumption

/-- Window 22 of the statements, on device 1. -/
theorem part22_1 (A : List Tr) (W : List Aw) (S : List Tr) (hA : ∀ t ∈ A, 3 < t.lev ∧ t.lev < 12) {Q : _ → sProp 𝕄} :
    iprop(own 1 cc0_scratch2 (Finset.univ : Finset S1024x1024.Idx) (QS m 1) ∗ own 1 cc0_scratch3 (Finset.univ : Finset S1024x1024.Idx) (WO m 1) ∗ own2 m 1 ∗ St m K X 1 A (awP' 1 ++ W) S
        ∗ (At m 1 0 -∗ St m K X 1 A W S -∗ ∀ u1 u2, Q ⟨u1, u2, msk 1 0, sm m 1 0 0, k0_pay21 (vw m 1 0 0), k0_pay22 (qw m 1 0 0) (kw m 1 0 0), k0_pay23⟩))
      ⊢ WP 1 (app (k0_part22 (F := F)) 1 (w2 1) (Scalar.extui (Scalar.cmpi .eq (w2 1) 2#32))) Q := by
  unfold app; rw [k0_part22_eq_skeleton]; unfold k0_part22_skel
  simp (decide := true) only [Prog.lift, Prog.bind_op, Prog.bind_ret, Prog.pure_eq_ret, ↓reduceDIte, bind_assoc]
  iintro ⟨Hq, Ho, Hw, HS, Hk⟩
  ihave HS := (St_W m K X (W2 := (W)) (by rfl)) $$ HS
  ihave Hw := (own2_1' m) $$ Hw
  ihave H := (at_intro m 1) $$ [Hq Ho Hw]
  · isplitl [Hq]; · iexact Hq
    isplitl [Ho] <;> iassumption
  iapply (ldq m 1 0 0 (oq0 1 0)) $$ H; iintro H
  iapply (ldk m 1 0 0 (ok0 1 0)) $$ H; iintro H
  iapply (ldv m 1 0 0 (ok0 1 0)) $$ H; iintro H
  rw [mk0 1, e20 m 1]
  iapply WP_ret; iapply Hk $$ H HS

/-- Window 12 of the statements: what it takes and what it leaves. -/
theorem part12 (h : k0_cond9 1 = 1#1) (A : List Tr) (W : List Aw) (S : List Tr) (hA : ∀ t ∈ A, 5 < t.lev ∧ t.lev < 12) {Q : _ → sProp 𝕄} :
    iprop(St m K X 1 (⟨19, 2, 31, 6, 8192⟩ :: A) (⟨38, 5, 8192⟩ :: ⟨39, 5, 8192⟩ :: W) S ∗ ((rlR m 1 896 1024).full 1 -∗ St m K X 1 A W (⟨19, 2, 31, 6, 8192⟩ :: S) -∗ Q ⟨⟩))
      ⊢ WP 1 (app (k0_part12 (F := F)) 1 h) Q := by
  unfold app; rw [k0_part12_eq_skeleton]; unfold k0_part12_skel
  simp only [Prog.lift, Prog.bind_op, Prog.bind_ret, Prog.pure_eq_ret]
  iintro ⟨HS, Hk⟩
  iapply (st_wt m K X (c := 1) 38 5 8192 (rlR m 1 0 128) rfl rfl (A := (⟨19, 2, 31, 6, 8192⟩ :: A)) (W := (⟨39, 5, 8192⟩ :: W)) (S := S) (by decide) (lev_ap (⟨19, 2, 31, 6, 8192⟩ :: []) (by decide) hA) rfl) $$ HS
  iintro ⟨HS, HR⟩
  iapply (send_rk m K X 1 _ ⟨19, 2, 31, 6, 8192⟩ 128 0 (A := A) (W := (⟨39, 5, 8192⟩ :: W)) (S := S) (Fin.ext k0_dev28_eq) rfl rfl rfl rfl (by decide) ⟨rfl, by decide, rfl⟩ rfl rfl rfl) $$ [HS HR]
  · isplitl [HS]; · iexact HS
    iexact HR
  iintro HS
  iapply (st_wt m K X (c := 1) 39 5 8192 (rlR m 1 896 1024) rfl rfl (A := A) (W := W) (S := (⟨19, 2, 31, 6, 8192⟩ :: S)) (by decide) hA rfl) $$ HS
  iintro ⟨HS, HR⟩
  iapply WP_ret; iapply Hk $$ HR HS

/-- Window 35 of the statements, on device 1. -/
theorem part35_1 (A : List Tr) (W : List Aw) (S : List Tr) (hA : ∀ t ∈ A, 6 < t.lev ∧ t.lev < 12) {Q : _ → sProp 𝕄} :
    iprop((rsR m 1 1).full 1 ∗ St m K X 1 (rs1 1 :: (trG 1 ++ A)) (awG 1 ++ (awQ 1 ++ W)) S ∗ (early m 1 -∗ St m K X 1 A (awQ' 1 ++ W) ((trG 1).reverse ++ rs1 1 :: S) -∗ Q (Scalar.extui (Scalar.cmpi .eq (w2 1) 2#32))))
      ⊢ WP 1 (app (k0_part35 (F := F)) 1 (w2 1)) Q := by
  unfold app; rw [k0_part35_eq_skeleton]; unfold k0_part35_skel
  simp (decide := true) only [Prog.lift, Prog.bind_op, Prog.bind_ret, Prog.pure_eq_ret, ↓reduceDIte, bind_assoc]
  iintro ⟨HR, HS, Hk⟩
  ihave HS := (St_A m K X (A2 := rs1 1 :: (⟨19, 2, 31, 6, 8192⟩ :: ⟨20, 2, 25, 6, 8192⟩ :: A)) (by rfl)) $$ HS
  ihave HS := (St_W m K X (W2 := (⟨38, 5, 8192⟩ :: ⟨39, 5, 8192⟩ :: ⟨23, 6, 24576⟩ :: ⟨24, 6, 24576⟩ :: W)) (by rfl)) $$ HS
  iapply (send_rs m K X 1 _ 1 7 (s := 41) (r := 44) (A := (⟨19, 2, 31, 6, 8192⟩ :: ⟨20, 2, 25, 6, 8192⟩ :: A)) (W := (⟨38, 5, 8192⟩ :: ⟨39, 5, 8192⟩ :: ⟨23, 6, 24576⟩ :: ⟨24, 6, 24576⟩ :: W)) (S := S) (Fin.ext (k0_dev27_eq 1)) rfl rfl rfl rfl (by decide) rfl) $$ [HS HR]
  · isplitl [HS]; · iexact HS
    iexact HR
  iintro HS
  iapply WP_bind; iapply (part12 m K X _ (⟨20, 2, 25, 6, 8192⟩ :: A) (⟨23, 6, 24576⟩ :: ⟨24, 6, 24576⟩ :: W) (rs1 1 :: S) (lev_ap (⟨20, 2, 25, 6, 8192⟩ :: []) (by decide) (lev_le (by decide) hA)))
  isplitl [HS]; · iexact HS
  iintro HR HS
  iapply (send_rk m K X 1 _ ⟨20, 2, 25, 6, 8192⟩ 128 896 (A := A) (W := (⟨23, 6, 24576⟩ :: ⟨24, 6, 24576⟩ :: W)) (S := (⟨19, 2, 31, 6, 8192⟩ :: rs1 1 :: S)) (Fin.ext k0_dev29_eq) rfl rfl rfl rfl (by decide) ⟨rfl, by decide, rfl⟩ rfl rfl rfl) $$ [HS HR]
  · isplitl [HS]; · iexact HS
    iexact HR
  iintro HS
  iapply (st_wt m K X (c := 1) 23 6 24576 (kbR m 1 640 1024) rfl rfl (A := A) (W := (⟨24, 6, 24576⟩ :: W)) (S := (⟨20, 2, 25, 6, 8192⟩ :: ⟨19, 2, 31, 6, 8192⟩ :: rs1 1 :: S)) (by decide) hA rfl) $$ HS
  iintro ⟨HS, HK⟩
  iapply (st_wt m K X (c := 1) 24 6 24576 (vbR m 1 640 1024) rfl rfl (A := A) (W := W) (S := (⟨20, 2, 25, 6, 8192⟩ :: ⟨19, 2, 31, 6, 8192⟩ :: rs1 1 :: S)) (by decide) hA rfl) $$ HS
  iintro ⟨HS, HV⟩
  iapply WP_ret
  ihave HS := (St_S m K X (S2 := (trG 1).reverse ++ rs1 1 :: S) (by rfl)) $$ HS
  ihave HS := (St_W m K X (W2 := awQ' 1 ++ W) (by rfl)) $$ HS
  iapply Hk $$ [HK HV] HS
  iapply (early_1 m); iapply (rest_1 m); isplitl [HK] <;> iassumption

/-- Window 36 of the statements, on device 1. -/
theorem part36_1 (A : List Tr) (W : List Aw) (S : List Tr) (hA : ∀ t ∈ A, 6 < t.lev ∧ t.lev < 12) {Q : _ → sProp 𝕄} :
    iprop(At m 1 1 ∗ early m 1 ∗ St m K X 1 A (awQ' 1 ++ W) S
        ∗ (At m 1 2 -∗ St m K X 1 A W S -∗ ∀ u1 u2, Q ⟨u1, u2, msk 1 2, sm m 1 2 0, k0_pay59 (vw m 1 2 0), k0_pay60 (w2 1) (qw m 1 2 0) (kw m 1 2 0)⟩))
      ⊢ WP 1 (app (k0_part36 (F := F)) 1 (w2 1) (Scalar.extui (Scalar.cmpi .eq (w2 1) 2#32))) Q := by
  unfold app; rw [k0_part36_eq_skeleton]; unfold k0_part36_skel
  simp (decide := true) only [Prog.lift, Prog.bind_op, Prog.bind_ret, Prog.pure_eq_ret, ↓reduceDIte, bind_assoc]
  iintro ⟨H, Hr, HS, Hk⟩
  ihave HS := (St_W m K X (W2 := (W)) (by rfl)) $$ HS
  ihave Hr := (early_1' m) $$ Hr
  ihave H := (at_next m 1) $$ [H Hr]
  · isplitl [H] <;> iassumption
  iapply (ldq m 1 2 0 (oq0 1 2)) $$ H; iintro H
  iapply (ldk m 1 2 0 (ok0 1 2)) $$ H; iintro H
  iapply (ldv m 1 2 0 (ok0 1 2)) $$ H; iintro H
  rw [mk2 1, e58 m 1]
  iapply WP_ret; iapply Hk $$ H HS

/-- Window 21 of the statements, on device 2. -/
theorem part21_2 (A : List Tr) (W : List Aw) (S : List Tr) (hA : ∀ t ∈ A, 3 < t.lev ∧ t.lev < 12) {Q : _ → sProp 𝕄} :
    iprop(hole 2 cc0_scratch2 (Finset.univ : Finset S1024x1024.Idx) ∗ hole 2 cc0_scratch3 (Finset.univ : Finset S1024x1024.Idx) ∗ XS m 2 ∗ own1 m 2 ∗ St m K X 2 (trF 2 ++ A) (awF 2 ++ (awE 2 ++ (awP 2 ++ W))) S
        ∗ (own 2 cc0_scratch2 (Finset.univ : Finset S1024x1024.Idx) (QS m 2) -∗ own 2 cc0_scratch3 (Finset.univ : Finset S1024x1024.Idx) (WO m 2) -∗ XS m 2 -∗ own2 m 2 -∗ St m K X 2 A (awP' 2 ++ W) (trF 2 ++ S) -∗ Q (Scalar.extui (Scalar.cmpi .eq (w2 2) 2#32))))
      ⊢ WP 2 (app (k0_part21 (F := F)) 2 (w2 2) (k0_pay16 (arg m 2 main_arg0) (arg m 2 main_arg1))) Q := by
  unfold app; rw [k0_part21_eq_skeleton]; unfold k0_part21_skel
  simp (decide := true) only [Prog.lift, Prog.bind_op, Prog.bind_ret, Prog.pure_eq_ret, ↓reduceDIte, bind_assoc]
  unfold XS
  iintro ⟨Hq, Ho, ⟨Hx, Hwq, Hwo⟩, Hw, HS, Hk⟩
  ihave HS := (St_A m K X (A2 := (A)) (by rfl)) $$ HS
  ihave HS := (St_W m K X (W2 := (⟨27, 3, 8192⟩ :: ⟨28, 3, 8192⟩ :: ⟨29, 3, 49152⟩ :: ⟨30, 3, 49152⟩ :: W)) (by rfl)) $$ HS
  iapply (dl_q 2 z2) $$ Hq; iintro %v0 Hq
  iapply (put_q m 2 rfl z2) $$ Hq; iintro Hq
  iapply (ld_wo 2 (arg m 2 main_arg4) z2) $$ Hwo; iintro Hwo
  iapply (dl_o 2 z2) $$ Ho; iintro %v1 Ho
  iapply (put_o m 2 rfl z2) $$ Ho; iintro Ho
  iapply (st_wt m K X (c := 2) 27 3 8192 (kbR m 2 1024 1152) rfl rfl (A := A) (W := (⟨28, 3, 8192⟩ :: ⟨29, 3, 49152⟩ :: ⟨30, 3, 49152⟩ :: W)) (S := (S)) (by decide) hA rfl) $$ HS
  iintro ⟨HS, HKe⟩
  iapply (st_wt m K X (c := 2) 28 3 8192 (vbR m 2 1024 1152) rfl rfl (A := A) (W := (⟨29, 3, 49152⟩ :: ⟨30, 3, 49152⟩ :: W)) (S := (S)) (by decide) hA rfl) $$ HS
  iintro ⟨HS, HVe⟩
  iapply WP_ret
  ihave HS := (St_S m K X (S2 := trF 2 ++ S) (by rfl)) $$ HS
  ihave HS := (St_W m K X (W2 := awP' 2 ++ W) (by rfl)) $$ HS
  iapply Hk $$ Hq Ho [Hx Hwq Hwo] [HKe HVe Hw] HS
  · isplitl [Hx]; · iexact Hx
    isplitl [Hwq] <;> iassumption
  · iapply (own2_2 m)
    isplitl [HKe] <;> iassumption

/-- Window 22 of the statements, on device 2. -/
theorem part22_2 (A : List Tr) (W : List Aw) (S : List Tr) (hA : ∀ t ∈ A, 3 < t.lev ∧ t.lev < 12) {Q : _ → sProp 𝕄} :
    iprop(own 2 cc0_scratch2 (Finset.univ : Finset S1024x1024.Idx) (QS m 2) ∗ own 2 cc0_scratch3 (Finset.univ : Finset S1024x1024.Idx) (WO m 2) ∗ own2 m 2 ∗ St m K X 2 A (awP' 2 ++ W) S
        ∗ (At m 2 0 -∗ St m K X 2 A W S -∗ ∀ u1 u2, Q ⟨u1, u2, msk 2 0, sm m 2 0 0, k0_pay21 (vw m 2 0 0), k0_pay22 (qw m 2 0 0) (kw m 2 0 0), k0_pay23⟩))
      ⊢ WP 2 (app (k0_part22 (F := F)) 2 (w2 2) (Scalar.extui (Scalar.cmpi .eq (w2 2) 2#32))) Q := by
  unfold app; rw [k0_part22_eq_skeleton]; unfold k0_part22_skel
  simp (decide := true) only [Prog.lift, Prog.bind_op, Prog.bind_ret, Prog.pure_eq_ret, ↓reduceDIte, bind_assoc]
  iintro ⟨Hq, Ho, Hw, HS, Hk⟩
  ihave HS := (St_W m K X (W2 := (⟨29, 3, 49152⟩ :: ⟨30, 3, 49152⟩ :: W)) (by rfl)) $$ HS
  ihave Hw := (own2_2' m) $$ Hw; icases Hw with ⟨HKe, HVe⟩
  iapply (st_wt m K X (c := 2) 29 3 49152 (kbR m 2 128 896) rfl rfl (A := A) (W := (⟨30, 3, 49152⟩ :: W)) (S := S) (by decide) hA rfl) $$ HS
  iintro ⟨HS, HKp⟩
  iapply (st_wt m K X (c := 2) 30 3 49152 (vbR m 2 128 896) rfl rfl (A := A) (W := W) (S := S) (by decide) hA rfl) $$ HS
  iintro ⟨HS, HVp⟩
  ihave Hw := (both_2 m) $$ [HKe HVe HKp HVp]
  · isplitl [HKp]; · iexact HKp
    isplitl [HVp]; · iexact HVp
    isplitl [HKe] <;> iassumption
  ihave H := (at_intro m 2) $$ [Hq Ho Hw]
  · isplitl [Hq]; · iexact Hq
    isplitl [Ho] <;> iassumption
  iapply (ldq m 2 0 0 (oq0 2 0)) $$ H; iintro H
  iapply (ldk m 2 0 0 (ok0 2 0)) $$ H; iintro H
  iapply (ldv m 2 0 0 (ok0 2 0)) $$ H; iintro H
  rw [mk0 2, e20 m 2]
  iapply WP_ret; iapply Hk $$ H HS

/-- Window 35 of the statements, on device 2. -/
theorem part35_2 (A : List Tr) (W : List Aw) (S : List Tr) (hA : ∀ t ∈ A, 6 < t.lev ∧ t.lev < 12) {Q : _ → sProp 𝕄} :
    iprop((rsR m 2 1).full 2 ∗ St m K X 2 (rs1 2 :: (trG 2 ++ A)) (awG 2 ++ (awQ 2 ++ W)) S ∗ (early m 2 -∗ St m K X 2 A (awQ' 2 ++ W) ((trG 2).reverse ++ rs1 2 :: S) -∗ Q (Scalar.extui (Scalar.cmpi .eq (w2 2) 2#32))))
      ⊢ WP 2 (app (k0_part35 (F := F)) 2 (w2 2)) Q := by
  unfold app; rw [k0_part35_eq_skeleton]; unfold k0_part35_skel
  simp (decide := true) only [Prog.lift, Prog.bind_op, Prog.bind_ret, Prog.pure_eq_ret, ↓reduceDIte, bind_assoc]
  iintro ⟨HR, HS, Hk⟩
  ihave HS := (St_A m K X (A2 := rs1 2 :: (A)) (by rfl)) $$ HS
  ihave HS := (St_W m K X (W2 := (⟨31, 6, 8192⟩ :: ⟨32, 6, 8192⟩ :: ⟨25, 6, 8192⟩ :: ⟨26, 6, 8192⟩ :: W)) (by rfl)) $$ HS
  iapply (send_rs m K X 2 _ 1 7 (s := 41) (r := 44) (A := (A)) (W := (⟨31, 6, 8192⟩ :: ⟨32, 6, 8192⟩ :: ⟨25, 6, 8192⟩ :: ⟨26, 6, 8192⟩ :: W)) (S := S) (Fin.ext (k0_dev27_eq 2)) rfl rfl rfl rfl (by decide) rfl) $$ [HS HR]
  · isplitl [HS]; · iexact HS
    iexact HR
  iintro HS
  iapply WP_ret
  ihave HS := (St_S m K X (S2 := (trG 2).reverse ++ rs1 2 :: S) (by rfl)) $$ HS
  ihave HS := (St_W m K X (W2 := awQ' 2 ++ W) (by rfl)) $$ HS
  iapply Hk $$ [] HS
  iapply (early_2 m); iempintro

/-- Window 14 of the statements: what it takes and what it leaves. -/
theorem part14 (A : List Tr) (W : List Aw) (S : List Tr) (hA : ∀ t ∈ A, 6 < t.lev ∧ t.lev < 12) {Q : _ → sProp 𝕄} :
    iprop(St m K X 2 A (⟨31, 6, 8192⟩ :: ⟨32, 6, 8192⟩ :: ⟨25, 6, 8192⟩ :: W) S ∗ ((kbR m 2 0 128).full 2 -∗ (vbR m 2 0 128).full 2 -∗ (kbR m 2 896 1024).full 2 -∗ St m K X 2 A W S -∗ Q ⟨⟩))
      ⊢ WP 2 (app (k0_part14 (F := F))) Q := by
  unfold app; rw [k0_part14_eq_skeleton]; unfold k0_part14_skel
  simp only [Prog.lift, Prog.bind_op, Prog.bind_ret, Prog.pure_eq_ret]
  iintro ⟨HS, Hk⟩
  iapply (st_wt m K X (c := 2) 31 6 8192 (kbR m 2 0 128) rfl rfl (A := A) (W := (⟨32, 6, 8192⟩ :: ⟨25, 6, 8192⟩ :: W)) (S := S) (by decide) hA rfl) $$ HS
  iintro ⟨HS, H1⟩
  iapply (st_wt m K X (c := 2) 32 6 8192 (vbR m 2 0 128) rfl rfl (A := A) (W := (⟨25, 6, 8192⟩ :: W)) (S := S) (by decide) hA rfl) $$ HS
  iintro ⟨HS, H2⟩
  iapply (st_wt m K X (c := 2) 25 6 8192 (kbR m 2 896 1024) rfl rfl (A := A) (W := W) (S := S) (by decide) hA rfl) $$ HS
  iintro ⟨HS, H3⟩
  iapply WP_ret; iapply Hk $$ H1 H2 H3 HS

/-- Window 36 of the statements, on device 2. -/
theorem part36_2 (A : List Tr) (W : List Aw) (S : List Tr) (hA : ∀ t ∈ A, 6 < t.lev ∧ t.lev < 12) {Q : _ → sProp 𝕄} :
    iprop(At m 2 1 ∗ early m 2 ∗ St m K X 2 A (awQ' 2 ++ W) S
        ∗ (At m 2 2 -∗ St m K X 2 A W S -∗ ∀ u1 u2, Q ⟨u1, u2, msk 2 2, sm m 2 2 0, k0_pay59 (vw m 2 2 0), k0_pay60 (w2 2) (qw m 2 2 0) (kw m 2 2 0)⟩))
      ⊢ WP 2 (app (k0_part36 (F := F)) 2 (w2 2) (Scalar.extui (Scalar.cmpi .eq (w2 2) 2#32))) Q := by
  unfold app; rw [k0_part36_eq_skeleton]; unfold k0_part36_skel
  simp (decide := true) only [Prog.lift, Prog.bind_op, Prog.bind_ret, Prog.pure_eq_ret, ↓reduceDIte, bind_assoc]
  iintro ⟨H, Hr, HS, Hk⟩
  ihave HS := (St_W m K X (W2 := (⟨31, 6, 8192⟩ :: ⟨32, 6, 8192⟩ :: ⟨25, 6, 8192⟩ :: ⟨26, 6, 8192⟩ :: W)) (by rfl)) $$ HS
  iapply WP_bind; iapply (part14 m K X A (⟨26, 6, 8192⟩ :: W) S hA)
  isplitl [HS]; · iexact HS
  iintro H1 H2 H3 HS
  iapply (st_wt m K X (c := 2) 26 6 8192 (vbR m 2 896 1024) rfl rfl (A := A) (W := W) (S := S) (by decide) hA rfl) $$ HS
  iintro ⟨HS, H4⟩
  iclear Hr
  ihave Hr := (rest_2 m) $$ [H1 H2 H3 H4]
  · isplitl [H1]; · iexact H1
    isplitl [H2]; · iexact H2
    isplitl [H3] <;> iassumption
  ihave H := (at_next m 2) $$ [H Hr]
  · isplitl [H] <;> iassumption
  iapply (ldq m 2 2 0 (oq0 2 2)) $$ H; iintro H
  iapply (ldk m 2 2 0 (ok0 2 2)) $$ H; iintro H
  iapply (ldv m 2 2 0 (ok0 2 2)) $$ H; iintro H
  rw [mk2 2, e58 m 2]
  iapply WP_ret; iapply Hk $$ H HS

/-- Window 21 of the statements, on device 3. -/
theorem part21_3 (A : List Tr) (W : List Aw) (S : List Tr) (hA : ∀ t ∈ A, 3 < t.lev ∧ t.lev < 12) {Q : _ → sProp 𝕄} :
    iprop(hole 3 cc0_scratch2 (Finset.univ : Finset S1024x1024.Idx) ∗ hole 3 cc0_scratch3 (Finset.univ : Finset S1024x1024.Idx) ∗ XS m 3 ∗ own1 m 3 ∗ St m K X 3 (trF 3 ++ A) (awF 3 ++ (awE 3 ++ (awP 3 ++ W))) S
        ∗ (own 3 cc0_scratch2 (Finset.univ : Finset S1024x1024.Idx) (QS m 3) -∗ own 3 cc0_scratch3 (Finset.univ : Finset S1024x1024.Idx) (WO m 3) -∗ XS m 3 -∗ own2 m 3 -∗ St m K X 3 A (awP' 3 ++ W) (trF 3 ++ S) -∗ Q (Scalar.extui (Scalar.cmpi .eq (w2 3) 2#32))))
      ⊢ WP 3 (app (k0_part21 (F := F)) 3 (w2 3) (k0_pay16 (arg m 3 main_arg0) (arg m 3 main_arg1))) Q := by
  unfold app; rw [k0_part21_eq_skeleton]; unfold k0_part21_skel
  simp (decide := true) only [Prog.lift, Prog.bind_op, Prog.bind_ret, Prog.pure_eq_ret, ↓reduceDIte, bind_assoc]
  unfold XS
  iintro ⟨Hq, Ho, ⟨Hx, Hwq, Hwo⟩, Hw, HS, Hk⟩
  ihave HS := (St_A m K X (A2 := (⟨18, 2, 30, 3, 49152⟩ :: A)) (by rfl)) $$ HS
  ihave HS := (St_W m K X (W2 := (⟨37, 2, 49152⟩ :: ⟨27, 3, 8192⟩ :: ⟨28, 3, 8192⟩ :: ⟨21, 3, 40960⟩ :: ⟨22, 3, 40960⟩ :: W)) (by rfl)) $$ HS
  iapply (dl_q 3 z2) $$ Hq; iintro %v0 Hq
  iapply (put_q m 3 rfl z2) $$ Hq; iintro Hq
  iapply (ld_wo 3 (arg m 3 main_arg4) z2) $$ Hwo; iintro Hwo
  iapply (dl_o 3 z2) $$ Ho; iintro %v1 Ho
  iapply (put_o m 3 rfl z2) $$ Ho; iintro Ho
  iapply (st_wt m K X (c := 3) 37 2 49152 (rlR m 3 128 896) rfl rfl (A := (⟨18, 2, 30, 3, 49152⟩ :: A)) (W := (⟨27, 3, 8192⟩ :: ⟨28, 3, 8192⟩ :: ⟨21, 3, 40960⟩ :: ⟨22, 3, 40960⟩ :: W)) (S := S) (by decide) (lev_ap (⟨18, 2, 30, 3, 49152⟩ :: []) (by decide) (lev_le (by decide) hA)) rfl) $$ HS
  iintro ⟨HS, HR⟩
  iapply (send_rv m K X 3 _ ⟨18, 2, 30, 3, 49152⟩ 768 128 (A := A) (W := (⟨27, 3, 8192⟩ :: ⟨28, 3, 8192⟩ :: ⟨21, 3, 40960⟩ :: ⟨22, 3, 40960⟩ :: W)) (S := S) (Fin.ext k0_dev25_eq) rfl rfl rfl rfl (by decide) ⟨rfl, by decide, rfl⟩ rfl rfl rfl) $$ [HS HR]
  · isplitl [HS]; · iexact HS
    iexact HR
  iintro HS
  iapply (st_wt m K X (c := 3) 27 3 8192 (kbR m 3 1024 1152) rfl rfl (A := A) (W := (⟨28, 3, 8192⟩ :: ⟨21, 3, 40960⟩ :: ⟨22, 3, 40960⟩ :: W)) (S := (⟨18, 2, 30, 3, 49152⟩ :: S)) (by decide) hA rfl) $$ HS
  iintro ⟨HS, HKe⟩
  iapply (st_wt m K X (c := 3) 28 3 8192 (vbR m 3 1024 1152) rfl rfl (A := A) (W := (⟨21, 3, 40960⟩ :: ⟨22, 3, 40960⟩ :: W)) (S := (⟨18, 2, 30, 3, 49152⟩ :: S)) (by decide) hA rfl) $$ HS
  iintro ⟨HS, HVe⟩
  iapply WP_ret
  ihave HS := (St_S m K X (S2 := trF 3 ++ S) (by rfl)) $$ HS
  ihave HS := (St_W m K X (W2 := awP' 3 ++ W) (by rfl)) $$ HS
  iapply Hk $$ Hq Ho [Hx Hwq Hwo] [HKe HVe Hw] HS
  · isplitl [Hx]; · iexact Hx
    isplitl [Hwq] <;> iassumption
  · iapply (own2_3 m)
    isplitl [HKe] <;> iassumption

/-- Window 22 of the statements, on device 3. -/
theorem part22_3 (A : List Tr) (W : List Aw) (S : List Tr) (hA : ∀ t ∈ A, 3 < t.lev ∧ t.lev < 12) {Q : _ → sProp 𝕄} :
    iprop(own 3 cc0_scratch2 (Finset.univ : Finset S1024x1024.Idx) (QS m 3) ∗ own 3 cc0_scratch3 (Finset.univ : Finset S1024x1024.Idx) (WO m 3) ∗ own2 m 3 ∗ St m K X 3 A (awP' 3 ++ W) S
        ∗ (At m 3 0 -∗ St m K X 3 A W S -∗ ∀ u1 u2, Q ⟨u1, u2, msk 3 0, sm m 3 0 0, k0_pay21 (vw m 3 0 0), k0_pay22 (qw m 3 0 0) (kw m 3 0 0), k0_pay23⟩))
      ⊢ WP 3 (app (k0_part22 (F := F)) 3 (w2 3) (Scalar.extui (Scalar.cmpi .eq (w2 3) 2#32))) Q := by
  unfold app; rw [k0_part22_eq_skeleton]; unfold k0_part22_skel
  simp (decide := true) only [Prog.lift, Prog.bind_op, Prog.bind_ret, Prog.pure_eq_ret, ↓reduceDIte, bind_assoc]
  iintro ⟨Hq, Ho, Hw, HS, Hk⟩
  ihave HS := (St_W m K X (W2 := (⟨21, 3, 40960⟩ :: ⟨22, 3, 40960⟩ :: W)) (by rfl)) $$ HS
  ihave Hw := (own2_3' m) $$ Hw; icases Hw with ⟨HKe, HVe⟩
  iapply (st_wt m K X (c := 3) 21 3 40960 (kbR m 3 384 1024) rfl rfl (A := A) (W := (⟨22, 3, 40960⟩ :: W)) (S := S) (by decide) hA rfl) $$ HS
  iintro ⟨HS, HKp⟩
  iapply (st_wt m K X (c := 3) 22 3 40960 (vbR m 3 384 1024) rfl rfl (A := A) (W := W) (S := S) (by decide) hA rfl) $$ HS
  iintro ⟨HS, HVp⟩
  ihave Hw := (both_3 m) $$ [HKe HVe HKp HVp]
  · isplitl [HKp]; · iexact HKp
    isplitl [HVp]; · iexact HVp
    isplitl [HKe] <;> iassumption
  ihave H := (at_intro m 3) $$ [Hq Ho Hw]
  · isplitl [Hq]; · iexact Hq
    isplitl [Ho] <;> iassumption
  iapply (ldq m 3 0 0 (oq0 3 0)) $$ H; iintro H
  iapply (ldk m 3 0 0 (ok0 3 0)) $$ H; iintro H
  iapply (ldv m 3 0 0 (ok0 3 0)) $$ H; iintro H
  rw [mk0 3, e20 m 3]
  iapply WP_ret; iapply Hk $$ H HS

/-- Window 13 of the statements: what it takes and what it leaves. -/
theorem part13 (h : k0_cond10 3 = 1#1) (A : List Tr) (W : List Aw) (S : List Tr) (hA : ∀ t ∈ A, 5 < t.lev ∧ t.lev < 12) {Q : _ → sProp 𝕄} :
    iprop(St m K X 3 (⟨19, 2, 32, 6, 8192⟩ :: A) (⟨38, 5, 8192⟩ :: ⟨39, 5, 8192⟩ :: W) S ∗ ((rlR m 3 896 1024).full 3 -∗ St m K X 3 A W (⟨19, 2, 32, 6, 8192⟩ :: S) -∗ Q ⟨⟩))
      ⊢ WP 3 (app (k0_part13 (F := F)) 3 h) Q := by
  unfold app; rw [k0_part13_eq_skeleton]; unfold k0_part13_skel
  simp only [Prog.lift, Prog.bind_op, Prog.bind_ret, Prog.pure_eq_ret]
  iintro ⟨HS, Hk⟩
  iapply (st_wt m K X (c := 3) 38 5 8192 (rlR m 3 0 128) rfl rfl (A := (⟨19, 2, 32, 6, 8192⟩ :: A)) (W := (⟨39, 5, 8192⟩ :: W)) (S := S) (by decide) (lev_ap (⟨19, 2, 32, 6, 8192⟩ :: []) (by decide) hA) rfl) $$ HS
  iintro ⟨HS, HR⟩
  iapply (send_rv m K X 3 _ ⟨19, 2, 32, 6, 8192⟩ 128 0 (A := A) (W := (⟨39, 5, 8192⟩ :: W)) (S := S) (Fin.ext k0_dev30_eq) rfl rfl rfl rfl (by decide) ⟨rfl, by decide, rfl⟩ rfl rfl rfl) $$ [HS HR]
  · isplitl [HS]; · iexact HS
    iexact HR
  iintro HS
  iapply (st_wt m K X (c := 3) 39 5 8192 (rlR m 3 896 1024) rfl rfl (A := A) (W := W) (S := (⟨19, 2, 32, 6, 8192⟩ :: S)) (by decide) hA rfl) $$ HS
  iintro ⟨HS, HR⟩
  iapply WP_ret; iapply Hk $$ HR HS

/-- Window 35 of the statements, on device 3. -/
theorem part35_3 (A : List Tr) (W : List Aw) (S : List Tr) (hA : ∀ t ∈ A, 6 < t.lev ∧ t.lev < 12) {Q : _ → sProp 𝕄} :
    iprop((rsR m 3 1).full 3 ∗ St m K X 3 (rs1 3 :: (trG 3 ++ A)) (awG 3 ++ (awQ 3 ++ W)) S ∗ (early m 3 -∗ St m K X 3 A (awQ' 3 ++ W) ((trG 3).reverse ++ rs1 3 :: S) -∗ Q (Scalar.extui (Scalar.cmpi .eq (w2 3) 2#32))))
      ⊢ WP 3 (app (k0_part35 (F := F)) 3 (w2 3)) Q := by
  unfold app; rw [k0_part35_eq_skeleton]; unfold k0_part35_skel
  simp (decide := true) only [Prog.lift, Prog.bind_op, Prog.bind_ret, Prog.pure_eq_ret, ↓reduceDIte, bind_assoc]
  iintro ⟨HR, HS, Hk⟩
  ihave HS := (St_A m K X (A2 := rs1 3 :: (⟨19, 2, 32, 6, 8192⟩ :: ⟨20, 2, 26, 6, 8192⟩ :: A)) (by rfl)) $$ HS
  ihave HS := (St_W m K X (W2 := (⟨38, 5, 8192⟩ :: ⟨39, 5, 8192⟩ :: ⟨23, 6, 24576⟩ :: ⟨24, 6, 24576⟩ :: W)) (by rfl)) $$ HS
  iapply (send_rs m K X 3 _ 1 7 (s := 41) (r := 44) (A := (⟨19, 2, 32, 6, 8192⟩ :: ⟨20, 2, 26, 6, 8192⟩ :: A)) (W := (⟨38, 5, 8192⟩ :: ⟨39, 5, 8192⟩ :: ⟨23, 6, 24576⟩ :: ⟨24, 6, 24576⟩ :: W)) (S := S) (Fin.ext (k0_dev27_eq 3)) rfl rfl rfl rfl (by decide) rfl) $$ [HS HR]
  · isplitl [HS]; · iexact HS
    iexact HR
  iintro HS
  iapply WP_bind; iapply (part13 m K X _ (⟨20, 2, 26, 6, 8192⟩ :: A) (⟨23, 6, 24576⟩ :: ⟨24, 6, 24576⟩ :: W) (rs1 3 :: S) (lev_ap (⟨20, 2, 26, 6, 8192⟩ :: []) (by decide) (lev_le (by decide) hA)))
  isplitl [HS]; · iexact HS
  iintro HR HS
  iapply (send_rv m K X 3 _ ⟨20, 2, 26, 6, 8192⟩ 128 896 (A := A) (W := (⟨23, 6, 24576⟩ :: ⟨24, 6, 24576⟩ :: W)) (S := (⟨19, 2, 32, 6, 8192⟩ :: rs1 3 :: S)) (Fin.ext k0_dev31_eq) rfl rfl rfl rfl (by decide) ⟨rfl, by decide, rfl⟩ rfl rfl rfl) $$ [HS HR]
  · isplitl [HS]; · iexact HS
    iexact HR
  iintro HS
  iapply WP_ret
  ihave HS := (St_S m K X (S2 := (trG 3).reverse ++ rs1 3 :: S) (by rfl)) $$ HS
  ihave HS := (St_W m K X (W2 := awQ' 3 ++ W) (by rfl)) $$ HS
  iapply Hk $$ [] HS
  iapply (early_3 m); iempintro

/-- Window 36 of the statements, on device 3. -/
theorem part36_3 (A : List Tr) (W : List Aw) (S : List Tr) (hA : ∀ t ∈ A, 6 < t.lev ∧ t.lev < 12) {Q : _ → sProp 𝕄} :
    iprop(At m 3 1 ∗ early m 3 ∗ St m K X 3 A (awQ' 3 ++ W) S
        ∗ (At m 3 2 -∗ St m K X 3 A W S -∗ ∀ u1 u2, Q ⟨u1, u2, msk 3 2, sm m 3 2 0, k0_pay59 (vw m 3 2 0), k0_pay60 (w2 3) (qw m 3 2 0) (kw m 3 2 0)⟩))
      ⊢ WP 3 (app (k0_part36 (F := F)) 3 (w2 3) (Scalar.extui (Scalar.cmpi .eq (w2 3) 2#32))) Q := by
  unfold app; rw [k0_part36_eq_skeleton]; unfold k0_part36_skel
  simp (decide := true) only [Prog.lift, Prog.bind_op, Prog.bind_ret, Prog.pure_eq_ret, ↓reduceDIte, bind_assoc]
  iintro ⟨H, Hr, HS, Hk⟩
  ihave HS := (St_W m K X (W2 := (⟨23, 6, 24576⟩ :: ⟨24, 6, 24576⟩ :: W)) (by rfl)) $$ HS
  iapply (st_wt m K X (c := 3) 23 6 24576 (kbR m 3 0 384) rfl rfl (A := A) (W := (⟨24, 6, 24576⟩ :: W)) (S := S) (by decide) hA rfl) $$ HS
  iintro ⟨HS, HK⟩
  iapply (st_wt m K X (c := 3) 24 6 24576 (vbR m 3 0 384) rfl rfl (A := A) (W := W) (S := S) (by decide) hA rfl) $$ HS
  iintro ⟨HS, HV⟩
  iclear Hr
  ihave Hr := (rest_3 m) $$ [HK HV]
  · isplitl [HK] <;> iassumption
  ihave H := (at_next m 3) $$ [H Hr]
  · isplitl [H] <;> iassumption
  iapply (ldq m 3 2 0 (oq0 3 2)) $$ H; iintro H
  iapply (ldk m 3 2 0 (ok0 3 2)) $$ H; iintro H
  iapply (ldv m 3 2 0 (ok0 3 2)) $$ H; iintro H
  rw [mk2 3, e58 m 3]
  iapply WP_ret; iapply Hk $$ H HS

/-- Part 21 on any device. -/
theorem part21 (c : Dev nD) (A : List Tr) (W : List Aw) (S : List Tr) (hA : ∀ t ∈ A, 3 < t.lev ∧ t.lev < 12) {Q : _ → sProp 𝕄} :
    iprop(hole c cc0_scratch2 (Finset.univ : Finset S1024x1024.Idx) ∗ hole c cc0_scratch3 (Finset.univ : Finset S1024x1024.Idx) ∗ XS m c ∗ own1 m c ∗ St m K X c (trF c ++ A) (awF c ++ (awE c ++ (awP c ++ W))) S
        ∗ (own c cc0_scratch2 (Finset.univ : Finset S1024x1024.Idx) (QS m c) -∗ own c cc0_scratch3 (Finset.univ : Finset S1024x1024.Idx) (WO m c) -∗ XS m c -∗ own2 m c -∗ St m K X c A (awP' c ++ W) (trF c ++ S) -∗ Q (Scalar.extui (Scalar.cmpi .eq (w2 c) 2#32))))
      ⊢ WP c (app (k0_part21 (F := F)) c (w2 c) (k0_pay16 (arg m c main_arg0) (arg m c main_arg1))) Q := by
  rcases dev_cases c with rfl | rfl | rfl | rfl
  · exact part21_0 m K X A W S hA
  · exact part21_1 m K X A W S hA
  · exact part21_2 m K X A W S hA
  · exact part21_3 m K X A W S hA

/-- Part 22 on any device. -/
theorem part22 (c : Dev nD) (A : List Tr) (W : List Aw) (S : List Tr) (hA : ∀ t ∈ A, 3 < t.lev ∧ t.lev < 12) {Q : _ → sProp 𝕄} :
    iprop(own c cc0_scratch2 (Finset.univ : Finset S1024x1024.Idx) (QS m c) ∗ own c cc0_scratch3 (Finset.univ : Finset S1024x1024.Idx) (WO m c) ∗ own2 m c ∗ St m K X c A (awP' c ++ W) S
        ∗ (At m c 0 -∗ St m K X c A W S -∗ ∀ u1 u2, Q ⟨u1, u2, msk c 0, sm m c 0 0, k0_pay21 (vw m c 0 0), k0_pay22 (qw m c 0 0) (kw m c 0 0), k0_pay23⟩))
      ⊢ WP c (app (k0_part22 (F := F)) c (w2 c) (Scalar.extui (Scalar.cmpi .eq (w2 c) 2#32))) Q := by
  rcases dev_cases c with rfl | rfl | rfl | rfl
  · exact part22_0 m K X A W S hA
  · exact part22_1 m K X A W S hA
  · exact part22_2 m K X A W S hA
  · exact part22_3 m K X A W S hA

/-- Part 35 on any device. -/
theorem part35 (c : Dev nD) (A : List Tr) (W : List Aw) (S : List Tr) (hA : ∀ t ∈ A, 6 < t.lev ∧ t.lev < 12) {Q : _ → sProp 𝕄} :
    iprop((rsR m c 1).full c ∗ St m K X c (rs1 c :: (trG c ++ A)) (awG c ++ (awQ c ++ W)) S ∗ (early m c -∗ St m K X c A (awQ' c ++ W) ((trG c).reverse ++ rs1 c :: S) -∗ Q (Scalar.extui (Scalar.cmpi .eq (w2 c) 2#32))))
      ⊢ WP c (app (k0_part35 (F := F)) c (w2 c)) Q := by
  rcases dev_cases c with rfl | rfl | rfl | rfl
  · exact part35_0 m K X A W S hA
  · exact part35_1 m K X A W S hA
  · exact part35_2 m K X A W S hA
  · exact part35_3 m K X A W S hA

/-- Part 36 on any device. -/
theorem part36 (c : Dev nD) (A : List Tr) (W : List Aw) (S : List Tr) (hA : ∀ t ∈ A, 6 < t.lev ∧ t.lev < 12) {Q : _ → sProp 𝕄} :
    iprop(At m c 1 ∗ early m c ∗ St m K X c A (awQ' c ++ W) S
        ∗ (At m c 2 -∗ St m K X c A W S -∗ ∀ u1 u2, Q ⟨u1, u2, msk c 2, sm m c 2 0, k0_pay59 (vw m c 2 0), k0_pay60 (w2 c) (qw m c 2 0) (kw m c 2 0)⟩))
      ⊢ WP c (app (k0_part36 (F := F)) c (w2 c) (Scalar.extui (Scalar.cmpi .eq (w2 c) 2#32))) Q := by
  rcases dev_cases c with rfl | rfl | rfl | rfl
  · exact part36_0 m K X A W S hA
  · exact part36_1 m K X A W S hA
  · exact part36_2 m K X A W S hA
  · exact part36_3 m K X A W S hA

end Cert.KernelIdealProof
-- ==== Proof.KI.Finish.lean ====
/-
The end of the kernel: the waits for what was sent, and the buffers put together again.
-/
module

public import proofs.«01_k».proof.Proof.KI.Window

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ) (X : sProp (MT nD τ sig ℕ (Elt F) ℕ UU ℕ))
variable {α : Type} {Q : α → sProp (MT nD τ sig ℕ (Elt F) ℕ UU ℕ)}

/-- Nothing is left, so nothing is below the level. -/
theorem no_lev {n : ℕ} : ∀ t ∈ ([] : List Tr), n < t.lev ∧ t.lev < 12 := fun _ h => absurd h List.not_mem_nil

/-- The transfers of the all-gather, last first. -/
def ringL (c : Dev nD) : List Tr := [cc2 c, cw2 c, cc1 c, cw1 c, cc0 c, cw0 c]

/-- Waiting for the three partial sums sent, and for the first block. -/
theorem part56 (c : Dev nD) (G T : List Tr) {Q : _ → sProp 𝕄} :
    iprop(St m K X c [] [] ([cc2 c, cw2 c, cc1 c, cw1 c, cc0 c, cw0 c] ++ rs2 c :: (G ++ rs1 c :: rs0 c :: T))
        ∗ ((rsR m c 0).full c -∗ (rsR m c 1).full c -∗ (rsR m c 2).full c -∗ (agB m ((c.val + 1) % 4) 0).full c -∗ St m K X c [] [] ([cc2 c, cw2 c, cc1 c, cw1 c, cc0 c] ++ (G ++ T)) -∗ Q ⟨⟩))
      ⊢ WP c (app (k0_part56 (F := F)) c) Q := by
  unfold app; rw [k0_part56_eq_skeleton]; unfold k0_part56_skel
  simp only [Prog.lift, Prog.bind_op, Prog.bind_ret, Prog.pure_eq_ret]
  iintro ⟨HS, Hk⟩
  ihave HS := (St_S m K X (S2 := ([cc2 c, cw2 c, cc1 c, cw1 c, cc0 c, cw0 c] ++ rs2 c :: (G ++ [rs1 c])) ++ rs0 c :: T) (by simp)) $$ HS
  iapply (st_sw m K X (c := c) (rs0 c) (([cc2 c, cw2 c, cc1 c, cw1 c, cc0 c, cw0 c] ++ rs2 c :: (G ++ [rs1 c]))) (T) (rsR m c 0) rfl rfl (A := []) (W := []) (by revert c; decide) no_lev rfl) $$ HS
  iintro ⟨HS, H0⟩
  ihave HS := (St_S m K X (S2 := ([cc2 c, cw2 c, cc1 c, cw1 c, cc0 c, cw0 c] ++ rs2 c :: G) ++ rs1 c :: T) (by simp)) $$ HS
  iapply (st_sw m K X (c := c) (rs1 c) (([cc2 c, cw2 c, cc1 c, cw1 c, cc0 c, cw0 c] ++ rs2 c :: G)) (T) (rsR m c 1) rfl rfl (A := []) (W := []) (by revert c; decide) no_lev rfl) $$ HS
  iintro ⟨HS, H1⟩
  ihave HS := (St_S m K X (S2 := [cc2 c, cw2 c, cc1 c, cw1 c, cc0 c, cw0 c] ++ rs2 c :: (G ++ T)) (by simp)) $$ HS
  iapply (st_sw m K X (c := c) (rs2 c) ([cc2 c, cw2 c, cc1 c, cw1 c, cc0 c, cw0 c]) ((G ++ T)) (rsR m c 2) rfl rfl (A := []) (W := []) (by revert c; decide) no_lev rfl) $$ HS
  iintro ⟨HS, H2⟩
  ihave HS := (St_S m K X (S2 := [cc2 c, cw2 c, cc1 c, cw1 c, cc0 c] ++ cw0 c :: (G ++ T)) (by simp)) $$ HS
  iapply (st_sw m K X (c := c) (cw0 c) ([cc2 c, cw2 c, cc1 c, cw1 c, cc0 c]) ((G ++ T)) (agB m ((c.val + 1) % 4) 0) rfl rfl (A := []) (W := []) (by revert c; decide) no_lev rfl) $$ HS
  iintro ⟨HS, H3⟩
  iapply WP_ret; iapply Hk $$ H0 H1 H2 H3 HS

/-- Waiting for the other blocks sent. -/
theorem part57 (c : Dev nD) (G T : List Tr) {Q : _ → sProp 𝕄} :
    iprop(St m K X c [] [] ([cc2 c, cw2 c, cc1 c, cw1 c, cc0 c] ++ (G ++ T))
        ∗ ((agB m ((c.val + 1) % 4) 512).full c -∗ (agB m ((c.val + 4) % 4) 0).full c -∗ (agB m ((c.val + 2) % 4) 512).full c -∗ (agB m ((c.val + 3) % 4) 0).full c -∗ (agB m ((c.val + 3) % 4) 512).full c
          -∗ St m K X c [] [] (G ++ T) -∗ Q (Scalar.cmpi .eq (w2 c) 0#32)))
      ⊢ WP c (app (k0_part57 (F := F)) c (w2 c)) Q := by
  unfold app; rw [k0_part57_eq_skeleton]; unfold k0_part57_skel
  simp only [Prog.lift, Prog.bind_op, Prog.bind_ret, Prog.pure_eq_ret]
  iintro ⟨HS, Hk⟩
  ihave HS := (St_S m K X (S2 := [cc2 c, cw2 c, cc1 c, cw1 c] ++ cc0 c :: (G ++ T)) (by simp)) $$ HS
  iapply (st_sw m K X (c := c) (cc0 c) ([cc2 c, cw2 c, cc1 c, cw1 c]) ((G ++ T)) (agB m ((c.val + 1) % 4) 512) rfl rfl (A := []) (W := []) (by revert c; decide) no_lev rfl) $$ HS
  iintro ⟨HS, H0⟩
  ihave HS := (St_S m K X (S2 := [cc2 c, cw2 c, cc1 c] ++ cw1 c :: (G ++ T)) (by simp)) $$ HS
  iapply (st_sw m K X (c := c) (cw1 c) ([cc2 c, cw2 c, cc1 c]) ((G ++ T)) (agB m ((c.val + 4) % 4) 0) rfl rfl (A := []) (W := []) (by revert c; decide) no_lev rfl) $$ HS
  iintro ⟨HS, H1⟩
  ihave HS := (St_S m K X (S2 := [cc2 c, cw2 c] ++ cc1 c :: (G ++ T)) (by simp)) $$ HS
  iapply (st_sw m K X (c := c) (cc1 c) ([cc2 c, cw2 c]) ((G ++ T)) (agB m ((c.val + 2) % 4) 512) rfl rfl (A := []) (W := []) (by revert c; decide) no_lev rfl) $$ HS
  iintro ⟨HS, H2⟩
  ihave HS := (St_S m K X (S2 := [cc2 c] ++ cw2 c :: (G ++ T)) (by simp)) $$ HS
  iapply (st_sw m K X (c := c) (cw2 c) ([cc2 c]) ((G ++ T)) (agB m ((c.val + 3) % 4) 0) rfl rfl (A := []) (W := []) (by revert c; decide) no_lev rfl) $$ HS
  iintro ⟨HS, H3⟩
  ihave HS := (St_S m K X (S2 := [] ++ cc2 c :: (G ++ T)) (by simp)) $$ HS
  iapply (st_sw m K X (c := c) (cc2 c) ([]) ((G ++ T)) (agB m ((c.val + 3) % 4) 512) rfl rfl (A := []) (W := []) (by revert c; decide) no_lev rfl) $$ HS
  iintro ⟨HS, H4⟩
  ihave HS := (St_S m K X (S2 := G ++ T) (by simp)) $$ HS
  iapply WP_ret; iapply Hk $$ H0 H1 H2 H3 H4 HS

/-- The relay buffer before the end: on the devices that do not relay it is whole, -/
def rl0 (c : Dev nD) : sProp 𝕄 :=
  match c with
  | 0 => hole 0 cc0_scratch7 (Finset.univ : Finset S1024x8x128.Idx)
  | 2 => hole 2 cc0_scratch7 (Finset.univ : Finset S1024x8x128.Idx)
  | _ => iprop(emp)
/-- and after part 58. -/
def rl1 (c : Dev nD) : sProp 𝕄 :=
  match c with
  | 3 => iprop(emp)
  | c => hole c cc0_scratch7 (Finset.univ : Finset S1024x8x128.Idx)
/-- What is still in flight then. -/
def left (c : Dev nD) : List Tr :=
  match c with
  | 3 => [⟨20, 2, 26, 6, 8192⟩, ⟨19, 2, 32, 6, 8192⟩, ⟨18, 2, 30, 3, 49152⟩]
  | _ => []

/-- What stays of the staging buffers on device 0, as regions. -/
theorem stay_0' : stay m 0 ⊢ iprop((kG m 0 0 1024 0).full 0 ∗ (vG m 0 0 1024 0).full 0) := BI.Entails.refl _
/-- What stays of the staging buffers on device 1, as regions. -/
theorem stay_1' : stay m 1 ⊢ iprop((kG m 1 0 128 8).full 1 ∗ (vG m 1 0 128 8).full 1 ∗ (sK m 1 128 1024).hole 1 ∗ (sV m 1 128 1024).hole 1) := BI.Entails.refl _
/-- What stays of the staging buffers on device 2, as regions. -/
theorem stay_2' : stay m 2 ⊢ iprop(hole 2 cc0_scratch5 (Finset.univ : Finset S1024x32x128.Idx) ∗ hole 2 cc0_scratch6 (Finset.univ : Finset S1024x32x128.Idx)) := BI.Entails.refl _
/-- What stays of the staging buffers on device 3, as regions. -/
theorem stay_3' : stay m 3 ⊢ iprop(hole 3 cc0_scratch5 (Finset.univ : Finset S1024x32x128.Idx) ∗ hole 3 cc0_scratch6 (Finset.univ : Finset S1024x32x128.Idx)) := BI.Entails.refl _

/-- The staging buffer of K of device 0 put together again. -/
theorem joinK0 : iprop((kG m 0 0 1024 0).full 0 ∗ (kG m 0 0 640 8).full 0 ∗ (kG m 0 640 1024 8).full 0 ∗ (kG m 0 0 128 16).full 0 ∗ (kG m 0 128 896 16).full 0 ∗ (kG m 0 896 1024 16).full 0 ∗ (kG m 0 0 384 24).full 0 ∗ (kG m 0 384 1024 24).full 0) ⊢ (hole 0 cc0_scratch5 (Finset.univ : Finset S1024x32x128.Idx) : sProp 𝕄) := by
  rw [← bx3_univ]
  iintro ⟨H0, H1, H2, H3, H4, H5, H6, H7⟩
  ihave H0 := (reg_hole (kG m 0 0 1024 0) 0) $$ H0; ihave H0 := (holeE (kG m 0 0 1024 0) 0) $$ H0
  ihave H1 := (reg_hole (kG m 0 0 640 8) 0) $$ H1; ihave H1 := (holeE (kG m 0 0 640 8) 0) $$ H1
  ihave H2 := (reg_hole (kG m 0 640 1024 8) 0) $$ H2; ihave H2 := (holeE (kG m 0 640 1024 8) 0) $$ H2
  ihave H3 := (reg_hole (kG m 0 0 128 16) 0) $$ H3; ihave H3 := (holeE (kG m 0 0 128 16) 0) $$ H3
  ihave H4 := (reg_hole (kG m 0 128 896 16) 0) $$ H4; ihave H4 := (holeE (kG m 0 128 896 16) 0) $$ H4
  ihave H5 := (reg_hole (kG m 0 896 1024 16) 0) $$ H5; ihave H5 := (holeE (kG m 0 896 1024 16) 0) $$ H5
  ihave H6 := (reg_hole (kG m 0 0 384 24) 0) $$ H6; ihave H6 := (holeE (kG m 0 0 384 24) 0) $$ H6
  ihave H7 := (reg_hole (kG m 0 384 1024 24) 0) $$ H7; ihave H7 := (holeE (kG m 0 384 1024 24) 0) $$ H7
  ihave H1 := (hole_join 0 cc0_scratch5 (cut0 0 640 1024 8 16 0 128 (by decide))) $$ [H1 H2]
  · isplitl [H1]; · iexact H1
    iexact H2
  ihave H3 := (hole_join 0 cc0_scratch5 (cut0 0 128 896 16 24 0 128 (by decide))) $$ [H3 H4]
  · isplitl [H3]; · iexact H3
    iexact H4
  ihave H3 := (hole_join 0 cc0_scratch5 (cut0 0 896 1024 16 24 0 128 (by decide))) $$ [H3 H5]
  · isplitl [H3]; · iexact H3
    iexact H5
  ihave H6 := (hole_join 0 cc0_scratch5 (cut0 0 384 1024 24 32 0 128 (by decide))) $$ [H6 H7]
  · isplitl [H6]; · iexact H6
    iexact H7
  ihave H0 := (hole_join 0 cc0_scratch5 (cut1 0 1024 0 8 16 0 128 (by decide))) $$ [H0 H1]
  · isplitl [H0]; · iexact H0
    iexact H1
  ihave H0 := (hole_join 0 cc0_scratch5 (cut1 0 1024 0 16 24 0 128 (by decide))) $$ [H0 H3]
  · isplitl [H0]; · iexact H0
    iexact H3
  ihave H0 := (hole_join 0 cc0_scratch5 (cut1 0 1024 0 24 32 0 128 (by decide))) $$ [H0 H6]
  · isplitl [H0]; · iexact H0
    iexact H6
  iexact H0

/-- And that of device 1. -/
theorem joinK1 : iprop((sK m 1 128 1024).hole 1 ∗ (kG m 1 0 128 0).full 1 ∗ (kG m 1 0 128 8).full 1 ∗ (kG m 1 0 128 16).full 1 ∗ (kG m 1 0 128 24).full 1) ⊢ (hole 1 cc0_scratch5 (Finset.univ : Finset S1024x32x128.Idx) : sProp 𝕄) := by
  rw [← bx3_univ]
  iintro ⟨HR, H0, H1, H2, H3⟩
  ihave HR := (holeE (sK m 1 128 1024) 1) $$ HR
  ihave H0 := (reg_hole (kG m 1 0 128 0) 1) $$ H0; ihave H0 := (holeE (kG m 1 0 128 0) 1) $$ H0
  ihave H1 := (reg_hole (kG m 1 0 128 8) 1) $$ H1; ihave H1 := (holeE (kG m 1 0 128 8) 1) $$ H1
  ihave H2 := (reg_hole (kG m 1 0 128 16) 1) $$ H2; ihave H2 := (holeE (kG m 1 0 128 16) 1) $$ H2
  ihave H3 := (reg_hole (kG m 1 0 128 24) 1) $$ H3; ihave H3 := (holeE (kG m 1 0 128 24) 1) $$ H3
  ihave H0 := (hole_join 1 cc0_scratch5 (cut1 0 128 0 8 16 0 128 (by decide))) $$ [H0 H1]
  · isplitl [H0]; · iexact H0
    iexact H1
  ihave H0 := (hole_join 1 cc0_scratch5 (cut1 0 128 0 16 24 0 128 (by decide))) $$ [H0 H2]
  · isplitl [H0]; · iexact H0
    iexact H2
  ihave H0 := (hole_join 1 cc0_scratch5 (cut1 0 128 0 24 32 0 128 (by decide))) $$ [H0 H3]
  · isplitl [H0]; · iexact H0
    iexact H3
  ihave H0 := (hole_join 1 cc0_scratch5 (cut0 0 128 1024 0 32 0 128 (by decide))) $$ [H0 HR]
  · isplitl [H0]; · iexact H0
    iexact HR
  iexact H0

/-- The staging buffer of V of device 0 put together again. -/
theorem joinV0 : iprop((vG m 0 0 1024 0).full 0 ∗ (vG m 0 0 640 8).full 0 ∗ (vG m 0 640 1024 8).full 0 ∗ (vG m 0 0 128 16).full 0 ∗ (vG m 0 128 896 16).full 0 ∗ (vG m 0 896 1024 16).full 0 ∗ (vG m 0 0 384 24).full 0 ∗ (vG m 0 384 1024 24).full 0) ⊢ (hole 0 cc0_scratch6 (Finset.univ : Finset S1024x32x128.Idx) : sProp 𝕄) := by
  rw [← bx3_univ]
  iintro ⟨H0, H1, H2, H3, H4, H5, H6, H7⟩
  ihave H0 := (reg_hole (vG m 0 0 1024 0) 0) $$ H0; ihave H0 := (holeE (vG m 0 0 1024 0) 0) $$ H0
  ihave H1 := (reg_hole (vG m 0 0 640 8) 0) $$ H1; ihave H1 := (holeE (vG m 0 0 640 8) 0) $$ H1
  ihave H2 := (reg_hole (vG m 0 640 1024 8) 0) $$ H2; ihave H2 := (holeE (vG m 0 640 1024 8) 0) $$ H2
  ihave H3 := (reg_hole (vG m 0 0 128 16) 0) $$ H3; ihave H3 := (holeE (vG m 0 0 128 16) 0) $$ H3
  ihave H4 := (reg_hole (vG m 0 128 896 16) 0) $$ H4; ihave H4 := (holeE (vG m 0 128 896 16) 0) $$ H4
  ihave H5 := (reg_hole (vG m 0 896 1024 16) 0) $$ H5; ihave H5 := (holeE (vG m 0 896 1024 16) 0) $$ H5
  ihave H6 := (reg_hole (vG m 0 0 384 24) 0) $$ H6; ihave H6 := (holeE (vG m 0 0 384 24) 0) $$ H6
  ihave H7 := (reg_hole (vG m 0 384 1024 24) 0) $$ H7; ihave H7 := (holeE (vG m 0 384 1024 24) 0) $$ H7
  ihave H1 := (hole_join 0 cc0_scratch6 (cut0 0 640 1024 8 16 0 128 (by decide))) $$ [H1 H2]
  · isplitl [H1]; · iexact H1
    iexact H2
  ihave H3 := (hole_join 0 cc0_scratch6 (cut0 0 128 896 16 24 0 128 (by decide))) $$ [H3 H4]
  · isplitl [H3]; · iexact H3
    iexact H4
  ihave H3 := (hole_join 0 cc0_scratch6 (cut0 0 896 1024 16 24 0 128 (by decide))) $$ [H3 H5]
  · isplitl [H3]; · iexact H3
    iexact H5
  ihave H6 := (hole_join 0 cc0_scratch6 (cut0 0 384 1024 24 32 0 128 (by decide))) $$ [H6 H7]
  · isplitl [H6]; · iexact H6
    iexact H7
  ihave H0 := (hole_join 0 cc0_scratch6 (cut1 0 1024 0 8 16 0 128 (by decide))) $$ [H0 H1]
  · isplitl [H0]; · iexact H0
    iexact H1
  ihave H0 := (hole_join 0 cc0_scratch6 (cut1 0 1024 0 16 24 0 128 (by decide))) $$ [H0 H3]
  · isplitl [H0]; · iexact H0
    iexact H3
  ihave H0 := (hole_join 0 cc0_scratch6 (cut1 0 1024 0 24 32 0 128 (by decide))) $$ [H0 H6]
  · isplitl [H0]; · iexact H0
    iexact H6
  iexact H0

/-- And that of device 1. -/
theorem joinV1 : iprop((sV m 1 128 1024).hole 1 ∗ (vG m 1 0 128 0).full 1 ∗ (vG m 1 0 128 8).full 1 ∗ (vG m 1 0 128 16).full 1 ∗ (vG m 1 0 128 24).full 1) ⊢ (hole 1 cc0_scratch6 (Finset.univ : Finset S1024x32x128.Idx) : sProp 𝕄) := by
  rw [← bx3_univ]
  iintro ⟨HR, H0, H1, H2, H3⟩
  ihave HR := (holeE (sV m 1 128 1024) 1) $$ HR
  ihave H0 := (reg_hole (vG m 1 0 128 0) 1) $$ H0; ihave H0 := (holeE (vG m 1 0 128 0) 1) $$ H0
  ihave H1 := (reg_hole (vG m 1 0 128 8) 1) $$ H1; ihave H1 := (holeE (vG m 1 0 128 8) 1) $$ H1
  ihave H2 := (reg_hole (vG m 1 0 128 16) 1) $$ H2; ihave H2 := (holeE (vG m 1 0 128 16) 1) $$ H2
  ihave H3 := (reg_hole (vG m 1 0 128 24) 1) $$ H3; ihave H3 := (holeE (vG m 1 0 128 24) 1) $$ H3
  ihave H0 := (hole_join 1 cc0_scratch6 (cut1 0 128 0 8 16 0 128 (by decide))) $$ [H0 H1]
  · isplitl [H0]; · iexact H0
    iexact H1
  ihave H0 := (hole_join 1 cc0_scratch6 (cut1 0 128 0 16 24 0 128 (by decide))) $$ [H0 H2]
  · isplitl [H0]; · iexact H0
    iexact H2
  ihave H0 := (hole_join 1 cc0_scratch6 (cut1 0 128 0 24 32 0 128 (by decide))) $$ [H0 H3]
  · isplitl [H0]; · iexact H0
    iexact H3
  ihave H0 := (hole_join 1 cc0_scratch6 (cut0 0 128 1024 0 32 0 128 (by decide))) $$ [H0 HR]
  · isplitl [H0]; · iexact H0
    iexact HR
  iexact H0

/-- The relay buffer put together again. -/
theorem joinR (c : Dev nD) : iprop((rlR m c 0 128).full c ∗ (rlR m c 128 896).full c ∗ (rlR m c 896 1024).full c) ⊢ (hole c cc0_scratch7 (Finset.univ : Finset S1024x8x128.Idx) : sProp 𝕄) := by
  rw [← bx3_univ]
  iintro ⟨H0, H1, H2⟩
  ihave H0 := (reg_hole (rlR m c 0 128) c) $$ H0; ihave H0 := (holeE (rlR m c 0 128) c) $$ H0
  ihave H1 := (reg_hole (rlR m c 128 896) c) $$ H1; ihave H1 := (holeE (rlR m c 128 896) c) $$ H1
  ihave H2 := (reg_hole (rlR m c 896 1024) c) $$ H2; ihave H2 := (holeE (rlR m c 896 1024) c) $$ H2
  ihave H0 := (hole_join c cc0_scratch7 (cut0 0 128 896 0 8 0 128 (by decide))) $$ [H0 H1]
  · isplitl [H0]; · iexact H0
    iexact H1
  ihave H0 := (hole_join c cc0_scratch7 (cut0 0 896 1024 0 8 0 128 (by decide))) $$ [H0 H2]
  · isplitl [H0]; · iexact H0
    iexact H2
  iexact H0

/-! ## Device 0 waits for its fourteen copies -/

/-- Window 15 of the statements: what it takes and what it leaves. -/
theorem part15 {Q : _ → sProp 𝕄} :
    iprop(St m K X 0 [] [] [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩, ⟨6, 3, 21, 3, 40960⟩, ⟨5, 1, 21, 3, 40960⟩, ⟨4, 1, 37, 2, 49152⟩] ∗ ((kG m 0 128 896 16).full 0 -∗ (kG m 0 0 640 8).full 0 -∗ (kG m 0 384 1024 24).full 0 -∗ (vG m 0 128 896 16).full 0 -∗ St m K X 0 [] [] [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩] -∗ Q ⟨⟩))
      ⊢ WP 0 (app (k0_part15 (F := F))) Q := by
  unfold app; rw [k0_part15_eq_skeleton]; unfold k0_part15_skel
  simp only [Prog.lift, Prog.bind_op, Prog.bind_ret, Prog.pure_eq_ret]
  iintro ⟨HS, Hk⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩, ⟨6, 3, 21, 3, 40960⟩, ⟨5, 1, 21, 3, 40960⟩] ++ ⟨4, 1, 37, 2, 49152⟩ :: []) (by rfl)) $$ HS
  iapply (st_sw m K X (c := 0) ⟨4, 1, 37, 2, 49152⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩, ⟨6, 3, 21, 3, 40960⟩, ⟨5, 1, 21, 3, 40960⟩] [] (kG m 0 128 896 16) rfl rfl (A := []) (W := []) (by decide) no_lev rfl) $$ HS
  iintro ⟨HS, H0⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩, ⟨6, 3, 21, 3, 40960⟩] ++ ⟨5, 1, 21, 3, 40960⟩ :: []) (by rfl)) $$ HS
  iapply (st_sw m K X (c := 0) ⟨5, 1, 21, 3, 40960⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩, ⟨6, 3, 21, 3, 40960⟩] [] (kG m 0 0 640 8) rfl rfl (A := []) (W := []) (by decide) no_lev rfl) $$ HS
  iintro ⟨HS, H1⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩] ++ ⟨6, 3, 21, 3, 40960⟩ :: []) (by rfl)) $$ HS
  iapply (st_sw m K X (c := 0) ⟨6, 3, 21, 3, 40960⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩] [] (kG m 0 384 1024 24) rfl rfl (A := []) (W := []) (by decide) no_lev rfl) $$ HS
  iintro ⟨HS, H2⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩] ++ ⟨7, 3, 37, 2, 49152⟩ :: []) (by rfl)) $$ HS
  iapply (st_sw m K X (c := 0) ⟨7, 3, 37, 2, 49152⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩] [] (vG m 0 128 896 16) rfl rfl (A := []) (W := []) (by decide) no_lev rfl) $$ HS
  iintro ⟨HS, H3⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩]) (by rfl)) $$ HS
  iapply WP_ret; iapply Hk $$ H0 H1 H2 H3 HS

/-- Window 16 of the statements: what it takes and what it leaves. -/
theorem part16 {Q : _ → sProp 𝕄} :
    iprop(St m K X 0 [] [] [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩] ∗ ((vG m 0 0 640 8).full 0 -∗ (vG m 0 384 1024 24).full 0 -∗ (kG m 0 640 1024 8).full 0 -∗ (vG m 0 640 1024 8).full 0 -∗ (kG m 0 0 384 24).full 0 -∗ St m K X 0 [] [] [⟨17, 3, 39, 5, 8192⟩, ⟨16, 3, 38, 5, 8192⟩, ⟨15, 1, 39, 5, 8192⟩, ⟨14, 1, 38, 5, 8192⟩, ⟨13, 3, 24, 6, 24576⟩] -∗ Q ⟨⟩))
      ⊢ WP 0 (app (k0_part16 (F := F))) Q := by
  unfold app; rw [k0_part16_eq_skeleton]; unfold k0_part16_skel
  simp only [Prog.lift, Prog.bind_op, Prog.bind_ret, Prog.pure_eq_ret]
  iintro ⟨HS, Hk⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩] ++ ⟨8, 1, 22, 3, 40960⟩ :: []) (by rfl)) $$ HS
  iapply (st_sw m K X (c := 0) ⟨8, 1, 22, 3, 40960⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩] [] (vG m 0 0 640 8) rfl rfl (A := []) (W := []) (by decide) no_lev rfl) $$ HS
  iintro ⟨HS, H0⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩] ++ ⟨9, 3, 22, 3, 40960⟩ :: []) (by rfl)) $$ HS
  iapply (st_sw m K X (c := 0) ⟨9, 3, 22, 3, 40960⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩] [] (vG m 0 384 1024 24) rfl rfl (A := []) (W := []) (by decide) no_lev rfl) $$ HS
  iintro ⟨HS, H1⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩] ++ ⟨10, 1, 23, 6, 24576⟩ :: []) (by rfl)) $$ HS
  iapply (st_sw m K X (c := 0) ⟨10, 1, 23, 6, 24576⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩] [] (kG m 0 640 1024 8) rfl rfl (A := []) (W := []) (by decide) no_lev rfl) $$ HS
  iintro ⟨HS, H2⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩] ++ ⟨11, 1, 24, 6, 24576⟩ :: []) (by rfl)) $$ HS
  iapply (st_sw m K X (c := 0) ⟨11, 1, 24, 6, 24576⟩ [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩] [] (vG m 0 640 1024 8) rfl rfl (A := []) (W := []) (by decide) no_lev rfl) $$ HS
  iintro ⟨HS, H3⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩] ++ ⟨12, 3, 23, 6, 24576⟩ :: []) (by rfl)) $$ HS
  iapply (st_sw m K X (c := 0) ⟨12, 3, 23, 6, 24576⟩ [⟨17, 3, 39, 5, 8192⟩, ⟨16, 3, 38, 5, 8192⟩, ⟨15, 1, 39, 5, 8192⟩, ⟨14, 1, 38, 5, 8192⟩, ⟨13, 3, 24, 6, 24576⟩] [] (kG m 0 0 384 24) rfl rfl (A := []) (W := []) (by decide) no_lev rfl) $$ HS
  iintro ⟨HS, H4⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩]) (by rfl)) $$ HS
  iapply WP_ret; iapply Hk $$ H0 H1 H2 H3 H4 HS

/-- Window 17 of the statements: what it takes and what it leaves. -/
theorem part17 {Q : _ → sProp 𝕄} :
    iprop(St m K X 0 [] [] [⟨17, 3, 39, 5, 8192⟩, ⟨16, 3, 38, 5, 8192⟩, ⟨15, 1, 39, 5, 8192⟩, ⟨14, 1, 38, 5, 8192⟩, ⟨13, 3, 24, 6, 24576⟩] ∗ ((vG m 0 0 384 24).full 0 -∗ (kG m 0 0 128 16).full 0 -∗ (kG m 0 896 1024 16).full 0 -∗ (vG m 0 0 128 16).full 0 -∗ St m K X 0 [] [] [⟨17, 3, 39, 5, 8192⟩] -∗ Q ⟨⟩))
      ⊢ WP 0 (app (k0_part17 (F := F))) Q := by
  unfold app; rw [k0_part17_eq_skeleton]; unfold k0_part17_skel
  simp only [Prog.lift, Prog.bind_op, Prog.bind_ret, Prog.pure_eq_ret]
  iintro ⟨HS, Hk⟩
  ihave HS := (St_S m K X (S2 := [⟨17, 3, 39, 5, 8192⟩, ⟨16, 3, 38, 5, 8192⟩, ⟨15, 1, 39, 5, 8192⟩, ⟨14, 1, 38, 5, 8192⟩] ++ ⟨13, 3, 24, 6, 24576⟩ :: []) (by rfl)) $$ HS
  iapply (st_sw m K X (c := 0) ⟨13, 3, 24, 6, 24576⟩ [⟨17, 3, 39, 5, 8192⟩, ⟨16, 3, 38, 5, 8192⟩, ⟨15, 1, 39, 5, 8192⟩, ⟨14, 1, 38, 5, 8192⟩] [] (vG m 0 0 384 24) rfl rfl (A := []) (W := []) (by decide) no_lev rfl) $$ HS
  iintro ⟨HS, H0⟩
  ihave HS := (St_S m K X (S2 := [⟨17, 3, 39, 5, 8192⟩, ⟨16, 3, 38, 5, 8192⟩, ⟨15, 1, 39, 5, 8192⟩] ++ ⟨14, 1, 38, 5, 8192⟩ :: []) (by rfl)) $$ HS
  iapply (st_sw m K X (c := 0) ⟨14, 1, 38, 5, 8192⟩ [⟨17, 3, 39, 5, 8192⟩, ⟨16, 3, 38, 5, 8192⟩, ⟨15, 1, 39, 5, 8192⟩] [] (kG m 0 0 128 16) rfl rfl (A := []) (W := []) (by decide) no_lev rfl) $$ HS
  iintro ⟨HS, H1⟩
  ihave HS := (St_S m K X (S2 := [⟨17, 3, 39, 5, 8192⟩, ⟨16, 3, 38, 5, 8192⟩] ++ ⟨15, 1, 39, 5, 8192⟩ :: []) (by rfl)) $$ HS
  iapply (st_sw m K X (c := 0) ⟨15, 1, 39, 5, 8192⟩ [⟨17, 3, 39, 5, 8192⟩, ⟨16, 3, 38, 5, 8192⟩] [] (kG m 0 896 1024 16) rfl rfl (A := []) (W := []) (by decide) no_lev rfl) $$ HS
  iintro ⟨HS, H2⟩
  ihave HS := (St_S m K X (S2 := [⟨17, 3, 39, 5, 8192⟩] ++ ⟨16, 3, 38, 5, 8192⟩ :: []) (by rfl)) $$ HS
  iapply (st_sw m K X (c := 0) ⟨16, 3, 38, 5, 8192⟩ [⟨17, 3, 39, 5, 8192⟩] [] (vG m 0 0 128 16) rfl rfl (A := []) (W := []) (by decide) no_lev rfl) $$ HS
  iintro ⟨HS, H3⟩
  ihave HS := (St_S m K X (S2 := [⟨17, 3, 39, 5, 8192⟩]) (by rfl)) $$ HS
  iapply WP_ret; iapply Hk $$ H0 H1 H2 H3 HS

/-- The relay buffer from start to end, on device 0. -/
theorem rl_0 : rl0 0 ⊢ (rl1 0 : sProp 𝕄) := BI.Entails.refl _
/-- The relay buffer from start to end, on device 1. -/
theorem rl_1 : hole 1 cc0_scratch7 (Finset.univ : Finset S1024x8x128.Idx) ⊢ (rl1 1 : sProp 𝕄) := BI.Entails.refl _
/-- The relay buffer from start to end, on device 2. -/
theorem rl_2 : rl0 2 ⊢ (rl1 2 : sProp 𝕄) := BI.Entails.refl _
/-- The relay buffer from start to end, on device 3. -/
theorem rl_3 : rl0 3 ⊢ (rl1 3 : sProp 𝕄) := BI.Entails.refl _

/-- Window 58 of the statements, on device 0. -/
theorem part58_0 {Q : _ → sProp 𝕄} :
    iprop(stay m 0 ∗ rl0 0 ∗ St m K X 0 [] [] ((trG 0).reverse ++ (trF 0 ++ ((trD 0).reverse ++ [])))
        ∗ (hole 0 cc0_scratch5 (Finset.univ : Finset S1024x32x128.Idx) -∗ hole 0 cc0_scratch6 (Finset.univ : Finset S1024x32x128.Idx) -∗ rl1 0 -∗ St m K X 0 [] [] (left 0) -∗ Q (Scalar.extui (Scalar.cmpi .eq (w2 0) 3#32))))
      ⊢ WP 0 (app (k0_part58 (F := F)) (w2 0) (Scalar.cmpi .eq (w2 0) 0#32)) Q := by
  unfold app; rw [k0_part58_eq_skeleton]; unfold k0_part58_skel
  simp (decide := true) only [Prog.lift, Prog.bind_op, Prog.bind_ret, Prog.pure_eq_ret, ↓reduceDIte, bind_assoc]
  iintro ⟨Hst, Hr, HS, Hk⟩
  ihave HS := (St_S m K X (S2 := [⟨17, 3, 39, 5, 8192⟩, ⟨16, 3, 38, 5, 8192⟩, ⟨15, 1, 39, 5, 8192⟩, ⟨14, 1, 38, 5, 8192⟩, ⟨13, 3, 24, 6, 24576⟩, ⟨12, 3, 23, 6, 24576⟩, ⟨11, 1, 24, 6, 24576⟩, ⟨10, 1, 23, 6, 24576⟩, ⟨9, 3, 22, 3, 40960⟩, ⟨8, 1, 22, 3, 40960⟩, ⟨7, 3, 37, 2, 49152⟩, ⟨6, 3, 21, 3, 40960⟩, ⟨5, 1, 21, 3, 40960⟩, ⟨4, 1, 37, 2, 49152⟩]) (by rfl)) $$ HS
  iapply WP_bind; iapply (part15 m K X)
  isplitl [HS]; · iexact HS
  iintro A0 A1 A2 A3 HS
  iapply WP_bind; iapply (part16 m K X)
  isplitl [HS]; · iexact HS
  iintro A4 A5 A6 A7 A8 HS
  iapply WP_bind; iapply (part17 m K X)
  isplitl [HS]; · iexact HS
  iintro A9 A10 A11 A12 HS
  ihave HS := (St_S m K X (S2 := [] ++ ⟨17, 3, 39, 5, 8192⟩ :: []) (by rfl)) $$ HS
  iapply (st_sw m K X (c := 0) ⟨17, 3, 39, 5, 8192⟩ [] [] (vG m 0 896 1024 16) rfl rfl (A := []) (W := []) (by decide) no_lev rfl) $$ HS
  iintro ⟨HS, A13⟩
  ihave Hst := (stay_0' m) $$ Hst; icases Hst with ⟨Sk, Sv⟩
  ihave J5 := (joinK0 m) $$ [Sk A1 A6 A10 A0 A11 A8 A2]
  · isplitl [Sk]; · iexact Sk
    isplitl [A1]; · iexact A1
    isplitl [A6]; · iexact A6
    isplitl [A10]; · iexact A10
    isplitl [A0]; · iexact A0
    isplitl [A11]; · iexact A11
    isplitl [A8]; · iexact A8
    iexact A2
  ihave J6 := (joinV0 m) $$ [Sv A4 A7 A12 A3 A13 A9 A5]
  · isplitl [Sv]; · iexact Sv
    isplitl [A4]; · iexact A4
    isplitl [A7]; · iexact A7
    isplitl [A12]; · iexact A12
    isplitl [A3]; · iexact A3
    isplitl [A13]; · iexact A13
    isplitl [A9]; · iexact A9
    iexact A5
  iapply WP_ret
  ihave HS := (St_S m K X (S2 := left 0) (by rfl)) $$ HS
  iapply Hk $$ J5 J6 [Hr] HS
  iapply (rl_0); iexact Hr

/-- Window 18 of the statements: what it takes and what it leaves. -/
theorem part18 {Q : _ → sProp 𝕄} :
    iprop(St m K X 1 [] [] [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩, ⟨5, 2, 27, 3, 8192⟩, ⟨7, 0, 28, 3, 8192⟩, ⟨4, 0, 27, 3, 8192⟩] ∗ ((kG m 1 0 128 0).full 1 -∗ (vG m 1 0 128 0).full 1 -∗ (kG m 1 0 128 16).full 1 -∗ (vG m 1 0 128 16).full 1 -∗ St m K X 1 [] [] [⟨20, 2, 25, 6, 8192⟩, ⟨19, 2, 31, 6, 8192⟩, ⟨18, 2, 29, 3, 49152⟩, ⟨9, 3, 28, 3, 8192⟩, ⟨6, 3, 27, 3, 8192⟩] -∗ Q ⟨⟩))
      ⊢ WP 1 (app (k0_part18 (F := F))) Q := by
  unfold app; rw [k0_part18_eq_skeleton]; unfold k0_part18_skel
  simp only [Prog.lift, Prog.bind_op, Prog.bind_ret, Prog.pure_eq_ret]
  iintro ⟨HS, Hk⟩
  ihave HS := (St_S m K X (S2 := [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩, ⟨5, 2, 27, 3, 8192⟩, ⟨7, 0, 28, 3, 8192⟩] ++ ⟨4, 0, 27, 3, 8192⟩ :: []) (by rfl)) $$ HS
  iapply (st_sw m K X (c := 1) ⟨4, 0, 27, 3, 8192⟩ [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩, ⟨5, 2, 27, 3, 8192⟩, ⟨7, 0, 28, 3, 8192⟩] [] (kG m 1 0 128 0) rfl rfl (A := []) (W := []) (by decide) no_lev rfl) $$ HS
  iintro ⟨HS, H0⟩
  ihave HS := (St_S m K X (S2 := [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩, ⟨5, 2, 27, 3, 8192⟩] ++ ⟨7, 0, 28, 3, 8192⟩ :: []) (by rfl)) $$ HS
  iapply (st_sw m K X (c := 1) ⟨7, 0, 28, 3, 8192⟩ [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩, ⟨5, 2, 27, 3, 8192⟩] [] (vG m 1 0 128 0) rfl rfl (A := []) (W := []) (by decide) no_lev rfl) $$ HS
  iintro ⟨HS, H1⟩
  ihave HS := (St_S m K X (S2 := [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩] ++ ⟨5, 2, 27, 3, 8192⟩ :: []) (by rfl)) $$ HS
  iapply (st_sw m K X (c := 1) ⟨5, 2, 27, 3, 8192⟩ [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩] [] (kG m 1 0 128 16) rfl rfl (A := []) (W := []) (by decide) no_lev rfl) $$ HS
  iintro ⟨HS, H2⟩
  ihave HS := (St_S m K X (S2 := [⟨20, 2, 25, 6, 8192⟩, ⟨19, 2, 31, 6, 8192⟩, ⟨18, 2, 29, 3, 49152⟩, ⟨9, 3, 28, 3, 8192⟩, ⟨6, 3, 27, 3, 8192⟩] ++ ⟨8, 2, 28, 3, 8192⟩ :: []) (by rfl)) $$ HS
  iapply (st_sw m K X (c := 1) ⟨8, 2, 28, 3, 8192⟩ [⟨20, 2, 25, 6, 8192⟩, ⟨19, 2, 31, 6, 8192⟩, ⟨18, 2, 29, 3, 49152⟩, ⟨9, 3, 28, 3, 8192⟩, ⟨6, 3, 27, 3, 8192⟩] [] (vG m 1 0 128 16) rfl rfl (A := []) (W := []) (by decide) no_lev rfl) $$ HS
  iintro ⟨HS, H3⟩
  ihave HS := (St_S m K X (S2 := [⟨20, 2, 25, 6, 8192⟩, ⟨19, 2, 31, 6, 8192⟩, ⟨18, 2, 29, 3, 49152⟩, ⟨9, 3, 28, 3, 8192⟩, ⟨6, 3, 27, 3, 8192⟩]) (by rfl)) $$ HS
  iapply WP_ret; iapply Hk $$ H0 H1 H2 H3 HS

/-- Window 58 of the statements, on device 1. -/
theorem part58_1 {Q : _ → sProp 𝕄} :
    iprop(stay m 1 ∗ rl0 1 ∗ St m K X 1 [] [] ((trG 1).reverse ++ (trF 1 ++ ((trD 1).reverse ++ [])))
        ∗ (hole 1 cc0_scratch5 (Finset.univ : Finset S1024x32x128.Idx) -∗ hole 1 cc0_scratch6 (Finset.univ : Finset S1024x32x128.Idx) -∗ rl1 1 -∗ St m K X 1 [] [] (left 1) -∗ Q (Scalar.extui (Scalar.cmpi .eq (w2 1) 3#32))))
      ⊢ WP 1 (app (k0_part58 (F := F)) (w2 1) (Scalar.cmpi .eq (w2 1) 0#32)) Q := by
  unfold app; rw [k0_part58_eq_skeleton]; unfold k0_part58_skel
  simp (decide := true) only [Prog.lift, Prog.bind_op, Prog.bind_ret, Prog.pure_eq_ret, ↓reduceDIte, bind_assoc]
  iintro ⟨Hst, Hr, HS, Hk⟩
  ihave HS := (St_S m K X (S2 := [⟨20, 2, 25, 6, 8192⟩, ⟨19, 2, 31, 6, 8192⟩, ⟨18, 2, 29, 3, 49152⟩, ⟨9, 3, 28, 3, 8192⟩, ⟨6, 3, 27, 3, 8192⟩, ⟨8, 2, 28, 3, 8192⟩, ⟨5, 2, 27, 3, 8192⟩, ⟨7, 0, 28, 3, 8192⟩, ⟨4, 0, 27, 3, 8192⟩]) (by rfl)) $$ HS
  iapply WP_bind; iapply (part18 m K X)
  isplitl [HS]; · iexact HS
  iintro A0 A1 A2 A3 HS
  ihave HS := (St_S m K X (S2 := [⟨20, 2, 25, 6, 8192⟩, ⟨19, 2, 31, 6, 8192⟩, ⟨18, 2, 29, 3, 49152⟩, ⟨9, 3, 28, 3, 8192⟩] ++ ⟨6, 3, 27, 3, 8192⟩ :: []) (by rfl)) $$ HS
  iapply (st_sw m K X (c := 1) ⟨6, 3, 27, 3, 8192⟩ [⟨20, 2, 25, 6, 8192⟩, ⟨19, 2, 31, 6, 8192⟩, ⟨18, 2, 29, 3, 49152⟩, ⟨9, 3, 28, 3, 8192⟩] [] (kG m 1 0 128 24) rfl rfl (A := []) (W := []) (by decide) no_lev rfl) $$ HS
  iintro ⟨HS, A4⟩
  ihave HS := (St_S m K X (S2 := [⟨20, 2, 25, 6, 8192⟩, ⟨19, 2, 31, 6, 8192⟩, ⟨18, 2, 29, 3, 49152⟩] ++ ⟨9, 3, 28, 3, 8192⟩ :: []) (by rfl)) $$ HS
  iapply (st_sw m K X (c := 1) ⟨9, 3, 28, 3, 8192⟩ [⟨20, 2, 25, 6, 8192⟩, ⟨19, 2, 31, 6, 8192⟩, ⟨18, 2, 29, 3, 49152⟩] [] (vG m 1 0 128 24) rfl rfl (A := []) (W := []) (by decide) no_lev rfl) $$ HS
  iintro ⟨HS, A5⟩
  ihave HS := (St_S m K X (S2 := [⟨20, 2, 25, 6, 8192⟩, ⟨19, 2, 31, 6, 8192⟩] ++ ⟨18, 2, 29, 3, 49152⟩ :: []) (by rfl)) $$ HS
  iapply (st_sw m K X (c := 1) ⟨18, 2, 29, 3, 49152⟩ [⟨20, 2, 25, 6, 8192⟩, ⟨19, 2, 31, 6, 8192⟩] [] (rlR m 1 128 896) rfl rfl (A := []) (W := []) (by decide) no_lev rfl) $$ HS
  iintro ⟨HS, A6⟩
  ihave HS := (St_S m K X (S2 := [⟨20, 2, 25, 6, 8192⟩] ++ ⟨19, 2, 31, 6, 8192⟩ :: []) (by rfl)) $$ HS
  iapply (st_sw m K X (c := 1) ⟨19, 2, 31, 6, 8192⟩ [⟨20, 2, 25, 6, 8192⟩] [] (rlR m 1 0 128) rfl rfl (A := []) (W := []) (by decide) no_lev rfl) $$ HS
  iintro ⟨HS, A7⟩
  ihave HS := (St_S m K X (S2 := [] ++ ⟨20, 2, 25, 6, 8192⟩ :: []) (by rfl)) $$ HS
  iapply (st_sw m K X (c := 1) ⟨20, 2, 25, 6, 8192⟩ [] [] (rlR m 1 896 1024) rfl rfl (A := []) (W := []) (by decide) no_lev rfl) $$ HS
  iintro ⟨HS, A8⟩
  ihave Hst := (stay_1' m) $$ Hst; icases Hst with ⟨Sk, Sv, Rk, Rv⟩
  ihave J5 := (joinK1 m) $$ [Rk A0 Sk A2 A4]
  · isplitl [Rk]; · iexact Rk
    isplitl [A0]; · iexact A0
    isplitl [Sk]; · iexact Sk
    isplitl [A2]; · iexact A2
    iexact A4
  ihave J6 := (joinV1 m) $$ [Rv A1 Sv A3 A5]
  · isplitl [Rv]; · iexact Rv
    isplitl [A1]; · iexact A1
    isplitl [Sv]; · iexact Sv
    isplitl [A3]; · iexact A3
    iexact A5
  ihave J7 := (joinR m 1) $$ [A7 A6 A8]
  · isplitl [A7]; · iexact A7
    isplitl [A6]; · iexact A6
    iexact A8
  iapply WP_ret
  ihave HS := (St_S m K X (S2 := left 1) (by rfl)) $$ HS
  iapply Hk $$ J5 J6 [J7] HS
  iapply (rl_1); iexact J7

/-- Window 58 of the statements, on device 2. -/
theorem part58_2 {Q : _ → sProp 𝕄} :
    iprop(stay m 2 ∗ rl0 2 ∗ St m K X 2 [] [] ((trG 2).reverse ++ (trF 2 ++ ((trD 2).reverse ++ [])))
        ∗ (hole 2 cc0_scratch5 (Finset.univ : Finset S1024x32x128.Idx) -∗ hole 2 cc0_scratch6 (Finset.univ : Finset S1024x32x128.Idx) -∗ rl1 2 -∗ St m K X 2 [] [] (left 2) -∗ Q (Scalar.extui (Scalar.cmpi .eq (w2 2) 3#32))))
      ⊢ WP 2 (app (k0_part58 (F := F)) (w2 2) (Scalar.cmpi .eq (w2 2) 0#32)) Q := by
  unfold app; rw [k0_part58_eq_skeleton]; unfold k0_part58_skel
  simp (decide := true) only [Prog.lift, Prog.bind_op, Prog.bind_ret, Prog.pure_eq_ret, ↓reduceDIte, bind_assoc]
  iintro ⟨Hst, Hr, HS, Hk⟩
  ihave Hst := (stay_2' m) $$ Hst; icases Hst with ⟨J5, J6⟩
  iapply WP_ret
  ihave HS := (St_S m K X (S2 := left 2) (by rfl)) $$ HS
  iapply Hk $$ J5 J6 [Hr] HS
  iapply (rl_2); iexact Hr

/-- Window 58 of the statements, on device 3. -/
theorem part58_3 {Q : _ → sProp 𝕄} :
    iprop(stay m 3 ∗ rl0 3 ∗ St m K X 3 [] [] ((trG 3).reverse ++ (trF 3 ++ ((trD 3).reverse ++ [])))
        ∗ (hole 3 cc0_scratch5 (Finset.univ : Finset S1024x32x128.Idx) -∗ hole 3 cc0_scratch6 (Finset.univ : Finset S1024x32x128.Idx) -∗ rl1 3 -∗ St m K X 3 [] [] (left 3) -∗ Q (Scalar.extui (Scalar.cmpi .eq (w2 3) 3#32))))
      ⊢ WP 3 (app (k0_part58 (F := F)) (w2 3) (Scalar.cmpi .eq (w2 3) 0#32)) Q := by
  unfold app; rw [k0_part58_eq_skeleton]; unfold k0_part58_skel
  simp (decide := true) only [Prog.lift, Prog.bind_op, Prog.bind_ret, Prog.pure_eq_ret, ↓reduceDIte, bind_assoc]
  iintro ⟨Hst, Hr, HS, Hk⟩
  ihave Hst := (stay_3' m) $$ Hst; icases Hst with ⟨J5, J6⟩
  iapply WP_ret
  ihave HS := (St_S m K X (S2 := left 3) (by rfl)) $$ HS
  iapply Hk $$ J5 J6 [Hr] HS
  iapply (rl_3); iexact Hr

/-- Part 58 on any device. -/
theorem part58 (c : Dev nD) {Q : _ → sProp 𝕄} :
    iprop(stay m c ∗ rl0 c ∗ St m K X c [] [] ((trG c).reverse ++ (trF c ++ ((trD c).reverse ++ [])))
        ∗ (hole c cc0_scratch5 (Finset.univ : Finset S1024x32x128.Idx) -∗ hole c cc0_scratch6 (Finset.univ : Finset S1024x32x128.Idx) -∗ rl1 c -∗ St m K X c [] [] (left c) -∗ Q (Scalar.extui (Scalar.cmpi .eq (w2 c) 3#32))))
      ⊢ WP c (app (k0_part58 (F := F)) (w2 c) (Scalar.cmpi .eq (w2 c) 0#32)) Q := by
  rcases dev_cases c with rfl | rfl | rfl | rfl
  · exact part58_0 m K X
  · exact part58_1 m K X
  · exact part58_2 m K X
  · exact part58_3 m K X

end Cert.KernelIdealProof
-- ==== Proof.KI.Barrier.lean ====
/-
The entry barrier: each device hands the three others the regions they will write, and gets theirs.
-/
module

public import proofs.«01_k».proof.Proof.KI.Finish

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ)
variable {α : Type} {Q : α → sProp (MT nD τ sig ℕ (Elt F) ℕ UU ℕ)}

/-- The three signals of device `c`. -/
def sigs (c : Dev nD) : List (Pay nD τ sig) := [(barCell (dv (c.val + 1)), 1, 1), (barCell (dv (c.val + 2)), 1, 1), (barCell (dv (c.val + 3)), 1, 1)]
/-- All that device `c` owes at the start. -/
def dueL (c : Dev nD) : List (Pay nD τ sig) := sigs c ++ (trs c).map Tr.due

/-- What device `c` holds for a transfer before the barrier. -/
def trP (c : Dev nD) (t : Tr) : sProp 𝕄 :=
  iprop(dutyTok ER (cellD c t.s) 0 (0 : Dev nD) ∗ dutyTok ER (cellD t.d t.r) 0 (0 : Dev nD) ∗ pos c t.s)

/-- The cells of `c`'s transfers and waits, all at zero. -/
def XX (c : Dev nD) : sProp 𝕄 := iprop(sepL (trs c) (fun t => zer c t.s) ∗ sepL (aws c) (fun w => zer c w.r) ∗ sepL ([] : List Tr) (fun t => zer c t.s))

/-- What device `c` brings to the barrier besides its gifts. -/
def tok0 (c : Dev nD) : sProp 𝕄 :=
  iprop(dutyTok ER (barCell (dv (c.val + 1))) 0 c ∗ dutyTok ER (barCell (dv (c.val + 2))) 0 c ∗ dutyTok ER (barCell (dv (c.val + 3))) 0 c
    ∗ atPos ER (barCell c) 0 ∅ 0 ∗ sepL (trs c) (trP c) ∗ sepL (aws c) (fun w => pos c w.r))
/-- Its gifts. -/
def gifts (c : Dev nD) : sProp 𝕄 := iprop(gift m c (dv (c.val + 1)) ∗ gift m c (dv (c.val + 2)) ∗ gift m c (dv (c.val + 3)))
/-- Its credits. -/
def creds0 (c : Dev nD) : sProp 𝕄 := iprop(cred (tallyAt (barCell c) 1 3) ∗ sepL (aws c) (fun w => cred (tallyAt (cellD c w.r) w.lev w.N)))

/-- Two listed conjunctions over one list join. -/
theorem sepL_sep {β : Type} (l : List β) (Φ Ψ : β → sProp 𝕄) : iprop(sepL l Φ ∗ sepL l Ψ) ⊢ sepL l (fun x => iprop(Φ x ∗ Ψ x)) := by
  induction l with
  | nil => unfold sepL; iintro ⟨H, -⟩; iexact H
  | cons x l ih =>
    iintro ⟨H1, H2⟩
    ihave H1 := (sepL_out x l Φ) $$ H1; icases H1 with ⟨H1, T1⟩
    ihave H2 := (sepL_out x l Ψ) $$ H2; icases H2 with ⟨H2, T2⟩
    iapply (sepL_in x l (fun x => iprop(Φ x ∗ Ψ x)))
    isplitl [H1 H2]
    · isplitl [H1]; · iexact H1
      iexact H2
    iapply ih; isplitl [T1]; · iexact T1
    iexact T2

/-- A listed conjunction is monotone. -/
theorem sepL_mono {β : Type} (l : List β) {Φ Ψ : β → sProp 𝕄} (h : ∀ x, Φ x ⊢ Ψ x) : sepL l Φ ⊢ sepL l Ψ := by
  induction l with
  | nil => exact BI.Entails.refl _
  | cons x l ih => exact BI.sep_mono (h x) ih

/-- The rights of a transfer, with the region it writes, make it ready to issue. -/
theorem tr_join (c : Dev nD) (t : Tr) : iprop(trP c t ∗ (reg m t.d t.r.val).hole t.d) ⊢ trS m c t := by
  unfold trP trS
  iintro ⟨⟨H1, H2, H3⟩, H4⟩
  isplitl [H1]; · iexact H1
  isplitl [H2]; · iexact H2
  isplitl [H3]; · iexact H3
  iexact H4

/-- Three parts of a list, by target, are the list. -/
theorem gather3 (l : List Tr) (Φ : Tr → sProp 𝕄) (p q r : Dev nD) (hpq : p ≠ q) (hpr : p ≠ r) (hqr : q ≠ r) (h : ∀ t ∈ l, t.d = p ∨ t.d = q ∨ t.d = r) :
    iprop(sepL (l.filter fun t => t.d = p) Φ ∗ sepL (l.filter fun t => t.d = q) Φ ∗ sepL (l.filter fun t => t.d = r) Φ) ⊢ sepL l Φ := by
  induction l with
  | nil => iintro ⟨H, -⟩; iexact H
  | cons t l ih =>
    have ih := ih fun t ht => h t (List.mem_cons_of_mem _ ht)
    rcases h t (List.mem_cons_self ..) with h1 | h1 | h1
    · rw [List.filter_cons_of_pos (by simpa using h1), List.filter_cons_of_neg (by simpa using fun h2 => hpq (h1.symm.trans h2)), List.filter_cons_of_neg (by simpa using fun h2 => hpr (h1.symm.trans h2))]
      iintro ⟨H1, H2, H3⟩
      ihave H1 := (sepL_out t _ Φ) $$ H1; icases H1 with ⟨H0, H1⟩
      iapply (sepL_in t l Φ)
      isplitl [H0]; · iexact H0
      iapply ih; isplitl [H1]; · iexact H1
      isplitl [H2]; · iexact H2
      iexact H3
    · rw [List.filter_cons_of_neg (by simpa using fun h2 => hpq (h2.symm.trans h1)), List.filter_cons_of_pos (by simpa using h1), List.filter_cons_of_neg (by simpa using fun h2 => hqr (h1.symm.trans h2))]
      iintro ⟨H1, H2, H3⟩
      ihave H2 := (sepL_out t _ Φ) $$ H2; icases H2 with ⟨H0, H2⟩
      iapply (sepL_in t l Φ)
      isplitl [H0]; · iexact H0
      iapply ih; isplitl [H1]; · iexact H1
      isplitl [H2]; · iexact H2
      iexact H3
    · rw [List.filter_cons_of_neg (by simpa using fun h2 => hpr (h2.symm.trans h1)), List.filter_cons_of_neg (by simpa using fun h2 => hqr (h2.symm.trans h1)), List.filter_cons_of_pos (by simpa using h1)]
      iintro ⟨H1, H2, H3⟩
      ihave H3 := (sepL_out t _ Φ) $$ H3; icases H3 with ⟨H0, H3⟩
      iapply (sepL_in t l Φ)
      isplitl [H0]; · iexact H0
      iapply ih; isplitl [H1]; · iexact H1
      isplitl [H2]; · iexact H2
      iexact H3

/-- The gifts of the three others are the regions of all of `c`'s transfers. -/
theorem gifts_all (c : Dev nD) :
    (bigSep ((Rd (F := F) m).duties (barCell c) 0 \ ∅) fun d => (Rd (F := F) m).payload (barCell c) 0 d) ⊢ sepL (trs c) (fun t => (reg m t.d t.r.val).hole t.d) := by
  have h : (Rd (F := F) m).duties (barCell c) 0 \ ∅ = {dv (c.val + 1), dv (c.val + 2), dv (c.val + 3)} := Finset.sdiff_empty
  rw [h, bigSep_eq_bigSepL_of_eq [dv (c.val + 1), dv (c.val + 2), dv (c.val + 3)] (by clear h; revert c; decide) (by clear h; revert c; decide)]
  refine BI.Entails.trans ?_ (gather3 (trs c) _ (dv (c.val + 1)) (dv (c.val + 2)) (dv (c.val + 3)) (by clear h; revert c; decide) (by clear h; revert c; decide) (by clear h; revert c; decide) (by clear h; revert c; decide))
  exact BI.Entails.refl _

/-- A device waits at the barrier below all it owes then. -/
theorem trs_lev (c : Dev nD) : ∀ t ∈ trs c, 1 < t.lev ∧ t.lev < 12 := by revert c; decide

/-- The device that signal 1 addresses. -/
theorem dvn_1 (c : Dev nD) (h) : (⟨k0_dev1 c, h⟩ : Dev nD) = dv (c.val + 1) := Fin.ext (k0_dev1_eq c)
/-- The device that signal 2 addresses. -/
theorem dvn_2 (c : Dev nD) (h) : (⟨k0_dev2 c, h⟩ : Dev nD) = dv (c.val + 2) := Fin.ext (k0_dev2_eq c)
/-- The device that signal 3 addresses. -/
theorem dvn_3 (c : Dev nD) (h) : (⟨k0_dev3 c, h⟩ : Dev nD) = dv (c.val + 3) := Fin.ext (k0_dev3_eq c)

/-- Device `c` owes the barrier of the device 1 further on. -/
theorem bar_duty1 (c : Dev nD) : c ∈ (Rd (F := F) m).duties (barCell (dv (c.val + 1))) 0 := by
  show c ∈ ({dv ((dv (c.val + 1)).val + 1), dv ((dv (c.val + 1)).val + 2), dv ((dv (c.val + 1)).val + 3)} : Finset (Dev nD))
  revert c; decide
/-- Device `c` owes the barrier of the device 2 further on. -/
theorem bar_duty2 (c : Dev nD) : c ∈ (Rd (F := F) m).duties (barCell (dv (c.val + 2))) 0 := by
  show c ∈ ({dv ((dv (c.val + 2)).val + 1), dv ((dv (c.val + 2)).val + 2), dv ((dv (c.val + 2)).val + 3)} : Finset (Dev nD))
  revert c; decide
/-- Device `c` owes the barrier of the device 3 further on. -/
theorem bar_duty3 (c : Dev nD) : c ∈ (Rd (F := F) m).duties (barCell (dv (c.val + 3))) 0 := by
  show c ∈ ({dv ((dv (c.val + 3)).val + 1), dv ((dv (c.val + 3)).val + 2), dv ((dv (c.val + 3)).val + 3)} : Finset (Dev nD))
  revert c; decide

/-- A gift is what a barrier signal carries. -/
theorem gift_pay (c p : Dev nD) : gift m c p ⊢ (Rd (F := F) m).payload (barCell p) 0 c := BI.Entails.refl _
/-- The credit and the place of a wait make it ready. -/
theorem aw_join (c : Dev nD) (w : Aw) : iprop(cred (tallyAt (cellD c w.r) w.lev w.N) ∗ pos c w.r) ⊢ (awS c w : sProp 𝕄) := BI.Entails.refl _

/-- The barrier waits for three signals. -/
theorem expect_bar (c : Dev nD) : (Rd (F := F) m).expect (barCell c) 0 = 3 := by
  have h : (Rd (F := F) m).duties (barCell c) 0 = {dv (c.val + 1), dv (c.val + 2), dv (c.val + 3)} := rfl
  unfold Schedule.expect Schedule.amountOf; rw [h]
  show ∑ d ∈ ({dv (c.val + 1), dv (c.val + 2), dv (c.val + 3)} : Finset (Dev nD)), 1 = 3
  clear h; revert c; decide

/-- The barrier. -/
theorem part19 (c : Dev nD) {Q : _ → sProp 𝕄} :
    iprop(records m K ∗ levAts (L (nD := nD) (τ := τ) (sig := sig) 12) lv ∗ (∃ Ws, owes (c : Thread nD τ) (tallyL (dueL c)) Ws) ∗ tok0 c ∗ gifts m c ∗ creds0 c
        ∗ (semVal (barCell c) 0 -∗ St m K (XX c) c (trs c) (aws c) [] -∗ ∀ u1 u2 u3, Q ⟨c, w2 c, u1, u2, u3⟩))
      ⊢ WP c (app (k0_part19 (F := F))) Q := by
  unfold app; rw [k0_part19_eq_skeleton]; unfold k0_part19_skel
  simp only [semSignalWord, semWaitWord, Prog.lift, Prog.bind_op, Prog.bind_ret, Prog.pure_eq_ret]
  unfold WP; rw [wp_deviceId]
  simp only [dvn_1, dvn_2, dvn_3]
  unfold tok0 gifts creds0 dueL sigs w2
  simp only [List.cons_append, List.nil_append, tallyL]
  iintro ⟨#Hrec, #Hlev, ⟨%Ws, HO⟩, ⟨T1, T2, T3, Hpos, HT, HP⟩, ⟨G1, G2, G3⟩, ⟨HC, HW⟩, Hk⟩
  iapply (Rounds.wp_signal 𝒱₀ ER (Rd m) (c : Thread nD τ) none (dst := (dv (c.val + 1) : Thread nD τ)) (κ := K (barCell (dv (c.val + 1)))) (r := 0) (d := c)
      (bar_duty1 m c) rfl 1 (tallyAt (barCell (dv (c.val + 2))) 1 1 + (tallyAt (barCell (dv (c.val + 3))) 1 1 + (tallyL ((trs c).map Tr.due)))) (add_comm _ _)) $$ [HO T1 G1]
  · isplitr; · iapply (rec_inv m K (bar_mem (dv (c.val + 1)))); iexact Hrec
    isplitl [HO]; · iexact HO
    isplitl [T1]; · iexact T1
    isplitl [G1]; · iapply (gift_pay m c (dv (c.val + 1))); iexact G1
    iapply (rec_reached m K (bar_mem (dv (c.val + 1)))); iexact Hrec
  iintro HO
  iapply (Rounds.wp_signal 𝒱₀ ER (Rd m) (c : Thread nD τ) none (dst := (dv (c.val + 2) : Thread nD τ)) (κ := K (barCell (dv (c.val + 2)))) (r := 0) (d := c)
      (bar_duty2 m c) rfl 1 (tallyAt (barCell (dv (c.val + 3))) 1 1 + (tallyL ((trs c).map Tr.due))) (add_comm _ _)) $$ [HO T2 G2]
  · isplitr; · iapply (rec_inv m K (bar_mem (dv (c.val + 2)))); iexact Hrec
    isplitl [HO]; · iexact HO
    isplitl [T2]; · iexact T2
    isplitl [G2]; · iapply (gift_pay m c (dv (c.val + 2))); iexact G2
    iapply (rec_reached m K (bar_mem (dv (c.val + 2)))); iexact Hrec
  iintro HO
  iapply (Rounds.wp_signal 𝒱₀ ER (Rd m) (c : Thread nD τ) none (dst := (dv (c.val + 3) : Thread nD τ)) (κ := K (barCell (dv (c.val + 3)))) (r := 0) (d := c)
      (bar_duty3 m c) rfl 1 (tallyL ((trs c).map Tr.due)) (add_comm _ _)) $$ [HO T3 G3]
  · isplitr; · iapply (rec_inv m K (bar_mem (dv (c.val + 3)))); iexact Hrec
    isplitl [HO]; · iexact HO
    isplitl [T3]; · iexact T3
    isplitl [G3]; · iapply (gift_pay m c (dv (c.val + 3))); iexact G3
    iapply (rec_reached m K (bar_mem (dv (c.val + 3)))); iexact Hrec
  iintro HO
  iapply (Rounds.wp_wait_rest_token 𝒱₀ ER (Rd m) (c : Thread nD τ) none (κ := K (barCell c)) (wpE_semWait_eq 𝒱₀ (c : Thread nD τ) none Set.univ)
    (Set.mem_univ _) 1 (O := tallyL ((trs c).map Tr.due)) (W := Ws) (R := 0) (m := 0) (T := ∅) (by rw [Nat.zero_add, expect_bar m]; rfl)) $$ [HC HO Hpos]
  · isplitr; · iapply (rec_inv m K (bar_mem c)); iexact Hrec
    isplitl [HC]; · iexact HC
    isplitl [HO]; · iexact HO
    isplitr; · iapply (mw c _ 1 (trs c) (by decide) (trs_lev c)); iexact Hlev
    iexact Hpos
  iintro ⟨HO, Hpos, -, HG⟩
  imod (Rounds.cell_close ER (Rd m) (κ := K (barCell c)) (Set.mem_univ _) (fun h => h) (R := 1) (duties_later m _)) $$ [Hpos] with Hz
  · isplitr; · iapply (rec_inv m K (bar_mem c)); iexact Hrec
    iexact Hpos
  ihave HG := (gifts_all m c) $$ HG
  iapply WP_ret
  iapply Hk $$ Hz [HO HG HT HW HP]
  unfold St
  isplitr; · iexact Hrec
  isplitr; · iexact Hlev
  isplitl [HO]; · iexists _; iexact HO
  isplitl [HT HG]
  · iapply (sepL_mono (trs c) (tr_join m c))
    iapply (sepL_sep (trs c) (trP c) (fun t => (reg m t.d t.r.val).hole t.d))
    isplitl [HT]; · iexact HT
    iexact HG
  isplitl [HW HP]
  · iapply (sepL_mono (aws c) (aw_join c))
    iapply (sepL_sep (aws c) (fun w => cred (tallyAt (cellD c w.r) w.lev w.N)) (fun w => pos c w.r))
    isplitl [HW]; · iexact HW
    iexact HP
  isplitr; · unfold sepL; iempintro
  unfold XX; iintro H; iexact H

end Cert.KernelIdealProof
-- ==== Proof.KI.Body.lean ====
/-
The body of the kernel on any device.
-/
module

public import proofs.«01_k».proof.Proof.KI.Barrier

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

variable (K : GSem nD τ sig → ℕ)
variable {α : Type} {Q : α → sProp (MT nD τ sig ℕ (Elt F) ℕ UU ℕ)}

/-- What is left to send after the barrier, in stages. -/
def A0 (c : Dev nD) : List Tr := trF c ++ (rs0 c :: rs1 c :: (trG c ++ (rs2 c :: trH c)))
/-- What is left to send at stage 1. -/
def A1 (c : Dev nD) : List Tr := rs0 c :: rs1 c :: (trG c ++ (rs2 c :: trH c))
/-- What is left to send at stage 2. -/
def A2 (c : Dev nD) : List Tr := rs1 c :: (trG c ++ (rs2 c :: trH c))
/-- What is left to send at stage 3. -/
def A3 (c : Dev nD) : List Tr := rs2 c :: trH c
/-- What is left to wait for. -/
def W1 (c : Dev nD) : List Aw := ⟨43, 4, 16384⟩ :: (awG c ++ (awQ c ++ (⟨44, 7, 16384⟩ :: ⟨45, 8, 16384⟩ :: awH)))
/-- What is left to wait for at stage 2. -/
def W2 (c : Dev nD) : List Aw := awG c ++ (awQ c ++ (⟨44, 7, 16384⟩ :: ⟨45, 8, 16384⟩ :: awH))
/-- What is left to wait for at stage 3. -/
def W3 : List Aw := ⟨44, 7, 16384⟩ :: ⟨45, 8, 16384⟩ :: awH
/-- What is in flight. -/
def S2 (c : Dev nD) : List Tr := trF c ++ ((trD c).reverse ++ [])
/-- What is in flight at stage 4. -/
def S4 (c : Dev nD) : List Tr := (trG c).reverse ++ rs1 c :: rs0 c :: S2 c

/-- The levels of what is left to send, at point 0 of the body. -/
theorem l0 (c : Dev nD) : ∀ t ∈ A0 c, 0 < t.lev ∧ t.lev < 12 := by revert c; decide
/-- The levels of what is left to send, at point 1 of the body. -/
theorem l1 (c : Dev nD) : ∀ t ∈ A1 c, 3 < t.lev ∧ t.lev < 12 := by revert c; decide
/-- The levels of what is left to send, at point 2 of the body. -/
theorem l2 (c : Dev nD) : ∀ t ∈ A2 c, 4 < t.lev ∧ t.lev < 12 := by revert c; decide
/-- The levels of what is left to send, at point 3 of the body. -/
theorem l3 (c : Dev nD) : ∀ t ∈ A3 c, 6 < t.lev ∧ t.lev < 12 := by revert c; decide
/-- The levels of what is left to send, at point 4 of the body. -/
theorem l4 (c : Dev nD) : ∀ t ∈ rs2 c :: trH c, 7 < t.lev ∧ t.lev < 12 := by revert c; decide
/-- The levels of what is left to send, at point 5 of the body. -/
theorem l5 (c : Dev nD) : ∀ t ∈ trH c, 8 < t.lev ∧ t.lev < 12 := by revert c; decide
/-- The levels of what is left to send, at point 6 of the body. -/
theorem l6 (c : Dev nD) : ∀ t ∈ [cw1 c, cc1 c, cw2 c, cc2 c], 9 < t.lev ∧ t.lev < 12 := by revert c; decide
/-- The levels of what is left to send, at point 7 of the body. -/
theorem l7 (c : Dev nD) : ∀ t ∈ [cw2 c, cc2 c], 10 < t.lev ∧ t.lev < 12 := by revert c; decide

/-- What the attention reads at step 0 serves step 1. -/
theorem at_01 (c : Dev nD) : At m c 0 ⊢ At m c 1 := BI.Entails.refl _
/-- What it reads at step 2 serves step 3. -/
theorem at_23 (c : Dev nD) : At m c 2 ⊢ At m c 3 := BI.Entails.refl _

/-- A branch that is taken. -/
theorem WP_pos {c : Dev nD} {b : Prop} [Decidable b] (h : b) {p : b → Prog (TpuEff nD τ sig (Elt F) Λ₀ .tc) α} {q : ¬b → Prog (TpuEff nD τ sig (Elt F) Λ₀ .tc) α} :
    WP c (p h) Q ⊢ WP c (if h : b then p h else q h) Q := by rw [dif_pos h]
/-- A branch that is not taken. -/
theorem WP_neg {c : Dev nD} {b : Prop} [Decidable b] (h : ¬b) {p : b → Prog (TpuEff nD τ sig (Elt F) Λ₀ .tc) α} {q : ¬b → Prog (TpuEff nD τ sig (Elt F) Λ₀ .tc) α} :
    WP c (q h) Q ⊢ WP c (if h : b then p h else q h) Q := by rw [dif_neg h]

/-- A block of the result cut in two, -/
theorem oH_cut (c : Dev nD) (t : Fin 4) (k : ℕ) (h : cb c t = (c.val + k) % 4) : oH c (cb c t) ⊢ (iprop(hH c ((c.val + k) % 4) 0 ∗ hH c ((c.val + k) % 4) 512) : sProp 𝕄) := by
  rw [h]
  exact hole_cut c cc0_stg3_0 (cut2 0 1 (256 * ((c.val + k) % 4)) (256 * ((c.val + k) % 4) + 256) 0 512 1024 (by decide))
/-- The block of step 0. -/
theorem cb_0 (c : Dev nD) : cb c 0 = (c.val + 4) % 4 := by revert c; decide
/-- The block of step 1. -/
theorem cb_1 (c : Dev nD) : cb c 1 = (c.val + 3) % 4 := by revert c; decide
/-- The block of step 2. -/
theorem cb_2 (c : Dev nD) : cb c 2 = (c.val + 2) % 4 := by revert c; decide

/-- The relay buffer at the end, on the devices that send nothing from it. -/
theorem rl1_0 (c : Dev nD) (h : c ≠ 3) : rl1 c ⊢ (hole c cc0_scratch7 (Finset.univ : Finset S1024x8x128.Idx) : sProp 𝕄) := by
  rcases dev_cases c with rfl | rfl | rfl | rfl
  · exact BI.Entails.refl _
  · exact BI.Entails.refl _
  · exact BI.Entails.refl _
  · exact absurd rfl h
/-- Devices other than 3 have nothing in flight. -/
theorem left_0 (c : Dev nD) (h : c ≠ 3) : left c = [] := by revert c; decide
/-- Only device 3 takes the last branch. -/
theorem last_no (c : Dev nD) (h : c ≠ 3) : ¬ (Scalar.cmpi .ne (Scalar.extui (Scalar.cmpi .eq (w2 c) 3#32) : BitVec 32) 0#32 = 1#1) := by revert c; decide

/-- The state in which the body of `c` starts. -/
def pre (c : Dev nD) : sProp 𝕄 :=
  iprop(records m K ∗ levAts (L (nD := nD) (τ := τ) (sig := sig) 12) lv ∗ (∃ Ws, owes (c : Thread nD τ) (tallyL (dueL c)) Ws) ∗ tok0 c ∗ gifts m c ∗ creds0 c
    ∗ (hole c cc0_scratch5 (Finset.univ : Finset S1024x32x128.Idx) ∗ hole c cc0_scratch6 (Finset.univ : Finset S1024x32x128.Idx) ∗ own0 m c ∗ LB m c ∗ XS m c)
    ∗ (hole c cc0_scratch2 (Finset.univ : Finset S1024x1024.Idx) ∗ hole c cc0_scratch3 (Finset.univ : Finset S1024x1024.Idx) ∗ rl0 c
      ∗ (rsR m c 0).hole c ∗ (rsR m c 1).hole c ∗ (rsR m c 2).hole c ∗ agH c)
    ∗ (oH c (cb c 0) ∗ oH c (cb c 1) ∗ oH c (cb c 2) ∗ oH c (cb c 3)))

/-- The state in which it ends. -/
def post (c : Dev nD) : sProp 𝕄 :=
  iprop((∃ Ws, owes (c : Thread nD τ) 0 Ws) ∗ XX c ∗ semVal (barCell c) 0 ∗ LB m c ∗ XS m c ∗ At m c 3
    ∗ (hole c cc0_scratch5 (Finset.univ : Finset S1024x32x128.Idx) ∗ hole c cc0_scratch6 (Finset.univ : Finset S1024x32x128.Idx) ∗ hole c cc0_scratch7 (Finset.univ : Finset S1024x8x128.Idx))
    ∗ ((rsR m c 0).full c ∗ (rsR m c 1).full c ∗ (rsR m c 2).full c ∗ (rbR m c 0).full c ∗ (rbR m c 1).full c ∗ (rbR m c 2).full c)
    ∗ ((agB m ((c.val + 1) % 4) 0).full c ∗ (agB m ((c.val + 1) % 4) 512).full c ∗ (agB m ((c.val + 2) % 4) 0).full c ∗ (agB m ((c.val + 2) % 4) 512).full c
      ∗ (agB m ((c.val + 3) % 4) 0).full c ∗ (agB m ((c.val + 3) % 4) 512).full c ∗ (agB m ((c.val + 4) % 4) 0).full c ∗ (agB m ((c.val + 4) % 4) 512).full c)
    ∗ (oB m c (cb c 3) ∗ hB m c ((c.val + 2) % 4) 0 ∗ hB m c ((c.val + 2) % 4) 512 ∗ hB m c ((c.val + 3) % 4) 0 ∗ hB m c ((c.val + 3) % 4) 512
      ∗ hB m c ((c.val + 4) % 4) 0 ∗ hB m c ((c.val + 4) % 4) 512))

/-- With nothing left to do, nothing is owed and all the cells are closed. -/
theorem St_end (X : sProp 𝕄) (c : Dev nD) : St m K X c [] [] [] ⊢ iprop((∃ Ws, owes (c : Thread nD τ) 0 Ws) ∗ X) := by
  unfold St
  iintro ⟨-, -, HO, -, -, -, HX⟩
  isplitl [HO]; · iexact HO
  iapply HX
  isplitr; · unfold sepL; iempintro
  isplitr; · unfold sepL; iempintro
  unfold sepL; iempintro

set_option maxRecDepth 65536 in
/-- The body. -/
theorem body_run (c : Dev nD) {Q : _ → sProp 𝕄} : iprop(pre m K c ∗ (post m c -∗ Q ⟨⟩)) ⊢ WP c (app (cc0_body (F := F))) Q := by
  unfold app; rw [cc0_body_eq_skeleton]; unfold cc0_body_skel
  simp only [Prog.lift, Prog.bind_op, Prog.bind_ret, Prog.pure_eq_ret]
  unfold pre
  iintro ⟨⟨Hrec, Hlev, HO, HT, HG, HC, ⟨H5, H6, Ho, HL, HX⟩, ⟨H2, H3, Hrl, Hr0, Hr1, Hr2, Hag⟩, ⟨O0, O1, O2, O3⟩⟩, Hk⟩
  iapply WP_bind
  iapply (part19 m K c)
  isplitl [Hrec]; · iexact Hrec
  isplitl [Hlev]; · iexact Hlev
  isplitl [HO]; · iexact HO
  isplitl [HT]; · iexact HT
  isplitl [HG]; · iexact HG
  isplitl [HC]; · iexact HC
  iintro Hz HS %u1 %u2 %u3
  ihave HS := (St_A m K (XX c) (A2 := trD c ++ A0 c) (by rfl)) $$ HS
  iapply WP_bind
  iapply (part20 m K (XX c) c u3 (A0 c) (aws c) [] (l0 c))
  unfold pre20 post20
  isplitl [H5 H6 Ho HL HX HS]
  · isplitl [H5]; · iexact H5
    isplitl [H6]; · iexact H6
    isplitl [Ho]; · iexact Ho
    isplitl [HL]; · iexact HL
    isplitl [HX]; · iexact HX
    iexact HS
  iintro Hst Ho HL HX HS
  ihave HS := (St_A m K (XX c) (A2 := trF c ++ A1 c) (by rfl)) $$ HS
  ihave HS := (St_W m K (XX c) (W2 := awF c ++ (awE c ++ (awP c ++ W1 c))) (by rfl)) $$ HS
  iapply WP_bind
  iapply (part21 m K (XX c) c (A1 c) (W1 c) ((trD c).reverse ++ []) (l1 c))
  isplitl [H2]; · iexact H2
  isplitl [H3]; · iexact H3
  isplitl [HX]; · iexact HX
  isplitl [Ho]; · iexact Ho
  isplitl [HS]; · iexact HS
  iintro H2 H3 HX Ho HS
  iapply WP_bind
  iapply (part22 m K (XX c) c (A1 c) (W1 c) (S2 c) (l1 c))
  isplitl [H2]; · iexact H2
  isplitl [H3]; · iexact H3
  isplitl [Ho]; · iexact Ho
  isplitl [HS]; · iexact HS
  iintro HA HS %u4 %u5
  iapply WP_bind
  iapply (part23 m c u4 u5)
  isplitl [HA]; · iexact HA
  iintro HA
  iapply WP_bind
  iapply (part24 m c u4 u5)
  isplitl [HA]; · iexact HA
  iintro HA
  iapply WP_bind
  iapply (part25 m c u4 u5)
  isplitl [HA]; · iexact HA
  iintro HA
  iapply WP_bind
  iapply (part26 m c u4 u5)
  isplitl [HA]; · iexact HA
  iintro HA
  iapply WP_bind
  iapply (part27 m c u4 u5)
  isplitl [HA]; · iexact HA
  isplitl [O0]; · iexact O0
  iintro HA O0
  iapply WP_bind
  iapply (part28 m K (XX c) c (A2 c) (W1 c) (S2 c) u1)
  isplitl [HS]; · iexact HS
  isplitl [O0]; · iexact O0
  isplitl [Hr0]; · iexact Hr0
  iintro %u6 %u7 HS O0
  ihave HA := (at_01 m c) $$ HA
  iapply WP_bind
  iapply (part29 m c u6 u7)
  isplitl [HA]; · iexact HA
  iintro HA
  iapply WP_bind
  iapply (part30 m c u6 u7)
  isplitl [HA]; · iexact HA
  iintro HA
  iapply WP_bind
  iapply (part31 m c u6 u7)
  isplitl [HA]; · iexact HA
  iintro HA
  iapply WP_bind
  iapply (part32 m c u6 u7)
  isplitl [HA]; · iexact HA
  iintro HA
  iapply WP_bind
  iapply (part33 m c u6 u7)
  isplitl [HA]; · iexact HA
  iintro HA
  iapply WP_bind
  iapply (part34 m K (XX c) c (A2 c) (W2 c) (rs0 c :: S2 c) u1 u6 (l2 c))
  isplitl [HA]; · iexact HA
  isplitl [O1]; · iexact O1
  isplitl [Hr1]; · iexact Hr1
  isplitl [HS]; · iexact HS
  iintro HA O1 Hr1 B0 HS
  iapply WP_bind
  iapply (part35 m K (XX c) c (A3 c) W3 (rs0 c :: S2 c) (l3 c))
  isplitl [Hr1]; · iexact Hr1
  isplitl [HS]; · iexact HS
  iintro He HS
  iapply WP_bind
  iapply (part36 m K (XX c) c (A3 c) W3 (S4 c) (l3 c))
  isplitl [HA]; · iexact HA
  isplitl [He]; · iexact He
  isplitl [HS]; · iexact HS
  iintro HA HS %v1 %v2
  iapply WP_bind
  iapply (part37 m c v1 v2)
  isplitl [HA]; · iexact HA
  iintro HA
  iapply WP_bind
  iapply (part38 m c v1 v2)
  isplitl [HA]; · iexact HA
  iintro HA
  iapply WP_bind
  iapply (part39 m c v1 v2)
  isplitl [HA]; · iexact HA
  iintro HA
  iapply WP_bind
  iapply (part40 m c v1 v2)
  isplitl [HA]; · iexact HA
  iintro HA
  iapply WP_bind
  iapply (part41 m c v1 v2)
  isplitl [HA]; · iexact HA
  isplitl [O2]; · iexact O2
  iintro HA O2
  iapply WP_bind
  iapply (part42 m K (XX c) c (trH c) (⟨45, 8, 16384⟩ :: awH) (S4 c) u1 (l4 c))
  isplitl [Hr2]; · iexact Hr2
  isplitl [HS]; · iexact HS
  iintro B1 HS
  ihave HA := (at_23 m c) $$ HA
  iapply WP_bind
  iapply (part43 m c)
  isplitl [HA]; · iexact HA
  iintro %x1 %x2 %x3 HA
  iapply WP_bind
  iapply (part44 m c x2 x3)
  isplitl [HA]; · iexact HA
  iintro HA
  iapply WP_bind
  iapply (part45 m c x2 x3)
  isplitl [HA]; · iexact HA
  iintro HA
  iapply WP_bind
  iapply (part46 m c x2 x3)
  isplitl [HA]; · iexact HA
  iintro HA
  iapply WP_bind
  iapply (part47 m c x2 x3)
  isplitl [HA]; · iexact HA
  iintro HA
  iapply WP_bind
  iapply (part48 m K (XX c) c (trH c) awH (rs2 c :: S4 c) u1 x2 x3 (l5 c))
  isplitl [HA]; · iexact HA
  isplitl [O3]; · iexact O3
  isplitl [HS]; · iexact HS
  iintro HA O3 B2 HS
  iapply WP_bind
  iapply (part49 m c u1 x1 x2)
  isplitl [O3]; · iexact O3
  isplitl [B2]; · iexact B2
  isplitl [Hag]; · iexact Hag
  iintro %y1 %y2 O3 B2 G10 G15
  ihave O0 := (oH_cut c 0 4 (cb_0 c)) $$ O0; icases O0 with ⟨P00, P05⟩
  ihave O1 := (oH_cut c 1 3 (cb_1 c)) $$ O1; icases O1 with ⟨P10, P15⟩
  ihave O2 := (oH_cut c 2 2 (cb_2 c)) $$ O2; icases O2 with ⟨P20, P25⟩
  iapply WP_bind
  iapply (part50 m K (XX c) c [cw1 c, cc1 c, cw2 c, cc2 c] [⟨50, 10, 8192⟩, ⟨56, 10, 8192⟩, ⟨51, 11, 8192⟩, ⟨57, 11, 8192⟩] (rs2 c :: S4 c) u1 u2 (l6 c))
  isplitl [HS]; · iexact HS
  isplitl [G10]; · iexact G10
  isplitl [G15]; · iexact G15
  iintro HS G40 G25
  iapply WP_bind
  iapply (part51 m c u1 y1 y2)
  isplitl [G40]; · iexact G40
  isplitl [G25]; · iexact G25
  isplitl [P00]; · iexact P00
  isplitl [P25]; · iexact P25
  iintro %y3 %y4 %y5 G40 G25 P00 P25
  iapply WP_bind
  iapply (part52 m K (XX c) c [cw2 c, cc2 c] [⟨56, 10, 8192⟩, ⟨51, 11, 8192⟩, ⟨57, 11, 8192⟩] (cc0 c :: cw0 c :: rs2 c :: S4 c) u1 u2 y5 (l7 c))
  isplitl [HS]; · iexact HS
  isplitl [G40]; · iexact G40
  isplitl [G25]; · iexact G25
  iintro HS G30
  iapply WP_bind
  iapply (part53 m K (XX c) c [cw2 c, cc2 c] [⟨51, 11, 8192⟩, ⟨57, 11, 8192⟩] (cc1 c :: cw1 c :: cc0 c :: cw0 c :: rs2 c :: S4 c) y3 y4 (l7 c))
  isplitl [HS]; · iexact HS
  isplitl [G30]; · iexact G30
  isplitl [P10]; · iexact P10
  isplitl [P15]; · iexact P15
  iintro %y6 %y7 HS G30 G35 P10 P15
  iapply WP_bind
  iapply (part54 m K (XX c) c [] [⟨57, 11, 8192⟩] (cc1 c :: cw1 c :: cc0 c :: cw0 c :: rs2 c :: S4 c) u1 u2 y7 no_lev)
  isplitl [HS]; · iexact HS
  isplitl [G30]; · iexact G30
  isplitl [G35]; · iexact G35
  iintro %y8 HS G20
  iapply WP_bind
  iapply (part55 m K (XX c) c [] [] (cc2 c :: cw2 c :: cc1 c :: cw1 c :: cc0 c :: cw0 c :: rs2 c :: S4 c) u2 y6 y8 no_lev)
  isplitl [HS]; · iexact HS
  isplitl [G20]; · iexact G20
  isplitl [P20]; · iexact P20
  isplitl [P05]; · iexact P05
  iintro HS G20 G45 P20 P05
  iapply WP_bind
  iapply (part56 m K (XX c) c ((trG c).reverse) (S2 c))
  isplitl [HS]; · iexact HS
  iintro Hr0 Hr1 Hr2 G10 HS
  iapply WP_bind
  iapply (part57 m K (XX c) c ((trG c).reverse) (S2 c))
  isplitl [HS]; · iexact HS
  iintro G15 G40 G25 G30 G35 HS
  iapply WP_bind
  iapply (part58 m K (XX c) c)
  isplitl [Hst]; · iexact Hst
  isplitl [Hrl]; · iexact Hrl
  isplitl [HS]; · iexact HS
  iintro H5 H6 Hrl HS
  by_cases h3 : c = 3
  · subst h3
    iapply WP_pos (by decide)
    ihave HS := (St_S m K (XX 3) (S2 := left 3) (by rfl)) $$ HS
    ihave HS := (St_S m K (XX 3) (S2 := [⟨20, 2, 26, 6, 8192⟩, ⟨19, 2, 32, 6, 8192⟩] ++ ⟨18, 2, 30, 3, 49152⟩ :: []) (by rfl)) $$ HS
    iapply (st_sw m K (XX 3) (c := 3) ⟨18, 2, 30, 3, 49152⟩ [⟨20, 2, 26, 6, 8192⟩, ⟨19, 2, 32, 6, 8192⟩] [] (rlR m 3 128 896) rfl rfl (A := []) (W := []) (by decide) no_lev rfl) $$ HS
    iintro ⟨HS, R0⟩
    ihave HS := (St_S m K (XX 3) (S2 := [⟨20, 2, 26, 6, 8192⟩] ++ ⟨19, 2, 32, 6, 8192⟩ :: []) (by rfl)) $$ HS
    iapply (st_sw m K (XX 3) (c := 3) ⟨19, 2, 32, 6, 8192⟩ [⟨20, 2, 26, 6, 8192⟩] [] (rlR m 3 0 128) rfl rfl (A := []) (W := []) (by decide) no_lev rfl) $$ HS
    iintro ⟨HS, R1⟩
    ihave HS := (St_S m K (XX 3) (S2 := [] ++ ⟨20, 2, 26, 6, 8192⟩ :: []) (by rfl)) $$ HS
    iapply (st_sw m K (XX 3) (c := 3) ⟨20, 2, 26, 6, 8192⟩ [] [] (rlR m 3 896 1024) rfl rfl (A := []) (W := []) (by decide) no_lev rfl) $$ HS
    iintro ⟨HS, R2⟩
    ihave Hrl := (joinR m 3) $$ [R0 R1 R2]
    · isplitl [R1]; · iexact R1
      isplitl [R0]; · iexact R0
      iexact R2
    ihave HS := (St_S m K (XX 3) (S2 := []) (by rfl)) $$ HS
    ihave HS := (St_end m K (XX 3) 3) $$ HS; icases HS with ⟨HO, HXX⟩
    iapply WP_ret
    iapply Hk
    unfold post
    isplitl [HO]; · iexact HO
    isplitl [HXX]; · iexact HXX
    isplitl [Hz]; · iexact Hz
    isplitl [HL]; · iexact HL
    isplitl [HX]; · iexact HX
    isplitl [HA]; · iexact HA
    isplitl [H5 H6 Hrl]
    · isplitl [H5]; · iexact H5
      isplitl [H6]; · iexact H6
      iexact Hrl
    isplitl [Hr0 Hr1 Hr2 B0 B1 B2]
    · isplitl [Hr0]; · iexact Hr0
      isplitl [Hr1]; · iexact Hr1
      isplitl [Hr2]; · iexact Hr2
      isplitl [B0]; · iexact B0
      isplitl [B1]; · iexact B1
      iexact B2
    isplitl [G10 G15 G20 G25 G30 G35 G40 G45]
    · isplitl [G10]; · iexact G10
      isplitl [G15]; · iexact G15
      isplitl [G20]; · iexact G20
      isplitl [G25]; · iexact G25
      isplitl [G30]; · iexact G30
      isplitl [G35]; · iexact G35
      isplitl [G40]; · iexact G40
      iexact G45
    isplitl [O3]; · iexact O3
    isplitl [P20]; · iexact P20
    isplitl [P25]; · iexact P25
    isplitl [P10]; · iexact P10
    isplitl [P15]; · iexact P15
    isplitl [P00]; · iexact P00
    iexact P05
  · iapply WP_neg (last_no c h3)
    ihave HS := (St_S m K (XX c) (S2 := []) (left_0 c h3)) $$ HS
    ihave Hrl := (rl1_0 c h3) $$ Hrl
    ihave HS := (St_end m K (XX c) c) $$ HS; icases HS with ⟨HO, HXX⟩
    iapply WP_ret
    iapply Hk
    unfold post
    isplitl [HO]; · iexact HO
    isplitl [HXX]; · iexact HXX
    isplitl [Hz]; · iexact Hz
    isplitl [HL]; · iexact HL
    isplitl [HX]; · iexact HX
    isplitl [HA]; · iexact HA
    isplitl [H5 H6 Hrl]
    · isplitl [H5]; · iexact H5
      isplitl [H6]; · iexact H6
      iexact Hrl
    isplitl [Hr0 Hr1 Hr2 B0 B1 B2]
    · isplitl [Hr0]; · iexact Hr0
      isplitl [Hr1]; · iexact Hr1
      isplitl [Hr2]; · iexact Hr2
      isplitl [B0]; · iexact B0
      isplitl [B1]; · iexact B1
      iexact B2
    isplitl [G10 G15 G20 G25 G30 G35 G40 G45]
    · isplitl [G10]; · iexact G10
      isplitl [G15]; · iexact G15
      isplitl [G20]; · iexact G20
      isplitl [G25]; · iexact G25
      isplitl [G30]; · iexact G30
      isplitl [G35]; · iexact G35
      isplitl [G40]; · iexact G40
      iexact G45
    isplitl [O3]; · iexact O3
    isplitl [P20]; · iexact P20
    isplitl [P25]; · iexact P25
    isplitl [P10]; · iexact P10
    isplitl [P15]; · iexact P15
    isplitl [P00]; · iexact P00
    iexact P05

end Cert.KernelIdealProof
-- ==== Proof.KI.Deal.lean ====
/-
The ghost state at the start: the cells, who holds which token, and the shares of the devices.
-/
module

public import proofs.«01_k».proof.Proof.KI.Body

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

/-! ## Conjunctions over lists -/

/-- The listed conjunction is the library's. -/
theorem sepL_of_bigSepL {β : Type} (l : List β) (Φ : β → sProp 𝕄) : bigSepL l Φ = sepL l Φ := by
  induction l with
  | nil => rfl
  | cons x l ih => rw [bigSepL_cons, ih]; rfl
/-- Over a list without repetition it is the one over the set. -/
theorem sepL_toFinset {β : Type} [DecidableEq β] (l : List β) (hl : l.Nodup) (Φ : β → sProp 𝕄) : bigSep l.toFinset Φ = sepL l Φ := by
  rw [bigSep_eq_bigSepL l hl, sepL_of_bigSepL]
/-- It reads through a map. -/
theorem sepL_map {β γ : Type} (f : β → γ) (l : List β) (Φ : γ → sProp 𝕄) : sepL (l.map f) Φ = sepL l fun x => Φ (f x) := by
  induction l with
  | nil => rfl
  | cons x l ih => rw [List.map_cons, sepL_cons, sepL_cons, ih]
/-- It does not depend on the order. -/
theorem sepL_perm {β : Type} {l l' : List β} (h : l.Perm l') (Φ : β → sProp 𝕄) : sepL l Φ ⊢ sepL l' Φ := by
  induction h with
  | nil => exact BI.Entails.refl _
  | cons x _ ih => exact BI.sep_mono (BI.Entails.refl _) ih
  | swap x y l =>
    iintro H
    ihave H := (sepL_out y (x :: l) Φ) $$ H; icases H with ⟨H1, H⟩
    ihave H := (sepL_out x l Φ) $$ H; icases H with ⟨H2, H⟩
    iapply (sepL_in x (y :: l) Φ); isplitl [H2]; · iexact H2
    iapply (sepL_in y l Φ); isplitl [H1]; · iexact H1
    iexact H
  | trans _ _ h1 h2 => exact BI.Entails.trans h1 h2
/-- Over a list of lists it is taken list by list. -/
theorem sepL_flat {β γ : Type} (f : β → List γ) (l : List β) (Φ : γ → sProp 𝕄) : sepL (l.flatMap f) Φ ⊢ sepL l fun x => sepL (f x) Φ := by
  induction l with
  | nil => exact BI.Entails.refl _
  | cons x l ih => rw [List.flatMap_cons]; exact (sepL_append _ _ _).1.trans (BI.sep_mono (BI.Entails.refl _) ih)

/-! ## Cells and tokens -/

/-- No cell is listed twice. -/
theorem cells_nodup (c : Dev nD) : (cellsL c).Nodup := by
  refine List.nodup_cons.mpr ⟨fun h => ?_, List.Nodup.map (fun a b h => by cases h; rfl) (by revert c; decide +kernel)⟩
  obtain ⟨n, -, hn⟩ := List.mem_map.mp h
  cases hn
/-- Two devices have different cells. -/
theorem cells_apart (c c' : Dev nD) (h : c ≠ c') : Disjoint (cellsL c).toFinset (cellsL c').toFinset := by
  have dev : ∀ (d : Dev nD) (g : GSem nD τ sig), g ∈ cellsL d → g.1 = (d : Thread nD τ) := fun d g hg => by
    rcases List.mem_cons.mp hg with rfl | hg
    · rfl
    · obtain ⟨n, -, rfl⟩ := List.mem_map.mp hg; rfl
  rw [Finset.disjoint_left]; intro g h1 h2
  rw [List.mem_toFinset] at h1 h2
  exact h (congrArg Prod.fst ((dev c g h1).symm.trans (dev c' g h2)))
/-- A conjunction over all cells goes by devices. -/
theorem cells_sep (Φ : GSem nD τ sig → sProp 𝕄) : bigSep cells Φ = bigSep Finset.univ fun c : Dev nD => sepL (cellsL c) Φ := by
  unfold cells
  rw [bigSep_biUnion_eq Finset.univ _ Φ fun c _ c' _ h => cells_apart c c' h]
  exact bigSep_congr fun c _ => sepL_toFinset _ (cells_nodup c) Φ

/-- The tokens that device `c` pays with. -/
def toksL (c : Dev nD) : List (GSem nD τ sig × ℕ × Dev nD) :=
  [(barCell (dv (c.val + 1)), 0, c), (barCell (dv (c.val + 2)), 0, c), (barCell (dv (c.val + 3)), 0, c)]
    ++ (trs c).flatMap fun t => [(cellD c t.s, 0, 0), (cellD t.d t.r, 0, 0)]
/-- A token as a number. -/
def code (x : GSem nD τ sig × ℕ × Dev nD) : ℕ := 4 * (64 * x.1.1.1.val + (match x.1.2 with | .reg _ => 58 | .dma n => (n : Fin 58).val)) + x.2.2.val
/-- No duty is listed twice. -/
theorem codes_nodup (c : Dev nD) : ((toksL c).map code).Nodup := by revert c; decide +kernel
/-- Two devices have different duties. -/
theorem codes_apart (c c' : Dev nD) (h : c ≠ c') : ∀ x ∈ (toksL c).map code, x ∉ (toksL c').map code := by revert c c'; decide +kernel
/-- All of them. -/
def ringToks : Finset (GSem nD τ sig × ℕ × Dev nD) := (Finset.univ : Finset (Dev nD)).biUnion fun c => (toksL c).toFinset
/-- A conjunction over all duties goes by devices. -/
theorem toks_sep (Φ : GSem nD τ sig × ℕ × Dev nD → sProp 𝕄) : bigSep ringToks Φ = bigSep Finset.univ fun c : Dev nD => sepL (toksL c) Φ := by
  unfold ringToks
  rw [bigSep_biUnion_eq Finset.univ _ Φ fun c _ c' _ h => by
    rw [Finset.disjoint_left]; intro g h1 h2
    rw [List.mem_toFinset] at h1 h2
    exact codes_apart c c' h _ (List.mem_map_of_mem h1) (List.mem_map_of_mem h2)]
  exact bigSep_congr fun c _ => sepL_toFinset _ (List.Nodup.of_map _ (codes_nodup c)) Φ

/-- The share of device `c` in what the launch makes. -/
def G (c : Dev nD) : sProp 𝕄 :=
  iprop(sepL (cellsL c) (fun g => roundState ER (Rd m) g 0) ∗ sepL (cellsL c) (fun g => reached ER g 0) ∗ sepL (cellsL c) (fun g => atPos ER g 0 ∅ 0)
    ∗ sepL (toksL c) fun x => dutyTok ER x.1 x.2.1 x.2.2)

/-- The launch makes it. -/
theorem fund_ring : BI.own (ER (initOf cells ringToks)) ⊢ (|==> bigSep Finset.univ (G m) : sProp 𝕄) := by
  iintro HX
  imod (Rounds.fund ER (Rd m) cells ringToks) $$ HX with ⟨Hst, Hr, Hat, Htok⟩
  imodintro
  ihave Hst := (Entails.of_eq (cells_sep fun g => roundState ER (Rd m) g 0)) $$ Hst
  ihave Hat := (Entails.of_eq (cells_sep fun g => atPos ER g 0 ∅ 0)) $$ Hat
  ihave Hr := (Entails.of_eq (cells_sep fun g => reached ER g 0)) $$ Hr
  ihave Htok := (Entails.of_eq (toks_sep fun x => dutyTok ER x.1 x.2.1 x.2.2)) $$ Htok
  unfold G; simp only [bigSep_sep']
  isplitl [Hst]; · iexact Hst
  isplitl [Hr]; · iexact Hr
  isplitl [Hat]; · iexact Hat
  iexact Htok

/-! ## The semaphores -/

/-- The kernel's own semaphores. -/
abbrev osem : Fin 54 → SemLoc sig := fun k => .dma ((⟨k.val + 4, by have := k.isLt; omega⟩ : Fin 58) : DmaSem sig)
/-- The launch's semaphores are the kernel's own. -/
theorem ownSemFacts : Pipeline.OwnSemFacts cfg0.spec osem := by decide
/-- The kernel's own semaphores, listed. -/
def ownL : List (Fin 58) := (List.finRange 54).map fun k => ⟨k.val + 4, by have := k.isLt; omega⟩
/-- Those of device `c` that no transfer between devices uses and that its local copies use, and the rest. -/
def idle (c : Dev nD) : List (Fin 58) := ownL.filter fun n => n ∉ used c ∧ n ∉ [(33 : Fin 58), 34, 35, 36]
/-- They are those used between devices, the local ones and the idle ones. -/
theorem own_perm (c : Dev nD) : ownL.Perm (used c ++ ([33, 34, 35, 36] ++ idle c)) := by revert c; decide +kernel

/-- The kernel's own semaphores at zero, listed. -/
theorem ownSems0_eq (c : Dev nD) : (Pipeline.ownSems0 (Ix := ℕ) (Name := ℕ) (U := UU) (Lvl := ℕ) (Val := Elt F) (τ := τ) osem c : sProp 𝕄) = sepL ownL (zer c) := by
  rw [Pipeline.ownSems0_eq_of_list c osem (List.finRange 54) (List.toFinset_finRange 54).symm (List.nodup_finRange 54), sepL_of_bigSepL]
  unfold ownL; rw [sepL_map]
/-- The only other semaphore is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- What stays outside the cells. -/
def spare (c : Dev nD) : sProp 𝕄 := iprop(sepL [(33 : Fin 58), 34, 35, 36] (zer c) ∗ sepL (idle c) (zer c))

/-- The semaphores at zero make the cells. -/
theorem sems_in (c : Dev nD) :
    iprop(Pipeline.ownSems0 (Ix := ℕ) (Name := ℕ) (U := UU) (Lvl := ℕ) (Val := Elt F) (τ := τ) osem c ∗ unscopedSems0 c)
      ⊢ (iprop(sepL (cellsL c) (fun g => semVal g 0) ∗ spare c) : sProp 𝕄) := by
  rw [ownSems0_eq, unscopedSems0_eq]
  iintro ⟨HS, HB⟩
  ihave HS := (sepL_perm (own_perm c) (zer c)) $$ HS
  ihave HS := (sepL_append (used c) _ (zer c)).1 $$ HS; icases HS with ⟨HU, HS⟩
  ihave HS := (sepL_append [(33 : Fin 58), 34, 35, 36] (idle c) (zer c)).1 $$ HS
  isplitr [HS]
  · unfold cellsL
    iapply (sepL_in (barCell c) ((used c).map (cellD c)) (fun g => semVal g 0))
    isplitl [HB]; · iexact HB
    rw [sepL_map]; iexact HU
  · unfold spare; iexact HS

/-- The closed cells give the semaphores back at zero. -/
theorem sems_out (c : Dev nD) : (iprop(XX c ∗ spare c) : sProp 𝕄) ⊢ Pipeline.ownSems0 (Ix := ℕ) (Name := ℕ) (U := UU) (Lvl := ℕ) (Val := Elt F) (τ := τ) osem c := by
  rw [ownSems0_eq]
  unfold XX spare
  iintro ⟨⟨HA, HW, -⟩, HS⟩
  iapply (sepL_perm (own_perm c).symm (zer c))
  iapply (sepL_append (used c) _ (zer c)).2
  isplitl [HA HW]
  · unfold used
    iapply (sepL_append ((trs c).map (·.s)) ((aws c).map (·.r)) (zer c)).2
    rw [sepL_map, sepL_map]
    isplitl [HA]; · iexact HA
    iexact HW
  iapply (sepL_append [(33 : Fin 58), 34, 35, 36] (idle c) (zer c)).2; iexact HS

/-! ## The shares -/

/-- What device `c` starts with. -/
def G' (c : Dev nD) : sProp 𝕄 := iprop(∃ K, records m K ∗ tok0 c ∗ spare c)

/-- Updates of all members are one update. -/
theorem sepL_fupd {β : Type} (l : List β) (Φ : β → sProp 𝕄) : sepL l (fun x => iprop(|={Set.univ}=> Φ x)) ⊢ (iprop(|={Set.univ}=> sepL l Φ) : sProp 𝕄) := by
  induction l with
  | nil => iintro H; imodintro; iexact H
  | cons x l ih =>
    iintro H
    ihave H := (sepL_out x l _) $$ H; icases H with ⟨H1, H⟩
    ihave H := ih $$ H
    imod H1; imod H; imodintro
    iapply (sepL_in x l Φ); isplitl [H1]; · iexact H1
    iexact H

/-- What device `c`'s part of the set-up leaves. -/
def mid (c : Dev nD) : sProp 𝕄 :=
  iprop(sepL (cellsL c) (fun g => iprop(∃ κ : ℕ, cellInv ER (Rd m) κ g)) ∗ sepL (cellsL c) (fun g => reached ER g 0) ∗ (sepL (cellsL c) (fun g => atPos ER g 0 ∅ 0)
    ∗ sepL (toksL c) (fun x => dutyTok ER x.1 x.2.1 x.2.2) ∗ spare c))

/-- A device allocates the invariants of its cells. -/
theorem core_alloc (c : Dev nD) :
    iprop(Pipeline.ownSems0 (Ix := ℕ) (Name := ℕ) (U := UU) (Lvl := ℕ) (Val := Elt F) (τ := τ) osem c ∗ unscopedSems0 c ∗ G m c) ⊢ |={Set.univ}=> mid m c := by
  unfold G mid
  iintro ⟨Hos, Hus, Hst, Hr, Hat, Htok⟩
  ihave Hv := (sems_in (F := F) c) $$ [Hos Hus]
  · isplitl [Hos] <;> iassumption
  icases Hv with ⟨Hv, Hs⟩
  imod (show iprop(sepL (cellsL c) (fun g => semVal g 0) ∗ sepL (cellsL c) fun g => roundState ER (Rd m) g 0)
      ⊢ (|={Set.univ}=> sepL (cellsL c) fun g => iprop(∃ κ : ℕ, cellInv ER (Rd m) κ g) : sProp 𝕄) from
        ((sepL_sep _ _ _).trans (sepL_mono _ fun g => (Rounds.body_intro ER (Rd m) g).trans inv_alloc)).trans (sepL_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hs

/-- A list of two. -/
theorem sepL_two {β : Type} (x y : β) (Φ : β → sProp 𝕄) : sepL [x, y] Φ ⊢ iprop(Φ x ∗ Φ y) := by
  iintro H
  ihave H := (sepL_out x [y] Φ) $$ H; icases H with ⟨H1, H⟩
  ihave H := (sepL_out y [] Φ) $$ H; icases H with ⟨H2, -⟩
  isplitl [H1]; · iexact H1
  iexact H2
/-- A list of three. -/
theorem sepL_three {β : Type} (x y z : β) (Φ : β → sProp 𝕄) : sepL [x, y, z] Φ ⊢ iprop(Φ x ∗ Φ y ∗ Φ z) := by
  iintro H
  ihave H := (sepL_out x [y, z] Φ) $$ H; icases H with ⟨H1, H⟩
  ihave H := (sepL_two y z Φ) $$ H; icases H with ⟨H2, H3⟩
  isplitl [H1]; · iexact H1
  isplitl [H2]; · iexact H2
  iexact H3
/-- The duties at both ends of a transfer are its rights. -/
theorem tok_tr (c : Dev nD) (t : Tr) :
    iprop(sepL [(cellD c t.s, 0, (0 : Dev nD)), (cellD t.d t.r, 0, 0)] (fun x => dutyTok ER x.1 x.2.1 x.2.2) ∗ pos c t.s) ⊢ (trP c t : sProp 𝕄) := by
  unfold trP
  iintro ⟨H, H3⟩
  ihave H := (sepL_two _ _ _) $$ H; icases H with ⟨H1, H2⟩
  isplitl [H1]; · iexact H1
  isplitl [H2]; · iexact H2
  iexact H3

/-- A device's share of the set-up. -/
theorem share_intro (K : GSem nD τ sig → ℕ) (c : Dev nD) :
    iprop(records m K ∗ (sepL (cellsL c) (fun g => atPos ER g 0 ∅ 0) ∗ sepL (toksL c) (fun x => dutyTok ER x.1 x.2.1 x.2.2) ∗ spare c)) ⊢ G' m c := by
  unfold G' tok0 cellsL toksL
  iintro ⟨HR, HP, HT, HS⟩
  iexists K
  isplitl [HR]; · iexact HR
  isplitr [HS]
  · ihave HP := (sepL_out (barCell c) _ _) $$ HP; icases HP with ⟨HB, HP⟩
    ihave HP := (Entails.of_eq (sepL_map (cellD c) (used c) (fun g => atPos ER g 0 ∅ 0))) $$ HP
    unfold used
    ihave HP := (sepL_append ((trs c).map (·.s)) ((aws c).map (·.r)) _).1 $$ HP; icases HP with ⟨HP1, HP2⟩
    ihave HP1 := (Entails.of_eq (sepL_map (fun t : Tr => t.s) (trs c) (pos c))) $$ HP1
    ihave HP2 := (Entails.of_eq (sepL_map (fun w : Aw => w.r) (aws c) (pos c))) $$ HP2
    ihave HT := (sepL_append _ _ _).1 $$ HT; icases HT with ⟨T, HT⟩
    ihave T := (sepL_three _ _ _ _) $$ T; icases T with ⟨T1, T2, T3⟩
    ihave HT := (sepL_flat _ (trs c) _) $$ HT
    isplitl [T1]; · iexact T1
    isplitl [T2]; · iexact T2
    isplitl [T3]; · iexact T3
    isplitl [HB]; · iexact HB
    isplitr [HP2]
    · iapply (sepL_mono (trs c) (tok_tr c))
      iapply (sepL_sep (trs c) (fun t => sepL [(cellD c t.s, 0, 0), (cellD t.d t.r, 0, 0)] fun x => dutyTok ER x.1 x.2.1 x.2.2) (fun t => pos c t.s))
      isplitl [HT]; · iexact HT
      iexact HP1
    iexact HP2
  iexact HS

/-- A persistent fact serves every member. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' parts of the set-up, with what everyone knows. -/
theorem regroup : (bigSep Finset.univ fun c : Dev nD => mid m c : sProp 𝕄) ⊢ bigSep Finset.univ (G' m) := by
  unfold mid
  rw [bigSep_sep', bigSep_sep', ← cells_sep, ← cells_sep]
  iintro ⟨HI, #HR, HL⟩
  ihave HK := (BI.bigSep_exists_pi cells (fun (g : GSem nD τ sig) (κ : ℕ) => (cellInv ER (Rd m) κ g : sProp 𝕄))) $$ HI
  icases HK with ⟨%K, #HI⟩
  iapply (bigSep_with (R := records m K) fun c _ => share_intro m K c)
  isplitr
  · unfold records; isplitl; · iexact HI
    iexact HR
  · iexact HL

/-- The set-up of all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- Every debt is to a tensor core. -/
theorem due_tc (c : Dev nD) : ∀ x ∈ dueL c, x.1.1.2 = .tc := by
  intro x hx
  rcases List.mem_append.mp hx with h | h
  · unfold sigs at h; simp only [List.mem_cons, List.not_mem_nil, or_false] at h; rcases h with rfl | rfl | rfl <;> rfl
  · obtain ⟨t, -, rfl⟩ := List.mem_map.mp h; rfl

/-- The credits of device `c`, listed. -/
def credL (c : Dev nD) : List (Pay nD τ sig) := [(barCell c, 1, 1), (barCell c, 1, 1), (barCell c, 1, 1)] ++ (aws c).map fun w => (cellD c w.r, w.lev, w.N)
/-- The credits a device gets are those it waits for. -/
theorem cred_perm (c : Dev nD) : (TalkSites.credOf dueL c).Perm (credL c) := by revert c; decide +kernel

/-- So the launch gives each device its credits. -/
theorem creds_intro (c : Dev nD) : (Pipeline.launchCred (fun d => tallyL (dueL d)) c : sProp 𝕄) ⊢ creds0 c := by
  rw [TalkSites.launchCred_tallyL dueL due_tc c, TalkSites.cred_tallyL, sepL_of_bigSepL]
  iintro H
  ihave H := (sepL_perm (cred_perm c) _) $$ H
  unfold credL creds0
  ihave H := (sepL_append _ _ _).1 $$ H; icases H with ⟨T, H⟩
  ihave T := (sepL_three _ _ _ _) $$ T; icases T with ⟨H1, H2, H3⟩
  isplitr [H]
  · rw [show (tallyAt (barCell c) 1 3 : CellTallies nD τ sig ℕ) = tallyAt (barCell c) 1 1 + (tallyAt (barCell c) 1 1 + tallyAt (barCell c) 1 1) from by rw [tallyAt_add, tallyAt_add]]
    iapply (cred_add _ _).2
    isplitl [H1]; · iexact H1
    iapply (cred_add _ _).2
    isplitl [H2]; · iexact H2
    iexact H3
  · ihave H := (Entails.of_eq (sepL_map (fun w : Aw => ((cellD c w.r, w.lev, w.N) : Pay nD τ sig)) (aws c) _)) $$ H
    iexact H

end Cert.KernelIdealProof
-- ==== Proof.KI.Buf.lean ====
/-
The buffers of a device cut into gifts at the start, and put together at the end.
-/
module

public import proofs.«01_k».proof.Proof.KI.Deal

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

/-! ## The gifts -/

/-- What device 0 hands to device 1, as regions. -/
theorem gift_0_1 : (iprop(hole 0 cc0_scratch0 (bx3 1024 1152 0 8 0 128 : Finset S1152x8x128.Idx) ∗ hole 0 cc0_scratch1 (bx3 1024 1152 0 8 0 128 : Finset S1152x8x128.Idx) ∗ hole 0 cc0_scratch10 (bx3 2 3 0 256 512 1024 : Finset S4x256x1024.Idx) ∗ hole 0 cc0_scratch10 (bx3 3 4 0 256 512 1024 : Finset S4x256x1024.Idx) ∗ hole 0 cc0_scratch10 (bx3 0 1 0 256 512 1024 : Finset S4x256x1024.Idx) ∗ emp) : sProp 𝕄) ⊢ gift m 0 1 := BI.Entails.refl _
/-- What device 0 hands to device 2, as regions. -/
theorem gift_0_2 : (iprop(emp) : sProp 𝕄) ⊢ gift m 0 2 := BI.Entails.refl _
/-- What device 0 hands to device 3, as regions. -/
theorem gift_0_3 : (iprop(hole 0 cc0_scratch9 (bx3 0 1 0 256 0 1024 : Finset S3x256x1024.Idx) ∗ hole 0 cc0_scratch9 (bx3 1 2 0 256 0 1024 : Finset S3x256x1024.Idx) ∗ hole 0 cc0_scratch9 (bx3 2 3 0 256 0 1024 : Finset S3x256x1024.Idx) ∗ hole 0 cc0_scratch10 (bx3 0 1 0 256 0 512 : Finset S4x256x1024.Idx) ∗ hole 0 cc0_scratch10 (bx3 3 4 0 256 0 512 : Finset S4x256x1024.Idx) ∗ hole 0 cc0_scratch10 (bx3 2 3 0 256 0 512 : Finset S4x256x1024.Idx) ∗ emp) : sProp 𝕄) ⊢ gift m 0 3 := BI.Entails.refl _
/-- What device 1 hands to device 2, as regions. -/
theorem gift_1_2 : (iprop(hole 1 cc0_scratch10 (bx3 3 4 0 256 512 1024 : Finset S4x256x1024.Idx) ∗ hole 1 cc0_scratch10 (bx3 0 1 0 256 512 1024 : Finset S4x256x1024.Idx) ∗ hole 1 cc0_scratch10 (bx3 1 2 0 256 512 1024 : Finset S4x256x1024.Idx) ∗ emp) : sProp 𝕄) ⊢ gift m 1 2 := BI.Entails.refl _
/-- What device 1 hands to device 3, as regions. -/
theorem gift_1_3 : (iprop(emp) : sProp 𝕄) ⊢ gift m 1 3 := BI.Entails.refl _
/-- What device 1 hands to device 0, as regions. -/
theorem gift_1_0 : (iprop(hole 1 cc0_scratch7 (bx3 128 896 0 8 0 128 : Finset S1024x8x128.Idx) ∗ hole 1 cc0_scratch0 (bx3 0 640 0 8 0 128 : Finset S1152x8x128.Idx) ∗ hole 1 cc0_scratch1 (bx3 0 640 0 8 0 128 : Finset S1152x8x128.Idx) ∗ hole 1 cc0_scratch0 (bx3 640 1024 0 8 0 128 : Finset S1152x8x128.Idx) ∗ hole 1 cc0_scratch1 (bx3 640 1024 0 8 0 128 : Finset S1152x8x128.Idx) ∗ hole 1 cc0_scratch7 (bx3 0 128 0 8 0 128 : Finset S1024x8x128.Idx) ∗ hole 1 cc0_scratch7 (bx3 896 1024 0 8 0 128 : Finset S1024x8x128.Idx) ∗ hole 1 cc0_scratch9 (bx3 0 1 0 256 0 1024 : Finset S3x256x1024.Idx) ∗ hole 1 cc0_scratch9 (bx3 1 2 0 256 0 1024 : Finset S3x256x1024.Idx) ∗ hole 1 cc0_scratch9 (bx3 2 3 0 256 0 1024 : Finset S3x256x1024.Idx) ∗ hole 1 cc0_scratch10 (bx3 1 2 0 256 0 512 : Finset S4x256x1024.Idx) ∗ hole 1 cc0_scratch10 (bx3 0 1 0 256 0 512 : Finset S4x256x1024.Idx) ∗ hole 1 cc0_scratch10 (bx3 3 4 0 256 0 512 : Finset S4x256x1024.Idx) ∗ emp) : sProp 𝕄) ⊢ gift m 1 0 := BI.Entails.refl _
/-- What device 2 hands to device 3, as regions. -/
theorem gift_2_3 : (iprop(hole 2 cc0_scratch1 (bx3 128 896 0 8 0 128 : Finset S1152x8x128.Idx) ∗ hole 2 cc0_scratch1 (bx3 0 128 0 8 0 128 : Finset S1152x8x128.Idx) ∗ hole 2 cc0_scratch1 (bx3 896 1024 0 8 0 128 : Finset S1152x8x128.Idx) ∗ hole 2 cc0_scratch10 (bx3 0 1 0 256 512 1024 : Finset S4x256x1024.Idx) ∗ hole 2 cc0_scratch10 (bx3 1 2 0 256 512 1024 : Finset S4x256x1024.Idx) ∗ hole 2 cc0_scratch10 (bx3 2 3 0 256 512 1024 : Finset S4x256x1024.Idx) ∗ emp) : sProp 𝕄) ⊢ gift m 2 3 := BI.Entails.refl _
/-- What device 2 hands to device 0, as regions. -/
theorem gift_2_0 : (iprop(emp) : sProp 𝕄) ⊢ gift m 2 0 := BI.Entails.refl _
/-- What device 2 hands to device 1, as regions. -/
theorem gift_2_1 : (iprop(hole 2 cc0_scratch0 (bx3 1024 1152 0 8 0 128 : Finset S1152x8x128.Idx) ∗ hole 2 cc0_scratch1 (bx3 1024 1152 0 8 0 128 : Finset S1152x8x128.Idx) ∗ hole 2 cc0_scratch0 (bx3 128 896 0 8 0 128 : Finset S1152x8x128.Idx) ∗ hole 2 cc0_scratch9 (bx3 0 1 0 256 0 1024 : Finset S3x256x1024.Idx) ∗ hole 2 cc0_scratch9 (bx3 1 2 0 256 0 1024 : Finset S3x256x1024.Idx) ∗ hole 2 cc0_scratch0 (bx3 0 128 0 8 0 128 : Finset S1152x8x128.Idx) ∗ hole 2 cc0_scratch0 (bx3 896 1024 0 8 0 128 : Finset S1152x8x128.Idx) ∗ hole 2 cc0_scratch9 (bx3 2 3 0 256 0 1024 : Finset S3x256x1024.Idx) ∗ hole 2 cc0_scratch10 (bx3 2 3 0 256 0 512 : Finset S4x256x1024.Idx) ∗ hole 2 cc0_scratch10 (bx3 1 2 0 256 0 512 : Finset S4x256x1024.Idx) ∗ hole 2 cc0_scratch10 (bx3 0 1 0 256 0 512 : Finset S4x256x1024.Idx) ∗ emp) : sProp 𝕄) ⊢ gift m 2 1 := BI.Entails.refl _
/-- What device 3 hands to device 0, as regions. -/
theorem gift_3_0 : (iprop(hole 3 cc0_scratch0 (bx3 384 1024 0 8 0 128 : Finset S1152x8x128.Idx) ∗ hole 3 cc0_scratch7 (bx3 128 896 0 8 0 128 : Finset S1024x8x128.Idx) ∗ hole 3 cc0_scratch1 (bx3 384 1024 0 8 0 128 : Finset S1152x8x128.Idx) ∗ hole 3 cc0_scratch0 (bx3 0 384 0 8 0 128 : Finset S1152x8x128.Idx) ∗ hole 3 cc0_scratch1 (bx3 0 384 0 8 0 128 : Finset S1152x8x128.Idx) ∗ hole 3 cc0_scratch7 (bx3 0 128 0 8 0 128 : Finset S1024x8x128.Idx) ∗ hole 3 cc0_scratch7 (bx3 896 1024 0 8 0 128 : Finset S1024x8x128.Idx) ∗ hole 3 cc0_scratch10 (bx3 1 2 0 256 512 1024 : Finset S4x256x1024.Idx) ∗ hole 3 cc0_scratch10 (bx3 2 3 0 256 512 1024 : Finset S4x256x1024.Idx) ∗ hole 3 cc0_scratch10 (bx3 3 4 0 256 512 1024 : Finset S4x256x1024.Idx) ∗ emp) : sProp 𝕄) ⊢ gift m 3 0 := BI.Entails.refl _
/-- What device 3 hands to device 1, as regions. -/
theorem gift_3_1 : (iprop(hole 3 cc0_scratch0 (bx3 1024 1152 0 8 0 128 : Finset S1152x8x128.Idx) ∗ hole 3 cc0_scratch1 (bx3 1024 1152 0 8 0 128 : Finset S1152x8x128.Idx) ∗ emp) : sProp 𝕄) ⊢ gift m 3 1 := BI.Entails.refl _
/-- What device 3 hands to device 2, as regions. -/
theorem gift_3_2 : (iprop(hole 3 cc0_scratch9 (bx3 0 1 0 256 0 1024 : Finset S3x256x1024.Idx) ∗ hole 3 cc0_scratch9 (bx3 1 2 0 256 0 1024 : Finset S3x256x1024.Idx) ∗ hole 3 cc0_scratch9 (bx3 2 3 0 256 0 1024 : Finset S3x256x1024.Idx) ∗ hole 3 cc0_scratch10 (bx3 3 4 0 256 0 512 : Finset S4x256x1024.Idx) ∗ hole 3 cc0_scratch10 (bx3 2 3 0 256 0 512 : Finset S4x256x1024.Idx) ∗ hole 3 cc0_scratch10 (bx3 1 2 0 256 0 512 : Finset S4x256x1024.Idx) ∗ emp) : sProp 𝕄) ⊢ gift m 3 2 := BI.Entails.refl _

/-- The window rows held at stage 0 on device 0, put together. -/
theorem own0_0' : (iprop((kbR m 0 0 1024).hole 0 ∗ (vbR m 0 0 1024).hole 0) : sProp 𝕄) ⊢ own0 m 0 := BI.Entails.refl _
/-- The relay buffer at the start, on device 0. -/
theorem rl0_0' : (iprop(hole 0 cc0_scratch7 (Finset.univ : Finset S1024x8x128.Idx)) : sProp 𝕄) ⊢ rl0 0 := BI.Entails.refl _
/-- Device 0's own slot of the buffer of finished blocks. -/
theorem agH_0' : (hole 0 cc0_scratch10 (bx3 1 2 0 256 0 1024 : Finset S4x256x1024.Idx) : sProp 𝕄) ⊢ agH 0 := BI.Entails.refl _
/-- The three gifts of device 0. -/
theorem gifts_0 : gift m 0 1 ⊢ (iprop((gift m 0 2 ∗ gift m 0 3) -∗ gifts m 0) : sProp 𝕄) := by
  iintro H1 H2; unfold gifts; isplitl [H1]; · iexact H1
  iexact H2
/-- The window rows held at stage 0 on device 1, put together. -/
theorem own0_1' : (iprop((kbR m 1 1024 1152).hole 1 ∗ (vbR m 1 1024 1152).hole 1) : sProp 𝕄) ⊢ own0 m 1 := BI.Entails.refl _
/-- The relay buffer at the start, on device 1. -/
theorem rl0_1' : (iprop(emp) : sProp 𝕄) ⊢ rl0 1 := BI.Entails.refl _
/-- Device 1's own slot of the buffer of finished blocks. -/
theorem agH_1' : (hole 1 cc0_scratch10 (bx3 2 3 0 256 0 1024 : Finset S4x256x1024.Idx) : sProp 𝕄) ⊢ agH 1 := BI.Entails.refl _
/-- The three gifts of device 1. -/
theorem gifts_1 : gift m 1 2 ⊢ (iprop((gift m 1 3 ∗ gift m 1 0) -∗ gifts m 1) : sProp 𝕄) := by
  iintro H1 H2; unfold gifts; isplitl [H1]; · iexact H1
  iexact H2
/-- The window rows held at stage 0 on device 2, put together. -/
theorem own0_2' : (iprop(emp) : sProp 𝕄) ⊢ own0 m 2 := BI.Entails.refl _
/-- The relay buffer at the start, on device 2. -/
theorem rl0_2' : (iprop(hole 2 cc0_scratch7 (Finset.univ : Finset S1024x8x128.Idx)) : sProp 𝕄) ⊢ rl0 2 := BI.Entails.refl _
/-- Device 2's own slot of the buffer of finished blocks. -/
theorem agH_2' : (hole 2 cc0_scratch10 (bx3 3 4 0 256 0 1024 : Finset S4x256x1024.Idx) : sProp 𝕄) ⊢ agH 2 := BI.Entails.refl _
/-- The three gifts of device 2. -/
theorem gifts_2 : gift m 2 3 ⊢ (iprop((gift m 2 0 ∗ gift m 2 1) -∗ gifts m 2) : sProp 𝕄) := by
  iintro H1 H2; unfold gifts; isplitl [H1]; · iexact H1
  iexact H2
/-- The window rows held at stage 0 on device 3, put together. -/
theorem own0_3' : (iprop(emp) : sProp 𝕄) ⊢ own0 m 3 := BI.Entails.refl _
/-- The relay buffer at the start, on device 3. -/
theorem rl0_3' : (iprop(emp) : sProp 𝕄) ⊢ rl0 3 := BI.Entails.refl _
/-- Device 3's own slot of the buffer of finished blocks. -/
theorem agH_3' : (hole 3 cc0_scratch10 (bx3 0 1 0 256 0 1024 : Finset S4x256x1024.Idx) : sProp 𝕄) ⊢ agH 3 := BI.Entails.refl _
/-- The three gifts of device 3. -/
theorem gifts_3 : gift m 3 0 ⊢ (iprop((gift m 3 1 ∗ gift m 3 2) -∗ gifts m 3) : sProp 𝕄) := by
  iintro H1 H2; unfold gifts; isplitl [H1]; · iexact H1
  iexact H2

/-- The buffers that others write, whole. -/
def raw (c : Dev nD) : sProp 𝕄 :=
  iprop(hole c cc0_scratch0 (Finset.univ : Finset S1152x8x128.Idx) ∗ hole c cc0_scratch1 (Finset.univ : Finset S1152x8x128.Idx) ∗ hole c cc0_scratch7 (Finset.univ : Finset S1024x8x128.Idx)
    ∗ hole c cc0_scratch9 (Finset.univ : Finset S3x256x1024.Idx) ∗ hole c cc0_scratch10 (Finset.univ : Finset S4x256x1024.Idx))

/-- Device 0's buffers split into its gifts and what it keeps. -/
theorem raw_0 : raw 0 ⊢ (iprop(gifts m 0 ∗ own0 m 0 ∗ rl0 0 ∗ agH 0) : sProp 𝕄) := by
  unfold raw
  iintro ⟨H0, H1, H7, H9, H10⟩
  ihave H7 := (rl0_0') $$ H7
  ihave H0 := (Entails.of_eq (congrArg (hole 0 cc0_scratch0) (bx3_univ (n0 := 1152) (n1 := 8) (n2 := 128)).symm)) $$ H0
  ihave H0 := (hole_cut 0 cc0_scratch0 (cut0 0 1024 1152 0 8 0 128 (by decide))) $$ H0; icases H0 with ⟨P0_1, H0⟩
  ihave H1 := (Entails.of_eq (congrArg (hole 0 cc0_scratch1) (bx3_univ (n0 := 1152) (n1 := 8) (n2 := 128)).symm)) $$ H1
  ihave H1 := (hole_cut 0 cc0_scratch1 (cut0 0 1024 1152 0 8 0 128 (by decide))) $$ H1; icases H1 with ⟨P1_1, H1⟩
  ihave H9 := (Entails.of_eq (congrArg (hole 0 cc0_scratch9) (bx3_univ (n0 := 3) (n1 := 256) (n2 := 1024)).symm)) $$ H9
  ihave H9 := (hole_cut 0 cc0_scratch9 (cut0 0 1 3 0 256 0 1024 (by decide))) $$ H9; icases H9 with ⟨P9_1, H9⟩
  ihave H9 := (hole_cut 0 cc0_scratch9 (cut0 1 2 3 0 256 0 1024 (by decide))) $$ H9; icases H9 with ⟨P9_2, H9⟩
  ihave H10 := (Entails.of_eq (congrArg (hole 0 cc0_scratch10) (bx3_univ (n0 := 4) (n1 := 256) (n2 := 1024)).symm)) $$ H10
  ihave H10 := (hole_cut 0 cc0_scratch10 (cut0 0 1 4 0 256 0 1024 (by decide))) $$ H10; icases H10 with ⟨P10_1, H10⟩
  ihave H10 := (hole_cut 0 cc0_scratch10 (cut0 1 2 4 0 256 0 1024 (by decide))) $$ H10; icases H10 with ⟨P10_2, H10⟩
  ihave H10 := (hole_cut 0 cc0_scratch10 (cut0 2 3 4 0 256 0 1024 (by decide))) $$ H10; icases H10 with ⟨P10_3, H10⟩
  ihave P10_1 := (hole_cut 0 cc0_scratch10 (cut2 0 1 0 256 0 512 1024 (by decide))) $$ P10_1; icases P10_1 with ⟨L0, R0⟩
  ihave P10_3 := (hole_cut 0 cc0_scratch10 (cut2 2 3 0 256 0 512 1024 (by decide))) $$ P10_3; icases P10_3 with ⟨L2, R2⟩
  ihave H10 := (hole_cut 0 cc0_scratch10 (cut2 3 4 0 256 0 512 1024 (by decide))) $$ H10; icases H10 with ⟨L3, R3⟩
  ihave G1 := (gift_0_1 m) $$ [H0 H1 R2 R3 R0]
  · isplitl [H0]; · iexact H0
    isplitl [H1]; · iexact H1
    isplitl [R2]; · iexact R2
    isplitl [R3]; · iexact R3
    isplitl [R0]; · iexact R0
    iempintro
  ihave G2 := (gift_0_2 m) $$ []
  ·     iempintro
  ihave G3 := (gift_0_3 m) $$ [P9_1 P9_2 H9 L0 L3 L2]
  · isplitl [P9_1]; · iexact P9_1
    isplitl [P9_2]; · iexact P9_2
    isplitl [H9]; · iexact H9
    isplitl [L0]; · iexact L0
    isplitl [L3]; · iexact L3
    isplitl [L2]; · iexact L2
    iempintro
  isplitl [G1 G2 G3]
  · iapply (gifts_0 m) $$ G1; isplitl [G2]; · iexact G2
    iexact G3
  isplitl [P0_1 P1_1]
  · iapply (own0_0' m); isplitl [P0_1]; · iapply (holeI (kbR m 0 0 1024) 0); iexact P0_1
    iapply (holeI (vbR m 0 0 1024) 0); iexact P1_1
  isplitl [H7]; · iexact H7
  iapply (agH_0'); iexact P10_2

/-- Device 1's buffers split into its gifts and what it keeps. -/
theorem raw_1 : raw 1 ⊢ (iprop(gifts m 1 ∗ own0 m 1 ∗ rl0 1 ∗ agH 1) : sProp 𝕄) := by
  unfold raw
  iintro ⟨H0, H1, H7, H9, H10⟩
  ihave H0 := (Entails.of_eq (congrArg (hole 1 cc0_scratch0) (bx3_univ (n0 := 1152) (n1 := 8) (n2 := 128)).symm)) $$ H0
  ihave H0 := (hole_cut 1 cc0_scratch0 (cut0 0 640 1152 0 8 0 128 (by decide))) $$ H0; icases H0 with ⟨P0_1, H0⟩
  ihave H0 := (hole_cut 1 cc0_scratch0 (cut0 640 1024 1152 0 8 0 128 (by decide))) $$ H0; icases H0 with ⟨P0_2, H0⟩
  ihave H1 := (Entails.of_eq (congrArg (hole 1 cc0_scratch1) (bx3_univ (n0 := 1152) (n1 := 8) (n2 := 128)).symm)) $$ H1
  ihave H1 := (hole_cut 1 cc0_scratch1 (cut0 0 640 1152 0 8 0 128 (by decide))) $$ H1; icases H1 with ⟨P1_1, H1⟩
  ihave H1 := (hole_cut 1 cc0_scratch1 (cut0 640 1024 1152 0 8 0 128 (by decide))) $$ H1; icases H1 with ⟨P1_2, H1⟩
  ihave H7 := (Entails.of_eq (congrArg (hole 1 cc0_scratch7) (bx3_univ (n0 := 1024) (n1 := 8) (n2 := 128)).symm)) $$ H7
  ihave H7 := (hole_cut 1 cc0_scratch7 (cut0 0 128 1024 0 8 0 128 (by decide))) $$ H7; icases H7 with ⟨P7_1, H7⟩
  ihave H7 := (hole_cut 1 cc0_scratch7 (cut0 128 896 1024 0 8 0 128 (by decide))) $$ H7; icases H7 with ⟨P7_2, H7⟩
  ihave H9 := (Entails.of_eq (congrArg (hole 1 cc0_scratch9) (bx3_univ (n0 := 3) (n1 := 256) (n2 := 1024)).symm)) $$ H9
  ihave H9 := (hole_cut 1 cc0_scratch9 (cut0 0 1 3 0 256 0 1024 (by decide))) $$ H9; icases H9 with ⟨P9_1, H9⟩
  ihave H9 := (hole_cut 1 cc0_scratch9 (cut0 1 2 3 0 256 0 1024 (by decide))) $$ H9; icases H9 with ⟨P9_2, H9⟩
  ihave H10 := (Entails.of_eq (congrArg (hole 1 cc0_scratch10) (bx3_univ (n0 := 4) (n1 := 256) (n2 := 1024)).symm)) $$ H10
  ihave H10 := (hole_cut 1 cc0_scratch10 (cut0 0 1 4 0 256 0 1024 (by decide))) $$ H10; icases H10 with ⟨P10_1, H10⟩
  ihave H10 := (hole_cut 1 cc0_scratch10 (cut0 1 2 4 0 256 0 1024 (by decide))) $$ H10; icases H10 with ⟨P10_2, H10⟩
  ihave H10 := (hole_cut 1 cc0_scratch10 (cut0 2 3 4 0 256 0 1024 (by decide))) $$ H10; icases H10 with ⟨P10_3, H10⟩
  ihave P10_1 := (hole_cut 1 cc0_scratch10 (cut2 0 1 0 256 0 512 1024 (by decide))) $$ P10_1; icases P10_1 with ⟨L0, R0⟩
  ihave P10_2 := (hole_cut 1 cc0_scratch10 (cut2 1 2 0 256 0 512 1024 (by decide))) $$ P10_2; icases P10_2 with ⟨L1, R1⟩
  ihave H10 := (hole_cut 1 cc0_scratch10 (cut2 3 4 0 256 0 512 1024 (by decide))) $$ H10; icases H10 with ⟨L3, R3⟩
  ihave G2 := (gift_1_2 m) $$ [R3 R0 R1]
  · isplitl [R3]; · iexact R3
    isplitl [R0]; · iexact R0
    isplitl [R1]; · iexact R1
    iempintro
  ihave G3 := (gift_1_3 m) $$ []
  ·     iempintro
  ihave G0 := (gift_1_0 m) $$ [P7_2 P0_1 P1_1 P0_2 P1_2 P7_1 H7 P9_1 P9_2 H9 L1 L0 L3]
  · isplitl [P7_2]; · iexact P7_2
    isplitl [P0_1]; · iexact P0_1
    isplitl [P1_1]; · iexact P1_1
    isplitl [P0_2]; · iexact P0_2
    isplitl [P1_2]; · iexact P1_2
    isplitl [P7_1]; · iexact P7_1
    isplitl [H7]; · iexact H7
    isplitl [P9_1]; · iexact P9_1
    isplitl [P9_2]; · iexact P9_2
    isplitl [H9]; · iexact H9
    isplitl [L1]; · iexact L1
    isplitl [L0]; · iexact L0
    isplitl [L3]; · iexact L3
    iempintro
  isplitl [G2 G3 G0]
  · iapply (gifts_1 m) $$ G2; isplitl [G3]; · iexact G3
    iexact G0
  isplitl [H0 H1]
  · iapply (own0_1' m); isplitl [H0]; · iapply (holeI (kbR m 1 1024 1152) 1); iexact H0
    iapply (holeI (vbR m 1 1024 1152) 1); iexact H1
  isplitr; · iapply (rl0_1'); iempintro
  iapply (agH_1'); iexact P10_3

/-- Device 2's buffers split into its gifts and what it keeps. -/
theorem raw_2 : raw 2 ⊢ (iprop(gifts m 2 ∗ own0 m 2 ∗ rl0 2 ∗ agH 2) : sProp 𝕄) := by
  unfold raw
  iintro ⟨H0, H1, H7, H9, H10⟩
  ihave H7 := (rl0_2') $$ H7
  ihave H0 := (Entails.of_eq (congrArg (hole 2 cc0_scratch0) (bx3_univ (n0 := 1152) (n1 := 8) (n2 := 128)).symm)) $$ H0
  ihave H0 := (hole_cut 2 cc0_scratch0 (cut0 0 128 1152 0 8 0 128 (by decide))) $$ H0; icases H0 with ⟨P0_1, H0⟩
  ihave H0 := (hole_cut 2 cc0_scratch0 (cut0 128 896 1152 0 8 0 128 (by decide))) $$ H0; icases H0 with ⟨P0_2, H0⟩
  ihave H0 := (hole_cut 2 cc0_scratch0 (cut0 896 1024 1152 0 8 0 128 (by decide))) $$ H0; icases H0 with ⟨P0_3, H0⟩
  ihave H1 := (Entails.of_eq (congrArg (hole 2 cc0_scratch1) (bx3_univ (n0 := 1152) (n1 := 8) (n2 := 128)).symm)) $$ H1
  ihave H1 := (hole_cut 2 cc0_scratch1 (cut0 0 128 1152 0 8 0 128 (by decide))) $$ H1; icases H1 with ⟨P1_1, H1⟩
  ihave H1 := (hole_cut 2 cc0_scratch1 (cut0 128 896 1152 0 8 0 128 (by decide))) $$ H1; icases H1 with ⟨P1_2, H1⟩
  ihave H1 := (hole_cut 2 cc0_scratch1 (cut0 896 1024 1152 0 8 0 128 (by decide))) $$ H1; icases H1 with ⟨P1_3, H1⟩
  ihave H9 := (Entails.of_eq (congrArg (hole 2 cc0_scratch9) (bx3_univ (n0 := 3) (n1 := 256) (n2 := 1024)).symm)) $$ H9
  ihave H9 := (hole_cut 2 cc0_scratch9 (cut0 0 1 3 0 256 0 1024 (by decide))) $$ H9; icases H9 with ⟨P9_1, H9⟩
  ihave H9 := (hole_cut 2 cc0_scratch9 (cut0 1 2 3 0 256 0 1024 (by decide))) $$ H9; icases H9 with ⟨P9_2, H9⟩
  ihave H10 := (Entails.of_eq (congrArg (hole 2 cc0_scratch10) (bx3_univ (n0 := 4) (n1 := 256) (n2 := 1024)).symm)) $$ H10
  ihave H10 := (hole_cut 2 cc0_scratch10 (cut0 0 1 4 0 256 0 1024 (by decide))) $$ H10; icases H10 with ⟨P10_1, H10⟩
  ihave H10 := (hole_cut 2 cc0_scratch10 (cut0 1 2 4 0 256 0 1024 (by decide))) $$ H10; icases H10 with ⟨P10_2, H10⟩
  ihave H10 := (hole_cut 2 cc0_scratch10 (cut0 2 3 4 0 256 0 1024 (by decide))) $$ H10; icases H10 with ⟨P10_3, H10⟩
  ihave P10_1 := (hole_cut 2 cc0_scratch10 (cut2 0 1 0 256 0 512 1024 (by decide))) $$ P10_1; icases P10_1 with ⟨L0, R0⟩
  ihave P10_2 := (hole_cut 2 cc0_scratch10 (cut2 1 2 0 256 0 512 1024 (by decide))) $$ P10_2; icases P10_2 with ⟨L1, R1⟩
  ihave P10_3 := (hole_cut 2 cc0_scratch10 (cut2 2 3 0 256 0 512 1024 (by decide))) $$ P10_3; icases P10_3 with ⟨L2, R2⟩
  ihave G3 := (gift_2_3 m) $$ [P1_2 P1_1 P1_3 R0 R1 R2]
  · isplitl [P1_2]; · iexact P1_2
    isplitl [P1_1]; · iexact P1_1
    isplitl [P1_3]; · iexact P1_3
    isplitl [R0]; · iexact R0
    isplitl [R1]; · iexact R1
    isplitl [R2]; · iexact R2
    iempintro
  ihave G0 := (gift_2_0 m) $$ []
  ·     iempintro
  ihave G1 := (gift_2_1 m) $$ [H0 H1 P0_2 P9_1 P9_2 P0_1 P0_3 H9 L2 L1 L0]
  · isplitl [H0]; · iexact H0
    isplitl [H1]; · iexact H1
    isplitl [P0_2]; · iexact P0_2
    isplitl [P9_1]; · iexact P9_1
    isplitl [P9_2]; · iexact P9_2
    isplitl [P0_1]; · iexact P0_1
    isplitl [P0_3]; · iexact P0_3
    isplitl [H9]; · iexact H9
    isplitl [L2]; · iexact L2
    isplitl [L1]; · iexact L1
    isplitl [L0]; · iexact L0
    iempintro
  isplitl [G3 G0 G1]
  · iapply (gifts_2 m) $$ G3; isplitl [G0]; · iexact G0
    iexact G1
  isplitr; · iapply (own0_2' m); iempintro
  isplitl [H7]; · iexact H7
  iapply (agH_2'); iexact H10

/-- Device 3's buffers split into its gifts and what it keeps. -/
theorem raw_3 : raw 3 ⊢ (iprop(gifts m 3 ∗ own0 m 3 ∗ rl0 3 ∗ agH 3) : sProp 𝕄) := by
  unfold raw
  iintro ⟨H0, H1, H7, H9, H10⟩
  ihave H0 := (Entails.of_eq (congrArg (hole 3 cc0_scratch0) (bx3_univ (n0 := 1152) (n1 := 8) (n2 := 128)).symm)) $$ H0
  ihave H0 := (hole_cut 3 cc0_scratch0 (cut0 0 384 1152 0 8 0 128 (by decide))) $$ H0; icases H0 with ⟨P0_1, H0⟩
  ihave H0 := (hole_cut 3 cc0_scratch0 (cut0 384 1024 1152 0 8 0 128 (by decide))) $$ H0; icases H0 with ⟨P0_2, H0⟩
  ihave H1 := (Entails.of_eq (congrArg (hole 3 cc0_scratch1) (bx3_univ (n0 := 1152) (n1 := 8) (n2 := 128)).symm)) $$ H1
  ihave H1 := (hole_cut 3 cc0_scratch1 (cut0 0 384 1152 0 8 0 128 (by decide))) $$ H1; icases H1 with ⟨P1_1, H1⟩
  ihave H1 := (hole_cut 3 cc0_scratch1 (cut0 384 1024 1152 0 8 0 128 (by decide))) $$ H1; icases H1 with ⟨P1_2, H1⟩
  ihave H7 := (Entails.of_eq (congrArg (hole 3 cc0_scratch7) (bx3_univ (n0 := 1024) (n1 := 8) (n2 := 128)).symm)) $$ H7
  ihave H7 := (hole_cut 3 cc0_scratch7 (cut0 0 128 1024 0 8 0 128 (by decide))) $$ H7; icases H7 with ⟨P7_1, H7⟩
  ihave H7 := (hole_cut 3 cc0_scratch7 (cut0 128 896 1024 0 8 0 128 (by decide))) $$ H7; icases H7 with ⟨P7_2, H7⟩
  ihave H9 := (Entails.of_eq (congrArg (hole 3 cc0_scratch9) (bx3_univ (n0 := 3) (n1 := 256) (n2 := 1024)).symm)) $$ H9
  ihave H9 := (hole_cut 3 cc0_scratch9 (cut0 0 1 3 0 256 0 1024 (by decide))) $$ H9; icases H9 with ⟨P9_1, H9⟩
  ihave H9 := (hole_cut 3 cc0_scratch9 (cut0 1 2 3 0 256 0 1024 (by decide))) $$ H9; icases H9 with ⟨P9_2, H9⟩
  ihave H10 := (Entails.of_eq (congrArg (hole 3 cc0_scratch10) (bx3_univ (n0 := 4) (n1 := 256) (n2 := 1024)).symm)) $$ H10
  ihave H10 := (hole_cut 3 cc0_scratch10 (cut0 0 1 4 0 256 0 1024 (by decide))) $$ H10; icases H10 with ⟨P10_1, H10⟩
  ihave H10 := (hole_cut 3 cc0_scratch10 (cut0 1 2 4 0 256 0 1024 (by decide))) $$ H10; icases H10 with ⟨P10_2, H10⟩
  ihave H10 := (hole_cut 3 cc0_scratch10 (cut0 2 3 4 0 256 0 1024 (by decide))) $$ H10; icases H10 with ⟨P10_3, H10⟩
  ihave P10_2 := (hole_cut 3 cc0_scratch10 (cut2 1 2 0 256 0 512 1024 (by decide))) $$ P10_2; icases P10_2 with ⟨L1, R1⟩
  ihave P10_3 := (hole_cut 3 cc0_scratch10 (cut2 2 3 0 256 0 512 1024 (by decide))) $$ P10_3; icases P10_3 with ⟨L2, R2⟩
  ihave H10 := (hole_cut 3 cc0_scratch10 (cut2 3 4 0 256 0 512 1024 (by decide))) $$ H10; icases H10 with ⟨L3, R3⟩
  ihave G0 := (gift_3_0 m) $$ [P0_2 P7_2 P1_2 P0_1 P1_1 P7_1 H7 R1 R2 R3]
  · isplitl [P0_2]; · iexact P0_2
    isplitl [P7_2]; · iexact P7_2
    isplitl [P1_2]; · iexact P1_2
    isplitl [P0_1]; · iexact P0_1
    isplitl [P1_1]; · iexact P1_1
    isplitl [P7_1]; · iexact P7_1
    isplitl [H7]; · iexact H7
    isplitl [R1]; · iexact R1
    isplitl [R2]; · iexact R2
    isplitl [R3]; · iexact R3
    iempintro
  ihave G1 := (gift_3_1 m) $$ [H0 H1]
  · isplitl [H0]; · iexact H0
    isplitl [H1]; · iexact H1
    iempintro
  ihave G2 := (gift_3_2 m) $$ [P9_1 P9_2 H9 L3 L2 L1]
  · isplitl [P9_1]; · iexact P9_1
    isplitl [P9_2]; · iexact P9_2
    isplitl [H9]; · iexact H9
    isplitl [L3]; · iexact L3
    isplitl [L2]; · iexact L2
    isplitl [L1]; · iexact L1
    iempintro
  isplitl [G0 G1 G2]
  · iapply (gifts_3 m) $$ G0; isplitl [G1]; · iexact G1
    iexact G2
  isplitr; · iapply (own0_3' m); iempintro
  isplitr; · iapply (rl0_3'); iempintro
  iapply (agH_3'); iexact P10_1

/-- What a device gives away and what it keeps of the buffers that others write. -/
theorem raw_cut (c : Dev nD) : raw c ⊢ (iprop(gifts m c ∗ own0 m c ∗ rl0 c ∗ agH c) : sProp 𝕄) := by
  rcases dev_cases c with rfl | rfl | rfl | rfl
  · exact raw_0 m
  · exact raw_1 m
  · exact raw_2 m
  · exact raw_3 m

/-- The slots of the partial sums. -/
theorem rs_cut (c : Dev nD) : hole c cc0_scratch8 (Finset.univ : Finset S3x256x1024.Idx) ⊢ (iprop((rsR m c 0).hole c ∗ (rsR m c 1).hole c ∗ (rsR m c 2).hole c) : sProp 𝕄) := by
  rw [← bx3_univ]
  iintro H
  ihave H := (hole_cut c cc0_scratch8 (cut0 0 1 3 0 256 0 1024 (by decide))) $$ H; icases H with ⟨H0, H⟩
  ihave H := (hole_cut c cc0_scratch8 (cut0 1 2 3 0 256 0 1024 (by decide))) $$ H; icases H with ⟨H1, H⟩
  isplitl [H0]; · iapply (holeI (rsR m c 0) c); iexact H0
  isplitl [H1]; · iapply (holeI (rsR m c 1) c); iexact H1
  iapply (holeI (rsR m c 2) c); iexact H

/-- The blocks of the result. -/
theorem out_cut (c : Dev nD) : hole c cc0_stg3_0 (Finset.univ : Finset S1x1024x1024.Idx) ⊢ (iprop(oH c (cb c 0) ∗ oH c (cb c 1) ∗ oH c (cb c 2) ∗ oH c (cb c 3)) : sProp 𝕄) := by
  rw [← bx3_univ]
  iintro H
  ihave H := (hole_cut c cc0_stg3_0 (cut1 0 1 0 256 1024 0 1024 (by decide))) $$ H; icases H with ⟨H0, H⟩
  ihave H := (hole_cut c cc0_stg3_0 (cut1 0 1 256 512 1024 0 1024 (by decide))) $$ H; icases H with ⟨H1, H⟩
  ihave H := (hole_cut c cc0_stg3_0 (cut1 0 1 512 768 1024 0 1024 (by decide))) $$ H; icases H with ⟨H2, H3⟩
  ihave H0 := (show (hole c cc0_stg3_0 (bx3 0 1 0 256 0 1024 : Finset S1x1024x1024.Idx) : sProp 𝕄) ⊢ oH c 0 from BI.Entails.refl _) $$ H0
  ihave H1 := (show (hole c cc0_stg3_0 (bx3 0 1 256 512 0 1024 : Finset S1x1024x1024.Idx) : sProp 𝕄) ⊢ oH c 1 from BI.Entails.refl _) $$ H1
  ihave H2 := (show (hole c cc0_stg3_0 (bx3 0 1 512 768 0 1024 : Finset S1x1024x1024.Idx) : sProp 𝕄) ⊢ oH c 2 from BI.Entails.refl _) $$ H2
  ihave H3 := (show (hole c cc0_stg3_0 (bx3 0 1 768 1024 0 1024 : Finset S1x1024x1024.Idx) : sProp 𝕄) ⊢ oH c 3 from BI.Entails.refl _) $$ H3
  have h : (cb c 0 = 0 ∧ cb c 1 = 3 ∧ cb c 2 = 2 ∧ cb c 3 = 1) ∨ (cb c 0 = 1 ∧ cb c 1 = 0 ∧ cb c 2 = 3 ∧ cb c 3 = 2) ∨ (cb c 0 = 2 ∧ cb c 1 = 1 ∧ cb c 2 = 0 ∧ cb c 3 = 3)
    ∨ (cb c 0 = 3 ∧ cb c 1 = 2 ∧ cb c 2 = 1 ∧ cb c 3 = 0) := by revert c; decide
  rcases h with ⟨e0, e1, e2, e3⟩ | ⟨e0, e1, e2, e3⟩ | ⟨e0, e1, e2, e3⟩ | ⟨e0, e1, e2, e3⟩ <;> rw [e0, e1, e2, e3]
  · isplitl [H0]; · iexact H0
    isplitl [H3]; · iexact H3
    isplitl [H2]; · iexact H2
    iexact H1
  · isplitl [H1]; · iexact H1
    isplitl [H0]; · iexact H0
    isplitl [H3]; · iexact H3
    iexact H2
  · isplitl [H2]; · iexact H2
    isplitl [H1]; · iexact H1
    isplitl [H0]; · iexact H0
    iexact H3
  · isplitl [H3]; · iexact H3
    isplitl [H2]; · iexact H2
    isplitl [H1]; · iexact H1
    iexact H0

/-! ## At the end -/

/-- The three slots of the send buffer are the whole of it. -/
theorem rs_join (c : Dev nD) : iprop((rsR m c 0).full c ∗ (rsR m c 1).full c ∗ (rsR m c 2).full c) ⊢ (hole c cc0_scratch8 (Finset.univ : Finset S3x256x1024.Idx) : sProp 𝕄) := by
  rw [← bx3_univ]
  iintro ⟨H0, H1, H2⟩
  ihave H0 := (reg_hole (rsR m c 0) c) $$ H0; ihave H0 := (holeE (rsR m c 0) c) $$ H0
  ihave H1 := (reg_hole (rsR m c 1) c) $$ H1; ihave H1 := (holeE (rsR m c 1) c) $$ H1
  ihave H2 := (reg_hole (rsR m c 2) c) $$ H2; ihave H2 := (holeE (rsR m c 2) c) $$ H2
  ihave H0 := (hole_join c cc0_scratch8 (cut0 0 1 2 0 256 0 1024 (by decide))) $$ [H0 H1]
  · isplitl [H0]; · iexact H0
    iexact H1
  ihave H0 := (hole_join c cc0_scratch8 (cut0 0 2 3 0 256 0 1024 (by decide))) $$ [H0 H2]
  · isplitl [H0]; · iexact H0
    iexact H2
  iexact H0

/-- The three slots of the receive buffer are the whole of it. -/
theorem rb_join (c : Dev nD) : iprop((rbR m c 0).full c ∗ (rbR m c 1).full c ∗ (rbR m c 2).full c) ⊢ (hole c cc0_scratch9 (Finset.univ : Finset S3x256x1024.Idx) : sProp 𝕄) := by
  rw [← bx3_univ]
  iintro ⟨H0, H1, H2⟩
  ihave H0 := (reg_hole (rbR m c 0) c) $$ H0; ihave H0 := (holeE (rbR m c 0) c) $$ H0
  ihave H1 := (reg_hole (rbR m c 1) c) $$ H1; ihave H1 := (holeE (rbR m c 1) c) $$ H1
  ihave H2 := (reg_hole (rbR m c 2) c) $$ H2; ihave H2 := (holeE (rbR m c 2) c) $$ H2
  ihave H0 := (hole_join c cc0_scratch9 (cut0 0 1 2 0 256 0 1024 (by decide))) $$ [H0 H1]
  · isplitl [H0]; · iexact H0
    iexact H1
  ihave H0 := (hole_join c cc0_scratch9 (cut0 0 2 3 0 256 0 1024 (by decide))) $$ [H0 H2]
  · isplitl [H0]; · iexact H0
    iexact H2
  iexact H0

/-- The two halves of a slot. -/
theorem slot_join (c : Dev nD) (b : ℕ) : iprop((agB m b 0).full c ∗ (agB m b 512).full c) ⊢ (hole c cc0_scratch10 (bx3 b (b + 1) 0 256 0 1024 : Finset S4x256x1024.Idx) : sProp 𝕄) := by
  iintro ⟨H0, H1⟩
  ihave H0 := (reg_hole (agB m b 0) c) $$ H0; ihave H0 := (holeE (agB m b 0) c) $$ H0
  ihave H1 := (reg_hole (agB m b 512) c) $$ H1; ihave H1 := (holeE (agB m b 512) c) $$ H1
  ihave H0 := (hole_join c cc0_scratch10 (cut2 b (b + 1) 0 256 0 512 1024 (by decide))) $$ [H0 H1]
  · isplitl [H0]; · iexact H0
    iexact H1
  iexact H0
/-- The four slots of the buffer of finished blocks are the whole of it. -/
theorem slots_join (c : Dev nD) : iprop(hole c cc0_scratch10 (bx3 0 (0 + 1) 0 256 0 1024 : Finset S4x256x1024.Idx) ∗ hole c cc0_scratch10 (bx3 1 (1 + 1) 0 256 0 1024 : Finset S4x256x1024.Idx)
    ∗ hole c cc0_scratch10 (bx3 2 (2 + 1) 0 256 0 1024 : Finset S4x256x1024.Idx) ∗ hole c cc0_scratch10 (bx3 3 (3 + 1) 0 256 0 1024 : Finset S4x256x1024.Idx)) ⊢ (hole c cc0_scratch10 (Finset.univ : Finset S4x256x1024.Idx) : sProp 𝕄) := by
  rw [← bx3_univ]
  iintro ⟨H0, H1, H2, H3⟩
  ihave H0 := (hole_join c cc0_scratch10 (cut0 0 1 2 0 256 0 1024 (by decide))) $$ [H0 H1]
  · isplitl [H0]; · iexact H0
    iexact H1
  ihave H0 := (hole_join c cc0_scratch10 (cut0 0 2 3 0 256 0 1024 (by decide))) $$ [H0 H2]
  · isplitl [H0]; · iexact H0
    iexact H2
  ihave H0 := (hole_join c cc0_scratch10 (cut0 0 3 4 0 256 0 1024 (by decide))) $$ [H0 H3]
  · isplitl [H0]; · iexact H0
    iexact H3
  iexact H0
/-- The halves that arrived and the own slot are the whole buffer. -/
theorem ag_join (c : Dev nD) : iprop((agB m ((c.val + 1) % 4) 0).full c ∗ (agB m ((c.val + 1) % 4) 512).full c ∗ (agB m ((c.val + 2) % 4) 0).full c ∗ (agB m ((c.val + 2) % 4) 512).full c
      ∗ (agB m ((c.val + 3) % 4) 0).full c ∗ (agB m ((c.val + 3) % 4) 512).full c ∗ (agB m ((c.val + 4) % 4) 0).full c ∗ (agB m ((c.val + 4) % 4) 512).full c)
    ⊢ (hole c cc0_scratch10 (Finset.univ : Finset S4x256x1024.Idx) : sProp 𝕄) := by
  iintro ⟨A1, B1, A2, B2, A3, B3, A4, B4⟩
  ihave A1 := (slot_join m c ((c.val + 1) % 4)) $$ [A1 B1]
  · isplitl [A1]; · iexact A1
    iexact B1
  ihave A2 := (slot_join m c ((c.val + 2) % 4)) $$ [A2 B2]
  · isplitl [A2]; · iexact A2
    iexact B2
  ihave A3 := (slot_join m c ((c.val + 3) % 4)) $$ [A3 B3]
  · isplitl [A3]; · iexact A3
    iexact B3
  ihave A4 := (slot_join m c ((c.val + 4) % 4)) $$ [A4 B4]
  · isplitl [A4]; · iexact A4
    iexact B4
  have h : ((c.val + 1) % 4 = 1 ∧ (c.val + 2) % 4 = 2 ∧ (c.val + 3) % 4 = 3 ∧ (c.val + 4) % 4 = 0) ∨ ((c.val + 1) % 4 = 2 ∧ (c.val + 2) % 4 = 3 ∧ (c.val + 3) % 4 = 0 ∧ (c.val + 4) % 4 = 1)
    ∨ ((c.val + 1) % 4 = 3 ∧ (c.val + 2) % 4 = 0 ∧ (c.val + 3) % 4 = 1 ∧ (c.val + 4) % 4 = 2) ∨ ((c.val + 1) % 4 = 0 ∧ (c.val + 2) % 4 = 1 ∧ (c.val + 3) % 4 = 2 ∧ (c.val + 4) % 4 = 3) := by omega
  rcases h with ⟨e1, e2, e3, e4⟩ | ⟨e1, e2, e3, e4⟩ | ⟨e1, e2, e3, e4⟩ | ⟨e1, e2, e3, e4⟩
  · ihave A1 := (Entails.of_eq (congrArg (fun b => (hole c cc0_scratch10 (bx3 b (b + 1) 0 256 0 1024 : Finset S4x256x1024.Idx) : sProp 𝕄)) e1)) $$ A1
    ihave A2 := (Entails.of_eq (congrArg (fun b => (hole c cc0_scratch10 (bx3 b (b + 1) 0 256 0 1024 : Finset S4x256x1024.Idx) : sProp 𝕄)) e2)) $$ A2
    ihave A3 := (Entails.of_eq (congrArg (fun b => (hole c cc0_scratch10 (bx3 b (b + 1) 0 256 0 1024 : Finset S4x256x1024.Idx) : sProp 𝕄)) e3)) $$ A3
    ihave A4 := (Entails.of_eq (congrArg (fun b => (hole c cc0_scratch10 (bx3 b (b + 1) 0 256 0 1024 : Finset S4x256x1024.Idx) : sProp 𝕄)) e4)) $$ A4
    iapply (slots_join c)
    isplitl [A4]; · iexact A4
    isplitl [A1]; · iexact A1
    isplitl [A2]; · iexact A2
    iexact A3
  · ihave A1 := (Entails.of_eq (congrArg (fun b => (hole c cc0_scratch10 (bx3 b (b + 1) 0 256 0 1024 : Finset S4x256x1024.Idx) : sProp 𝕄)) e1)) $$ A1
    ihave A2 := (Entails.of_eq (congrArg (fun b => (hole c cc0_scratch10 (bx3 b (b + 1) 0 256 0 1024 : Finset S4x256x1024.Idx) : sProp 𝕄)) e2)) $$ A2
    ihave A3 := (Entails.of_eq (congrArg (fun b => (hole c cc0_scratch10 (bx3 b (b + 1) 0 256 0 1024 : Finset S4x256x1024.Idx) : sProp 𝕄)) e3)) $$ A3
    ihave A4 := (Entails.of_eq (congrArg (fun b => (hole c cc0_scratch10 (bx3 b (b + 1) 0 256 0 1024 : Finset S4x256x1024.Idx) : sProp 𝕄)) e4)) $$ A4
    iapply (slots_join c)
    isplitl [A3]; · iexact A3
    isplitl [A4]; · iexact A4
    isplitl [A1]; · iexact A1
    iexact A2
  · ihave A1 := (Entails.of_eq (congrArg (fun b => (hole c cc0_scratch10 (bx3 b (b + 1) 0 256 0 1024 : Finset S4x256x1024.Idx) : sProp 𝕄)) e1)) $$ A1
    ihave A2 := (Entails.of_eq (congrArg (fun b => (hole c cc0_scratch10 (bx3 b (b + 1) 0 256 0 1024 : Finset S4x256x1024.Idx) : sProp 𝕄)) e2)) $$ A2
    ihave A3 := (Entails.of_eq (congrArg (fun b => (hole c cc0_scratch10 (bx3 b (b + 1) 0 256 0 1024 : Finset S4x256x1024.Idx) : sProp 𝕄)) e3)) $$ A3
    ihave A4 := (Entails.of_eq (congrArg (fun b => (hole c cc0_scratch10 (bx3 b (b + 1) 0 256 0 1024 : Finset S4x256x1024.Idx) : sProp 𝕄)) e4)) $$ A4
    iapply (slots_join c)
    isplitl [A2]; · iexact A2
    isplitl [A3]; · iexact A3
    isplitl [A4]; · iexact A4
    iexact A1
  · ihave A1 := (Entails.of_eq (congrArg (fun b => (hole c cc0_scratch10 (bx3 b (b + 1) 0 256 0 1024 : Finset S4x256x1024.Idx) : sProp 𝕄)) e1)) $$ A1
    ihave A2 := (Entails.of_eq (congrArg (fun b => (hole c cc0_scratch10 (bx3 b (b + 1) 0 256 0 1024 : Finset S4x256x1024.Idx) : sProp 𝕄)) e2)) $$ A2
    ihave A3 := (Entails.of_eq (congrArg (fun b => (hole c cc0_scratch10 (bx3 b (b + 1) 0 256 0 1024 : Finset S4x256x1024.Idx) : sProp 𝕄)) e3)) $$ A3
    ihave A4 := (Entails.of_eq (congrArg (fun b => (hole c cc0_scratch10 (bx3 b (b + 1) 0 256 0 1024 : Finset S4x256x1024.Idx) : sProp 𝕄)) e4)) $$ A4
    iapply (slots_join c)
    isplitl [A1]; · iexact A1
    isplitl [A2]; · iexact A2
    isplitl [A3]; · iexact A3
    iexact A4

/-- The result's blocks. -/
theorem blocks_join (c : Dev nD) (f : S1x1024x1024.Idx → Elt F .f32) : iprop(own c cc0_stg3_0 (bx3 0 1 (256 * 0) (256 * 0 + 256) 0 1024 : Finset S1x1024x1024.Idx) f ∗ own c cc0_stg3_0 (bx3 0 1 (256 * 1) (256 * 1 + 256) 0 1024 : Finset S1x1024x1024.Idx) f
    ∗ own c cc0_stg3_0 (bx3 0 1 (256 * 2) (256 * 2 + 256) 0 1024 : Finset S1x1024x1024.Idx) f ∗ own c cc0_stg3_0 (bx3 0 1 (256 * 3) (256 * 3 + 256) 0 1024 : Finset S1x1024x1024.Idx) f)
    ⊢ (own c cc0_stg3_0 (Finset.univ : Finset S1x1024x1024.Idx) f : sProp 𝕄) := by
  rw [← bx3_univ]
  iintro ⟨H0, H1, H2, H3⟩
  ihave H0 := (own_cut c cc0_stg3_0 (cut1 0 1 0 256 512 0 1024 (by decide)) f).2 $$ [H0 H1]
  · isplitl [H0]; · iexact H0
    iexact H1
  ihave H0 := (own_cut c cc0_stg3_0 (cut1 0 1 0 512 768 0 1024 (by decide)) f).2 $$ [H0 H2]
  · isplitl [H0]; · iexact H0
    iexact H2
  ihave H0 := (own_cut c cc0_stg3_0 (cut1 0 1 0 768 1024 0 1024 (by decide)) f).2 $$ [H0 H3]
  · isplitl [H0]; · iexact H0
    iexact H3
  iexact H0
/-- Two halves of a block of the result are the block. -/
theorem half_join (c : Dev nD) (b : ℕ) : iprop(hB m c b 0 ∗ hB m c b 512) ⊢ (oB m c b : sProp 𝕄) := by
  iintro ⟨H0, H1⟩
  iapply (own_cut c cc0_stg3_0 (cut2 0 1 (256 * b) (256 * b + 256) 0 512 1024 (by decide)) (OUT m c)).2
  isplitl [H0]; · iexact H0
  iexact H1
/-- The four blocks of the result are the whole of it. -/
theorem out_join (c : Dev nD) : iprop(oB m c (cb c 3) ∗ hB m c ((c.val + 2) % 4) 0 ∗ hB m c ((c.val + 2) % 4) 512 ∗ hB m c ((c.val + 3) % 4) 0 ∗ hB m c ((c.val + 3) % 4) 512
      ∗ hB m c ((c.val + 4) % 4) 0 ∗ hB m c ((c.val + 4) % 4) 512) ⊢ (own c cc0_stg3_0 (Finset.univ : Finset S1x1024x1024.Idx) (OUT m c) : sProp 𝕄) := by
  rw [cb3]
  iintro ⟨A1, A2, B2, A3, B3, A4, B4⟩
  ihave A2 := (half_join m c ((c.val + 2) % 4)) $$ [A2 B2]
  · isplitl [A2]; · iexact A2
    iexact B2
  ihave A3 := (half_join m c ((c.val + 3) % 4)) $$ [A3 B3]
  · isplitl [A3]; · iexact A3
    iexact B3
  ihave A4 := (half_join m c ((c.val + 4) % 4)) $$ [A4 B4]
  · isplitl [A4]; · iexact A4
    iexact B4
  have h : ((c.val + 1) % 4 = 1 ∧ (c.val + 2) % 4 = 2 ∧ (c.val + 3) % 4 = 3 ∧ (c.val + 4) % 4 = 0) ∨ ((c.val + 1) % 4 = 2 ∧ (c.val + 2) % 4 = 3 ∧ (c.val + 3) % 4 = 0 ∧ (c.val + 4) % 4 = 1)
    ∨ ((c.val + 1) % 4 = 3 ∧ (c.val + 2) % 4 = 0 ∧ (c.val + 3) % 4 = 1 ∧ (c.val + 4) % 4 = 2) ∨ ((c.val + 1) % 4 = 0 ∧ (c.val + 2) % 4 = 1 ∧ (c.val + 3) % 4 = 2 ∧ (c.val + 4) % 4 = 3) := by omega
  rcases h with ⟨e1, e2, e3, e4⟩ | ⟨e1, e2, e3, e4⟩ | ⟨e1, e2, e3, e4⟩ | ⟨e1, e2, e3, e4⟩
  · ihave A1 := (Entails.of_eq (congrArg (fun b => (oB m c b : sProp 𝕄)) e1)) $$ A1
    ihave A2 := (Entails.of_eq (congrArg (fun b => (oB m c b : sProp 𝕄)) e2)) $$ A2
    ihave A3 := (Entails.of_eq (congrArg (fun b => (oB m c b : sProp 𝕄)) e3)) $$ A3
    ihave A4 := (Entails.of_eq (congrArg (fun b => (oB m c b : sProp 𝕄)) e4)) $$ A4
    iapply (blocks_join c (OUT m c))
    isplitl [A4]; · iexact A4
    isplitl [A1]; · iexact A1
    isplitl [A2]; · iexact A2
    iexact A3
  · ihave A1 := (Entails.of_eq (congrArg (fun b => (oB m c b : sProp 𝕄)) e1)) $$ A1
    ihave A2 := (Entails.of_eq (congrArg (fun b => (oB m c b : sProp 𝕄)) e2)) $$ A2
    ihave A3 := (Entails.of_eq (congrArg (fun b => (oB m c b : sProp 𝕄)) e3)) $$ A3
    ihave A4 := (Entails.of_eq (congrArg (fun b => (oB m c b : sProp 𝕄)) e4)) $$ A4
    iapply (blocks_join c (OUT m c))
    isplitl [A3]; · iexact A3
    isplitl [A4]; · iexact A4
    isplitl [A1]; · iexact A1
    iexact A2
  · ihave A1 := (Entails.of_eq (congrArg (fun b => (oB m c b : sProp 𝕄)) e1)) $$ A1
    ihave A2 := (Entails.of_eq (congrArg (fun b => (oB m c b : sProp 𝕄)) e2)) $$ A2
    ihave A3 := (Entails.of_eq (congrArg (fun b => (oB m c b : sProp 𝕄)) e3)) $$ A3
    ihave A4 := (Entails.of_eq (congrArg (fun b => (oB m c b : sProp 𝕄)) e4)) $$ A4
    iapply (blocks_join c (OUT m c))
    isplitl [A2]; · iexact A2
    isplitl [A3]; · iexact A3
    isplitl [A4]; · iexact A4
    iexact A1
  · ihave A1 := (Entails.of_eq (congrArg (fun b => (oB m c b : sProp 𝕄)) e1)) $$ A1
    ihave A2 := (Entails.of_eq (congrArg (fun b => (oB m c b : sProp 𝕄)) e2)) $$ A2
    ihave A3 := (Entails.of_eq (congrArg (fun b => (oB m c b : sProp 𝕄)) e3)) $$ A3
    ihave A4 := (Entails.of_eq (congrArg (fun b => (oB m c b : sProp 𝕄)) e4)) $$ A4
    iapply (blocks_join c (OUT m c))
    isplitl [A1]; · iexact A1
    isplitl [A2]; · iexact A2
    isplitl [A3]; · iexact A3
    iexact A4

end Cert.KernelIdealProof
-- ==== Proof.KI.Launch.lean ====
/-
The launch: what each device starts from, the pipeline's data, the body's obligation, and the run.
-/
module

public import proofs.«01_k».proof.Proof.KI.Buf
public import Idealize.ShloMosaic.Lib.Pipeline.ValueKit.Geometry
public import proofs.«01_k».proof.Proof.Gen.KernelIdeal.Points

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F] [Named F]

local notation "𝕄" => MT nD τ sig ℕ (Elt F) ℕ UU ℕ

variable (m : (ℓ : Loc nD τ sig) → Buf (Elt F) ℓ)

open Idealize.ShloMosaic.Pipeline (Dat BodyObligation)

/-- The scratch buffers, at any contents. -/
def scr (c : Dev nD) : sProp 𝕄 := iprop(hole c cc0_scratch0 Finset.univ ∗ hole c cc0_scratch1 Finset.univ ∗ hole c cc0_scratch2 Finset.univ ∗ hole c cc0_scratch3 Finset.univ ∗ hole c cc0_scratch4 Finset.univ ∗ hole c cc0_scratch5 Finset.univ ∗ hole c cc0_scratch6 Finset.univ ∗ hole c cc0_scratch7 Finset.univ ∗ hole c cc0_scratch8 Finset.univ ∗ hole c cc0_scratch9 Finset.univ ∗ hole c cc0_scratch10 Finset.univ)

/-- What the launch leaves besides the windows is the scratch buffers. -/
theorem rest_eq (c : Dev nD) : (Pipeline.scopedRest (Ix := ℕ) (Name := ℕ) (U := UU) (Lvl := ℕ) (Val := Elt F) spec0 c : sProp 𝕄) = scr c := by
  rw [scopedRest0_eq]; rfl

/-- The whole of the landing buffer of local copies. -/
theorem tmp_in (c : Dev nD) : hole c cc0_scratch4 (Finset.univ : Finset S256x32x128.Idx) ⊢ (tH c 0 256 : sProp 𝕄) := by rw [← bx3_univ]
/-- The temporary buffer is given back. -/
theorem tmp_out (c : Dev nD) : tH c 0 256 ⊢ (hole c cc0_scratch4 (Finset.univ : Finset S256x32x128.Idx) : sProp 𝕄) := by rw [← bx3_univ]

/-- What a device starts from besides its scratch buffers and its windows. -/
def start (c : Dev nD) : sProp 𝕄 := iprop(G' m c ∗ levAts (L (nD := nD) (τ := τ) (sig := sig) 12) lv ∗ creds0 c ∗ aK m c ∗ aV m c)
/-- What it ends with. -/
def fin (c : Dev nD) : sProp 𝕄 := iprop(unscopedSems0 c ∗ aK m c ∗ aV m c)

/-- What a device holds before the body. -/
def Φ₀ (c : Dev nD) : sProp 𝕄 := iprop(start m c ∗ scr c)
/-- What it holds after. -/
def Φ₁ (c : Dev nD) : sProp 𝕄 := iprop(fin m c ∗ Pipeline.ownSems0 (Ix := ℕ) (Name := ℕ) (U := UU) (Lvl := ℕ) (Val := Elt F) (τ := τ) osem c ∗ scr c)

/-- The four semaphores of local copies. -/
theorem spare_out (c : Dev nD) : spare c ⊢ (iprop((zer c 33 ∗ zer c 34 ∗ zer c 35 ∗ zer c 36) ∗ sepL (idle c) (zer c)) : sProp 𝕄) := by
  unfold spare
  iintro ⟨H, Hi⟩
  ihave H := (sepL_out 33 [34, 35, 36] (zer c)) $$ H; icases H with ⟨H3, H⟩
  ihave H := (sepL_out 34 [35, 36] (zer c)) $$ H; icases H with ⟨H4, H⟩
  ihave H := (sepL_out 35 [36] (zer c)) $$ H; icases H with ⟨H5, H⟩
  ihave H := (sepL_out 36 [] (zer c)) $$ H; icases H with ⟨H6, -⟩
  isplitr [Hi]
  · isplitl [H3]; · iexact H3
    isplitl [H4]; · iexact H4
    isplitl [H5]; · iexact H5
    iexact H6
  iexact Hi
/-- The local and idle semaphores stay outside the cells. -/
theorem spare_in (c : Dev nD) : (iprop((zer c 33 ∗ zer c 34 ∗ zer c 35 ∗ zer c 36) ∗ sepL (idle c) (zer c)) : sProp 𝕄) ⊢ spare c := by
  have h : (iprop((zer c 33 ∗ zer c 34 ∗ zer c 35 ∗ zer c 36 ∗ emp) ∗ sepL (idle c) (zer c)) : sProp 𝕄) ⊢ spare c := BI.Entails.refl _
  iintro ⟨⟨H3, H4, H5, H6⟩, Hi⟩
  iapply h
  isplitr [Hi]
  · isplitl [H3]; · iexact H3
    isplitl [H4]; · iexact H4
    isplitl [H5]; · iexact H5
    isplitl [H6]; · iexact H6
    iempintro
  iexact Hi

variable (ρ : Dev nD → PrngReg)

/-- The initial state: the arguments' memory, zero semaphores. -/
def s₀ : MemSt nD τ sig (Elt F) := ⟨m, fun _ => 0, ρ⟩

/-- The pipeline's data: what each window holds before and after the body. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => arg m c main_arg0
    | ⟨1, _⟩ => arg m c main_arg1
    | ⟨2, _⟩ => arg m c main_arg4
    | ⟨3, _⟩ => OUT m c
  Φ t := match t with
    | ⟨0, _⟩ => Φ₀ m c
    | ⟨_ + 1, _⟩ => Φ₁ m c
  q _ := fullShare
  owed t := match t with
    | ⟨0, _⟩ => tallyL (dueL c)
    | ⟨_ + 1, _⟩ => 0

/-- Owning a whole buffer is owning every index of it. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's buffer holding `X`. -/
def stg (c : Dev nD) (b : Ref sig .tc) (X : b.ty.Contents (Elt F)) : sProp 𝕄 :=
  iprop(∃ f : Buf (Elt F) (((c : Dev nD) : Thread nD τ).loc b), ⌜f = X⌝ ∗ own c b Finset.univ f)

/-- What the body takes. -/
def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
/-- What the body leaves. -/
def bodyPost (c : Dev nD) : sProp 𝕄 :=
  iprop(Φ₁ m c ∗ (dats m ρ 0 c).owesAt 0 t0_0.succ
    ∗ stg c cc0_stg0_0 (arg m c main_arg0) ∗ stg c cc0_stg1_0 (arg m c main_arg1) ∗ stg c cc0_stg2_0 (arg m c main_arg4) ∗ stg c cc0_stg3_0 (OUT m c))

/-- A window's buffer at its contents. -/
theorem stg_in (c : Dev nD) (b : Ref sig .tc) (X : b.ty.Contents (Elt F)) : own c b Finset.univ X ⊢ stg (F := F) c b X := by
  unfold stg; iintro H; iexists X; isplitr; · ipureintro; rfl
  iexact H
/-- A window's buffer at any contents. -/
theorem stg_hole (c : Dev nD) (b : Ref sig .tc) (X : b.ty.Contents (Elt F)) : stg (F := F) c b X ⊢ hole c b Finset.univ := by
  unfold stg hole; iintro ⟨%f, -, H⟩; iexists f; iexact H
/-- A window's buffer read at equal contents. -/
theorem stg_out (c : Dev nD) (b : Ref sig .tc) (X Y : b.ty.Contents (Elt F)) (h : X = Y) : stg (F := F) c b X ⊢ own c b Finset.univ Y := by
  unfold stg; iintro ⟨%f, %hf, H⟩; rw [← h, ← hf]; iexact H

/-- Window 0 holds its array before the body. -/
theorem before_0 (c : Dev nD) (d) : (dats m ρ 0 c).before (0 : Fin 4) t0_0 d = arg m c main_arg0 := by
  refine ((dats m ρ 0 c).before_fetched (0 : Fin 4) t0_0 (fetch0_0 t0_0) d).trans (funext fun j => ?_)
  show arg m c main_arg0 ((win0_0.rect t0_0).emb j) = _
  refine congrArg _ (funext fun a => Fin.ext ?_)
  rw [Pipeline.Window.rect_emb_val_of_index_zero _ _ _ rfl]
/-- Window 1 holds its array before the body. -/
theorem before_1 (c : Dev nD) (d) : (dats m ρ 0 c).before (1 : Fin 4) t0_0 d = arg m c main_arg1 := by
  refine ((dats m ρ 0 c).before_fetched (1 : Fin 4) t0_0 (fetch0_1 t0_0) d).trans (funext fun j => ?_)
  show arg m c main_arg1 ((win0_1.rect t0_0).emb j) = _
  refine congrArg _ (funext fun a => Fin.ext ?_)
  rw [Pipeline.Window.rect_emb_val_of_index_zero _ _ _ rfl]
/-- Window 2 holds its array before the body. -/
theorem before_2 (c : Dev nD) (d) : (dats m ρ 0 c).before (2 : Fin 4) t0_0 d = arg m c main_arg4 := by
  refine ((dats m ρ 0 c).before_fetched (2 : Fin 4) t0_0 (fetch0_2 t0_0) d).trans (funext fun j => ?_)
  show arg m c main_arg4 ((win0_2.rect t0_0).emb j) = _
  refine congrArg _ (funext fun a => Fin.ext ?_)
  rw [Pipeline.Window.rect_emb_val_of_index_zero _ _ _ rfl]

/-- The window buffers are given back at the end. -/
theorem At_out (c : Dev nD) : At m c 3 ⊢ (iprop(hole c cc0_scratch0 (Finset.univ : Finset S1152x8x128.Idx) ∗ hole c cc0_scratch1 (Finset.univ : Finset S1152x8x128.Idx) ∗ hole c cc0_scratch2 Finset.univ ∗ hole c cc0_scratch3 Finset.univ) : sProp 𝕄) := by
  unfold At; rw [show win c 3 = Finset.univ from rfl]
  iintro ⟨H2, H3, H0, H1⟩
  isplitl [H0]; · iapply (own_hole c cc0_scratch0); iexact H0
  isplitl [H1]; · iapply (own_hole c cc0_scratch1); iexact H1
  isplitl [H2]; · iapply (own_hole c cc0_scratch2); iexact H2
  iapply (own_hole c cc0_scratch3); iexact H3

/-- The barrier is back at zero. -/
theorem unscoped_in (c : Dev nD) : semVal (barCell c) 0 ⊢ (unscopedSems0 c : sProp 𝕄) := by rw [unscopedSems0_eq]

/-- The body, with its start and end. -/
theorem body_pre (c : Dev nD) (Kt : PUnit → sProp 𝕄) : iprop(bodyPre m ρ c ∗ (bodyPost m ρ c -∗ Kt ⟨⟩)) ⊢ WP c (app (cc0_body (F := F))) Kt := by
  unfold bodyPre Φ₀ start G' scr
  iintro ⟨⟨⟨⟨⟨%K, Hrec, Htok, Hsp⟩, Hlev, Hcr, HK, HV⟩, S0, S1, S2, S3, S4, S5, S6, S7, S8, S9, S10⟩, Ho, ⟨%d0, Hx⟩, ⟨%d1, Hq⟩, ⟨%d2, Hw⟩, ⟨%d3, Hout⟩⟩, Hk⟩
  unfold Dat.owesAt Pipeline.owesWithin
  icases Ho with ⟨%W, %hW, HO⟩
  rw [show (dats m ρ 0 c).owed t0_0.castSucc = tallyL (dueL c) from rfl]
  ihave Hx := (stg_out c cc0_stg0_0 _ _ (before_0 m ρ c d0)) $$ Hx
  ihave Hq := (stg_out c cc0_stg1_0 _ _ (before_1 m ρ c d1)) $$ Hq
  ihave Hw := (stg_out c cc0_stg2_0 _ _ (before_2 m ρ c d2)) $$ Hw
  ihave Hout := (stg_hole c cc0_stg3_0 _) $$ Hout
  ihave Hout := (out_cut c) $$ Hout; icases Hout with ⟨O0, O1, O2, O3⟩
  ihave Hsp := (spare_out c) $$ Hsp; icases Hsp with ⟨⟨Z3, Z4, Z5, Z6⟩, Hid⟩
  ihave S4 := (tmp_in c) $$ S4
  ihave S8 := (rs_cut m c) $$ S8; icases S8 with ⟨R0, R1, R2⟩
  ihave HG := (raw_cut m c) $$ [S0 S1 S7 S9 S10]
  · unfold raw
    isplitl [S0]; · iexact S0
    isplitl [S1]; · iexact S1
    isplitl [S7]; · iexact S7
    isplitl [S9]; · iexact S9
    iexact S10
  icases HG with ⟨HG, Hown, Hrl, Hag⟩
  iapply (body_run m K c)
  isplitl [Hrec Hlev HO Htok HG Hcr S5 S6 Hown HK HV S4 Z3 Z4 Z5 Z6 Hx Hq Hw S2 S3 Hrl R0 R1 R2 Hag O0 O1 O2 O3]
  · unfold pre
    isplitl [Hrec]; · iexact Hrec
    isplitl [Hlev]; · iexact Hlev
    isplitl [HO]; · iexists W; iexact HO
    isplitl [Htok]; · iexact Htok
    isplitl [HG]; · iexact HG
    isplitl [Hcr]; · iexact Hcr
    isplitl [S5 S6 Hown HK HV S4 Z3 Z4 Z5 Z6 Hx Hq Hw]
    · isplitl [S5]; · iexact S5
      isplitl [S6]; · iexact S6
      isplitl [Hown]; · iexact Hown
      isplitl [HK HV S4 Z3 Z4 Z5 Z6]
      · unfold LB
        isplitl [HK]; · iexact HK
        isplitl [HV]; · iexact HV
        isplitl [S4]; · iexact S4
        isplitl [Z3]; · iexact Z3
        isplitl [Z4]; · iexact Z4
        isplitl [Z5]; · iexact Z5
        iexact Z6
      unfold XS
      isplitl [Hx]; · iexact Hx
      isplitl [Hq]; · iexact Hq
      iexact Hw
    isplitl [S2 S3 Hrl R0 R1 R2 Hag]
    · isplitl [S2]; · iexact S2
      isplitl [S3]; · iexact S3
      isplitl [Hrl]; · iexact Hrl
      isplitl [R0]; · iexact R0
      isplitl [R1]; · iexact R1
      isplitl [R2]; · iexact R2
      iexact Hag
    isplitl [O0]; · iexact O0
    isplitl [O1]; · iexact O1
    isplitl [O2]; · iexact O2
    iexact O3
  unfold post LB XS
  iintro ⟨⟨%W', HO⟩, HX, Hbar, ⟨HK, HV, S4, Z3, Z4, Z5, Z6⟩, ⟨Hx, Hq, Hw⟩, HA, ⟨S5, S6, S7⟩, ⟨R0, R1, R2, B0, B1, B2⟩, Hag, Hout⟩
  ihave S8 := (rs_join m c) $$ [R0 R1 R2]
  · isplitl [R0]; · iexact R0
    isplitl [R1]; · iexact R1
    iexact R2
  ihave S9 := (rb_join m c) $$ [B0 B1 B2]
  · isplitl [B0]; · iexact B0
    isplitl [B1]; · iexact B1
    iexact B2
  ihave S10 := (ag_join m c) $$ Hag
  ihave Hout := (out_join m c) $$ Hout
  ihave S4 := (tmp_out c) $$ S4
  ihave HA := (At_out m c) $$ HA; icases HA with ⟨S0, S1, S2, S3⟩
  ihave Hsp := (spare_in c) $$ [Z3 Z4 Z5 Z6 Hid]
  · isplitr [Hid]
    · isplitl [Z3]; · iexact Z3
      isplitl [Z4]; · iexact Z4
      isplitl [Z5]; · iexact Z5
      iexact Z6
    iexact Hid
  ihave HX := (sems_out c) $$ [HX Hsp]
  · isplitl [HX]; · iexact HX
    iexact Hsp
  ihave Hbar := (unscoped_in c) $$ Hbar
  iapply Hk
  unfold bodyPost Φ₁ fin scr
  isplitl [Hbar HK HV HX S0 S1 S2 S3 S4 S5 S6 S7 S8 S9 S10]
  · isplitl [Hbar HK HV]
    · isplitl [Hbar]; · iexact Hbar
      isplitl [HK]; · iexact HK
      iexact HV
    isplitl [HX]; · iexact HX
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [HO]
  · unfold Dat.owesAt Pipeline.owesWithin
    iexists W'; isplitr; · ipureintro; exact fun _ _ => Or.inl trivial
    iexact HO
  isplitl [Hx]; · iapply (stg_in c cc0_stg0_0); iexact Hx
  isplitl [Hq]; · iapply (stg_in c cc0_stg1_0); iexact Hq
  isplitl [Hw]; · iapply (stg_in c cc0_stg2_0); iexact Hw
  iapply (stg_in c cc0_stg3_0); iexact Hout

/-- The body's obligation towards the pipeline. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ WP c (app (cc0_body (F := F))) (fun _ => bodyPost m ρ c)
  iintro H
  iapply (body_pre m ρ c fun _ => bodyPost m ρ c)
  isplitl [H]; · iexact H
  iintro H; iexact H

/-! ## The launch -/

/-- Every debt is above the pipeline's levels. -/
theorem above : SiteBlocks.Above 12 1 (fun c : Dev nD => (tallyL (dueL c) : CellTallies nD τ sig ℕ)) := fun c g i h => by
  obtain ⟨x, hx, rfl, rfl⟩ := TalkSites.tallyL_pos h
  have hd : ∀ x ∈ dueL c, x.2.1 < 12 ∧ 1 ≤ x.2.1 := by clear hx h x; revert c; decide
  exact ⟨SiteBlocks.mem_L' (due_tc c x hx) (hd x hx).1, (hd x hx).2⟩

/-- Each window's array is held in full. -/
theorem share_eq (c : Dev nD) (w : Fin cfg0.W) : (dats m ρ 0 c).share w = fullShare := by unfold Dat.share; split <;> rfl

/-- The pipeline's own waits are below every debt. -/
theorem waits (c : Dev nD) : (levAts (L (nD := nD) (τ := τ) (sig := sig) 12) lv : sProp 𝕄) ⊢ Pipeline.cellsWaits cfgs (dats m ρ) 0 0 c :=
  Pipeline.cellsWaits_intro cfgs (dats m ρ) 0 0 c fun w s t => by
    rcases t with ⟨_ | _, ht⟩
    · exact SiteBlocks.mayWait_below (by decide) (by decide) above c _
    · exact SiteBlocks.mayWait_below (by decide) (by decide) (SiteBlocks.above_zero 12 1) c _

/-- An argument's buffer is owned. -/
theorem arg_own (c : Dev nD) (b : Ref sig .tc) (f : Buf (Elt F) ((c : Thread nD τ).loc b)) : (((c : Thread nD τ).loc b) ↦{fullShare} f : sProp 𝕄) ⊢ own c b Finset.univ f := BI.Entails.refl _

/-- The launch gives each device its start. -/
theorem start_intro (c : Dev nD) :
    iprop(Pipeline.unscopedRestP Pipeline.Prefetch.none cfg0.spec c (fun b => m ((c : Thread nD τ).loc b)) ∗ levAts (L (nD := nD) (τ := τ) (sig := sig) 12) lv
        ∗ Pipeline.launchCred (fun d => tallyL (dueL d)) c ∗ prngReg c (ρ c) ∗ G' m c)
      ⊢ |={Set.univ}=> (iprop(start m c ∗ emp) : sProp 𝕄) := by
  rw [Pipeline.unscopedRestP_none, unscopedRest0_eq]
  iintro ⟨⟨HK, HV⟩, Hlev, Hcr, -, HG⟩
  ihave HK := (arg_own c main_arg2 _) $$ HK
  ihave HV := (arg_own c main_arg3 _) $$ HV
  ihave Hcr := (creds_intro c) $$ Hcr
  imodintro
  unfold start
  isplitl
  · isplitl [HG]; · iexact HG
    isplitl [Hlev]; · iexact Hlev
    isplitl [Hcr]; · iexact Hcr
    isplitl [HK]; · iexact HK
    iexact HV
  · iempintro

/-- The start and the scratch buffers are what the body holds before. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  ihave Hr := (Entails.of_eq (rest_eq c)) $$ Hr
  iexact Hr

/-- What it holds after gives everything back. -/
theorem phi1_exit (c : Dev nD) : (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl]
  unfold Φ₁
  iintro ⟨Hf, Hs, Hr⟩
  isplitl [Hf]; · iexact Hf
  isplitl [Hs]; · iexact Hs
  ihave Hr := (Entails.of_eq (rest_eq c).symm) $$ Hr
  iexact Hr

/-- What is owned is what the memory holds. -/
theorem own_read (c : Dev nD) (b : Ref sig .tc) (f : Buf (Elt F) ((c : Thread nD τ).loc b)) (s' : Phys nD τ sig (Elt F)) :
    iprop(own c b Finset.univ f ∗ SI s') ⊢ (<pers> ⌜s'.mem.mem ((c : Thread nD τ).loc b) = f⌝ : sProp 𝕄) :=
  ((sep_comm.1.trans SI_pointsTo_agree).trans (BI.pure_mono fun h => funext fun i => h i (Finset.mem_univ i))).trans Laws.persistently_pure.2

/-- What the whole run leaves besides the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

/-- At the end the arguments read as at the start. -/
theorem read_end (c : Dev nD) (s' : Phys nD τ sig (Elt F)) : iprop(fin m c ∗ emp ∗ SI s') ⊢ |={Set.univ}=> (iprop(⌜QY m c s'.mem⌝ ∗ SI s') : sProp 𝕄) := by
  unfold fin
  iintro ⟨⟨Hu, HK, HV⟩, -, HSI⟩
  ihave %h2 := (own_read c main_arg2 _ s') $$ [HK HSI]
  · isplitl [HK] <;> iassumption
  ihave %h3 := (own_read c main_arg3 _ s') $$ [HV HSI]
  · isplitl [HV] <;> iassumption
  ihave %h := (tcUnscoped_read c s') $$ [Hu HSI]
  · isplitl [Hu] <;> iassumption
  imodintro
  isplitr; · ipureintro; exact ⟨h, h2, h3⟩
  iexact HSI

/-- The initial ghost state. -/
def u₀ : UU := (initOf (Pipeline.cells cfgs cellOf_inj) (Pipeline.launchToks cfgs cellOf_inj), (initOf cells ringToks, 1))

/-- The ring's ghost state enters. -/
theorem ring_in : BI.own ((Emb.inl.trans embR : Emb UB 𝕄) (initOf cells ringToks)) ⊢ (BI.own (ER (initOf cells ringToks)) : sProp 𝕄) := BI.Entails.refl _

/-- What window `w`'s array holds after the run. -/
def finalA (c : Dev nD) (w : Fin cfg0.W) : Buf (Elt F) ((cfg0.win w).arr.view.loc (c : Thread nD τ)) := (dats m ρ 0 c).arrAt w cfg0.N

/-- What the run ends with: the windows' arrays, and the two arguments that no window has. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

set_option maxRecDepth 8000 in
/-- Every weakly fair execution ends, each device's result array holds `OUT`, the arguments are as they were, every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => tallyL (dueL c)) (howed₀ := fun _ => rfl) (howedN := fun _ => rfl)
    (L := L 12) (lv := lv) (hL := SiteBlocks.hL 12) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := ring_in $$ HX
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := QY m) (hY := read_end m)
    (hQ := fun _ h hs => ⟨fun c => ⟨(h c).1, (h c).2.2.2.1, (h c).2.2.2.2⟩, sem_eq_zero hs fun c => (h c).2.2.1⟩)

/-- The windows' arguments after the run hold what they held. -/
theorem finalA_0 (c : Dev nD) : finalA m ρ c (0 : Fin 4) = m ((c : Thread nD τ).loc main_arg0) := (dats (F := F) m ρ 0 c).arrAt_in (0 : Fin 4) rfl _
/-- Window 1's array at the end. -/
theorem finalA_1 (c : Dev nD) : finalA m ρ c (1 : Fin 4) = m ((c : Thread nD τ).loc main_arg1) := (dats (F := F) m ρ 0 c).arrAt_in (1 : Fin 4) rfl _
/-- Window 2's array at the end. -/
theorem finalA_2 (c : Dev nD) : finalA m ρ c (2 : Fin 4) = m ((c : Thread nD τ).loc main_arg4) := (dats (F := F) m ρ 0 c).arrAt_in (2 : Fin 4) rfl _

/-- The result array holds `OUT`. -/
theorem finalA_3 (c : Dev nD) : finalA m ρ c (3 : Fin 4) = OUT m c :=
  (dats (F := F) m ρ 0 c).arrAt_eq_of_after_last (3 : Fin 4) t0_0 (by decide +kernel) (OUT m c) fun j => rfl

end Cert.KernelIdealProof
-- ==== Proof.Literal.lean ====
module

/- The kernel is its idealization with every name standing for its literal: the frame of the one is the frame of the other. -/

public import proofs.«01_k».proof.Proof.Gen.Kernel
public import proofs.«01_k».proof.Proof.KI.Launch

@[expose] public section

noncomputable section

namespace Cert.Literal

open Idealize.ShloMosaic Idealize.ShloMosaic.TcCoe Idealize.SL.Sem

variable {F : FTy → Type} [FloatOps F]

/-- Every name stands for the literal that it was printed for. -/
@[reducible] def literal : Named F := ⟨fun _ _ {φ} bits => Scalar.ofBits φ bits⟩

attribute [local instance] literal

local instance : Cert.Kernel.Facts := Cert.Kernel.Gen.facts
local instance : Cert.KernelIdeal.Facts := Cert.KernelIdeal.Gen.facts

set_option maxRecDepth 100000 in
/-- The two bodies are the same program. -/
theorem body_eq : Cert.Kernel.defs₀ (F := F) = Cert.KernelIdeal.defs₀ (F := F) := by
  refine congrArg Defs.onTc ?_
  funext l x
  match l, x with
  | 0, (t, s) => rfl

/-- So are the two pipelines around them. -/
theorem defs_eq : Cert.Kernel.defs (F := F) = Cert.KernelIdeal.defs (F := F) := congrArg (Pipeline.defs _) body_eq

end Cert.Literal

namespace Cert.KernelIdealProof

open Idealize.ShloMosaic Idealize.ShloMosaic.TcCoe Idealize.SL.Sem Cert.KernelIdeal Cert.KernelIdeal.Gen

/-- The idealized kernel's text runs in any arithmetic and under any reading of its names: its arguments are unchanged and every semaphore ends at zero. -/
theorem frame {F : FTy → Type} [FloatOps F] [Named F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (finalA_0 m g c), ((h.1 c).1 1).trans (finalA_1 m g c),
    (h.1 c).2.1, (h.1 c).2.2, ((h.1 c).1 2).trans (finalA_2 m g c)⟩, h.2⟩) (run_main m g)

end Cert.KernelIdealProof

namespace Cert.Literal

open Idealize.ShloMosaic Idealize.ShloMosaic.TcCoe Idealize.SL.Sem Cert.Kernel

attribute [local instance] literal

/-- So does the kernel's own text. -/
theorem frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.KernelIdealProof.frame (F := F) m g

end Cert.Literal

end
-- ==== Proof.Val.Soft.lean ====
/-
  Sums, and a softmax over a window of the keys, over the extended reals.
-/
module

public import Idealize.ShloMosaic.PureOps.Ideal.Laws

@[expose] public section

set_option maxRecDepth 8192

noncomputable section

namespace Cert.Val

open Idealize.ShloMosaic

/-- Multiplying by a nonnegative finite number distributes over a sum. -/
theorem sum_mul_of {ι : Type*} [Fintype ι] (f : ι → EReal) (c : EReal) (h0 : 0 ≤ c) (ht : c ≠ ⊤) :
    (∑ i, f i) * c = ∑ i, f i * c := by
  classical
  refine Finset.induction_on (motive := fun s : Finset ι => (∑ i ∈ s, f i) * c = ∑ i ∈ s, f i * c) Finset.univ (by simp) ?_
  intro a s ha ih
  rw [Finset.sum_insert ha, Finset.sum_insert ha, EReal.right_distrib_of_nonneg_of_ne_top h0 ht, ih]

/-- A finite value. -/
def IsR (x : EReal) : Prop := ∃ r : ℝ, x = (r : EReal)

/-- A product of reals is real. -/
theorem IsR.mul {x y : EReal} (hx : IsR x) (hy : IsR y) : IsR (x * y) := by
  obtain ⟨a, rfl⟩ := hx; obtain ⟨b, rfl⟩ := hy
  exact ⟨a * b, (EReal.coe_mul a b).symm⟩

/-- A finite sum of reals is real. -/
theorem IsR.sum {ι : Type*} [Fintype ι] {f : ι → EReal} (h : ∀ i, IsR (f i)) : IsR (∑ i, f i) := by
  classical
  refine Finset.induction_on (motive := fun s : Finset ι => IsR (∑ i ∈ s, f i)) Finset.univ ⟨0, by simp⟩ ?_
  intro a s ha ih
  rw [Finset.sum_insert ha]
  obtain ⟨x, hx⟩ := h a; obtain ⟨y, hy⟩ := ih
  exact ⟨x + y, by rw [hx, hy, EReal.coe_add]⟩

/-- A real is not +∞. -/
theorem IsR.ne_top {x : EReal} (h : IsR x) : x ≠ ⊤ := by obtain ⟨r, rfl⟩ := h; exact EReal.coe_ne_top r

/-- A real is not −∞. -/
theorem IsR.ne_bot {x : EReal} (h : IsR x) : x ≠ ⊥ := by obtain ⟨r, rfl⟩ := h; exact EReal.coe_ne_bot r

/-- What is neither infinity is real. -/
theorem isR_of_ne {x : EReal} (hb : x ≠ ⊥) (ht : x ≠ ⊤) : IsR x := ⟨x.toReal, (EReal.coe_toReal ht hb).symm⟩

/-- −∞ less anything is −∞. -/
theorem bot_sub (x : EReal) : (⊥ : EReal) - x = ⊥ := by rw [sub_eq_add_neg, EReal.bot_add]

/-- The exponential of −∞ is 0. -/
theorem exp_bot : Ideal.exp ⊥ = 0 := rfl

/-- An exponential is not negative. -/
theorem exp_nonneg (x : EReal) : 0 ≤ Ideal.exp x := by
  induction x using EReal.rec with
  | bot => exact le_refl _
  | top => exact le_top
  | coe r => exact EReal.coe_nonneg.mpr (Real.exp_nonneg r)

/-- The exponential of what is not +∞ is real. -/
theorem exp_isR {x : EReal} (h : x ≠ ⊤) : IsR (Ideal.exp x) := by
  induction x using EReal.rec with
  | bot => exact ⟨0, rfl⟩
  | top => exact absurd rfl h
  | coe r => exact ⟨Real.exp r, rfl⟩

/-- The greatest of the scores and −∞. -/
abbrev top {ι : Type*} [Fintype ι] (s : ι → EReal) : EReal := Finset.fold max ⊥ s Finset.univ

variable {ι κ : Type*} [Fintype ι] [Fintype κ]

/-- The greatest score stands in the window that holds every score but −∞. -/
theorem top_window (s : ι → EReal) (w : κ → ι) (hout : ∀ k, k ∉ Set.range w → s k = ⊥) : top (fun j => s (w j)) = top s := by
  refine eq_of_forall_ge_iff fun c => ?_
  simp only [top, Finset.fold_max_le, bot_le, true_and, Finset.mem_univ, true_implies]
  refine ⟨fun h k => ?_, fun h j => h (w j)⟩
  by_cases hk : k ∈ Set.range w
  · obtain ⟨j, rfl⟩ := hk; exact h j
  · rw [hout k hk]; exact bot_le

/-- The sum of the exponentials is a positive number, if some score is finite and none is +∞. -/
theorem den_pos (s : ι → EReal) (ht : ∀ k, s k ≠ ⊤) (k0 : ι) (h0 : s k0 ≠ ⊥) :
    IsR (∑ k, Ideal.exp (s k - top s)) ∧ 0 < ∑ k, Ideal.exp (s k - top s) := by
  have hMt : top s ≠ ⊤ := by
    refine (Finset.fold_max_lt _).mpr ⟨bot_lt_top, fun x _ => lt_top_iff_ne_top.mpr (ht x)⟩ |>.ne
  have hle : ∀ k, s k ≤ top s := fun k => (Finset.le_fold_max _).mpr (Or.inr ⟨k, Finset.mem_univ _, le_rfl⟩)
  have hMb : top s ≠ ⊥ := fun h => h0 (le_bot_iff.mp (h ▸ hle k0))
  obtain ⟨M, hM⟩ := isR_of_ne hMb hMt
  have hne : ∀ k, s k - top s ≠ ⊤ := by
    intro k
    rw [hM, sub_eq_add_neg, ← EReal.coe_neg]
    exact EReal.add_ne_top (ht k) (EReal.coe_ne_top _)
  refine ⟨IsR.sum fun k => exp_isR (hne k), ?_⟩
  obtain hx | ⟨k, -, hk⟩ := (Finset.le_fold_max _).mp (le_refl (top s))
  · exact absurd (le_bot_iff.mp hx) hMb
  have hks : s k = top s := le_antisymm (hle k) hk
  refine lt_of_lt_of_le ?_ (Finset.single_le_sum (f := fun k => Ideal.exp (s k - top s)) (fun i _ => exp_nonneg _) (Finset.mem_univ k))
  show 0 < Ideal.exp (s k - top s)
  rw [hks, hM, ← EReal.coe_sub, sub_self]
  show (0 : EReal) < ((Real.exp 0 : ℝ) : EReal)
  exact EReal.coe_pos.mpr (Real.exp_pos 0)

/-- Softmax over all the keys, weights first, is softmax over the window that holds every score but −∞, division last. -/
theorem soft (s V : ι → EReal) (w : κ → ι) (hw : Function.Injective w) (hout : ∀ k, k ∉ Set.range w → s k = ⊥)
    (ht : ∀ k, s k ≠ ⊤) (k0 : ι) (h0 : s k0 ≠ ⊥) :
    Ideal.div (∑ j, Ideal.exp (s (w j) - top (fun j => s (w j))) * V (w j)) (∑ j, Ideal.exp (s (w j) - top (fun j => s (w j))))
      = ∑ k, V k * Ideal.div (Ideal.exp (s k - top s)) (∑ k, Ideal.exp (s k - top s)) := by
  obtain ⟨⟨D, hD⟩, hpos⟩ := den_pos s ht k0 h0
  rw [top_window s w hout]
  have hz : ∀ k, k ∉ Set.range w → Ideal.exp (s k - top s) = 0 := fun k hk => by rw [hout k hk, bot_sub, exp_bot]
  have h1 : (∑ j, Ideal.exp (s (w j) - top s)) = ∑ k, Ideal.exp (s k - top s) :=
    Fintype.sum_of_injective w hw _ _ hz fun _ => rfl
  have h2 : (∑ j, Ideal.exp (s (w j) - top s) * V (w j)) = ∑ k, Ideal.exp (s k - top s) * V k :=
    Fintype.sum_of_injective w hw _ _ (fun k hk => by rw [hz k hk, zero_mul]) fun _ => rfl
  rw [h1, h2]
  have hdiv : ∀ x, Ideal.div x (∑ k, Ideal.exp (s k - top s)) = x * ((D⁻¹ : ℝ) : EReal) := fun x => by
    unfold Ideal.div; rw [if_neg hpos.ne', hD, EReal.coe_inv]
  have hD0 : 0 ≤ D := by rw [hD] at hpos; exact (EReal.coe_pos.mp hpos).le
  simp only [hdiv]
  rw [sum_mul_of _ _ (EReal.coe_nonneg.mpr (inv_nonneg.mpr hD0)) (EReal.coe_ne_top _)]
  refine Finset.sum_congr rfl fun k _ => ?_
  rw [← mul_assoc, mul_comm (V k)]

/-- A positive factor moved from each of the left factors of a sum of products to the whole. -/
theorem scale_out (a b : ι → EReal) (c : EReal) (h0 : 0 ≤ c) (ht : c ≠ ⊤) : (∑ i, a i * c * b i) = (∑ i, a i * b i) * c := by
  rw [sum_mul_of _ _ h0 ht]
  exact Finset.sum_congr rfl fun i _ => mul_right_comm _ _ _

end Cert.Val

end

end
-- ==== Proof.Val.Pre.lean ====
/-
  The precondition: its side conditions, and that it makes the queries, the projection and the keys finite.
-/
module

public import proofs.«01_k».proof.Defs
public import proofs.«01_k».proof.Proof.Gen.KernelIdeal
public import proofs.«01_k».proof.Proof.Gen.ReferenceIdeal
public import proofs.«01_k».proof.Proof.Val.Soft
public import Idealize.ShloMosaic.Lib.ReduceAll
public import Idealize.ShloMosaic.Lib.Decide

@[expose] public section

set_option maxRecDepth 8192

noncomputable section

namespace Cert.Val

open Idealize.ShloMosaic
open Idealize.ShloMosaic.TcCoe

/-- The side conditions of the precondition on a device's blocks. -/
instance preFacts : Cert.Pre_scores_tame_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x32x128 := by decide
  reducesTo_S1x1024x32x128_S_d0_1_2_3 := by decide

/-- And of the precondition on the whole arrays. -/
instance preFactsR : Cert.Pre_scores_tame_ReferenceIdeal.Facts where
  bcast_S_S1x1024x1024 := by decide
  reducesTo_S1x1024x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

/-- A value whose magnitude is below +∞ is finite. -/
theorem isR_of_abs {a : EReal} (h : Ideal.cmp .olt (max a (-a)) (Ideal.ofBits .f32 0x7F800000#32) = 1#1) : IsR a := by
  have ht : Ideal.ofBits .f32 0x7F800000#32 = ⊤ := by simp [Ideal.ofBits, Ideal.ieee]
  rw [ht] at h
  refine isR_of_ne ?_ ?_
  · rintro rfl; simp [Ideal.cmp] at h
  · rintro rfl; simp [Ideal.cmp] at h

/-- The precondition makes each device's x, Wq and K finite. -/
theorem finite_of_pre (a0 : FVec Ideal Cert.KernelIdeal.S1x1024x1024 .f32) (a1 : FVec Ideal Cert.KernelIdeal.S1024x1024 .f32) (a2 a3 : FVec Ideal Cert.KernelIdeal.S1x1024x32x128 .f32)
    (a4 : FVec Ideal Cert.KernelIdeal.S1024x1024 .f32) (h : Cert.Pre_scores_tame_KernelIdeal.fn (F := Ideal) a0 a1 a2 a3 a4 = fun _ => 1#1) :
    (∀ i, IsR (a0 i)) ∧ (∀ i, IsR (a1 i)) ∧ ∀ i, IsR (a2 i) := by
  have e := congrFun h (fun a => a.elim0)
  dsimp only [Cert.Pre_scores_tame_KernelIdeal.fn] at e
  obtain ⟨e01, e2⟩ := IntOp.andi_eq_one.1 e
  obtain ⟨e0, e1⟩ := IntOp.andi_eq_one.1 e01
  haveI : Subsingleton Cert.Pre_scores_tame_KernelIdeal.S_.Idx := ⟨fun a b => funext fun i => i.elim0⟩
  exact ⟨fun i => isR_of_abs (Host.reduce_andi_all _ _ _ _ _ e0 i), fun i => isR_of_abs (Host.reduce_andi_all _ _ _ _ _ e1 i), fun i => isR_of_abs (Host.reduce_andi_all _ _ _ _ _ e2 i)⟩

end Cert.Val

end

end
-- ==== Proof.Val.Ker.lean ====
/-
  The kernel's payloads read at an index at the ideal instance.
-/
module

public import proofs.«01_k».proof.Proof.KI.Common
public import Idealize.ShloMosaic.Lib.Pointwise
public import Idealize.ShloMosaic.Lib.IdealHost
public import Idealize.ShloMosaic.PureOps.Ideal.Laws

@[expose] public section

set_option maxRecDepth 8192

noncomputable section

namespace Cert.Val

open Idealize.ShloMosaic Cert.KernelIdeal Cert.KernelIdeal.Gen Cert.KernelIdealProof

/-- The name for the mask's literal is −∞. -/
theorem mask_bot : (Named.named κ "mask" 0xCE6E6B28#32 : Ideal .f32) = ⊥ := rfl

/-- What one head adds to the output block: softmax over the window, times its values, projected. -/
theorem pay25_at (mk : IVec S256x512 1) (q : FVec Ideal S256x128 .bf16) (k v : FVec Ideal S512x1x128 .bf16) (w : FVec Ideal S128x1024 .bf16) (r : Fin 256) (n : Fin 1024) :
    k0_pay25 (F := Ideal) mk q k v w (ix2 r n) = ∑ d : Fin 128,
      Ideal.div (∑ j : Fin 512, Ideal.exp (Scalar.select (mk (ix2 r j)) (∑ e : Fin 128, q (ix2 r e) * k (ix3 j (0 : Fin 1) e)) (⊥ : EReal)
            - Finset.fold max (Ideal.ofBits .f32 0xFF800000#32) (fun j' : Fin 512 => Scalar.select (mk (ix2 r j')) (∑ e : Fin 128, q (ix2 r e) * k (ix3 j' (0 : Fin 1) e)) (⊥ : EReal)) Finset.univ) * v (ix3 j (0 : Fin 1) d))
        (∑ j : Fin 512, Ideal.exp (Scalar.select (mk (ix2 r j)) (∑ e : Fin 128, q (ix2 r e) * k (ix3 j (0 : Fin 1) e)) (⊥ : EReal)
            - Finset.fold max (Ideal.ofBits .f32 0xFF800000#32) (fun j' : Fin 512 => Scalar.select (mk (ix2 r j')) (∑ e : Fin 128, q (ix2 r e) * k (ix3 j' (0 : Fin 1) e)) (⊥ : EReal)) Finset.univ)) * w (ix2 d n) := by
  unfold k0_pay25; pointwise; rw [mask_bot]

/-- The scaled query projection: a sum over the model dimension, times the scale. -/
theorem pay16_at (x : FVec Ideal S1x1024x1024 .f32) (w : FVec Ideal S1024x1024 .f32) (i n : Fin 1024) :
    k0_pay17 (k0_pay16 (F := Ideal) x w) (ix2 i n) = (∑ k : Fin 1024, x (ix3 (0 : Fin 1) i k) * w (ix2 k n)) * Ideal.ofBits .f32 0x3DB504F3#32 := by
  unfold k0_pay16 k0_pay17; pointwise

/-- The output projection is stored as it is read. -/
theorem pay18_at (w : FVec Ideal S1024x1024 .f32) (i n : Fin 1024) : k0_pay18 (F := Ideal) w (ix2 i n) = w (ix2 i n) := by
  unfold k0_pay18; pointwise

/-- The partial output starts at zero. -/
theorem pay20_at (i : Fin 256) (n : Fin 1024) : k0_pay20 (F := Ideal) (ix2 i n) = 0 := by
  unfold k0_pay20; pointwise

/-- The kernel's mask, read at a row and a key of the window. -/
theorem mskOf_at (a b : BitVec 32) (r : Fin 256) (j : Fin 512) :
    mskOf a b (ix2 r j) = IntOp.cmpi .sle (IntOp.absi (IntOp.subi (IntOp.addi a (BitVec.ofNat 32 r)) (IntOp.addi b (BitVec.ofNat 32 j)))) 128#32 := by
  unfold mskOf; pointwise

end Cert.Val

end

end
-- ==== Proof.Val.Ref.lean ====
/-
  The reference's result in stages, each read at an index at the ideal instance.
-/
module

public import proofs.«01_k».proof.Proof.Gen.ReferenceIdeal.Run
public import Idealize.ShloMosaic.Lib.Pointwise
public import Idealize.ShloMosaic.Lib.Tactic.CleanTypes
public import Idealize.ShloMosaic.Lib.IdealHost
public import Idealize.ShloMosaic.PureOps.Ideal.Laws

@[expose] public section

set_option maxRecDepth 8192

noncomputable section

namespace Cert.Val

open Idealize.ShloMosaic Cert.ReferenceIdeal Cert.ReferenceIdeal.Gen Cert.ReferenceIdeal.Value Cert.ReferenceIdeal.Facts

/-- Which keys a row attends to, as the reference computes it. -/
def rMask : IVec S1024x4096 1 :=
  cmpi .sle (absi (subi (broadcastInDim S1024x4096 ![0, 1] bcast_S1024x1_S1024x4096_0_1 (broadcastInDim S1024x1 ![0] bcast_S1024_S1024x1_0 (iotaInDim S1024 32 0))) (broadcastInDim S1024x4096 ![0, 1] bcast_S1x4096_S1024x4096_0_1 (broadcastInDim S1x4096 ![1] bcast_S4096_S1x4096_1 (iotaInDim S4096 32 0))))) (broadcastInDim S1024x4096 ![] bcast_S_S1024x4096 (constantI S_ 32 128#32))

/-- Whether a row attends to any key at all. -/
def rAny : IVec S1024 1 := Host.reduce IntOp.ori rMask (constantI S_ 1 0#1) reducesTo_S1024x4096_S1024_d1 h_S_

/-- The queries. -/
def rQ (x : FVec Ideal S1x1024x1024 .f32) (w : FVec Ideal S1024x4096 .f32) : FVec Ideal S1x1024x32x128 .f32 :=
  shapeCast _ (Host.dotGeneral dot_S1x1024x1024_S1024x4096_S1x1024x4096_2_0_01_1_n_n none x w) shapeCasts_S1x1024x4096_S1x1024x32x128

/-- The scores: the queries against the keys, scaled, −∞ where the mask leaves a key out. -/
def rS (mk : IVec S1024x4096 1) (q : FVec Ideal S1x1024x32x128 .f32) (k : FVec Ideal S1x4096x32x128 .f32) : FVec Ideal S1x32x1024x4096 .f32 :=
  select (broadcastInDim S1x32x1024x4096 ![0, 1, 2, 3] bcast_S1x1x1024x4096_S1x32x1024x4096_0_1_2_3 (broadcastInDim S1x1x1024x4096 ![2, 3] bcast_S1024x4096_S1x1x1024x4096_2_3 mk)) (mulf (Host.dotGeneral dot_S1x1024x32x128_S1x4096x32x128_S1x32x1024x4096_3_3_1_1_02_02 none q k) (broadcastInDim S1x32x1024x4096 ![] bcast_S_S1x32x1024x4096 (constant S_ .f32 0x3DB504F3#32))) (broadcastInDim S1x32x1024x4096 ![] bcast_S_S1x32x1024x4096 (id (constant S_ .f32 0xFF800000#32)))

/-- The exponentials of the scores less their row's greatest. -/
def rE (s : FVec Ideal S1x32x1024x4096 .f32) : FVec Ideal S1x32x1024x4096 .f32 :=
  Host.exp (subf s (broadcastInDim S1x32x1024x4096 ![0, 1, 2, 3] bcast_S1x32x1024x1_S1x32x1024x4096_0_1_2_3 (broadcastInDim S1x32x1024x1 ![0, 1, 2] bcast_S1x32x1024_S1x32x1024x1_0_1_2 (Host.reduce FloatOps.maximumf s (constant S_ .f32 0xFF800000#32) reducesTo_S1x32x1024x4096_S1x32x1024_d3 h_S_))))

/-- The weights: the exponentials over their row's sum. -/
def rW (any : IVec S1024 1) (e : FVec Ideal S1x32x1024x4096 .f32) : FVec Ideal S1x32x1024x4096 .f32 :=
  select (broadcastInDim S1x32x1024x4096 ![0, 1, 2, 3] bcast_S1x1x1024x1_S1x32x1024x4096_0_1_2_3 (broadcastInDim S1x1x1024x1 ![2] bcast_S1024_S1x1x1024x1_2 any)) (Host.divf e (broadcastInDim S1x32x1024x4096 ![0, 1, 2, 3] bcast_S1x32x1024x1_S1x32x1024x4096_0_1_2_3 (select (broadcastInDim S1x32x1024x1 ![0, 1, 2, 3] bcast_S1x1x1024x1_S1x32x1024x1_0_1_2_3 (broadcastInDim S1x1x1024x1 ![2] bcast_S1024_S1x1x1024x1_2 any)) (broadcastInDim S1x32x1024x1 ![0, 1, 2] bcast_S1x32x1024_S1x32x1024x1_0_1_2 (Host.reduceAdd e (constant S_ .f32 0x00000000#32) reducesTo_S1x32x1024x4096_S1x32x1024_d3 h_S_)) (broadcastInDim S1x32x1024x1 ![] bcast_S_S1x32x1024x1 (id (constant S_ .f32 0x3F800000#32)))))) (broadcastInDim S1x32x1024x4096 ![] bcast_S_S1x32x1024x4096 (id (constant S_ .f32 0x00000000#32)))

/-- The context rows: the weighted values, head after head. -/
def rC (w : FVec Ideal S1x32x1024x4096 .f32) (v : FVec Ideal S1x4096x32x128 .f32) : FVec Ideal S1x1024x4096 .f32 :=
  shapeCast _ (transpose S1x1024x32x128 [0, 3, 1, 2] (Host.dotGeneral dot_S1x4096x32x128_S1x32x1024x4096_S1x32x128x1024_1_3_3_2_02_01 none v w) transposes_S1x32x128x1024_S1x1024x32x128_0_3_1_2) shapeCasts_S1x1024x32x128_S1x1024x4096

/-- Their projection. -/
def rO (c : FVec Ideal S1x1024x4096 .f32) (w : FVec Ideal S4096x1024 .f32) : FVec Ideal S1x1024x1024 .f32 :=
  Host.dotGeneral dot_S1x1024x4096_S4096x1024_S1x1024x1024_2_0_01_1_n_n none c w

/-- The reference's result is these stages, one after the other. -/
theorem res_eq (m : (ℓ : Loc nD τ sig) → Buf (Elt Ideal) ℓ) (c : Dev nD) :
    res_main_v34 m c = rO (rC (rW rAny (rE (rS rMask (rQ (m ((c.tc : Thread nD τ).loc main_arg0)) (m ((c.tc : Thread nD τ).loc main_arg1))) (m ((c.tc : Thread nD τ).loc main_arg2))))) (m ((c.tc : Thread nD τ).loc main_arg3))) (m ((c.tc : Thread nD τ).loc main_arg4)) := by
  unfold res_main_v34 rO rC rW rAny rE rS rMask rQ
  rfl

/-- The reference's mask, read at a pair. -/
theorem rMask_at (i : Fin 1024) (j : Fin 4096) : rMask (ix2 i j) = IntOp.cmpi .sle (IntOp.absi (IntOp.subi (BitVec.ofNat 32 i) (BitVec.ofNat 32 j))) 128#32 := by
  unfold rMask; pointwise

/-- Whether a row keeps any pair. -/
theorem rAny_at (i : Fin 1024) : rAny (ix1 i) = Finset.fold IntOp.ori (0#1) (fun j => rMask (ix2 i j)) Finset.univ := by
  unfold rAny; pointwise

/-- A query entry is a sum over the model dimension. -/
theorem rQ_at (x : FVec Ideal S1x1024x1024 .f32) (w : FVec Ideal S1024x4096 .f32) (i : Fin 1024) (h : Fin 32) (d : Fin 128) :
    rQ x w (ix4 (0 : Fin 1) i h d) = ∑ k : Fin 1024, x (ix3 (0 : Fin 1) i k) * w (ix2 k (⟨h.val * 128 + d.val, by omega⟩ : Fin 4096)) := by
  unfold rQ; pointwise

/-- A masked score of the reference. -/
theorem rS_at (mk : IVec S1024x4096 1) (q : FVec Ideal S1x1024x32x128 .f32) (k : FVec Ideal S1x4096x32x128 .f32) (h : Fin 32) (i : Fin 1024) (j : Fin 4096) :
    rS mk q k (ix4 (0 : Fin 1) h i j) = Scalar.select (mk (ix2 i j)) ((∑ d : Fin 128, q (ix4 (0 : Fin 1) i h d) * k (ix4 (0 : Fin 1) j h d)) * Ideal.ofBits .f32 0x3DB504F3#32) (Ideal.ofBits .f32 0xFF800000#32) := by
  unfold rS; pointwise; rfl

/-- The exponential of a score less its row's maximum. -/
theorem rE_at (s : FVec Ideal S1x32x1024x4096 .f32) (h : Fin 32) (i : Fin 1024) (j : Fin 4096) :
    rE s (ix4 (0 : Fin 1) h i j) = Ideal.exp (s (ix4 (0 : Fin 1) h i j) - Finset.fold max (Ideal.ofBits .f32 0xFF800000#32) (fun k => s (ix4 (0 : Fin 1) h i k)) Finset.univ) := by
  unfold rE; pointwise

/-- A weight: the exponential over the row's sum. -/
theorem rW_at (any : IVec S1024 1) (e : FVec Ideal S1x32x1024x4096 .f32) (h : Fin 32) (i : Fin 1024) (j : Fin 4096) (ha : any (ix1 i) = 1#1) :
    rW any e (ix4 (0 : Fin 1) h i j) = Ideal.div (e (ix4 (0 : Fin 1) h i j)) (∑ k : Fin 4096, e (ix4 (0 : Fin 1) h i k)) := by
  unfold rW; pointwise; rw [ha]; rfl

/-- A context entry is the weighted sum of values. -/
theorem rC_at (w : FVec Ideal S1x32x1024x4096 .f32) (v : FVec Ideal S1x4096x32x128 .f32) (i : Fin 1024) (n : Fin 4096) :
    rC w v (ix3 (0 : Fin 1) i n) = ∑ j : Fin 4096, v (ix4 (0 : Fin 1) j (⟨n.val / 128, by omega⟩ : Fin 32) (⟨n.val % 128, by omega⟩ : Fin 128)) * w (ix4 (0 : Fin 1) (⟨n.val / 128, by omega⟩ : Fin 32) i j) := by
  unfold rC; pointwise

/-- An output entry is a sum over the context's columns. -/
theorem rO_at (c : FVec Ideal S1x1024x4096 .f32) (w : FVec Ideal S4096x1024 .f32) (i n : Fin 1024) :
    rO c w (ix3 (0 : Fin 1) i n) = ∑ k : Fin 4096, c (ix3 (0 : Fin 1) i k) * w (ix2 k n) := by
  unfold rO; pointwise

end Cert.Val

end

end
-- ==== Proof.Val.Mask.lean ====
/-
  The band mask on words, the two literals, and the rows' softmax of the reference as one sum.
-/
module

public import proofs.«01_k».proof.Proof.Val.Ref
public import proofs.«01_k».proof.Proof.Val.Soft
public import Idealize.ShloMosaic.Lib.WordArith
public import Idealize.ShloMosaic.Lib.Affine

@[expose] public section

set_option maxRecDepth 8192

noncomputable section

namespace Cert.Val

open Idealize.ShloMosaic Cert.ReferenceIdeal Cert.ReferenceIdeal.Gen

/-- The mask's word test says that two positions are at most 128 apart. -/
theorem near_word (a b : ℕ) (ha : a < 8192) (hb : b < 8192) :
    IntOp.cmpi .sle (IntOp.absi (IntOp.subi (BitVec.ofNat 32 a) (BitVec.ofNat 32 b))) 128#32 = 1#1 ↔ a ≤ b + 128 ∧ b ≤ a + 128 := by
  rw [IntOp.cmpi_sle]
  have h1 := WordArith.toInt_ofNat_small a (by omega)
  have h2 := WordArith.toInt_ofNat_small b (by omega)
  have h3 : (IntOp.subi (BitVec.ofNat 32 a) (BitVec.ofNat 32 b)).toInt = (a : ℤ) - b := by
    rw [WordArith.toInt_subi_of_nonneg _ _ (by omega) (by omega), h1, h2]
  generalize IntOp.subi (BitVec.ofNat 32 a) (BitVec.ofNat 32 b) = x at h3
  have h5 : (128#32 : BitVec 32).toInt = 128 := by decide
  have h4 : (IntOp.absi x).toInt = |(a : ℤ) - b| := by
    unfold IntOp.absi
    rw [BitVec.msb_eq_toInt]
    by_cases h : x.toInt < 0
    · rw [if_pos (by simpa using h), BitVec.toInt_neg, abs_of_neg (by omega), h3]
      rw [Int.bmod_eq_of_le (by omega) (by omega)]
    · rw [if_neg (by simpa using h), abs_of_nonneg (by omega), h3]
  rw [h4, h5, abs_le]
  omega

/-- The reference keeps a pair exactly when it lies within the band. -/
theorem rMask_iff (i : Fin 1024) (j : Fin 4096) : rMask (ix2 i j) = 1#1 ↔ i.val ≤ j.val + 128 ∧ j.val ≤ i.val + 128 := by
  rw [rMask_at]; exact near_word _ _ (by omega) (by omega)

/-- Every row attends to some key: its own. -/
theorem rAny_one (i : Fin 1024) : rAny (ix1 i) = 1#1 := by
  rw [rAny_at]
  have h : ∀ (s : Finset (Fin 4096)) (j : Fin 4096), j ∈ s → rMask (ix2 i j) = 1#1 → Finset.fold IntOp.ori (0#1) (fun j => rMask (ix2 i j)) s = 1#1 := by
    intro s j hj h1
    rw [← Finset.insert_erase hj, Finset.fold_insert (Finset.notMem_erase j s), h1]
    generalize Finset.fold IntOp.ori (0#1) (fun j => rMask (ix2 i j)) (s.erase j) = y
    revert y; decide
  exact h _ ⟨i.val, by omega⟩ (Finset.mem_univ _) ((rMask_iff _ _).mpr ⟨by show _ ≤ i.val + 128; omega, by show i.val ≤ _; omega⟩)

/-- The scale is the rational that its float word is. -/
theorem scale_eq : Ideal.ofBits .f32 0x3DB504F3#32 = ((11863283 * (2 ^ 27)⁻¹ : ℝ) : EReal) := by
  simp [Ideal.ofBits, Ideal.ieee, -EReal.coe_mul]

/-- The scale is a real number. -/
theorem scale_isR : IsR (Ideal.ofBits .f32 0x3DB504F3#32) := ⟨_, scale_eq⟩

/-- The scale is not negative. -/
theorem scale_nonneg : 0 ≤ Ideal.ofBits .f32 0x3DB504F3#32 := by
  rw [scale_eq]; exact EReal.coe_nonneg.mpr (by positivity)

/-- The literal −∞ is the least element. -/
theorem neg_inf : Ideal.ofBits .f32 0xFF800000#32 = ⊥ := by
  simp [Ideal.ofBits, Ideal.ieee]

variable (x : FVec Ideal S1x1024x1024 .f32) (w : FVec Ideal S1024x4096 .f32) (k v : FVec Ideal S1x4096x32x128 .f32)

/-- The reference's score of head `h`, query row `i`, key row `j`. -/
def sc (h : Fin 32) (i : Fin 1024) (j : Fin 4096) : EReal := rS rMask (rQ x w) k (ix4 (0 : Fin 1) h i j)

/-- The reference's context rows. -/
def cx : FVec Ideal S1x1024x4096 .f32 := rC (rW rAny (rE (rS rMask (rQ x w) k))) v

/-- A score within the band is the scaled product of query and key. -/
theorem sc_near (h : Fin 32) (i : Fin 1024) (j : Fin 4096) (hn : i.val ≤ j.val + 128 ∧ j.val ≤ i.val + 128) :
    sc x w k h i j = (∑ d : Fin 128, rQ x w (ix4 (0 : Fin 1) i h d) * k (ix4 (0 : Fin 1) j h d)) * Ideal.ofBits .f32 0x3DB504F3#32 := by
  unfold sc
  rw [rS_at, (rMask_iff i j).mpr hn]; rfl

/-- A score outside the band is −∞. -/
theorem sc_far (h : Fin 32) (i : Fin 1024) (j : Fin 4096) (hn : ¬ (i.val ≤ j.val + 128 ∧ j.val ≤ i.val + 128)) : sc x w k h i j = ⊥ := by
  unfold sc
  have h0 : rMask (ix2 i j) = 0#1 := by
    have := mt (rMask_iff i j).mp hn
    generalize rMask (ix2 i j) = y at this
    revert y; decide
  rw [rS_at, h0, neg_inf]; rfl

/-- A context row is the values weighted by the softmax of the scores. -/
theorem cx_at (h : Fin 32) (i : Fin 1024) (d : Fin 128) (hl : h.val * 128 + d.val < 4096) :
    cx x w k v (ix3 (0 : Fin 1) i ⟨h.val * 128 + d.val, hl⟩)
      = ∑ j : Fin 4096, v (ix4 (0 : Fin 1) j h d) * Ideal.div (Ideal.exp (sc x w k h i j - top (sc x w k h i))) (∑ j, Ideal.exp (sc x w k h i j - top (sc x w k h i))) := by
  unfold cx
  rw [rC_at]
  have h1 : (⟨(h.val * 128 + d.val) / 128, by omega⟩ : Fin 32) = h := Fin.ext (by show _ / 128 = _; omega)
  have h2 : (⟨(h.val * 128 + d.val) % 128, by omega⟩ : Fin 128) = d := Fin.ext (by show _ % 128 = _; omega)
  refine Finset.sum_congr rfl fun j _ => ?_
  rw [rW_at _ _ _ _ _ (rAny_one i)]
  simp only [rE_at, neg_inf]
  simp only [h1, h2]
  rfl

variable {x w k}

/-- Of finite queries and keys every score is below +∞, -/
theorem sc_ne_top (hx : ∀ i, IsR (x i)) (hw : ∀ i, IsR (w i)) (hk : ∀ i, IsR (k i)) (h : Fin 32) (i : Fin 1024) (j : Fin 4096) : sc x w k h i j ≠ ⊤ := by
  by_cases hn : i.val ≤ j.val + 128 ∧ j.val ≤ i.val + 128
  · rw [sc_near x w k h i j hn]
    refine (IsR.mul (IsR.sum fun d => IsR.mul ?_ (hk _)) scale_isR).ne_top
    rw [rQ_at]
    exact IsR.sum fun e => (hx _).mul (hw _)
  · rw [sc_far x w k h i j hn]; exact bot_ne_top

/-- and a row's score against its own key is finite. -/
theorem sc_ne_bot (hx : ∀ i, IsR (x i)) (hw : ∀ i, IsR (w i)) (hk : ∀ i, IsR (k i)) (h : Fin 32) (i : Fin 1024) (hi : i.val < 4096) : sc x w k h i ⟨i.val, hi⟩ ≠ ⊥ := by
  rw [sc_near x w k h i _ ⟨by show _ ≤ i.val + 128; omega, by show i.val ≤ _; omega⟩]
  refine (IsR.mul (IsR.sum fun d => IsR.mul ?_ (hk _)) scale_isR).ne_bot
  rw [rQ_at]
  exact IsR.sum fun e => (hx _).mul (hw _)

end Cert.Val

end

end
-- ==== Proof.Val.Head.lean ====
/-
  One head of the kernel against the reference's context rows.
-/
module

public import proofs.«01_k».proof.Proof.Val.Ker
public import proofs.«01_k».proof.Proof.Val.Mask

@[expose] public section

set_option maxRecDepth 8192

noncomputable section

namespace Cert.Val

open Idealize.ShloMosaic Cert.KernelIdeal Cert.KernelIdeal.Gen Cert.KernelIdealProof
open Idealize.ShloMosaic.TcCoe

/-! Two indices with the same coordinates read the same value. -/

/-- A rank-2 array takes one value at two indices with equal coordinates. -/
theorem at2 {α : Type} {a b : ℕ} (f : (⟨2, ![a, b]⟩ : Shape).Idx → α) {i j : (⟨2, ![a, b]⟩ : Shape).Idx}
    (h0 : (i 0).val = (j 0).val) (h1 : (i 1).val = (j 1).val) : f i = f j :=
  congrArg f (funext fun e => Fin.ext (by match e with | ⟨0, _⟩ => exact h0 | ⟨1, _⟩ => exact h1))

/-- The same at rank 3. -/
theorem at3 {α : Type} {a b c : ℕ} (f : (⟨3, ![a, b, c]⟩ : Shape).Idx → α) {i j : (⟨3, ![a, b, c]⟩ : Shape).Idx}
    (h0 : (i 0).val = (j 0).val) (h1 : (i 1).val = (j 1).val) (h2 : (i 2).val = (j 2).val) : f i = f j :=
  congrArg f (funext fun e => Fin.ext (by match e with | ⟨0, _⟩ => exact h0 | ⟨1, _⟩ => exact h1 | ⟨2, _⟩ => exact h2))

variable (m : (ℓ : Loc nD τ sig) → Buf (Elt Ideal) ℓ)
variable (x : FVec Ideal S1x1024x1024 .f32) (w : FVec Ideal Cert.ReferenceIdeal.S1024x4096 .f32) (k v : FVec Ideal Cert.ReferenceIdeal.S1x4096x32x128 .f32)
  (o : FVec Ideal Cert.ReferenceIdeal.S4096x1024 .f32)

/-- Each device's arguments are its blocks of the whole arrays. -/
structure Blocks : Prop where
  hx : ∀ (c : Dev nD) (i : S1x1024x1024.Idx), (arg m c main_arg0 : FVec Ideal S1x1024x1024 .f32) i = x i
  hw : ∀ (c : Dev nD) (i : S1024x1024.Idx) (j : Cert.ReferenceIdeal.S1024x4096.Idx), (j 0).val = (i 0).val → (j 1).val = 1024 * c.val + (i 1).val →
    (arg m c main_arg1 : FVec Ideal S1024x1024 .f32) i = w j
  hk : ∀ (c : Dev nD) (i : S1x1024x32x128.Idx) (j : Cert.ReferenceIdeal.S1x4096x32x128.Idx), (j 1).val = 1024 * c.val + (i 1).val → (j 2).val = (i 2).val → (j 3).val = (i 3).val →
    (arg m c main_arg2 : FVec Ideal S1x1024x32x128 .f32) i = k j
  hv : ∀ (c : Dev nD) (i : S1x1024x32x128.Idx) (j : Cert.ReferenceIdeal.S1x4096x32x128.Idx), (j 1).val = 1024 * c.val + (i 1).val → (j 2).val = (i 2).val → (j 3).val = (i 3).val →
    (arg m c main_arg3 : FVec Ideal S1x1024x32x128 .f32) i = v j
  ho : ∀ (c : Dev nD) (i : S1024x1024.Idx) (j : Cert.ReferenceIdeal.S4096x1024.Idx), (j 0).val = 1024 * c.val + (i 0).val → (j 1).val = (i 1).val →
    (arg m c main_arg4 : FVec Ideal S1024x1024 .f32) i = o j
  fx : ∀ i, IsR (x i)
  fw : ∀ i, IsR (w i)
  fk : ∀ i, IsR (k i)

variable {m x w k v o}

/-- A row of the window buffers is that row of the whole array, at the device's own heads: of K, -/
theorem KB_at (B : Blocks m x w k v o) (c : Dev nD) (i : S1152x8x128.Idx) (j : Cert.ReferenceIdeal.S1x4096x32x128.Idx)
    (h1 : (j 1).val = (i 0).val) (h2 : (j 2).val = 8 * c.val + (i 1).val) (h3 : (j 3).val = (i 2).val) : KB m c i = k j := by
  have hc : c.val < 4 := c.isLt
  have b0 : (i 0).val < 1152 := (i 0).isLt
  have b1 : (i 1).val < 8 := (i 1).isLt
  have b2 : (i 2).val < 128 := (i 2).isLt
  unfold KB ext g3 kc
  split_ifs with h
  · refine B.hk 0 _ j ?_ ?_ ?_
    · show _ = 1024 * 0 + (i 0).val % 1024; omega
    · show _ = (8 * c.val + (i 1).val) % 32; omega
    · show _ = (i 2).val % 128; omega
  · refine B.hk 1 _ j ?_ ?_ ?_
    · show _ = 1024 * 1 + ((i 0).val - 1024) % 1024; omega
    · show _ = (8 * c.val + (i 1).val) % 32; omega
    · show _ = (i 2).val % 128; omega

/-- and of V. -/
theorem VB_at (B : Blocks m x w k v o) (c : Dev nD) (i : S1152x8x128.Idx) (j : Cert.ReferenceIdeal.S1x4096x32x128.Idx)
    (h1 : (j 1).val = (i 0).val) (h2 : (j 2).val = 8 * c.val + (i 1).val) (h3 : (j 3).val = (i 2).val) : VB m c i = v j := by
  have hc : c.val < 4 := c.isLt
  have b0 : (i 0).val < 1152 := (i 0).isLt
  have b1 : (i 1).val < 8 := (i 1).isLt
  have b2 : (i 2).val < 128 := (i 2).isLt
  unfold VB ext g3 vc
  split_ifs with h
  · refine B.hv 0 _ j ?_ ?_ ?_
    · show _ = 1024 * 0 + (i 0).val % 1024; omega
    · show _ = (8 * c.val + (i 1).val) % 32; omega
    · show _ = (i 2).val % 128; omega
  · refine B.hv 1 _ j ?_ ?_ ?_
    · show _ = 1024 * 1 + ((i 0).val - 1024) % 1024; omega
    · show _ = (8 * c.val + (i 1).val) % 32; omega
    · show _ = (i 2).val % 128; omega

/-- The scaled queries of device `c` are the reference's queries of its heads, times the scale. -/
theorem QS_at (B : Blocks m x w k v o) (c : Dev nD) (i n : Fin 1024) (h : Fin 32) (d : Fin 128) (e : h.val * 128 + d.val = 1024 * c.val + n.val) :
    QS m c (ix2 i n) = rQ x w (ix4 (0 : Fin 1) i h d) * Ideal.ofBits .f32 0x3DB504F3#32 := by
  unfold QS
  rw [pay16_at, rQ_at]
  congr 1
  refine Finset.sum_congr rfl fun a _ => ?_
  rw [B.hx, B.hw c (ix2 a n) (ix2 a (⟨h.val * 128 + d.val, by omega⟩ : Fin 4096)) rfl e]

/-- Row `r` of block `b`, as a row of the queries. -/
abbrev row (c : Dev nD) (t : Fin 4) (r : Fin 256) : Fin 1024 :=
  ⟨256 * cb c t + r.val, by have : cb c t < 4 := Nat.mod_lt _ (by decide); omega⟩
/-- Key `j` of the window at step `t`, as a key of the whole array. -/
abbrev win (c : Dev nD) (t : Fin 4) (j : Fin 512) : Fin 4096 :=
  ⟨ks c t + j.val, by have : ks c t ≤ 640 := Nat.min_le_right _ _; omega⟩
/-- Head `h` of device `c`, as a head of all. -/
abbrev hof (c : Dev nD) (h : Fin 8) : Fin 32 := ⟨8 * c.val + h.val, by have : c.val < 4 := c.isLt; omega⟩

/-- A key outside the window is masked. -/
theorem out_far (c : Dev nD) (t : Fin 4) (r : Fin 256) (j : Fin 4096) (hj : j ∉ Set.range (win c t)) :
    ¬ ((row c t r).val ≤ j.val + 128 ∧ j.val ≤ (row c t r).val + 128) := by
  intro hn
  have hb : cb c t < 4 := Nat.mod_lt _ (by decide)
  have hk : ks c t = min (256 * cb c t - 128) 640 := rfl
  have h1 : 256 * cb c t + r.val ≤ j.val + 128 ∧ j.val ≤ 256 * cb c t + r.val + 128 := hn
  refine hj ⟨⟨j.val - ks c t, by omega⟩, Fin.ext ?_⟩
  show ks c t + (j.val - ks c t) = j.val
  omega

/-- The kernel's mask bit is set exactly within the band. -/
theorem msk_iff (c : Dev nD) (t : Fin 4) (r : Fin 256) (j : Fin 512) :
    msk c t (ix2 r j) = 1#1 ↔ (row c t r).val ≤ (win c t j).val + 128 ∧ (win c t j).val ≤ (row c t r).val + 128 := by
  have hb : cb c t < 4 := Nat.mod_lt _ (by decide)
  have hk : ks c t ≤ 640 := Nat.min_le_right _ _
  unfold msk
  rw [mskOf_at]
  have e1 : IntOp.addi (BitVec.ofNat 32 (256 * cb c t)) (BitVec.ofNat 32 r) = BitVec.ofNat 32 (256 * cb c t + r.val) := (BitVec.ofNat_add _ _).symm
  have e2 : IntOp.addi (BitVec.ofNat 32 (ks c t)) (BitVec.ofNat 32 j) = BitVec.ofNat 32 (ks c t + j.val) := (BitVec.ofNat_add _ _).symm
  rw [e1, e2]
  exact near_word _ _ (by omega) (by omega)

/-- The kernel's score of a key in the window is the reference's. -/
theorem score_at (B : Blocks m x w k v o) (c : Dev nD) (t : Fin 4) (h : Fin 8) (r : Fin 256) (j : Fin 512) :
    Scalar.select (msk c t (ix2 r j)) (∑ e : Fin 128, qw m c t h (ix2 r e) * kw m c t h (ix3 j (0 : Fin 1) e)) (⊥ : EReal)
      = sc x w k (hof c h) (row c t r) (win c t j) := by
  have hc : c.val < 4 := c.isLt
  have hb : cb c t < 4 := Nat.mod_lt _ (by decide)
  have hks : ks c t ≤ 640 := Nat.min_le_right _ _
  by_cases hn : (row c t r).val ≤ (win c t j).val + 128 ∧ (win c t j).val ≤ (row c t r).val + 128
  · rw [(msk_iff c t r j).mpr hn, sc_near x w k _ _ _ hn, ← scale_out _ _ _ scale_nonneg scale_isR.ne_top]
    show (∑ e : Fin 128, qw m c t h (ix2 r e) * kw m c t h (ix3 j (0 : Fin 1) e)) = _
    refine Finset.sum_congr rfl fun e _ => ?_
    have hq : qw m c t h (ix2 r e) = QS m c (ix2 (row c t r) (⟨128 * h.val + e.val, by omega⟩ : Fin 1024)) := by
      unfold qw
      refine at2 (QS m c) ?_ ?_
      · show 256 * cb c t + 1 * r.val = _; rw [one_mul]; rfl
      · show 128 * h.val + 1 * e.val = _; rw [one_mul]; rfl
    have hkk : kw m c t h (ix3 j (0 : Fin 1) e) = k (ix4 (0 : Fin 1) (win c t j) (hof c h) e) := by
      unfold kw
      refine KB_at B c _ _ ?_ ?_ ?_
      · show ks c t + j.val = ks c t + 1 * j.val; omega
      · show 8 * c.val + h.val = 8 * c.val + (h.val + 1 * 0); omega
      · show e.val = 0 + 1 * e.val; omega
    rw [hq, hkk, QS_at B c _ _ (hof c h) e (by show (8 * c.val + h.val) * 128 + e.val = 1024 * c.val + (128 * h.val + e.val); omega)]
  · have h0 : msk c t (ix2 r j) = 0#1 := by
      have := mt (msk_iff c t r j).mp hn
      generalize msk c t (ix2 r j) = y at this
      revert y; decide
    rw [h0, sc_far x w k _ _ _ hn]; rfl

/-- What a head adds to the output block at step `t`: its context rows of the reference, projected. -/
theorem hd_at (B : Blocks m x w k v o) (c : Dev nD) (t : Fin 4) (h : Fin 8) (r : Fin 256) (n : Fin 1024) :
    hd m c t h (ix2 r n) = ∑ d : Fin 128, cx x w k v (ix3 (0 : Fin 1) (row c t r) (⟨(hof c h).val * 128 + d.val, by omega⟩ : Fin 4096))
      * o (ix2 (⟨(hof c h).val * 128 + d.val, by omega⟩ : Fin 4096) n) := by
  have hc : c.val < 4 := c.isLt
  unfold hd
  rw [pay25_at]
  refine Finset.sum_congr rfl fun d _ => ?_
  have hv : ∀ j : Fin 512, vw m c t h (ix3 j (0 : Fin 1) d) = v (ix4 (0 : Fin 1) (win c t j) (hof c h) d) := fun j => by
    unfold vw
    refine VB_at B c _ _ ?_ ?_ ?_
    · show ks c t + j.val = ks c t + 1 * j.val; omega
    · show 8 * c.val + h.val = 8 * c.val + (h.val + 1 * 0); omega
    · show d.val = 0 + 1 * d.val; omega
  have hw : ww m c h (ix2 d n) = o (ix2 (⟨(hof c h).val * 128 + d.val, by omega⟩ : Fin 4096) n) := by
    unfold ww WO
    refine (at2 (k0_pay18 (arg m c main_arg4)) (j := ix2 (⟨128 * h.val + d.val, by omega⟩ : Fin 1024) n) ?_ ?_).trans ?_
    · show 128 * h.val + 1 * d.val = _; rw [one_mul]; rfl
    · show 0 + 1 * n.val = n.val; omega
    · rw [pay18_at]
      exact B.ho c _ _ (by show (8 * c.val + h.val) * 128 + d.val = 1024 * c.val + (128 * h.val + d.val); omega) rfl
  rw [hw]
  congr 1
  simp only [score_at B, hv, neg_inf]
  rw [cx_at x w k v (hof c h) (row c t r) d (by omega)]
  refine soft (sc x w k (hof c h) (row c t r)) (fun j => v (ix4 (0 : Fin 1) j (hof c h) d)) (win c t) ?_ ?_ ?_ _ (sc_ne_bot B.fx B.fw B.fk (hof c h) (row c t r) (by omega))
  · intro a b hab
    have : ks c t + a.val = ks c t + b.val := congrArg Fin.val hab
    exact Fin.ext (by omega)
  · exact fun j hj => sc_far x w k _ _ _ (out_far c t r j hj)
  · exact sc_ne_top B.fx B.fw B.fk _ _

end Cert.Val

end

end
-- ==== Proof.Val.Out.lean ====
/-
  The kernel's result is the reference's: the eight heads of each device, the four devices of the ring, all the context's columns.
-/
module

public import proofs.«01_k».proof.Proof.Val.Head
public import Idealize.ShloMosaic.Lib.Pipeline.ValueKit.Acc

@[expose] public section

set_option maxRecDepth 8192

noncomputable section

namespace Cert.Val

open Idealize.ShloMosaic Cert.KernelIdeal Cert.KernelIdeal.Gen Cert.KernelIdealProof
open Idealize.ShloMosaic.TcCoe

variable {m : (ℓ : Loc nD τ sig) → Buf (Elt Ideal) ℓ}
variable {x : FVec Ideal S1x1024x1024 .f32} {w : FVec Ideal Cert.ReferenceIdeal.S1024x4096 .f32} {k v : FVec Ideal Cert.ReferenceIdeal.S1x4096x32x128 .f32}
  {o : FVec Ideal Cert.ReferenceIdeal.S4096x1024 .f32}

/-- What head `h` of all adds to the result at row `i`, column `n`. -/
def share (x : FVec Ideal S1x1024x1024 .f32) (w : FVec Ideal Cert.ReferenceIdeal.S1024x4096 .f32) (k v : FVec Ideal Cert.ReferenceIdeal.S1x4096x32x128 .f32)
    (o : FVec Ideal Cert.ReferenceIdeal.S4096x1024 .f32) (i n : Fin 1024) (h : Fin 32) : EReal :=
  ∑ d : Fin 128, cx x w k v (ix3 (0 : Fin 1) i (⟨h.val * 128 + d.val, by omega⟩ : Fin 4096)) * o (ix2 (⟨h.val * 128 + d.val, by omega⟩ : Fin 4096) n)

/-- Device `c`'s block at step `t` is the sum of its eight heads. -/
theorem acc_at (B : Blocks m x w k v o) (c : Dev nD) (t : Fin 4) (r : Fin 256) (n : Fin 1024) :
    acc m c t (ix2 r n) = ∑ h : Fin 8, share x w k v o (row c t r) n (hof c h) := by
  have step : ∀ h : Fin 8, hd m c t h (ix2 r n) = share x w k v o (row c t r) n (hof c h) := fun h => hd_at B c t h r n
  have hs : ∀ N : ℕ, sm m c t N (ix2 r n) = ∑ h ∈ Finset.range N, share x w k v o (row c t r) n (hof c (Fin.ofNat 8 h)) := by
    intro N
    induction N with
    | zero => exact pay20_at r n
    | succ N ih =>
      rw [Finset.sum_range_succ, ← ih, ← step]
      rfl
  unfold acc
  rw [hs, Finset.sum_range]
  refine Finset.sum_congr rfl fun h _ => ?_
  rw [show Fin.ofNat 8 h.val = h from Fin.ext (Nat.mod_eq_of_lt h.isLt)]

/-- A step of the ring adds the device's own block to what the device before it had. -/
theorem red_succ (t : ℕ) (c : Dev nD) (i : S256x1024.Idx) : red m (t + 1) c i = acc m c (Fin.ofNat 4 (t + 1)) i + red m t (dv (c.val + 3)) i := rfl

/-- After the last step a device's block holds the shares of all four devices. -/
theorem red_at (B : Blocks m x w k v o) (c : Dev nD) (r : Fin 256) (n i : Fin 1024) (hi : i.val = 256 * ((c.val + 1) % 4) + r.val) :
    red m 3 c (ix2 r n) = ∑ p : Fin 4, ∑ h : Fin 8, share x w k v o i n (hof p h) := by
  have hr : ∀ (p : Dev nD) (t : Fin 4), cb p t = (c.val + 1) % 4 → acc m p t (ix2 r n) = ∑ h : Fin 8, share x w k v o i n (hof p h) := fun p t h => by
    rw [acc_at B, show row p t r = i from Fin.ext (by show 256 * cb p t + r.val = i.val; rw [h, hi])]
  rw [red_succ, red_succ, red_succ]
  show _ + (_ + (_ + acc m _ 0 (ix2 r n))) = _
  rw [hr _ _ (by clear hr hi; revert c; decide), hr _ _ (by clear hr hi; revert c; decide), hr _ _ (by clear hr hi; revert c; decide), hr _ _ (by clear hr hi; revert c; decide)]
  have ring : ∀ (f : Dev nD → EReal) (c : Dev nD),
      f c + (f (dv (c.val + 3)) + (f (dv ((dv (c.val + 3)).val + 3)) + f (dv ((dv ((dv (c.val + 3)).val + 3)).val + 3)))) = ∑ p : Fin 4, f p := by
    intro f c
    rw [Fin.sum_univ_four]
    fin_cases c
    · show f 0 + (f 3 + (f 2 + f 1)) = _; abel
    · show f 1 + (f 0 + (f 3 + f 2)) = _; abel
    · show f 2 + (f 1 + (f 0 + f 3)) = _; abel
    · show f 3 + (f 2 + (f 1 + f 0)) = _; abel
  exact ring (fun p => ∑ h : Fin 8, share x w k v o i n (hof p h)) c

/-- The kernel's result on every device is the reference's. -/
theorem OUT_eq (B : Blocks m x w k v o) (c : Dev nD) : OUT m c = rO (cx x w k v) o := by
  funext j
  obtain ⟨i, n, rfl⟩ : ∃ i n : Fin 1024, j = ix3 (0 : Fin 1) i n :=
    ⟨j 1, j 2, funext fun e => by match e with | ⟨0, _⟩ => exact Subsingleton.elim (α := Fin 1) _ _ | ⟨1, _⟩ => rfl | ⟨2, _⟩ => rfl⟩
  have hsum : rO (cx x w k v) o (ix3 (0 : Fin 1) i n) = ∑ p : Fin 4, ∑ h : Fin 8, share x w k v o i n (hof p h) := by
    rw [rO_at]
    have e1 : (∑ p : Fin 4, ∑ h : Fin 8, share x w k v o i n (hof p h)) = ∑ h : Fin 32, share x w k v o i n h :=
      Fin.sum_mul_add_congr fun p h hl => congrArg _ (Fin.ext (by show 8 * p.val + h.val = p.val * 8 + h.val; omega))
    rw [e1]
    exact (Fin.sum_mul_add_fin 32 128 fun a : Fin 4096 => cx x w k v (ix3 (0 : Fin 1) i a) * o (ix2 a n)).symm
  have hq : i.val / 256 < 4 := by omega
  have hm : i.val = 256 * (i.val / 256) + (Fin.ofNat 256 i.val).val := by show _ = _ + i.val % 256; omega
  rw [hsum]
  have hred : ∀ p : Dev nD, (p.val + 1) % 4 = i.val / 256 → red m 3 p (ix2 (Fin.ofNat 256 i.val) n) = ∑ p : Fin 4, ∑ h : Fin 8, share x w k v o i n (hof p h) :=
    fun p hp => red_at B p _ n i (by rw [hp]; exact hm)
  by_cases h : i.val / 256 = (c.val + 1) % 4
  · refine Eq.trans ?_ (hred c h.symm)
    unfold OUT
    exact if_pos h
  · refine Eq.trans ?_ (hred (dv (i.val / 256 + 3)) (by show ((i.val / 256 + 3) % 4 + 1) % 4 = _; omega))
    unfold OUT
    exact if_neg h

end Cert.Val

end

end
-- ==== Proof.Val.Claim.lean ====
/-
  The algebraic claim: under the precondition both programs run and every device's result is the reference's.
-/
module

public import proofs.«01_k».proof.Proof.Val.Pre
public import proofs.«01_k».proof.Proof.Val.Out
public import proofs.«01_k».proof.Proof.KI.Launch

@[expose] public section

set_option maxRecDepth 8192

noncomputable section

namespace Cert.Val

open Idealize.ShloMosaic Cert.KernelIdeal Cert.KernelIdeal.Gen Cert.KernelIdealProof
open Idealize.ShloMosaic.TcCoe Idealize.SL.Sem

/-- A rank-4 array takes one value at two indices with equal coordinates. -/
theorem at4 {α : Type} {a b c d : ℕ} (f : (⟨4, ![a, b, c, d]⟩ : Shape).Idx → α) {i j : (⟨4, ![a, b, c, d]⟩ : Shape).Idx}
    (h0 : (i 0).val = (j 0).val) (h1 : (i 1).val = (j 1).val) (h2 : (i 2).val = (j 2).val) (h3 : (i 3).val = (j 3).val) : f i = f j :=
  congrArg f (funext fun e => Fin.ext (by match e with | ⟨0, _⟩ => exact h0 | ⟨1, _⟩ => exact h1 | ⟨2, _⟩ => exact h2 | ⟨3, _⟩ => exact h3))

/-- A block of columns, read at an index. -/
theorem block_cols (w : FVec Ideal Cert.ReferenceIdeal.S1024x4096 .f32) (c : Fin 4) (i : S1024x1024.Idx) (j : Cert.ReferenceIdeal.S1024x4096.Idx)
    (h0 : (j 0).val = (i 0).val) (h1 : (j 1).val = 1024 * c.val + (i 1).val) : (Layout.block ⟨2, ![1024, 1024]⟩ ⟨2, ![1024, 4096]⟩ 1 4 c w) i = w j := by
  rw [Layout.block_apply]
  refine at2 w ?_ ?_ <;> rw [Layout.Tiles.idx_val]
  · exact h0.symm
  · show c.val * 1024 + (i 1).val = _; omega

/-- A block of rows of the output projection. -/
theorem block_rows (o : FVec Ideal Cert.ReferenceIdeal.S4096x1024 .f32) (c : Fin 4) (i : S1024x1024.Idx) (j : Cert.ReferenceIdeal.S4096x1024.Idx)
    (h0 : (j 0).val = 1024 * c.val + (i 0).val) (h1 : (j 1).val = (i 1).val) : (Layout.block ⟨2, ![1024, 1024]⟩ ⟨2, ![4096, 1024]⟩ 0 4 c o) i = o j := by
  rw [Layout.block_apply]
  refine at2 o ?_ ?_ <;> rw [Layout.Tiles.idx_val]
  · show c.val * 1024 + (i 0).val = _; omega
  · exact h1.symm

/-- A block of rows of the keys, or of the values. -/
theorem block_keys (k : FVec Ideal Cert.ReferenceIdeal.S1x4096x32x128 .f32) (c : Fin 4) (i : S1x1024x32x128.Idx) (j : Cert.ReferenceIdeal.S1x4096x32x128.Idx)
    (h1 : (j 1).val = 1024 * c.val + (i 1).val) (h2 : (j 2).val = (i 2).val) (h3 : (j 3).val = (i 3).val) :
    (Layout.block ⟨4, ![1, 1024, 32, 128]⟩ ⟨4, ![1, 4096, 32, 128]⟩ 1 4 c k) i = k j := by
  have b0 : (j 0).val < 1 := (j 0).isLt
  have b1 : (i 0).val < 1 := (i 0).isLt
  rw [Layout.block_apply]
  refine at4 k ?_ ?_ ?_ ?_ <;> rw [Layout.Tiles.idx_val]
  · show (i 0).val = _; omega
  · show c.val * 1024 + (i 1).val = _; omega
  · exact h2.symm
  · exact h3.symm

/-- At the ideal instance every device's result is the reference's. -/
theorem algebraic : Cert.algebraic_KernelIdeal_ReferenceIdeal_pre_scores_tame_KernelIdeal (hKernelIdeal := Cert.KernelIdeal.Gen.facts)
    (hReferenceIdeal := Cert.ReferenceIdeal.Gen.facts) (hPre_scores_tame_KernelIdeal := preFacts) := by
  intro m g m' g' hp ha
  have hfin := fun c : Dev nD => finite_of_pre _ _ _ _ _ (hp c)
  have hx := fun c => (ha c).1
  have hw := fun (c : Dev nD) (i : S1024x1024.Idx) (j : Cert.ReferenceIdeal.S1024x4096.Idx) (h0 : (j 0).val = (i 0).val) (h1 : (j 1).val = 1024 * c.val + (i 1).val) =>
    (congrFun (ha c).2.1 i).trans (block_cols _ c i j h0 h1)
  have hk := fun (c : Dev nD) (i : S1x1024x32x128.Idx) (j : Cert.ReferenceIdeal.S1x4096x32x128.Idx) (h1 : (j 1).val = 1024 * c.val + (i 1).val)
    (h2 : (j 2).val = (i 2).val) (h3 : (j 3).val = (i 3).val) => (congrFun (ha c).2.2.1 i).trans (block_keys _ c i j h1 h2 h3)
  have hv := fun (c : Dev nD) (i : S1x1024x32x128.Idx) (j : Cert.ReferenceIdeal.S1x4096x32x128.Idx) (h1 : (j 1).val = 1024 * c.val + (i 1).val)
    (h2 : (j 2).val = (i 2).val) (h3 : (j 3).val = (i 3).val) => (congrFun (ha c).2.2.2.1 i).trans (block_keys _ c i j h1 h2 h3)
  have ho := fun (c : Dev nD) (i : S1024x1024.Idx) (j : Cert.ReferenceIdeal.S4096x1024.Idx) (h0 : (j 0).val = 1024 * c.val + (i 0).val) (h1 : (j 1).val = (i 1).val) =>
    (congrFun (ha c).2.2.2.2 i).trans (block_rows _ c i j h0 h1)
  have B : Blocks m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hx := fun c i => congrFun (hx c) i
      hw := hw
      hk := hk
      hv := hv
      ho := ho
      fx := fun i => by have := (hfin 0).1 i; rw [hx 0] at this; exact this
      fw := fun j => by
        have b : (j 1).val < 4096 := (j 1).isLt
        have b0 : (j 0).val < 1024 := (j 0).isLt
        have e := hw (⟨(j 1).val / 1024, by show _ < 4; omega⟩ : Dev nD) (ix2 (⟨(j 0).val, b0⟩ : Fin 1024) (⟨(j 1).val % 1024, by omega⟩ : Fin 1024)) j rfl
          (by show (j 1).val = 1024 * ((j 1).val / 1024) + (j 1).val % 1024; omega)
        exact e ▸ (hfin _).2.1 _
      fk := fun j => by
        have b : (j 1).val < 4096 := (j 1).isLt
        have b2 : (j 2).val < 32 := (j 2).isLt
        have b3 : (j 3).val < 128 := (j 3).isLt
        have e := hk (⟨(j 1).val / 1024, by show _ < 4; omega⟩ : Dev nD) (ix4 (0 : Fin 1) (⟨(j 1).val % 1024, by omega⟩ : Fin 1024) (⟨(j 2).val, b2⟩ : Fin 32) (⟨(j 3).val, b3⟩ : Fin 128)) j
          (by show (j 1).val = 1024 * ((j 1).val / 1024) + (j 1).val % 1024; omega) rfl rfl
        exact e ▸ (hfin _).2.2 _ }
  refine ⟨Cert.ReferenceIdeal.Value.res_main_v34 m' 0, ?_, ?_⟩
  · refine (θ_run Cert.KernelIdeal.defs _ _).mono (fun _ h c => ⟨?_, ((h.1 c).1 0).trans (finalA_0 m g c), ((h.1 c).1 1).trans (finalA_1 m g c),
      (h.1 c).2.1, (h.1 c).2.2, ((h.1 c).1 2).trans (finalA_2 m g c)⟩) (run_main m g)
    exact ((h.1 c).1 3).trans ((finalA_3 m g c).trans ((OUT_eq B c).trans (res_eq m' 0).symm))
  · exact (θ_run Cert.ReferenceIdeal.defs _ _).mono (fun r h => h 0) (Cert.ReferenceIdeal.Value.run m' g')

end Cert.Val

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KI.Launch
public import proofs.«01_k».proof.Proof.Literal
public import proofs.«01_k».proof.Proof.Val.Claim
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore at zero. -/
theorem frame_kernel : Cert.quiescent_Kernel (hKernel := Cert.Kernel.Gen.facts) := fun m g _ => Cert.Literal.frame m g

/-- So does its idealization. -/
theorem frame_ideal : Cert.quiescent_KernelIdeal (hKernelIdeal := Cert.KernelIdeal.Gen.facts) := fun m g _ => Cert.KernelIdealProof.frame m g

/-- The reference runs, leaves its arguments as they were and every semaphore at zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run m g)

/-- The idealization replaces the mask's literal by its name only. -/
theorem preserved : Cert.preserves_Kernel_KernelIdeal := IdealRules.named_const.statement Cert.KernelIdeal.κ "mask" .f32 0xCE6E6B28#32 ⊥ rfl

/-- Every claim, with the programs' stated facts. -/
theorem claim : Cert.Claim := ⟨Cert.Kernel.Gen.facts, Cert.KernelIdeal.Gen.facts, Cert.ReferenceIdeal.Gen.facts, Cert.Val.preFacts, Cert.Val.preFactsR,
  frame_kernel, frame_ideal, fun m g _ => frame_ideal m g trivial, frame_reference, fun m g _ => frame_reference m g trivial, preserved, Cert.Val.algebraic⟩

end Cert.Proof

end
